-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v136) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v50) = v0 c
          ∧ r.2.mem ((c.tc : Thread Cert.Reference7Ideal.nD Cert.Reference7Ideal.τ).loc Cert.Reference7Ideal.main_v52) = v1 c
          ∧ r.2.mem ((c.tc : Thread Cert.Reference7Ideal.nD Cert.Reference7Ideal.τ).loc Cert.Reference7Ideal.main_v49) = v2 c
          ∧ r.2.mem ((c.tc : Thread Cert.Reference7Ideal.nD Cert.Reference7Ideal.τ).loc Cert.Reference7Ideal.main_v26) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)) (v3 : (c : Dev Cert.Kernel8Ideal.nD) → Buf (Elt Ideal) ((c.tc : Thread Cert.Kernel8Ideal.nD Cert.Kernel8Ideal.τ).loc Cert.Kernel8Ideal.main_v4_3)) (v4 : (c : Dev Cert.Kernel8Ideal.nD) → Buf (Elt Ideal) ((c.tc : Thread Cert.Kernel8Ideal.nD Cert.Kernel8Ideal.τ).loc Cert.Kernel8Ideal.main_v4_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_v4_3) = v3 c
          ∧ r.2.mem ((c.tc : Thread Cert.Kernel8Ideal.nD Cert.Kernel8Ideal.τ).loc Cert.Kernel8Ideal.main_v4_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v45) = v0 c
          ∧ r.2.mem ((c.tc : Thread Cert.Reference8Ideal.nD Cert.Reference8Ideal.τ).loc Cert.Reference8Ideal.main_v52) = v1 c
          ∧ r.2.mem ((c.tc : Thread Cert.Reference8Ideal.nD Cert.Reference8Ideal.τ).loc Cert.Reference8Ideal.main_v51) = v2 c
          ∧ r.2.mem ((c.tc : Thread Cert.Reference8Ideal.nD Cert.Reference8Ideal.τ).loc Cert.Reference8Ideal.main_v30) = v3 c
          ∧ r.2.mem ((c.tc : Thread Cert.Reference8Ideal.nD Cert.Reference8Ideal.τ).loc Cert.Reference8Ideal.main_v27) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v41) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_v23) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v6) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v16) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_v20) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v18) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v6)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v6) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v56) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v21) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_1)) (v1 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_1) = v0 c
          ∧ r.2.mem ((c.tc : Thread Cert.Kernel27Ideal.nD Cert.Kernel27Ideal.τ).loc Cert.Kernel27Ideal.main_v0_2) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v24) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v2_0)) (v1 : (c : Dev Cert.Kernel29Ideal.nD) → Buf (Elt Ideal) ((c.tc : Thread Cert.Kernel29Ideal.nD Cert.Kernel29Ideal.τ).loc Cert.Kernel29Ideal.main_v2_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v2_0) = v0 c
          ∧ r.2.mem ((c.tc : Thread Cert.Kernel29Ideal.nD Cert.Kernel29Ideal.τ).loc Cert.Kernel29Ideal.main_v2_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v17) = v0 c
          ∧ r.2.mem ((c.tc : Thread Cert.Reference29Ideal.nD Cert.Reference29Ideal.τ).loc Cert.Reference29Ideal.main_v18) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)) (v4 : (c : Dev Cert.Kernel28Ideal.nD) → Buf (Elt Ideal) ((c.tc : Thread Cert.Kernel28Ideal.nD Cert.Kernel28Ideal.τ).loc Cert.Kernel28Ideal.main_v0_4)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_v0_4) = v4 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v58) = v0 c
          ∧ r.2.mem ((c.tc : Thread Cert.Reference28Ideal.nD Cert.Reference28Ideal.τ).loc Cert.Reference28Ideal.main_v52) = v1 c
          ∧ r.2.mem ((c.tc : Thread Cert.Reference28Ideal.nD Cert.Reference28Ideal.τ).loc Cert.Reference28Ideal.main_v59) = v2 c
          ∧ r.2.mem ((c.tc : Thread Cert.Reference28Ideal.nD Cert.Reference28Ideal.τ).loc Cert.Reference28Ideal.main_v57) = v3 c
          ∧ r.2.mem ((c.tc : Thread Cert.Reference28Ideal.nD Cert.Reference28Ideal.τ).loc Cert.Reference28Ideal.main_v38) = v4 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v2) = v0 c
          ∧ r.2.mem ((c.tc : Thread Cert.Reference31Ideal.nD Cert.Reference31Ideal.τ).loc Cert.Reference31Ideal.main_v14) = v1 c
          ∧ r.2.mem ((c.tc : Thread Cert.Reference31Ideal.nD Cert.Reference31Ideal.τ).loc Cert.Reference31Ideal.main_v15) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v33) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel29 : Cert.Kernel29.Facts) (hKernel29Ideal : Cert.Kernel29Ideal.Facts) (hReference29Ideal : Cert.Reference29Ideal.Facts) (hKernel28 : Cert.Kernel28.Facts) (hKernel28Ideal : Cert.Kernel28Ideal.Facts) (hReference28Ideal : Cert.Reference28Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel29_Kernel29Ideal
    ∧ algebraic_Kernel29Ideal_Reference29Ideal (hKernel29Ideal := hKernel29Ideal) (hReference29Ideal := hReference29Ideal)
    ∧ preserves_Kernel28_Kernel28Ideal
    ∧ algebraic_Kernel28Ideal_Reference28Ideal (hKernel28Ideal := hKernel28Ideal) (hReference28Ideal := hReference28Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Kernel.lean ====
abbrev S8192x10368 : Shape := ⟨2, ![8192, 10368]⟩
abbrev S1x1024 : Shape := ⟨2, ![1, 1024]⟩
abbrev S8x128x128 : Shape := ⟨3, ![8, 128, 128]⟩
abbrev S8x128 : Shape := ⟨2, ![8, 128]⟩
abbrev S8192x1024 : Shape := ⟨2, ![8192, 1024]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S128x1 : Shape := ⟨2, ![128, 1]⟩
abbrev S128 : Shape := ⟨1, ![128]⟩
abbrev S1024 : Shape := ⟨1, ![1024]⟩

abbrev nBuf : Space → Nat
  | .hbm => 29
  | .vmem => 16
  | .smem => 0
  | _ => 0

abbrev bufTy : (tb : Table) → Fin (tcTables nBuf tb) → BufTy
  | .hbm, ⟨0, _⟩ => ⟨S8192x10368, .bf16⟩
  | .hbm, ⟨1, _⟩ => ⟨S1x1024, .f32⟩
  | .hbm, ⟨2, _⟩ => ⟨S8x128x128, .f32⟩
  | .hbm, ⟨3, _⟩ => ⟨S8x128, .f32⟩
  | .hbm, ⟨4, _⟩ => ⟨S8192x1024, .bf16⟩
  | .hbm, ⟨5, _⟩ => ⟨S8192x10368, .bf16⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S1x128x128, .i1⟩
  | .hbm, ⟨18, _⟩ => ⟨S_, .f32⟩
  | .hbm, ⟨19, _⟩ => ⟨S_, .f32⟩
  | .hbm, ⟨20, _⟩ => ⟨S8x128x128, .i1⟩
  | .hbm, ⟨21, _⟩ => ⟨S8x128x128, .f32⟩
  | .hbm, ⟨22, _⟩ => ⟨S8x128x128, .f32⟩
  | .hbm, ⟨23, _⟩ => ⟨S8x128x128, .bf16⟩
  | .hbm, ⟨24, _⟩ => ⟨S128x8, .f32⟩
  | .hbm, ⟨25, _⟩ => ⟨S8192x10368, .bf16⟩
  | .hbm, ⟨26, _⟩ => ⟨S1x1024, .f32⟩
  | .hbm, ⟨27, _⟩ => ⟨S8x128x128, .f32⟩
  | .hbm, ⟨28, _⟩ => ⟨S128x8, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S8x128x128, .bf16⟩
  | .local _ .vmem, ⟨6, _⟩ => ⟨S128x8, .f32⟩
  | .local _ .vmem, ⟨7, _⟩ => ⟨S256x1024, .bf16⟩
  | .local _ .vmem, ⟨8, _⟩ => ⟨S256x1024, .bf16⟩
  | .local _ .vmem, ⟨9, _⟩ => ⟨S256x2048, .bf16⟩
  | .local _ .vmem, ⟨10, _⟩ => ⟨S256x2048, .bf16⟩
  | .local _ .vmem, ⟨11, _⟩ => ⟨S1x1024, .f32⟩
  | .local _ .vmem, ⟨12, _⟩ => ⟨S8x128x128, .f32⟩
  | .local _ .vmem, ⟨13, _⟩ => ⟨S128x8, .f32⟩
  | .local _ .vmem, ⟨14, _⟩ => ⟨S256x1024, .f32⟩
  | .local _ .vmem, ⟨15, _⟩ => ⟨S256x1024, .f32⟩
  | _, _ => ⟨S8192x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6_0 : Ref sig .tc := ⟨.hbm, 25, rfl⟩
abbrev main_v6_1 : Ref sig .tc := ⟨.hbm, 26, rfl⟩
abbrev main_v6_2 : Ref sig .tc := ⟨.hbm, 27, rfl⟩
abbrev main_v6_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x10368 : Shape := ⟨2, ![8192, 10368]⟩
abbrev S1x1024 : Shape := ⟨2, ![1, 1024]⟩
abbrev S8x128x128 : Shape := ⟨3, ![8, 128, 128]⟩
abbrev S8x128 : Shape := ⟨2, ![8, 128]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩
abbrev S1024 : Shape := ⟨1, ![1024]⟩
abbrev S8192x2048 : Shape := ⟨2, ![8192, 2048]⟩
abbrev S8192x8320 : Shape := ⟨2, ![8192, 8320]⟩

abbrev nBuf : Space → Nat
  | .hbm => 189
  | .vmem => 0
  | .smem => 0
  | _ => 0

abbrev hbmTy0_0 (i : Nat) : BufTy := match i % 128 with
  | 0 => ⟨S8192x10368, .bf16⟩
  | 1 => ⟨S1x1024, .f32⟩
  | 2 => ⟨S8x128x128, .f32⟩
  | 3 => ⟨S8x128, .f32⟩
  | 4 => ⟨S8192x1024, .bf16⟩
  | 5 => ⟨S8192x10368, .bf16⟩
  | 6 => ⟨S8192x1024, .bf16⟩
  | 7 => ⟨S8192x1024, .f32⟩
  | 8 => ⟨S8192x1024, .bf16⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S8192x1024, .f32⟩
  | 59 => ⟨S_, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192, .f32⟩
  | 72 => ⟨S8192x1, .f32⟩
  | 73 => ⟨S_, .f32⟩
  | 74 => ⟨S8192x1, .f32⟩
  | 75 => ⟨S8192x1, .f32⟩
  | 76 => ⟨S_, .f32⟩
  | 77 => ⟨S8192x1, .f32⟩
  | 78 => ⟨S8192x1, .f32⟩
  | 79 => ⟨S8192x1, .f32⟩
  | 80 => ⟨S8192x1, .f32⟩
  | 81 => ⟨S_, .f32⟩
  | 82 => ⟨S8192x1, .f32⟩
  | 83 => ⟨S8192x1, .f32⟩
  | 84 => ⟨S8192x1024, .f32⟩
  | 85 => ⟨S8192x1024, .f32⟩
  | 86 => ⟨S8192x1024, .f32⟩
  | 87 => ⟨S8192x1024, .f32⟩
  | 88 => ⟨S64x128x8x128, .f32⟩
  | 89 => ⟨S_, .i1⟩
  | 90 => ⟨S128x128, .i1⟩
  | 91 => ⟨S128x128, .i32⟩
  | 92 => ⟨S_, .i32⟩
  | 93 => ⟨S128x128, .i32⟩
  | 94 => ⟨S128x128, .i32⟩
  | 95 => ⟨S128x128, .i32⟩
  | 96 => ⟨S128x128, .i1⟩
  | 97 => ⟨S_, .i1⟩
  | 98 => ⟨S128x128, .i1⟩
  | 99 => ⟨S128x128, .i1⟩
  | 100 => ⟨S1x128x128, .i1⟩
  | 101 => ⟨S_, .f32⟩
  | 102 => ⟨S8x128x128, .f32⟩
  | 103 => ⟨S8x128x128, .i1⟩
  | 104 => ⟨S8x128x128, .f32⟩
  | 105 => ⟨S_, .f32⟩
  | 106 => ⟨S8x128x128, .f32⟩
  | 107 => ⟨S8x64x128x128, .f32⟩
  | 108 => ⟨S64x128x8x128, .f32⟩
  | 109 => ⟨S128x8, .f32⟩
  | 110 => ⟨S1x128x8x1, .f32⟩
  | 111 => ⟨S64x128x8x128, .f32⟩
  | 112 => ⟨S64x128x8x128, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S64x128x8x128, .f32⟩
  | 119 => ⟨S_, .f32⟩
  | 120 => ⟨S128x8, .f32⟩
  | 121 => ⟨S1x128x8x1, .f32⟩
  | 122 => ⟨S_, .f32⟩
  | 123 => ⟨S128x8, .f32⟩
  | 124 => ⟨S8x128, .f32⟩
  | 125 => ⟨S8x64x128x128, .f32⟩
  | 126 => ⟨S8x128x128, .f32⟩
  | 127 => ⟨S8x64x128x128, .f32⟩
  | _ => ⟨S8192x10368, .bf16⟩

abbrev hbmTy0_1 (i : Nat) : BufTy := match i % 128 with
  | 0 => ⟨S64x128x8x128, .f32⟩
  | 1 => ⟨S_, .f32⟩
  | 2 => ⟨S8x128x128, .f32⟩
  | 3 => ⟨S8x128x128, .f32⟩
  | 4 => ⟨S8192x1024, .f32⟩
  | 5 => ⟨S8192x1024, .f32⟩
  | 6 => ⟨S_, .f32⟩
  | 7 => ⟨S1024, .f32⟩
  | 8 => ⟨S1x1024, .f32⟩
  | 9 => ⟨S8192x1024, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S8192x1024, .f32⟩
  | 16 => ⟨S8192x1024, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S8192x1024, .f32⟩
  | 55 => ⟨S8192x1024, .f32⟩
  | 56 => ⟨S8192x2048, .f32⟩
  | 57 => ⟨S8192x2048, .bf16⟩
  | 58 => ⟨S8192x8320, .bf16⟩
  | 59 => ⟨S8192x10368, .bf16⟩
  | 60 => ⟨S128x8, .f32⟩
  | _ => ⟨S8192x10368, .bf16⟩

abbrev hbmTy (i : Nat) : BufTy := match i / 128 with
  | 0 => hbmTy0_0 i
  | 1 => hbmTy0_1 i
  | _ => ⟨S8192x10368, .bf16⟩

abbrev bufTy : (tb : Table) → Fin (tcTables nBuf tb) → BufTy
  | .hbm, ⟨i, _⟩ => hbmTy i
  | _, _ => ⟨S8192x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_cst_16 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c : Ref sig .tc := ⟨.hbm, 89, rfl⟩
abbrev main_v64 : Ref sig .tc := ⟨.hbm, 90, rfl⟩
abbrev main_call0_v0 : Ref sig .tc := ⟨.hbm, 91, rfl⟩
abbrev main_call0_c : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_c_0 : Ref sig .tc := ⟨.hbm, 97, rfl⟩
abbrev main_call0_v5 : Ref sig .tc := ⟨.hbm, 98, rfl⟩
abbrev main_v65 : Ref sig .tc := ⟨.hbm, 99, rfl⟩
abbrev main_v66 : Ref sig .tc := ⟨.hbm, 100, rfl⟩
abbrev main_cst_18 : Ref sig .tc := ⟨.hbm, 101, rfl⟩
abbrev main_v67 : Ref sig .tc := ⟨.hbm, 102, rfl⟩
abbrev main_v68_1 : Ref sig .tc := ⟨.hbm, 103, rfl⟩
abbrev main_v68_0 : Ref sig .tc := ⟨.hbm, 104, rfl⟩
abbrev main_call1_cst : Ref sig .tc := ⟨.hbm, 105, rfl⟩
abbrev main_v68_2 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_19 : Ref sig .tc := ⟨.hbm, 119, rfl⟩
abbrev main_v81 : Ref sig .tc := ⟨.hbm, 120, rfl⟩
abbrev main_v82 : Ref sig .tc := ⟨.hbm, 121, rfl⟩
abbrev main_cst_20 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_call2_cst : Ref sig .tc := ⟨.hbm, 129, rfl⟩
abbrev main_call2_v0 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_21 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_22 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_23 : Ref sig .tc := ⟨.hbm, 146, rfl⟩
abbrev main_v102 : Ref sig .tc := ⟨.hbm, 147, rfl⟩
abbrev main_v103 : Ref sig .tc := ⟨.hbm, 148, rfl⟩
abbrev main_cst_24 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_25 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_26 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_27 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_28 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_29 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_30 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩

abbrev nD : Nat := 1
abbrev τ : Topo := Topo.v7x

variable {F : FTy → Type} [FloatOps F]
-- ==== Kernel2.lean ====
abbrev S8192x1024 : Shape := ⟨2, ![8192, 1024]⟩
abbrev S8192x10368 : Shape := ⟨2, ![8192, 10368]⟩
abbrev S1024x10368 : Shape := ⟨2, ![1024, 10368]⟩
abbrev S4096x512 : Shape := ⟨2, ![4096, 512]⟩
abbrev S4096x1152 : Shape := ⟨2, ![4096, 1152]⟩
abbrev S512x1152 : Shape := ⟨2, ![512, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x10368, .bf16⟩
  | .hbm, ⟨2, _⟩ => ⟨S1024x10368, .bf16⟩
  | .local _ .vmem, ⟨0, _⟩ => ⟨S4096x512, .bf16⟩
  | .local _ .vmem, ⟨1, _⟩ => ⟨S4096x512, .bf16⟩
  | .local _ .vmem, ⟨2, _⟩ => ⟨S4096x1152, .bf16⟩
  | .local _ .vmem, ⟨3, _⟩ => ⟨S4096x1152, .bf16⟩
  | .local _ .vmem, ⟨4, _⟩ => ⟨S512x1152, .bf16⟩
  | .local _ .vmem, ⟨5, _⟩ => ⟨S512x1152, .bf16⟩
  | .local _ .vmem, ⟨6, _⟩ => ⟨S512x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x10368 : Shape := ⟨2, ![8192, 10368]⟩
abbrev S_ : Shape := ⟨0, ![]⟩
abbrev S1024x10368 : Shape := ⟨2, ![1024, 10368]⟩
abbrev S10368x1024 : Shape := ⟨2, ![10368, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x10368, .bf16⟩
  | .hbm, ⟨2, _⟩ => ⟨S_, .f32⟩
  | .hbm, ⟨3, _⟩ => ⟨S1024x10368, .f32⟩
  | .hbm, ⟨4, _⟩ => ⟨S8192x1024, .f32⟩
  | .hbm, ⟨5, _⟩ => ⟨S8192x10368, .f32⟩
  | .hbm, ⟨6, _⟩ => ⟨S8192x10368, .f32⟩
  | .hbm, ⟨7, _⟩ => ⟨S10368x1024, .f32⟩
  | .hbm, ⟨8, _⟩ => ⟨S1024x10368, .f32⟩
  | .hbm, ⟨9, _⟩ => ⟨S1024x10368, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S1024x4096 : Shape := ⟨2, ![1024, 4096]⟩
abbrev S8192x4096 : Shape := ⟨2, ![8192, 4096]⟩
abbrev S8192x1024 : Shape := ⟨2, ![8192, 1024]⟩
abbrev S512x4096 : Shape := ⟨2, ![512, 4096]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .bf16⟩
  | .hbm, ⟨1, _⟩ => ⟨S8192x4096, .bf16⟩
  | .hbm, ⟨2, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S1024x4096 : Shape := ⟨2, ![1024, 4096]⟩
abbrev S8192x4096 : Shape := ⟨2, ![8192, 4096]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S8192x4096, .bf16⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S8192x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S8192x4096 : Shape := ⟨2, ![8192, 4096]⟩
abbrev S1024x4096 : Shape := ⟨2, ![1024, 4096]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x2048 : Shape := ⟨2, ![8192, 2048]⟩
abbrev S8192x10368 : Shape := ⟨2, ![8192, 10368]⟩
abbrev S1x2048 : Shape := ⟨2, ![1, 2048]⟩
abbrev S2048x8192 : Shape := ⟨2, ![2048, 8192]⟩
abbrev S256x2048 : Shape := ⟨2, ![256, 2048]⟩
abbrev S2048x256 : Shape := ⟨2, ![2048, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x10368, .bf16⟩
  | .hbm, ⟨2, _⟩ => ⟨S1x2048, .f32⟩
  | .hbm, ⟨3, _⟩ => ⟨S8192x2048, .bf16⟩
  | .hbm, ⟨4, _⟩ => ⟨S8192x10368, .bf16⟩
  | .hbm, ⟨5, _⟩ => ⟨S8192x2048, .bf16⟩
  | .hbm, ⟨6, _⟩ => ⟨S2048x8192, .bf16⟩
  | .hbm, ⟨7, _⟩ => ⟨S8192x10368, .bf16⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S2048x256, .bf16⟩
  | .local _ .vmem, ⟨10, _⟩ => ⟨S2048x256, .bf16⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S8192x2048 : Shape := ⟨2, ![8192, 2048]⟩
abbrev S8192x10368 : Shape := ⟨2, ![8192, 10368]⟩
abbrev S1x2048 : Shape := ⟨2, ![1, 2048]⟩
abbrev S_ : Shape := ⟨0, ![]⟩
abbrev S8192x8x256 : Shape := ⟨3, ![8192, 8, 256]⟩
abbrev S8192x8 : Shape := ⟨2, ![8192, 8]⟩
abbrev S8192x8x1 : Shape := ⟨3, ![8192, 8, 1]⟩
abbrev S2048 : Shape := ⟨1, ![2048]⟩
abbrev S8192x6272 : Shape := ⟨2, ![8192, 6272]⟩
abbrev S2048x8192 : Shape := ⟨2, ![2048, 8192]⟩

abbrev nBuf : Space → Nat
  | .hbm => 82
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x10368, .bf16⟩
  | .hbm, ⟨2, _⟩ => ⟨S1x2048, .f32⟩
  | .hbm, ⟨3, _⟩ => ⟨S8192x2048, .bf16⟩
  | .hbm, ⟨4, _⟩ => ⟨S8192x10368, .bf16⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x8x256, .f32⟩
  | .hbm, ⟨22, _⟩ => ⟨S8192x8x256, .f32⟩
  | .hbm, ⟨23, _⟩ => ⟨S_, .f32⟩
  | .hbm, ⟨24, _⟩ => ⟨S8192x8x256, .f32⟩
  | .hbm, ⟨25, _⟩ => ⟨S8192x8x256, .f32⟩
  | .hbm, ⟨26, _⟩ => ⟨S_, .f32⟩
  | .hbm, ⟨27, _⟩ => ⟨S8192x8, .f32⟩
  | .hbm, ⟨28, _⟩ => ⟨S8192x8x1, .f32⟩
  | .hbm, ⟨29, _⟩ => ⟨S_, .f32⟩
  | .hbm, ⟨30, _⟩ => ⟨S8192x8x1, .f32⟩
  | .hbm, ⟨31, _⟩ => ⟨S8192x8x1, .f32⟩
  | .hbm, ⟨32, _⟩ => ⟨S_, .f32⟩
  | .hbm, ⟨33, _⟩ => ⟨S8192x8x1, .f32⟩
  | .hbm, ⟨34, _⟩ => ⟨S8192x8x1, .f32⟩
  | .hbm, ⟨35, _⟩ => ⟨S8192x8x1, .f32⟩
  | .hbm, ⟨36, _⟩ => ⟨S8192x8x1, .f32⟩
  | .hbm, ⟨37, _⟩ => ⟨S_, .f32⟩
  | .hbm, ⟨38, _⟩ => ⟨S8192x8x1, .f32⟩
  | .hbm, ⟨39, _⟩ => ⟨S8192x8x1, .f32⟩
  | .hbm, ⟨40, _⟩ => ⟨S8192x8x256, .f32⟩
  | .hbm, ⟨41, _⟩ => ⟨S8192x8x256, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x8x256, .f32⟩
  | .hbm, ⟨53, _⟩ => ⟨S8192x8x256, .f32⟩
  | .hbm, ⟨54, _⟩ => ⟨S_, .f32⟩
  | .hbm, ⟨55, _⟩ => ⟨S8192x8, .f32⟩
  | .hbm, ⟨56, _⟩ => ⟨S8192x8x1, .f32⟩
  | .hbm, ⟨57, _⟩ => ⟨S8192x8x256, .f32⟩
  | .hbm, ⟨58, _⟩ => ⟨S8192x8x256, .f32⟩
  | .hbm, ⟨59, _⟩ => ⟨S8192x8x1, .f32⟩
  | .hbm, ⟨60, _⟩ => ⟨S_, .f32⟩
  | .hbm, ⟨61, _⟩ => ⟨S8192x8x1, .f32⟩
  | .hbm, ⟨62, _⟩ => ⟨S8192x8x1, .f32⟩
  | .hbm, ⟨63, _⟩ => ⟨S_, .f32⟩
  | .hbm, ⟨64, _⟩ => ⟨S8192x8, .f32⟩
  | .hbm, ⟨65, _⟩ => ⟨S8192x8x256, .f32⟩
  | .hbm, ⟨66, _⟩ => ⟨S8192x8x256, .f32⟩
  | .hbm, ⟨67, _⟩ => ⟨S8192x8x256, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .bf16⟩
  | .hbm, ⟨76, _⟩ => ⟨S8192x2048, .bf16⟩
  | .hbm, ⟨77, _⟩ => ⟨S8192x6272, .bf16⟩
  | .hbm, ⟨78, _⟩ => ⟨S8192x10368, .bf16⟩
  | .hbm, ⟨79, _⟩ => ⟨S8192x2048, .bf16⟩
  | .hbm, ⟨80, _⟩ => ⟨S2048x8192, .f32⟩
  | .hbm, ⟨81, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference8Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel11.lean ====
abbrev S1024x1024 : Shape := ⟨2, ![1024, 1024]⟩
abbrev S8192x1024 : Shape := ⟨2, ![8192, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x1024 : Shape := ⟨2, ![2048, 1024]⟩
abbrev S8192x1024 : Shape := ⟨2, ![8192, 1024]⟩
abbrev S8192x2048 : Shape := ⟨2, ![8192, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S8192x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S8192x1024 : Shape := ⟨2, ![8192, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8192x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x2048 : Shape := ⟨2, ![8192, 2048]⟩
abbrev S8192x1024 : Shape := ⟨2, ![8192, 1024]⟩
abbrev S2048x1024 : Shape := ⟨2, ![2048, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S1024x10368 : Shape := ⟨2, ![1024, 10368]⟩
abbrev S8192x10368 : Shape := ⟨2, ![8192, 10368]⟩
abbrev S8192x1024 : Shape := ⟨2, ![8192, 1024]⟩
abbrev S1024x3456 : Shape := ⟨2, ![1024, 3456]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x10368, .bf16⟩
  | .hbm, ⟨1, _⟩ => ⟨S8192x10368, .bf16⟩
  | .hbm, ⟨2, _⟩ => ⟨S8192x1024, .bf16⟩
  | .local _ .vmem, ⟨0, _⟩ => ⟨S1024x3456, .bf16⟩
  | .local _ .vmem, ⟨1, _⟩ => ⟨S1024x3456, .bf16⟩
  | .local _ .vmem, ⟨2, _⟩ => ⟨S1024x3456, .bf16⟩
  | .local _ .vmem, ⟨3, _⟩ => ⟨S1024x3456, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S1024x10368 : Shape := ⟨2, ![1024, 10368]⟩
abbrev S8192x10368 : Shape := ⟨2, ![8192, 10368]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x10368, .bf16⟩
  | .hbm, ⟨1, _⟩ => ⟨S8192x10368, .bf16⟩
  | .hbm, ⟨2, _⟩ => ⟨S_, .f32⟩
  | .hbm, ⟨3, _⟩ => ⟨S8192x1024, .f32⟩
  | .hbm, ⟨4, _⟩ => ⟨S1024x10368, .f32⟩
  | .hbm, ⟨5, _⟩ => ⟨S8192x10368, .f32⟩
  | .hbm, ⟨6, _⟩ => ⟨S8192x10368, .f32⟩
  | .hbm, ⟨7, _⟩ => ⟨S8192x1024, .f32⟩
  | .hbm, ⟨8, _⟩ => ⟨S8192x1024, .bf16⟩
  | _, _ => ⟨S1024x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8192x1024 : Shape := ⟨2, ![8192, 1024]⟩
abbrev S1024x10368 : Shape := ⟨2, ![1024, 10368]⟩
abbrev S8192x10368 : Shape := ⟨2, ![8192, 10368]⟩
abbrev S1024x1024 : Shape := ⟨2, ![1024, 1024]⟩
abbrev S1024x1152 : Shape := ⟨2, ![1024, 1152]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .bf16⟩
  | .hbm, ⟨2, _⟩ => ⟨S8192x10368, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x10368 : Shape := ⟨2, ![1024, 10368]⟩
abbrev S8192x10368 : Shape := ⟨2, ![8192, 10368]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .bf16⟩
  | .hbm, ⟨2, _⟩ => ⟨S8192x1024, .f32⟩
  | .hbm, ⟨3, _⟩ => ⟨S1024x10368, .f32⟩
  | .hbm, ⟨4, _⟩ => ⟨S8192x10368, .f32⟩
  | .hbm, ⟨5, _⟩ => ⟨S8192x10368, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S8192x4096, .bf16⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel18.lean ====
abbrev S8192x4096 : Shape := ⟨2, ![8192, 4096]⟩
abbrev S4096x1024 : Shape := ⟨2, ![4096, 1024]⟩
abbrev S8192x1024 : Shape := ⟨2, ![8192, 1024]⟩
abbrev S512x4096 : Shape := ⟨2, ![512, 4096]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S8192x1024, .f32⟩
  | .hbm, ⟨5, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S8192x2048 : Shape := ⟨2, ![8192, 2048]⟩
abbrev S2048x1024 : Shape := ⟨2, ![2048, 1024]⟩
abbrev S8192x1024 : Shape := ⟨2, ![8192, 1024]⟩
abbrev S512x2048 : Shape := ⟨2, ![512, 2048]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S8192x1024 : Shape := ⟨2, ![8192, 1024]⟩
abbrev S1024x10368 : Shape := ⟨2, ![1024, 10368]⟩
abbrev S1024x128 : Shape := ⟨2, ![1024, 128]⟩
abbrev S8192x128 : Shape := ⟨2, ![8192, 128]⟩
abbrev S1024x1024 : Shape := ⟨2, ![1024, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .bf16⟩
  | .hbm, ⟨2, _⟩ => ⟨S1024x128, .bf16⟩
  | .hbm, ⟨3, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S1024x10368 : Shape := ⟨2, ![1024, 10368]⟩
abbrev S8192x10368 : Shape := ⟨2, ![8192, 10368]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .bf16⟩
  | .hbm, ⟨2, _⟩ => ⟨S8192x1024, .f32⟩
  | .hbm, ⟨3, _⟩ => ⟨S1024x10368, .f32⟩
  | .hbm, ⟨4, _⟩ => ⟨S8192x10368, .f32⟩
  | .hbm, ⟨5, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel22.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference22Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel23.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel24.lean ====
abbrev S8192x2048 : Shape := ⟨2, ![8192, 2048]⟩
abbrev S8192x10368 : Shape := ⟨2, ![8192, 10368]⟩
abbrev S1x2048 : Shape := ⟨2, ![1, 2048]⟩
abbrev S256x2048 : Shape := ⟨2, ![256, 2048]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x10368, .bf16⟩
  | .hbm, ⟨2, _⟩ => ⟨S1x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference24Ideal.lean ====
abbrev S8192x2048 : Shape := ⟨2, ![8192, 2048]⟩
abbrev S8192x10368 : Shape := ⟨2, ![8192, 10368]⟩
abbrev S1x2048 : Shape := ⟨2, ![1, 2048]⟩
abbrev S_ : Shape := ⟨0, ![]⟩
abbrev S8192x8x256 : Shape := ⟨3, ![8192, 8, 256]⟩
abbrev S8192x8 : Shape := ⟨2, ![8192, 8]⟩
abbrev S8192x8x1 : Shape := ⟨3, ![8192, 8, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x10368, .bf16⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x8x256, .f32⟩
  | .hbm, ⟨16, _⟩ => ⟨S8192x8x256, .f32⟩
  | .hbm, ⟨17, _⟩ => ⟨S_, .f32⟩
  | .hbm, ⟨18, _⟩ => ⟨S8192x8, .f32⟩
  | .hbm, ⟨19, _⟩ => ⟨S8192x8x1, .f32⟩
  | .hbm, ⟨20, _⟩ => ⟨S_, .f32⟩
  | .hbm, ⟨21, _⟩ => ⟨S8192x8x1, .f32⟩
  | .hbm, ⟨22, _⟩ => ⟨S8192x8x1, .f32⟩
  | .hbm, ⟨23, _⟩ => ⟨S_, .f32⟩
  | .hbm, ⟨24, _⟩ => ⟨S8192x8x1, .f32⟩
  | .hbm, ⟨25, _⟩ => ⟨S8192x8x1, .f32⟩
  | .hbm, ⟨26, _⟩ => ⟨S8192x8x1, .f32⟩
  | .hbm, ⟨27, _⟩ => ⟨S8192x8x256, .f32⟩
  | .hbm, ⟨28, _⟩ => ⟨S8192x8x256, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Kernel25.lean ====
abbrev S8192x10368 : Shape := ⟨2, ![8192, 10368]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S8192x1024 : Shape := ⟨2, ![8192, 1024]⟩
abbrev S256x1024 : Shape := ⟨2, ![256, 1024]⟩
abbrev S256 : Shape := ⟨1, ![256]⟩
abbrev S256x1 : Shape := ⟨2, ![256, 1]⟩
abbrev S128x1 : Shape := ⟨2, ![128, 1]⟩

abbrev nBuf : Space → Nat
  | .hbm => 24
  | .vmem => 9
  | .smem => 0
  | _ => 0

abbrev bufTy : (tb : Table) → Fin (tcTables nBuf tb) → BufTy
  | .hbm, ⟨0, _⟩ => ⟨S8192x10368, .bf16⟩
  | .hbm, ⟨1, _⟩ => ⟨S1x1024, .f32⟩
  | .hbm, ⟨2, _⟩ => ⟨S8x128x128, .f32⟩
  | .hbm, ⟨3, _⟩ => ⟨S8x128, .f32⟩
  | .hbm, ⟨4, _⟩ => ⟨S_, .i1⟩
  | .hbm, ⟨5, _⟩ => ⟨S128x128, .i1⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .i1⟩
  | .hbm, ⟨13, _⟩ => ⟨S128x128, .i1⟩
  | .hbm, ⟨14, _⟩ => ⟨S128x128, .i1⟩
  | .hbm, ⟨15, _⟩ => ⟨S1x128x128, .i1⟩
  | .hbm, ⟨16, _⟩ => ⟨S_, .f32⟩
  | .hbm, ⟨17, _⟩ => ⟨S_, .f32⟩
  | .hbm, ⟨18, _⟩ => ⟨S8x128x128, .i1⟩
  | .hbm, ⟨19, _⟩ => ⟨S8x128x128, .f32⟩
  | .hbm, ⟨20, _⟩ => ⟨S8x128x128, .f32⟩
  | .hbm, ⟨21, _⟩ => ⟨S8x128x128, .bf16⟩
  | .hbm, ⟨22, _⟩ => ⟨S128x8, .f32⟩
  | .hbm, ⟨23, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S8x128x128, .bf16⟩
  | .local _ .vmem, ⟨6, _⟩ => ⟨S128x8, .f32⟩
  | .local _ .vmem, ⟨7, _⟩ => ⟨S256x1024, .bf16⟩
  | .local _ .vmem, ⟨8, _⟩ => ⟨S256x1024, .bf16⟩
  | _, _ => ⟨S8192x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference25Ideal.lean ====
abbrev S8192x10368 : Shape := ⟨2, ![8192, 10368]⟩
abbrev S1x1024 : Shape := ⟨2, ![1, 1024]⟩
abbrev S8x128x128 : Shape := ⟨3, ![8, 128, 128]⟩
abbrev S8x128 : Shape := ⟨2, ![8, 128]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩

abbrev nBuf : Space → Nat
  | .hbm => 83
  | .vmem => 0
  | .smem => 0
  | _ => 0

abbrev bufTy : (tb : Table) → Fin (tcTables nBuf tb) → BufTy
  | .hbm, ⟨0, _⟩ => ⟨S8192x10368, .bf16⟩
  | .hbm, ⟨1, _⟩ => ⟨S1x1024, .f32⟩
  | .hbm, ⟨2, _⟩ => ⟨S8x128x128, .f32⟩
  | .hbm, ⟨3, _⟩ => ⟨S8x128, .f32⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S64x128x8x128, .f32⟩
  | .hbm, ⟨58, _⟩ => ⟨S_, .i1⟩
  | .hbm, ⟨59, _⟩ => ⟨S128x128, .i1⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S_, .i1⟩
  | .hbm, ⟨67, _⟩ => ⟨S128x128, .i1⟩
  | .hbm, ⟨68, _⟩ => ⟨S128x128, .i1⟩
  | .hbm, ⟨69, _⟩ => ⟨S1x128x128, .i1⟩
  | .hbm, ⟨70, _⟩ => ⟨S_, .f32⟩
  | .hbm, ⟨71, _⟩ => ⟨S8x128x128, .f32⟩
  | .hbm, ⟨72, _⟩ => ⟨S8x128x128, .i1⟩
  | .hbm, ⟨73, _⟩ => ⟨S8x128x128, .f32⟩
  | .hbm, ⟨74, _⟩ => ⟨S8x64x128x128, .f32⟩
  | .hbm, ⟨75, _⟩ => ⟨S64x128x8x128, .f32⟩
  | .hbm, ⟨76, _⟩ => ⟨S128x8, .f32⟩
  | .hbm, ⟨77, _⟩ => ⟨S1x128x8x1, .f32⟩
  | .hbm, ⟨78, _⟩ => ⟨S64x128x8x128, .f32⟩
  | .hbm, ⟨79, _⟩ => ⟨S64x128x8x128, .f32⟩
  | .hbm, ⟨80, _⟩ => ⟨S8192x1024, .f32⟩
  | .hbm, ⟨81, _⟩ => ⟨S8192x1024, .f32⟩
  | .hbm, ⟨82, _⟩ => ⟨S8192x1024, .bf16⟩
  | _, _ => ⟨S8192x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_v43 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_0 : Ref sig .tc := ⟨.hbm, 66, rfl⟩
abbrev main_call0_v5 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]
-- ==== Kernel26.lean ====
abbrev S8192x10368 : Shape := ⟨2, ![8192, 10368]⟩
abbrev S8192x1024 : Shape := ⟨2, ![8192, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x10368, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8192x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference26Ideal.lean ====
abbrev S8192x10368 : Shape := ⟨2, ![8192, 10368]⟩
abbrev S8192x1024 : Shape := ⟨2, ![8192, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x10368, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel27.lean ====
abbrev S8192x10368 : Shape := ⟨2, ![8192, 10368]⟩
abbrev S8192x1024 : Shape := ⟨2, ![8192, 1024]⟩
abbrev S512x1024 : Shape := ⟨2, ![512, 1024]⟩
abbrev S512x2048 : Shape := ⟨2, ![512, 2048]⟩

abbrev nBuf : Space → Nat
  | .hbm => 7
  | .vmem => 16
  | .smem => 0
  | _ => 0

abbrev bufTy : (tb : Table) → Fin (tcTables nBuf tb) → BufTy
  | .hbm, ⟨0, _⟩ => ⟨S8192x10368, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x10368, .bf16⟩
  | .hbm, ⟨5, _⟩ => ⟨S8192x1024, .bf16⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S8192x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S8192x10368 : Shape := ⟨2, ![8192, 10368]⟩
abbrev S8192x1024 : Shape := ⟨2, ![8192, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x10368, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x1024, .bf16⟩
  | _, _ => ⟨S8192x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel29.lean ====
abbrev S8192x4096 : Shape := ⟨2, ![8192, 4096]⟩
abbrev S8192x128 : Shape := ⟨2, ![8192, 128]⟩
abbrev S1x128 : Shape := ⟨2, ![1, 128]⟩
abbrev S64x128x128 : Shape := ⟨3, ![64, 128, 128]⟩
abbrev S8192x2048 : Shape := ⟨2, ![8192, 2048]⟩
abbrev S64x2048x128 : Shape := ⟨3, ![64, 2048, 128]⟩
abbrev S128x2048 : Shape := ⟨2, ![128, 2048]⟩
abbrev S128x1024 : Shape := ⟨2, ![128, 1024]⟩
abbrev S128x128 : Shape := ⟨2, ![128, 128]⟩
abbrev S1x128x128 : Shape := ⟨3, ![1, 128, 128]⟩
abbrev S1x2048x128 : Shape := ⟨3, ![1, 2048, 128]⟩
abbrev S2048x128 : Shape := ⟨2, ![2048, 128]⟩
abbrev S128x1 : Shape := ⟨2, ![128, 1]⟩
abbrev S128 : Shape := ⟨1, ![128]⟩
abbrev S1 : Shape := ⟨1, ![1]⟩
abbrev S1x1 : Shape := ⟨2, ![1, 1]⟩

abbrev nBuf : Space → Nat
  | .hbm => 8
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S8192x128, .f32⟩
  | .hbm, ⟨2, _⟩ => ⟨S8192x128, .f32⟩
  | .hbm, ⟨3, _⟩ => ⟨S1x128, .f32⟩
  | .hbm, ⟨4, _⟩ => ⟨S64x128x128, .f32⟩
  | .hbm, ⟨5, _⟩ => ⟨S64x128x128, .f32⟩
  | .hbm, ⟨6, _⟩ => ⟨S8192x2048, .f32⟩
  | .hbm, ⟨7, _⟩ => ⟨S64x2048x128, .f32⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128x128, .f32⟩
  | .local _ .vmem, ⟨11, _⟩ => ⟨S1x128x128, .f32⟩
  | .local _ .vmem, ⟨12, _⟩ => ⟨S1x128, .f32⟩
  | .local _ .vmem, ⟨13, _⟩ => ⟨S128x2048, .f32⟩
  | .local _ .vmem, ⟨14, _⟩ => ⟨S128x2048, .f32⟩
  | .local _ .vmem, ⟨15, _⟩ => ⟨S1x2048x128, .f32⟩
  | .local _ .vmem, ⟨16, _⟩ => ⟨S1x2048x128, .f32⟩
  | .local _ .vmem, ⟨17, _⟩ => ⟨S2048x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference29Ideal.lean ====
abbrev S8192x4096 : Shape := ⟨2, ![8192, 4096]⟩
abbrev S8192x128 : Shape := ⟨2, ![8192, 128]⟩
abbrev S1x128 : Shape := ⟨2, ![1, 128]⟩
abbrev S8192x2048 : Shape := ⟨2, ![8192, 2048]⟩
abbrev S64x128x8x4x64 : Shape := ⟨5, ![64, 128, 8, 4, 64]⟩
abbrev S8192x1024 : Shape := ⟨2, ![8192, 1024]⟩
abbrev S64x128x8x128 : Shape := ⟨4, ![64, 128, 8, 128]⟩
abbrev S8192x32 : Shape := ⟨2, ![8192, 32]⟩
abbrev S64x128x8x4 : Shape := ⟨4, ![64, 128, 8, 4]⟩
abbrev S1x32 : Shape := ⟨2, ![1, 32]⟩
abbrev S32 : Shape := ⟨1, ![32]⟩
abbrev S8x4 : Shape := ⟨2, ![8, 4]⟩
abbrev S_ : Shape := ⟨0, ![]⟩
abbrev S8x4x64x128 : Shape := ⟨4, ![8, 4, 64, 128]⟩
abbrev S64x8x4x64x128 : Shape := ⟨5, ![64, 8, 4, 64, 128]⟩
abbrev S1x128x8x4x64 : Shape := ⟨5, ![1, 128, 8, 4, 64]⟩
abbrev S128x8x4x64 : Shape := ⟨4, ![128, 8, 4, 64]⟩
abbrev S1x128x8x4 : Shape := ⟨4, ![1, 128, 8, 4]⟩
abbrev S128x8x4 : Shape := ⟨3, ![128, 8, 4]⟩
abbrev S1x128x8x128 : Shape := ⟨4, ![1, 128, 8, 128]⟩
abbrev S128x8x128 : Shape := ⟨3, ![128, 8, 128]⟩
abbrev S128x128 : Shape := ⟨2, ![128, 128]⟩
abbrev S128x8x4x1 : Shape := ⟨4, ![128, 8, 4, 1]⟩
abbrev S8x4x128 : Shape := ⟨3, ![8, 4, 128]⟩
abbrev S8x4x128x1 : Shape := ⟨4, ![8, 4, 128, 1]⟩
abbrev S8x4x1x128 : Shape := ⟨4, ![8, 4, 1, 128]⟩
abbrev S8x4x128x128 : Shape := ⟨4, ![8, 4, 128, 128]⟩
abbrev S8x128x128 : Shape := ⟨3, ![8, 128, 128]⟩
abbrev S8x1x128x128 : Shape := ⟨4, ![8, 1, 128, 128]⟩
abbrev S1x8x4 : Shape := ⟨3, ![1, 8, 4]⟩
abbrev S8x4x1x1 : Shape := ⟨4, ![8, 4, 1, 1]⟩
abbrev S8x4x1 : Shape := ⟨3, ![8, 4, 1]⟩
abbrev S1x8x4x1 : Shape := ⟨4, ![1, 8, 4, 1]⟩
abbrev S1x8x4x64x128 : Shape := ⟨5, ![1, 8, 4, 64, 128]⟩
abbrev S64x2048x128 : Shape := ⟨3, ![64, 2048, 128]⟩

abbrev nBuf : Space → Nat
  | .hbm => 137
  | .vmem => 0
  | .smem => 0
  | _ => 0

abbrev hbmTy0_0 (i : Nat) : BufTy := match i % 128 with
  | 0 => ⟨S8192x4096, .f32⟩
  | 1 => ⟨S8192x128, .f32⟩
  | 2 => ⟨S8192x128, .f32⟩
  | 3 => ⟨S1x128, .f32⟩
  | 4 => ⟨S8192x2048, .f32⟩
  | 5 => ⟨S64x128x8x4x64, .f32⟩
  | 6 => ⟨S8192x1024, .f32⟩
  | 7 => ⟨S64x128x8x128, .f32⟩
  | 8 => ⟨S8192x1024, .f32⟩
  | 9 => ⟨S64x128x8x128, .f32⟩
  | 10 => ⟨S8192x32, .f32⟩
  | 11 => ⟨S64x128x8x4, .f32⟩
  | 12 => ⟨S8192x32, .f32⟩
  | 13 => ⟨S64x128x8x4, .f32⟩
  | 14 => ⟨S1x32, .f32⟩
  | 15 => ⟨S32, .f32⟩
  | 16 => ⟨S8x4, .f32⟩
  | 17 => ⟨S_, .f32⟩
  | 18 => ⟨S8x4x64x128, .f32⟩
  | 19 => ⟨S_, .f32⟩
  | 20 => ⟨S64x128x8x4x64, .f32⟩
  | 21 => ⟨S_, .f32⟩
  | 22 => ⟨S64x8x4x64x128, .f32⟩
  | 23 => ⟨S_, .i32⟩
  | 24 => ⟨S64x128x8x4x64, .f32⟩
  | 25 => ⟨S64x128x8x4, .f32⟩
  | 26 => ⟨S64x128x8x4, .f32⟩
  | 27 => ⟨S64x128x8x128, .f32⟩
  | 28 => ⟨S64x128x8x128, .f32⟩
  | 29 => ⟨S8x4, .f32⟩
  | 30 => ⟨S_, .i32⟩
  | 31 => ⟨S8x4x64x128, .f32⟩
  | 32 => ⟨S64x128x8x4x64, .f32⟩
  | 33 => ⟨S64x8x4x64x128, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S1x128x8x4x64, .f32⟩
  | 41 => ⟨S128x8x4x64, .f32⟩
  | 42 => ⟨S_, .i32⟩
  | 43 => ⟨S_, .i32⟩
  | 44 => ⟨S_, .i32⟩
  | 45 => ⟨S1x128x8x4, .f32⟩
  | 46 => ⟨S128x8x4, .f32⟩
  | 47 => ⟨S_, .i32⟩
  | 48 => ⟨S_, .i32⟩
  | 49 => ⟨S_, .i32⟩
  | 50 => ⟨S1x128x8x4, .f32⟩
  | 51 => ⟨S128x8x4, .f32⟩
  | 52 => ⟨S_, .i32⟩
  | 53 => ⟨S_, .i32⟩
  | 54 => ⟨S_, .i32⟩
  | 55 => ⟨S1x128x8x128, .f32⟩
  | 56 => ⟨S128x8x128, .f32⟩
  | 57 => ⟨S_, .i32⟩
  | 58 => ⟨S_, .i32⟩
  | 59 => ⟨S_, .i32⟩
  | 60 => ⟨S1x128x8x128, .f32⟩
  | 61 => ⟨S128x8x128, .f32⟩
  | 62 => ⟨S_, .i1⟩
  | 63 => ⟨S128x128, .i1⟩
  | 64 => ⟨S128x128, .i32⟩
  | 65 => ⟨S_, .i32⟩
  | 66 => ⟨S128x128, .i32⟩
  | 67 => ⟨S128x128, .i32⟩
  | 68 => ⟨S128x128, .i32⟩
  | 69 => ⟨S128x128, .i1⟩
  | 70 => ⟨S_, .i1⟩
  | 71 => ⟨S128x128, .i1⟩
  | 72 => ⟨S128x128, .i1⟩
  | 73 => ⟨S128x8x4x1, .f32⟩
  | 74 => ⟨S128x8x4x64, .f32⟩
  | 75 => ⟨S128x8x4x64, .f32⟩
  | 76 => ⟨S8x4x128, .f32⟩
  | 77 => ⟨S8x4x128x1, .f32⟩
  | 78 => ⟨S8x4x1x128, .f32⟩
  | 79 => ⟨S8x4x128x128, .f32⟩
  | 80 => ⟨S8x4x128x128, .f32⟩
  | 81 => ⟨S8x4x128x128, .f32⟩
  | 82 => ⟨S_, .f32⟩
  | 83 => ⟨S_, .f32⟩
  | 84 => ⟨S8x4x128x128, .i1⟩
  | 85 => ⟨S8x4x128x128, .f32⟩
  | 86 => ⟨S8x4x128x128, .f32⟩
  | 87 => ⟨S8x4x128x128, .f32⟩
  | 88 => ⟨S8x128x128, .f32⟩
  | 89 => ⟨S8x1x128x128, .f32⟩
  | 90 => ⟨S8x4x128x128, .f32⟩
  | 91 => ⟨S8x4x128x128, .f32⟩
  | 92 => ⟨S8x4x64x128, .f32⟩
  | 93 => ⟨S128x8x4x64, .f32⟩
  | 94 => ⟨S8x4x64x128, .f32⟩
  | 95 => ⟨S128x8x4x64, .f32⟩
  | 96 => ⟨S128x8x4, .f32⟩
  | 97 => ⟨S128x8x4x1, .f32⟩
  | 98 => ⟨S128x8x4x64, .f32⟩
  | 99 => ⟨S128x8x4x64, .f32⟩
  | 100 => ⟨S1x8x4, .f32⟩
  | 101 => ⟨S8x4, .f32⟩
  | 102 => ⟨S1x8x4, .f32⟩
  | 103 => ⟨S128x8x4, .f32⟩
  | 104 => ⟨S128x8x4, .f32⟩
  | 105 => ⟨S128x8x4, .f32⟩
  | 106 => ⟨S8x4, .f32⟩
  | 107 => ⟨S8x4x1x1, .f32⟩
  | 108 => ⟨S8x4x64x128, .f32⟩
  | 109 => ⟨S8x4x64x128, .f32⟩
  | 110 => ⟨S128x8x4x1, .f32⟩
  | 111 => ⟨S128x8x4x64, .f32⟩
  | 112 => ⟨S128x8x4x64, .f32⟩
  | 113 => ⟨S8x4x64x128, .f32⟩
  | 114 => ⟨S8x4x64x128, .f32⟩
  | 115 => ⟨S128x8x4x64, .f32⟩
  | 116 => ⟨S8x4x1, .f32⟩
  | 117 => ⟨S1x8x4x1, .f32⟩
  | 118 => ⟨S128x8x4x64, .f32⟩
  | 119 => ⟨S128x8x4x64, .f32⟩
  | 120 => ⟨S128x8x4x64, .f32⟩
  | 121 => ⟨S1x128x8x4x64, .f32⟩
  | 122 => ⟨S_, .i32⟩
  | 123 => ⟨S_, .i32⟩
  | 124 => ⟨S_, .i32⟩
  | 125 => ⟨S_, .i32⟩
  | 126 => ⟨S64x128x8x4x64, .f32⟩
  | 127 => ⟨S1x8x4x64x128, .f32⟩
  | _ => ⟨S8192x4096, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S64x8x4x64x128, .f32⟩
  | 5 => ⟨S_, .i32⟩
  | 6 => ⟨S_, .i32⟩
  | 7 => ⟨S8192x2048, .f32⟩
  | 8 => ⟨S64x2048x128, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_c : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_v16_5 : Ref sig .tc := ⟨.hbm, 29, rfl⟩
abbrev main_v16_6 : Ref sig .tc := ⟨.hbm, 30, rfl⟩
abbrev main_v16_7 : Ref sig .tc := ⟨.hbm, 31, rfl⟩
abbrev main_v16_8 : Ref sig .tc := ⟨.hbm, 32, rfl⟩
abbrev main_v16_9 : Ref sig .tc := ⟨.hbm, 33, rfl⟩
abbrev main_while0c_c_11 : Ref sig .tc := ⟨.hbm, 34, rfl⟩
abbrev main_while0c_v19 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_c_1 : Ref sig .tc := ⟨.hbm, 38, rfl⟩
abbrev main_while0b_call0_c_2 : Ref sig .tc := ⟨.hbm, 39, rfl⟩
abbrev main_while0b_call0_v0 : Ref sig .tc := ⟨.hbm, 40, rfl⟩
abbrev main_while0b_v19 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_c_1 : Ref sig .tc := ⟨.hbm, 44, rfl⟩
abbrev main_while0b_call1_v0 : Ref sig .tc := ⟨.hbm, 45, rfl⟩
abbrev main_while0b_v20 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_c_1 : Ref sig .tc := ⟨.hbm, 49, rfl⟩
abbrev main_while0b_call2_v0 : Ref sig .tc := ⟨.hbm, 50, rfl⟩
abbrev main_while0b_v21 : Ref sig .tc := ⟨.hbm, 51, rfl⟩
abbrev main_while0b_call3_c : Ref sig .tc := ⟨.hbm, 52, rfl⟩
abbrev main_while0b_call3_c_0 : Ref sig .tc := ⟨.hbm, 53, rfl⟩
abbrev main_while0b_call3_c_1 : Ref sig .tc := ⟨.hbm, 54, rfl⟩
abbrev main_while0b_call3_v0 : Ref sig .tc := ⟨.hbm, 55, rfl⟩
abbrev main_while0b_v22 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_c_1 : Ref sig .tc := ⟨.hbm, 59, rfl⟩
abbrev main_while0b_call4_v0 : Ref sig .tc := ⟨.hbm, 60, rfl⟩
abbrev main_while0b_v23 : Ref sig .tc := ⟨.hbm, 61, rfl⟩
abbrev main_while0b_c_11 : Ref sig .tc := ⟨.hbm, 62, rfl⟩
abbrev main_while0b_v24 : Ref sig .tc := ⟨.hbm, 63, rfl⟩
abbrev main_while0b_call5_v0 : Ref sig .tc := ⟨.hbm, 64, rfl⟩
abbrev main_while0b_call5_c : Ref sig .tc := ⟨.hbm, 65, rfl⟩
abbrev main_while0b_call5_v1 : Ref sig .tc := ⟨.hbm, 66, rfl⟩
abbrev main_while0b_call5_v2 : Ref sig .tc := ⟨.hbm, 67, rfl⟩
abbrev main_while0b_call5_v3 : Ref sig .tc := ⟨.hbm, 68, rfl⟩
abbrev main_while0b_call5_v4 : Ref sig .tc := ⟨.hbm, 69, rfl⟩
abbrev main_while0b_call5_c_0 : Ref sig .tc := ⟨.hbm, 70, rfl⟩
abbrev main_while0b_call5_v5 : Ref sig .tc := ⟨.hbm, 71, rfl⟩
abbrev main_while0b_v25 : Ref sig .tc := ⟨.hbm, 72, rfl⟩
abbrev main_while0b_v26 : Ref sig .tc := ⟨.hbm, 73, rfl⟩
abbrev main_while0b_v27 : Ref sig .tc := ⟨.hbm, 74, rfl⟩
abbrev main_while0b_v28 : Ref sig .tc := ⟨.hbm, 75, rfl⟩
abbrev main_while0b_v29 : Ref sig .tc := ⟨.hbm, 76, rfl⟩
abbrev main_while0b_v30 : Ref sig .tc := ⟨.hbm, 77, rfl⟩
abbrev main_while0b_v31 : Ref sig .tc := ⟨.hbm, 78, rfl⟩
abbrev main_while0b_v32 : Ref sig .tc := ⟨.hbm, 79, rfl⟩
abbrev main_while0b_v33 : Ref sig .tc := ⟨.hbm, 80, rfl⟩
abbrev main_while0b_v34 : Ref sig .tc := ⟨.hbm, 81, rfl⟩
abbrev main_while0b_cst_12 : Ref sig .tc := ⟨.hbm, 82, rfl⟩
abbrev main_while0b_call6_v0 : Ref sig .tc := ⟨.hbm, 83, rfl⟩
abbrev main_while0b_call6_v1 : Ref sig .tc := ⟨.hbm, 84, rfl⟩
abbrev main_while0b_call6_v2 : Ref sig .tc := ⟨.hbm, 85, rfl⟩
abbrev main_while0b_v35 : Ref sig .tc := ⟨.hbm, 86, rfl⟩
abbrev main_while0b_v36 : Ref sig .tc := ⟨.hbm, 87, rfl⟩
abbrev main_while0b_v37 : Ref sig .tc := ⟨.hbm, 88, rfl⟩
abbrev main_while0b_v38 : Ref sig .tc := ⟨.hbm, 89, rfl⟩
abbrev main_while0b_v39 : Ref sig .tc := ⟨.hbm, 90, rfl⟩
abbrev main_while0b_v40 : Ref sig .tc := ⟨.hbm, 91, rfl⟩
abbrev main_while0b_v41 : Ref sig .tc := ⟨.hbm, 92, rfl⟩
abbrev main_while0b_v42 : Ref sig .tc := ⟨.hbm, 93, rfl⟩
abbrev main_while0b_v43 : Ref sig .tc := ⟨.hbm, 94, rfl⟩
abbrev main_while0b_v44 : Ref sig .tc := ⟨.hbm, 95, rfl⟩
abbrev main_while0b_v45 : Ref sig .tc := ⟨.hbm, 96, rfl⟩
abbrev main_while0b_v46 : Ref sig .tc := ⟨.hbm, 97, rfl⟩
abbrev main_while0b_v47 : Ref sig .tc := ⟨.hbm, 98, rfl⟩
abbrev main_while0b_v48 : Ref sig .tc := ⟨.hbm, 99, rfl⟩
abbrev main_while0b_v49 : Ref sig .tc := ⟨.hbm, 100, rfl⟩
abbrev main_while0b_v50 : Ref sig .tc := ⟨.hbm, 101, rfl⟩
abbrev main_while0b_v51 : Ref sig .tc := ⟨.hbm, 102, rfl⟩
abbrev main_while0b_v52 : Ref sig .tc := ⟨.hbm, 103, rfl⟩
abbrev main_while0b_v53 : Ref sig .tc := ⟨.hbm, 104, rfl⟩
abbrev main_while0b_v54 : Ref sig .tc := ⟨.hbm, 105, rfl⟩
abbrev main_while0b_v55 : Ref sig .tc := ⟨.hbm, 106, rfl⟩
abbrev main_while0b_v56 : Ref sig .tc := ⟨.hbm, 107, rfl⟩
abbrev main_while0b_v57 : Ref sig .tc := ⟨.hbm, 108, rfl⟩
abbrev main_while0b_v58 : Ref sig .tc := ⟨.hbm, 109, rfl⟩
abbrev main_while0b_v59 : Ref sig .tc := ⟨.hbm, 110, rfl⟩
abbrev main_while0b_v60 : Ref sig .tc := ⟨.hbm, 111, rfl⟩
abbrev main_while0b_v61 : Ref sig .tc := ⟨.hbm, 112, rfl⟩
abbrev main_while0b_v62 : Ref sig .tc := ⟨.hbm, 113, rfl⟩
abbrev main_while0b_v63 : Ref sig .tc := ⟨.hbm, 114, rfl⟩
abbrev main_while0b_v64 : Ref sig .tc := ⟨.hbm, 115, rfl⟩
abbrev main_while0b_v65 : Ref sig .tc := ⟨.hbm, 116, rfl⟩
abbrev main_while0b_v66 : Ref sig .tc := ⟨.hbm, 117, rfl⟩
abbrev main_while0b_v67 : Ref sig .tc := ⟨.hbm, 118, rfl⟩
abbrev main_while0b_v68 : Ref sig .tc := ⟨.hbm, 119, rfl⟩
abbrev main_while0b_v69 : Ref sig .tc := ⟨.hbm, 120, rfl⟩
abbrev main_while0b_call7_v0 : Ref sig .tc := ⟨.hbm, 121, rfl⟩
abbrev main_while0b_call7_c : Ref sig .tc := ⟨.hbm, 122, rfl⟩
abbrev main_while0b_call7_c_0 : Ref sig .tc := ⟨.hbm, 123, rfl⟩
abbrev main_while0b_call7_c_1 : Ref sig .tc := ⟨.hbm, 124, rfl⟩
abbrev main_while0b_call7_c_2 : Ref sig .tc := ⟨.hbm, 125, rfl⟩
abbrev main_while0b_v70 : Ref sig .tc := ⟨.hbm, 126, rfl⟩
abbrev main_while0b_call8_v0 : Ref sig .tc := ⟨.hbm, 127, rfl⟩
abbrev main_while0b_call8_c : Ref sig .tc := ⟨.hbm, 128, rfl⟩
abbrev main_while0b_call8_c_0 : Ref sig .tc := ⟨.hbm, 129, rfl⟩
abbrev main_while0b_call8_c_1 : Ref sig .tc := ⟨.hbm, 130, rfl⟩
abbrev main_while0b_call8_c_2 : Ref sig .tc := ⟨.hbm, 131, rfl⟩
abbrev main_while0b_v71 : Ref sig .tc := ⟨.hbm, 132, rfl⟩
abbrev main_while0b_c_13 : Ref sig .tc := ⟨.hbm, 133, rfl⟩
abbrev main_while0b_v72 : Ref sig .tc := ⟨.hbm, 134, rfl⟩
abbrev main_v17 : Ref sig .tc := ⟨.hbm, 135, rfl⟩
abbrev main_v18 : Ref sig .tc := ⟨.hbm, 136, rfl⟩

abbrev nD : Nat := 1
abbrev τ : Topo := Topo.v7x

variable {F : FTy → Type} [FloatOps F]

abbrev main_while0_count : Scf.Loop 32 := ⟨0#32, 64#32, 1#32⟩
-- ==== Kernel28.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8x128, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference28Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8x128, .f32⟩
  | .hbm, ⟨82, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel31.lean ====
abbrev S8192x128 : Shape := ⟨2, ![8192, 128]⟩
abbrev S1x128 : Shape := ⟨2, ![1, 128]⟩
abbrev S64x128x128 : Shape := ⟨3, ![64, 128, 128]⟩
abbrev S128x128 : Shape := ⟨2, ![128, 128]⟩
abbrev S1x128x128 : Shape := ⟨3, ![1, 128, 128]⟩

abbrev nBuf : Space → Nat
  | .hbm => 6
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S1x128, .f32⟩
  | .hbm, ⟨3, _⟩ => ⟨S8192x128, .f32⟩
  | .hbm, ⟨4, _⟩ => ⟨S8192x128, .f32⟩
  | .hbm, ⟨5, _⟩ => ⟨S64x128x128, .f32⟩
  | .local _ .vmem, ⟨0, _⟩ => ⟨S128x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128x128, .f32⟩
  | .local _ .vmem, ⟨9, _⟩ => ⟨S1x128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference31Ideal.lean ====
abbrev S8192x128 : Shape := ⟨2, ![8192, 128]⟩
abbrev S1x128 : Shape := ⟨2, ![1, 128]⟩
abbrev S_ : Shape := ⟨0, ![]⟩
abbrev S64x128x128 : Shape := ⟨3, ![64, 128, 128]⟩
abbrev S128x128 : Shape := ⟨2, ![128, 128]⟩
abbrev S1x128x128x1 : Shape := ⟨4, ![1, 128, 128, 1]⟩
abbrev S64x1x128x128 : Shape := ⟨4, ![64, 1, 128, 128]⟩
abbrev S64x128x128x128 : Shape := ⟨4, ![64, 128, 128, 128]⟩

abbrev nBuf : Space → Nat
  | .hbm => 47
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S1x128, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .i1⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S1x128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S64x128x128, .f32⟩
  | .hbm, ⟨24, _⟩ => ⟨S_, .i1⟩
  | .hbm, ⟨25, _⟩ => ⟨S128x128, .i1⟩
  | .hbm, ⟨26, _⟩ => ⟨S128x128, .i32⟩
  | .hbm, ⟨27, _⟩ => ⟨S_, .i32⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S128x128, .i1⟩
  | .hbm, ⟨32, _⟩ => ⟨S_, .i1⟩
  | .hbm, ⟨33, _⟩ => ⟨S128x128, .i1⟩
  | .hbm, ⟨34, _⟩ => ⟨S128x128, .i1⟩
  | .hbm, ⟨35, _⟩ => ⟨S1x128x128x1, .i1⟩
  | .hbm, ⟨36, _⟩ => ⟨S64x1x128x128, .f32⟩
  | .hbm, ⟨37, _⟩ => ⟨S_, .f32⟩
  | .hbm, ⟨38, _⟩ => ⟨S_, .f32⟩
  | .hbm, ⟨39, _⟩ => ⟨S64x128x128x128, .i1⟩
  | .hbm, ⟨40, _⟩ => ⟨S64x128x128x128, .f32⟩
  | .hbm, ⟨41, _⟩ => ⟨S64x128x128x128, .f32⟩
  | .hbm, ⟨42, _⟩ => ⟨S64x128x128x128, .f32⟩
  | .hbm, ⟨43, _⟩ => ⟨S_, .f32⟩
  | .hbm, ⟨44, _⟩ => ⟨S64x128x128, .f32⟩
  | .hbm, ⟨45, _⟩ => ⟨S8192x128, .f32⟩
  | .hbm, ⟨46, _⟩ => ⟨S64x128x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_0 : Ref sig .tc := ⟨.hbm, 32, rfl⟩
abbrev main_call1_v5 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_v12 : Ref sig .tc := ⟨.hbm, 42, rfl⟩
abbrev main_cst_0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩

abbrev nD : Nat := 1
abbrev τ : Topo := Topo.v7x

variable {F : FTy → Type} [FloatOps F]
-- ==== Kernel32.lean ====
abbrev S8192x10368 : Shape := ⟨2, ![8192, 10368]⟩
abbrev S4x4096 : Shape := ⟨2, ![4, 4096]⟩
abbrev S1x4096 : Shape := ⟨2, ![1, 4096]⟩
abbrev S8192x4096 : Shape := ⟨2, ![8192, 4096]⟩
abbrev S512x1024 : Shape := ⟨2, ![512, 1024]⟩
abbrev S16x1024 : Shape := ⟨2, ![16, 1024]⟩
abbrev S4x1024 : Shape := ⟨2, ![4, 1024]⟩
abbrev S1x1024 : Shape := ⟨2, ![1, 1024]⟩
abbrev S8x1024 : Shape := ⟨2, ![8, 1024]⟩
abbrev S520x1024 : Shape := ⟨2, ![520, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x10368, .bf16⟩
  | .hbm, ⟨1, _⟩ => ⟨S4x4096, .f32⟩
  | .hbm, ⟨2, _⟩ => ⟨S1x4096, .f32⟩
  | .hbm, ⟨3, _⟩ => ⟨S8192x4096, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8192x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference32Ideal.lean ====
abbrev S8192x10368 : Shape := ⟨2, ![8192, 10368]⟩
abbrev S4x4096 : Shape := ⟨2, ![4, 4096]⟩
abbrev S1x4096 : Shape := ⟨2, ![1, 4096]⟩
abbrev S8192x4096 : Shape := ⟨2, ![8192, 4096]⟩
abbrev S_ : Shape := ⟨0, ![]⟩
abbrev S3x4096 : Shape := ⟨2, ![3, 4096]⟩
abbrev S8195x4096 : Shape := ⟨2, ![8195, 4096]⟩
abbrev S4096 : Shape := ⟨1, ![4096]⟩

abbrev nBuf : Space → Nat
  | .hbm => 46
  | .vmem => 0
  | .smem => 0
  | _ => 0

abbrev bufTy : (tb : Table) → Fin (tcTables nBuf tb) → BufTy
  | .hbm, ⟨0, _⟩ => ⟨S8192x10368, .bf16⟩
  | .hbm, ⟨1, _⟩ => ⟨S4x4096, .f32⟩
  | .hbm, ⟨2, _⟩ => ⟨S1x4096, .f32⟩
  | .hbm, ⟨3, _⟩ => ⟨S8192x4096, .bf16⟩
  | .hbm, ⟨4, _⟩ => ⟨S8192x4096, .f32⟩
  | .hbm, ⟨5, _⟩ => ⟨S_, .f32⟩
  | .hbm, ⟨6, _⟩ => ⟨S3x4096, .f32⟩
  | .hbm, ⟨7, _⟩ => ⟨S8195x4096, .f32⟩
  | .hbm, ⟨8, _⟩ => ⟨S1x4096, .f32⟩
  | .hbm, ⟨9, _⟩ => ⟨S4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S1x4096, .f32⟩
  | .hbm, ⟨15, _⟩ => ⟨S4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S1x4096, .f32⟩
  | .hbm, ⟨29, _⟩ => ⟨S4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S8192x4096, .f32⟩
  | _, _ => ⟨S8192x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.Pipeline.ValueKit
public import Idealize.ShloMosaic.Lib.Pipeline.ReadBack

/-! # The gradient of the gating unit, on one chunk of 128 rows

The unit gates `gelu u` by a mixture of the rows of `v`: each group of 128 lanes has its own lower triangular 128 × 128 matrix, which mixes the
normalised `gelu v` inside a chunk of 128 rows. Everything in its gradient is local to a chunk, apart from the three sums over all rows (the
gradients of the norm's scale, of the matrices and of the biases). The definitions below spell that gradient at one chunk, in the order in
which the kernel adds and multiplies. -/

@[expose] public section
noncomputable section
open Idealize.ShloMosaic Idealize.ShloMosaic.TcCoe

namespace Idealize.ShloMosaic.View
variable {s : Shape} {e : EltTy} {Val : EltTy → Type}

/-- Where the first `n` stores of the list already cover an index, the earlier stores do not matter there. -/
theorem canon_take [∀ e, Nonempty (Val e)] (n : Nat) : ∀ (L : List (Piece Val s e)) (y : s.Idx),
    (∃ p ∈ L.take n, y ∈ p.1.set) → View.canon L y = View.canon (L.take n) y := by
  induction n with
  | zero => intro L y h; simp at h
  | succ n ih =>
    intro L y h
    cases L with
    | nil => rfl
    | cons p L =>
      rw [List.take_succ_cons]
      by_cases hy : y ∈ p.1.set
      · obtain ⟨r, w⟩ := p
        obtain ⟨x, rfl⟩ : ∃ x, r.emb x = y := r.exists_idx_of_mem hy
        rw [canon_cons_emb, canon_cons_emb]
      · rw [canon_cons_of_not_mem p _ hy, canon_cons_of_not_mem p _ hy]
        refine ih L y ?_
        obtain ⟨q, hq, hqy⟩ := h
        rw [List.take_succ_cons, List.mem_cons] at hq
        rcases hq with rfl | hq
        · exact absurd hqy hy
        · exact ⟨q, hq, hqy⟩

/-- A load of a whole buffer after the stores `L` reads `G` when the stores leave `G`. -/
theorem readCov_whole [∀ e, Nonempty (Val e)] {sig : RefSig} {κ : Kind} {sp : Space} (v : View sig κ sp s e) {off : Fin s.rank → Nat}
    (inb : ∀ a, off a + s.size a ≤ s.size a) (L : List (Piece Val s e)) (G : s.Idx → Val e) (h : ∀ a, off a = 0)
    (hG : ∀ y, View.canon L y = G y) : v.readCov L (Rect.unit off (no_index s.size) inb).toLoadRect = G := by
  have e : View.canon L = G := funext hG
  rw [readCov_eq_canon', e]
  exact ld_unit_lit inb G h

end Idealize.ShloMosaic.View

namespace Cert.Sgu

/-! ## One element -/

/-- The hyperbolic tangent inside the smooth rectifier. -/
def th (x : EReal) : EReal :=
  Ideal.tanh (Ideal.ofBits FTy.f32 1061962282#32 * (x + Ideal.ofBits FTy.f32 1027024659#32 * (x * (x * x))))

/-- The factor that the smooth rectifier multiplies its argument by. -/
def cdf (x : EReal) : EReal := Ideal.ofBits FTy.f32 1056964608#32 * (1 + th x)

/-- The smooth rectifier. -/
def gl (x : EReal) : EReal := x * cdf x

/-- Its derivative at `x`, applied to the gradient `s`. -/
def dgl (x s : EReal) : EReal :=
  s * cdf x
    + Ideal.ofBits FTy.f32 1061962282#32 * (Ideal.ofBits FTy.f32 1056964608#32 * (x * s) * ((1 + th x) * (1 - th x)))
    + Ideal.ofBits FTy.f32 1027024659#32
        * (Ideal.ofBits FTy.f32 1061962282#32 * (Ideal.ofBits FTy.f32 1056964608#32 * (x * s) * ((1 + th x) * (1 - th x))))
        * (Ideal.ofBits FTy.f32 1077936128#32 * (x * x))

/-- 1 on and below the diagonal, 0 above it. -/
def tri (i j : Fin 128) : EReal := if (j : ℕ) ≤ i then 1 else 0

/-- The group of a lane. -/
def grp (d : Fin 1024) : Fin 8 := ⟨d / 128, by omega⟩

/-- Lane `e` of group `g`. -/
def lane (g : Fin 8) (e : Fin 128) : Fin 1024 := ⟨g * 128 + e, by omega⟩

/-! ## One chunk -/

section Chunk
variable (U V DY : Fin 128 → Fin 1024 → EReal) (W : Fin 1024 → EReal) (A : Fin 8 → Fin 128 → Fin 128 → EReal) (B : Fin 8 → Fin 128 → EReal)

/-- The mean square of a row, with the norm's small constant. -/
def msq (i : Fin 128) : EReal :=
  Ideal.div (∑ k : Fin 1024, gl (V i k) * gl (V i k)) (Ideal.ofBits FTy.f32 1149239296#32) + Ideal.ofBits FTy.f32 897988541#32

/-- The normalised row, before its scale. -/
def nrm (i : Fin 128) (d : Fin 1024) : EReal := gl (V i d) * Ideal.rsqrt (msq V i)

/-- The normalised row. -/
def vn (i : Fin 128) (d : Fin 1024) : EReal := nrm V i d * W d

/-- The gradient of the mixture. -/
def dsv (i : Fin 128) (d : Fin 1024) : EReal := DY i d * gl (U i d)

/-- The gradient of the gated factor `gelu u`: the incoming gradient times the mixture. -/
def dug (i : Fin 128) (d : Fin 1024) : EReal := DY i d * (∑ j : Fin 128, A (grp d) i j * vn V W j d + B (grp d) i)

/-- The gradient of the normalised rows: the mixture's transpose. -/
def dvn (j : Fin 128) (d : Fin 1024) : EReal := ∑ i : Fin 128, A (grp d) i j * dsv U DY i d

/-- What the gradient of the mean square adds to every element of a row, for each factor of its square. -/
def corr (i : Fin 128) : EReal :=
  Ideal.div ((∑ k : Fin 1024, gl (V i k) * (dvn U DY A i k * W k))
      * (Ideal.ofBits FTy.f32 3204448256#32 * Ideal.div (Ideal.rsqrt (msq V i)) (msq V i)))
    (Ideal.ofBits FTy.f32 1149239296#32)

/-- The gradient of `gelu v`. -/
def dgv (i : Fin 128) (d : Fin 1024) : EReal :=
  dvn U DY A i d * W d * Ideal.rsqrt (msq V i) + gl (V i d) * corr U V DY W A i + corr U V DY W A i * gl (V i d)

/-- The gradient of `u`. -/
def du (i : Fin 128) (d : Fin 1024) : EReal := dgl (U i d) (dug V DY W A B i d)

/-- The gradient of `v`. -/
def dv (i : Fin 128) (d : Fin 1024) : EReal := dgl (V i d) (dgv U V DY W A i d)

/-- The chunk's part of the gradient of the matrices, before the triangle. -/
def dws (g : Fin 8) (i j : Fin 128) : EReal := ∑ e : Fin 128, dsv U DY i (lane g e) * vn V W j (lane g e)

/-- The chunk's part of the gradient of the biases. -/
def dbs (i : Fin 128) (g : Fin 8) : EReal := ∑ e : Fin 128, dsv U DY i (lane g e)

end Chunk

end Cert.Sgu
-- ==== Proof.Prod.lean ====
module

public import proofs.«01_k».proof.Proof.Spec

/-! # Products of matrices, and a product's gradients -/

@[expose] public section
noncomputable section
namespace Cert.Prod

/-- Element `(i, j)` of `xᵀ y`: the gradient of a product in its right factor. -/
def mulT {n a b : ℕ} (x : Fin n → Fin a → EReal) (y : Fin n → Fin b → EReal) (i : Fin a) (j : Fin b) : EReal :=
  ∑ k : Fin n, x k i * y k j

/-- Element `(i, j)` of `x yᵀ`: the gradient of a product in its left factor. -/
def mulR {n a b : ℕ} (x : Fin a → Fin n → EReal) (y : Fin b → Fin n → EReal) (i : Fin a) (j : Fin b) : EReal :=
  ∑ k : Fin n, x i k * y j k

/-- Element `(i, j)` of `x y`. -/
def mulN {n a b : ℕ} (x : Fin a → Fin n → EReal) (y : Fin n → Fin b → EReal) (i : Fin a) (j : Fin b) : EReal :=
  ∑ k : Fin n, x i k * y k j

theorem mulT_comm {n a b : ℕ} (x : Fin n → Fin a → EReal) (y : Fin n → Fin b → EReal) (i : Fin a) (j : Fin b) :
    mulT x y i j = mulT y x j i := Finset.sum_congr rfl fun _ _ => mul_comm _ _

/-- A sum over 8192 rows is the sum of those over its two halves. -/
theorem sum_halves (f : Fin 8192 → EReal) :
    ∑ k : Fin 8192, f k = ∑ k : Fin 4096, f ⟨k, by omega⟩ + ∑ k : Fin 4096, f ⟨4096 + k, by omega⟩ :=
  Fin.sum_univ_add (a := 4096) (b := 4096) f

/-- A matrix read at equal places. -/
theorem at2 {a b : ℕ} (f : Fin a → Fin b → EReal) {r r' : Fin a} {d d' : Fin b} (hr : (r : ℕ) = r') (hd : (d : ℕ) = d') :
    f r d = f r' d' := by rw [Fin.ext hr, Fin.ext hd]

/-- Two products of elements read at equal places. -/
theorem mul_at2 {a b a' b' : ℕ} (f : Fin a → Fin b → EReal) (g : Fin a' → Fin b' → EReal) {r r' : Fin a} {d d' : Fin b}
    {s s' : Fin a'} {e e' : Fin b'} (hr : (r : ℕ) = r') (hd : (d : ℕ) = d') (hs : (s : ℕ) = s') (he : (e : ℕ) = e') :
    f r d * g s e = f r' d' * g s' e' := by rw [at2 f hr hd, at2 g hs he]

/-- Where the rectifier is shut its scaled value is zero, so the guarded product is the product. -/
theorem guard_relu (s a f : EReal) : (if 0 < f then s * (a * max f 0) else 0) = s * (a * max f 0) := by
  split
  · rfl
  · rename_i h
    rw [max_eq_right (not_lt.mp h), mul_zero, mul_zero]

end Cert.Prod
-- ==== Proof.ProjDw.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Prod
public import Idealize.ShloMosaic.Lib.Pipeline.ValueKit
public import Idealize.ShloMosaic.Lib.Pipeline.ReadBack
public import Idealize.ShloMosaic.Lib.StableHlo.ReadAt

/-! # The gradient of the projection's weights -/

@[expose] public section
set_option maxRecDepth 16384
noncomputable section
open Idealize.ShloMosaic Idealize.ShloMosaic.TcCoe Idealize.ShloMosaic.StableHlo Idealize.SL.Sem
namespace Cert.Kernel2Ideal.Val
open Cert.Kernel2Ideal Cert.Kernel2Ideal.Gen Cert.Prod Cert.Reference2Ideal

variable (m : (ℓ : Loc nD τ sig) → Buf (Elt Ideal) ℓ)

/-- The part of the product that one grid point adds. -/
def part (x : Vec Ideal S4096x512 .bf16) (y : Vec Ideal S4096x1152 .bf16) (i : S512x1152.Idx) : EReal :=
  ∑ k : Fin 4096, (x (ix2 k (i 0)) : EReal) * y (ix2 k (i 1))

theorem step_A (c : Dev nD) (t : Fin cfg0.N) (h : t.val % 2 = 0) (y : S512x1152.Idx) :
    (outsAt0 m c t.val t.isLt).2 y = part (iblk m c 0 t) (iblk m c 1 t) y := by
  rw [outsAt0_A m c t h (by omega) (by omega)]
  frame_open
  frame_out
  clear h
  unfold part
  open_payloads
  pointwise []

theorem step_B (c : Dev nD) (t : Fin cfg0.N) (h : t.val % 2 = 1) (y : S512x1152.Idx) :
    (outsAt0 m c t.val t.isLt).1 y = (outsAt0 m c (t.val - 1) (Nat.lt_of_le_of_lt (Nat.sub_le _ _) t.isLt)).2 y
      + part (iblk m c 0 t) (iblk m c 1 t) y := by
  rw [outsAt0_B m c t (by omega) h h]
  frame_open
  frame_out
  clear h
  generalize (outsAt0 m c (t.val - 1) (Nat.lt_of_le_of_lt (Nat.sub_le _ _) t.isLt)).2 = acc
  simp only [read_unread_whole]
  unfold part
  open_payloads
  pointwise []

/-- The arguments' elements. -/
def aX (c : Dev nD) (r : Fin 8192) (d : Fin 1024) : EReal := m ((c : Thread nD τ).loc main_arg0) (ix2 r d)
def aY (c : Dev nD) (r : Fin 8192) (d : Fin 10368) : EReal := m ((c : Thread nD τ).loc main_arg1) (ix2 r d)

theorem idx : ∀ t : Fin cfg0.N, win0_0.index t = ![t.val % 2, t.val / 18] ∧ win0_1.index t = ![t.val % 2, t.val / 2 % 9]
    ∧ win0_2.index t = ![t.val / 18, t.val / 2 % 9] :=
  (by decide +kernel : ∀ t : Fin grid0.N, _)

theorem pt_lt (t : Fin cfg0.N) : t.val < 36 := lt_of_lt_of_eq t.isLt N_0

/-- One point's part, over the rows of its half. -/
theorem part_at (c : Dev nD) (t : Fin cfg0.N) (y : S512x1152.Idx) :
    part (iblk m c 0 t) (iblk m c 1 t) y = ∑ k : Fin 4096,
      aX m c ⟨t.val % 2 * 4096 + k, by omega⟩ ⟨t.val / 18 * 512 + y 0, by have := pt_lt t; have := (y 0).isLt; simp at this; omega⟩
        * aY m c ⟨t.val % 2 * 4096 + k, by omega⟩ ⟨t.val / 2 % 9 * 1152 + y 1, by have := (y 1).isLt; simp at this; omega⟩ := by
  unfold part aX aY
  refine Finset.sum_congr rfl fun k _ => ?_
  congr 1 <;> blk_ext [iblk, V, idx t]

theorem final (c : Dev nD) : (dats m 0 c).arrAt 2 cfg0.N = fun j : S1024x10368.Idx => mulT (aX m c) (aY m c) (j 0) (j 1) := by
  refine (dats m 0 c).arrAt_eq_of_covers 2 _ (by decide +kernel) fun t hf y => ?_
  have ht := (flush0_2 t).mp hf
  have hl := pt_lt t
  have hp : t.val - 1 < cfg0.N := Nat.lt_of_le_of_lt (Nat.sub_le _ _) t.isLt
  blk_simp
  rw [after0_2, step_B m c t ht, step_A m c ⟨t.val - 1, hp⟩ (by show (t.val - 1) % 2 = 0; omega), part_at, part_at]
  unfold mulT
  rw [sum_halves]
  refine congrArg₂ (· + ·) ?_ ?_ <;> refine Finset.sum_congr rfl fun k _ => mul_at2 _ _ ?_ ?_ ?_ ?_ <;> (try blk_simp [idx t]) <;> dsimp only <;> omega

/-! ## The reference -/

/-- The reference declares no semaphore, and writes none of its arguments. -/
theorem frameRef : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem stage (x : FVec Ideal S8192x1024 .bf16) (y : FVec Ideal S8192x10368 .bf16) (i : Fin 1024) (j : Fin 10368) :
    (Read.val_main_v6 (F := Ideal) x y (ix2 i j) : EReal) = mulT (fun r d => x (ix2 r d)) (fun r d => y (ix2 r d)) i j := by
  rw [mulT_comm]
  unfold mulT
  pointwise [Read.val_main_v6, Read.val_main_v5, Read.val_main_v4, Read.val_main_v3, Read.val_main_v1]

theorem res (c : Dev nD) : Read.val_main_v6 (F := Ideal) (m ((c.tc : Thread nD τ).loc main_arg0)) (m ((c.tc : Thread nD τ).loc main_arg1))
    = fun j : S1024x10368.Idx => mulT (aX m c) (aY m c) (j 0) (j 1) := by
  funext j
  exact (congrArg _ (eq_ix2 j)).trans (stage _ _ (j 0) (j 1))

theorem algebra : Cert.algebraic_Kernel2Ideal_Reference2Ideal (hKernel2Ideal := Cert.Kernel2Ideal.Gen.facts) (hReference2Ideal := Cert.Reference2Ideal.Gen.facts) := by
  intro m ρ m' ρ' _ hm
  refine ⟨fun c => fun j : S1024x10368.Idx => mulT (aX m c) (aY m c) (j 0) (j 1), ?_, ?_⟩
  · exact (θ_run Cert.Kernel2Ideal.defs _ _).mono (fun r h c => ⟨(h c).1.trans (final m c), (h c).2⟩)
      (Cert.Kernel2Ideal.Value.run_blocks (F := Ideal) m ρ)
  · refine (θ_run Cert.Reference2Ideal.defs _ _).mono (fun r h c =>
      ⟨(h c).1.trans (Eq.trans (Read.val_main_v6_eq (F := Ideal) _ _) ?_), (h c).2⟩)
      (Cert.Reference2Ideal.Value.run (F := Ideal) m' ρ')
    obtain ⟨h0, h1⟩ := hm c
    rw [h0, h1]
    exact res m c

end Cert.Kernel2Ideal.Val
-- ==== Proof.Ff2Dx.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Prod
public import Idealize.ShloMosaic.Lib.Pipeline.ValueKit
public import Idealize.ShloMosaic.Lib.StableHlo.ReadAt

/-! # The gradient of the feed-forward's activation and second product, in the activation's argument -/

@[expose] public section
set_option maxRecDepth 16384
noncomputable section
open Idealize.ShloMosaic Idealize.ShloMosaic.TcCoe Idealize.ShloMosaic.StableHlo Idealize.SL.Sem
namespace Cert.Kernel3Ideal.Val
open Cert.Kernel3Ideal Cert.Kernel3Ideal.Gen Cert.Prod Cert.Reference3Ideal

variable (m : (ℓ : Loc nD τ sig) → Buf (Elt Ideal) ℓ)

/-- The factor two, as both programs write it. -/
abbrev two : EReal := Ideal.ofBits FTy.f32 1073741824#32

/-- The arguments' elements. -/
def aF (c : Dev nD) (r : Fin 8192) (d : Fin 4096) : EReal := m ((c : Thread nD τ).loc main_arg0) (ix2 r d)
def aW (c : Dev nD) (r : Fin 4096) (d : Fin 1024) : EReal := m ((c : Thread nD τ).loc main_arg1) (ix2 r d)
def aY (c : Dev nD) (r : Fin 8192) (d : Fin 1024) : EReal := m ((c : Thread nD τ).loc main_arg2) (ix2 r d)

/-- The gradient's element. -/
def gF (c : Dev nD) (r : Fin 8192) (d : Fin 4096) : EReal := mulR (aY m c) (aW m c) r d * (two * max (aF m c r d) 0)

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

theorem pay_at (x y f : Vec Ideal S1024x1024 .bf16) (i : S1024x1024.Idx) :
    (k0_pay1 x y f i : EReal) = (∑ k : Fin 1024, (x (ix2 (i 0) k) : EReal) * y (ix2 (i 1) k)) * (two * max (f i : EReal) 0) := by
  pointwise [k0_pay1]

theorem out_at (c : Dev nD) (t : Fin cfg0.N) (y : S1024x1024.Idx) : outsAt0 m c t y = k0_pay1 (iblk m c 0 t) (iblk m c 1 t) (iblk m c 2 t) y := by
  unfold outsAt0
  frame_out

theorem final (c : Dev nD) : (dats m 0 c).arrAt 3 cfg0.N = fun j : S8192x4096.Idx => gF m c (j 0) (j 1) := by
  refine (dats m 0 c).arrAt_eq_of_covers 3 _ (by decide +kernel) fun t hf y => ?_
  blk_simp
  rw [after0_3]
  refine (out_at m c t y).trans ((pay_at (iblk m c 0 t) (iblk m c 1 t) (iblk m c 2 t) y).trans ?_)
  unfold gF mulR
  refine congrArg₂ (· * ·) (Finset.sum_congr rfl fun k _ => congrArg₂ (· * ·) ?_ ?_) (congrArg (fun z => two * max z 0) ?_)
  · unfold aY; blk_ext [iblk, V, idx t]
  · unfold aW; blk_ext [iblk, V, idx t]
  · unfold aF; blk_ext [iblk, V, idx t]

/-! ## The reference -/

/-- The reference declares no semaphore, and writes none of its arguments. -/
theorem frameRef : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem stage (f : FVec Ideal S8192x4096 .bf16) (w : FVec Ideal S4096x1024 .bf16) (y : FVec Ideal S8192x1024 .bf16) (i : Fin 8192) (j : Fin 4096) :
    (Read.val_main_v15 (F := Ideal) f w y (ix2 i j) : EReal)
      = mulR (fun r d => y (ix2 r d)) (fun r d => w (ix2 r d)) i j * (two * max (f (ix2 i j) : EReal) 0) := by
  rw [← guard_relu]
  unfold mulR
  pointwise [Read.val_main_v15, Read.val_main_v14, Read.val_main_v13, Read.val_main_cst_2, Read.val_main_v12, Read.val_main_v11, Read.val_main_v10,
    Read.val_main_v8, Read.val_main_v7, Read.val_main_v6, Read.val_main_cst_1, Read.val_main_v3, Read.val_main_v2, Read.val_main_cst, Read.val_main_v1,
    Read.val_main_v0, Read.val_main_call0_v0, Read.val_main_call0_cst]

theorem res (c : Dev nD) : Read.val_main_v15 (F := Ideal) (m ((c.tc : Thread nD τ).loc main_arg0)) (m ((c.tc : Thread nD τ).loc main_arg1))
      (m ((c.tc : Thread nD τ).loc main_arg2))
    = fun j : S8192x4096.Idx => gF m c (j 0) (j 1) := by
  funext j
  exact (congrArg _ (eq_ix2 j)).trans (stage _ _ _ (j 0) (j 1))

theorem algebra : Cert.algebraic_Kernel3Ideal_Reference3Ideal (hKernel3Ideal := Cert.Kernel3Ideal.Gen.facts) (hReference3Ideal := Cert.Reference3Ideal.Gen.facts) := by
  intro m ρ m' ρ' _ hm
  refine ⟨fun c => fun j : S8192x4096.Idx => gF m c (j 0) (j 1), ?_, ?_⟩
  · exact (θ_run Cert.Kernel3Ideal.defs _ _).mono (fun r h c => ⟨(h c).1.trans (final m c), (h c).2⟩)
      (Cert.Kernel3Ideal.Value.run_blocks (F := Ideal) m ρ)
  · refine (θ_run Cert.Reference3Ideal.defs _ _).mono (fun r h c =>
      ⟨(h c).1.trans (Eq.trans (Read.val_main_v15_eq (F := Ideal) _ _ _) ?_), (h c).2⟩)
      (Cert.Reference3Ideal.Value.run (F := Ideal) m' ρ')
    obtain ⟨h0, h1, h2⟩ := hm c
    rw [h0, h1, h2]
    exact res m c

end Cert.Kernel3Ideal.Val
-- ==== Proof.Ff2Dw.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Prod
public import Idealize.ShloMosaic.Lib.Pipeline.ValueKit
public import Idealize.ShloMosaic.Lib.Pipeline.ReadBack
public import Idealize.ShloMosaic.Lib.StableHlo.ReadAt

/-! # The gradient of the feed-forward's second weights -/

@[expose] public section
set_option maxRecDepth 16384
noncomputable section
open Idealize.ShloMosaic Idealize.ShloMosaic.TcCoe Idealize.ShloMosaic.StableHlo Idealize.SL.Sem
namespace Cert.Kernel4Ideal.Val
open Cert.Kernel4Ideal Cert.Kernel4Ideal.Gen Cert.Prod Cert.Reference4Ideal

variable (m : (ℓ : Loc nD τ sig) → Buf (Elt Ideal) ℓ)

/-- The part of the product that one grid point adds. -/
def part (x : Vec Ideal S4096x512 .bf16) (y : Vec Ideal S4096x1024 .bf16) (i : S512x1024.Idx) : EReal :=
  ∑ k : Fin 4096, (x (ix2 k (i 0)) : EReal) * y (ix2 k (i 1))

theorem step_A (c : Dev nD) (t : Fin cfg0.N) (h : t.val % 2 = 0) (y : S512x1024.Idx) :
    (outsAt0 m c t.val t.isLt).2 y = part (iblk m c 0 t) (iblk m c 1 t) y := by
  rw [outsAt0_A m c t h (by omega) (by omega)]
  frame_open
  frame_out
  clear h
  unfold part
  open_payloads
  pointwise []

theorem step_B (c : Dev nD) (t : Fin cfg0.N) (h : t.val % 2 = 1) (y : S512x1024.Idx) :
    (outsAt0 m c t.val t.isLt).1 y = (outsAt0 m c (t.val - 1) (Nat.lt_of_le_of_lt (Nat.sub_le _ _) t.isLt)).2 y
      + part (iblk m c 0 t) (iblk m c 1 t) y := by
  rw [outsAt0_B m c t (by omega) h h]
  frame_open
  frame_out
  clear h
  generalize (outsAt0 m c (t.val - 1) (Nat.lt_of_le_of_lt (Nat.sub_le _ _) t.isLt)).2 = acc
  simp only [read_unread_whole]
  unfold part
  open_payloads
  pointwise []

/-- The arguments' elements. -/
def aX (c : Dev nD) (r : Fin 8192) (d : Fin 4096) : EReal := m ((c : Thread nD τ).loc main_arg0) (ix2 r d)
def aY (c : Dev nD) (r : Fin 8192) (d : Fin 1024) : EReal := m ((c : Thread nD τ).loc main_arg1) (ix2 r d)

theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

theorem pt_lt (t : Fin cfg0.N) : t.val < 16 := lt_of_lt_of_eq t.isLt N_0

/-- One point's part, over the rows of its half. -/
theorem part_at (c : Dev nD) (t : Fin cfg0.N) (y : S512x1024.Idx) :
    part (iblk m c 0 t) (iblk m c 1 t) y = ∑ k : Fin 4096,
      aX m c ⟨t.val % 2 * 4096 + k, by omega⟩ ⟨t.val / 2 * 512 + y 0, by have := pt_lt t; have := (y 0).isLt; simp at this; omega⟩
        * aY m c ⟨t.val % 2 * 4096 + k, by omega⟩ (y 1) := by
  unfold part aX aY
  refine Finset.sum_congr rfl fun k _ => ?_
  congr 1 <;> blk_ext [iblk, V, idx t]

theorem final (c : Dev nD) : (dats m 0 c).arrAt 2 cfg0.N = fun j : S4096x1024.Idx => mulT (aX m c) (aY m c) (j 0) (j 1) := by
  refine (dats m 0 c).arrAt_eq_of_covers 2 _ (by decide +kernel) fun t hf y => ?_
  have ht := (flush0_2 t).mp hf
  have hl := pt_lt t
  have hp : t.val - 1 < cfg0.N := Nat.lt_of_le_of_lt (Nat.sub_le _ _) t.isLt
  blk_simp
  rw [after0_2, step_B m c t ht, step_A m c ⟨t.val - 1, hp⟩ (by show (t.val - 1) % 2 = 0; omega), part_at, part_at]
  unfold mulT
  rw [sum_halves]
  refine congrArg₂ (· + ·) ?_ ?_ <;> refine Finset.sum_congr rfl fun k _ => mul_at2 _ _ ?_ ?_ ?_ ?_ <;> (try blk_simp [idx t]) <;> dsimp only <;> omega

/-! ## The reference -/

/-- The reference declares no semaphore, and writes none of its arguments. -/
theorem frameRef : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem stage (x : FVec Ideal S8192x4096 .bf16) (y : FVec Ideal S8192x1024 .bf16) (i : Fin 4096) (j : Fin 1024) :
    (Read.val_main_v6 (F := Ideal) x y (ix2 i j) : EReal) = mulT (fun r d => x (ix2 r d)) (fun r d => y (ix2 r d)) i j := by
  rw [mulT_comm]
  unfold mulT
  pointwise [Read.val_main_v6, Read.val_main_v5, Read.val_main_v4, Read.val_main_v3, Read.val_main_v1]

theorem res (c : Dev nD) : Read.val_main_v6 (F := Ideal) (m ((c.tc : Thread nD τ).loc main_arg0)) (m ((c.tc : Thread nD τ).loc main_arg1))
    = fun j : S4096x1024.Idx => mulT (aX m c) (aY m c) (j 0) (j 1) := by
  funext j
  exact (congrArg _ (eq_ix2 j)).trans (stage _ _ (j 0) (j 1))

theorem algebra : Cert.algebraic_Kernel4Ideal_Reference4Ideal (hKernel4Ideal := Cert.Kernel4Ideal.Gen.facts) (hReference4Ideal := Cert.Reference4Ideal.Gen.facts) := by
  intro m ρ m' ρ' _ hm
  refine ⟨fun c => fun j : S4096x1024.Idx => mulT (aX m c) (aY m c) (j 0) (j 1), ?_, ?_⟩
  · exact (θ_run Cert.Kernel4Ideal.defs _ _).mono (fun r h c => ⟨(h c).1.trans (final m c), (h c).2⟩)
      (Cert.Kernel4Ideal.Value.run_blocks (F := Ideal) m ρ)
  · refine (θ_run Cert.Reference4Ideal.defs _ _).mono (fun r h c =>
      ⟨(h c).1.trans (Eq.trans (Read.val_main_v6_eq (F := Ideal) _ _) ?_), (h c).2⟩)
      (Cert.Reference4Ideal.Value.run (F := Ideal) m' ρ')
    obtain ⟨h0, h1⟩ := hm c
    rw [h0, h1]
    exact res m c

end Cert.Kernel4Ideal.Val
-- ==== Proof.Ff1Dx.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Prod
public import Idealize.ShloMosaic.Lib.Pipeline.ValueKit
public import Idealize.ShloMosaic.Lib.StableHlo.ReadAt

/-! # The gradient of the feed-forward's first product, in its rows -/

@[expose] public section
set_option maxRecDepth 16384
noncomputable section
open Idealize.ShloMosaic Idealize.ShloMosaic.TcCoe Idealize.ShloMosaic.StableHlo Idealize.SL.Sem
namespace Cert.Kernel5Ideal.Val
open Cert.Kernel5Ideal Cert.Kernel5Ideal.Gen Cert.Prod Cert.Reference5Ideal

variable (m : (ℓ : Loc nD τ sig) → Buf (Elt Ideal) ℓ)

/-- The arguments' elements. -/
def aW (c : Dev nD) (r : Fin 1024) (d : Fin 4096) : EReal := m ((c : Thread nD τ).loc main_arg0) (ix2 r d)
def aY (c : Dev nD) (r : Fin 8192) (d : Fin 4096) : EReal := m ((c : Thread nD τ).loc main_arg1) (ix2 r d)

theorem idx : ∀ t : Fin cfg0.N, win0_0.index t = ![t.val, 0] ∧ win0_1.index t = ![0, 0] ∧ win0_2.index t = ![t.val, 0] :=
  (by decide +kernel : ∀ t : Fin grid0.N, _)

theorem pay_at (x : Vec Ideal S512x4096 .bf16) (y : Vec Ideal S1024x4096 .bf16) (i : S512x1024.Idx) :
    (k0_pay1 x y i : EReal) = ∑ k : Fin 4096, (x (ix2 (i 0) k) : EReal) * y (ix2 (i 1) k) := by
  pointwise [k0_pay1]

theorem out_at (c : Dev nD) (t : Fin cfg0.N) (y : S512x1024.Idx) : outsAt0 m c t y = k0_pay1 (iblk m c 0 t) (iblk m c 1 t) y := by
  unfold outsAt0
  frame_out

theorem final (c : Dev nD) : (dats m 0 c).arrAt 2 cfg0.N = fun j : S8192x1024.Idx => mulR (aY m c) (aW m c) (j 0) (j 1) := by
  refine (dats m 0 c).arrAt_eq_of_covers 2 _ (by decide +kernel) fun t hf y => ?_
  blk_simp
  rw [after0_2]
  refine (out_at m c t y).trans ((pay_at (iblk m c 0 t) (iblk m c 1 t) y).trans ?_)
  unfold mulR
  refine Finset.sum_congr rfl fun k _ => congrArg₂ (· * ·) ?_ ?_
  · unfold aY; blk_ext [iblk, V, idx t]
  · unfold aW; blk_ext [iblk, V, idx t]

/-! ## The reference -/

/-- The reference declares no semaphore, and writes none of its arguments. -/
theorem frameRef : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem stage (w : FVec Ideal S1024x4096 .bf16) (y : FVec Ideal S8192x4096 .bf16) (i : Fin 8192) (j : Fin 1024) :
    (Read.val_main_v5 (F := Ideal) w y (ix2 i j) : EReal) = mulR (fun r d => y (ix2 r d)) (fun r d => w (ix2 r d)) i j := by
  unfold mulR
  pointwise [Read.val_main_v5, Read.val_main_v4, Read.val_main_v3, Read.val_main_v1]

theorem res (c : Dev nD) : Read.val_main_v5 (F := Ideal) (m ((c.tc : Thread nD τ).loc main_arg0)) (m ((c.tc : Thread nD τ).loc main_arg1))
    = fun j : S8192x1024.Idx => mulR (aY m c) (aW m c) (j 0) (j 1) := by
  funext j
  exact (congrArg _ (eq_ix2 j)).trans (stage _ _ (j 0) (j 1))

theorem algebra : Cert.algebraic_Kernel5Ideal_Reference5Ideal (hKernel5Ideal := Cert.Kernel5Ideal.Gen.facts) (hReference5Ideal := Cert.Reference5Ideal.Gen.facts) := by
  intro m ρ m' ρ' _ hm
  refine ⟨fun c => fun j : S8192x1024.Idx => mulR (aY m c) (aW m c) (j 0) (j 1), ?_, ?_⟩
  · exact (θ_run Cert.Kernel5Ideal.defs _ _).mono (fun r h c => ⟨(h c).1.trans (final m c), (h c).2⟩)
      (Cert.Kernel5Ideal.Value.run_blocks (F := Ideal) m ρ)
  · refine (θ_run Cert.Reference5Ideal.defs _ _).mono (fun r h c =>
      ⟨(h c).1.trans (Eq.trans (Read.val_main_v5_eq (F := Ideal) _ _) ?_), (h c).2⟩)
      (Cert.Reference5Ideal.Value.run (F := Ideal) m' ρ')
    obtain ⟨h0, h1⟩ := hm c
    rw [h0, h1]
    exact res m c

end Cert.Kernel5Ideal.Val
-- ==== Proof.Ff1Dw.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Prod
public import Idealize.ShloMosaic.Lib.Pipeline.ValueKit
public import Idealize.ShloMosaic.Lib.Pipeline.ReadBack
public import Idealize.ShloMosaic.Lib.StableHlo.ReadAt

/-! # The gradient of the feed-forward's first weights -/

@[expose] public section
set_option maxRecDepth 16384
noncomputable section
open Idealize.ShloMosaic Idealize.ShloMosaic.TcCoe Idealize.ShloMosaic.StableHlo Idealize.SL.Sem
namespace Cert.Kernel6Ideal.Val
open Cert.Kernel6Ideal Cert.Kernel6Ideal.Gen Cert.Prod Cert.Reference6Ideal

variable (m : (ℓ : Loc nD τ sig) → Buf (Elt Ideal) ℓ)

/-- The part of the product that one grid point adds. -/
def part (x : Vec Ideal S4096x512 .bf16) (y : Vec Ideal S4096x1024 .bf16) (i : S512x1024.Idx) : EReal :=
  ∑ k : Fin 4096, (x (ix2 k (i 0)) : EReal) * y (ix2 k (i 1))

theorem step_A (c : Dev nD) (t : Fin cfg0.N) (h : t.val % 2 = 0) (y : S512x1024.Idx) :
    (outsAt0 m c t.val t.isLt).2 y = part (iblk m c 0 t) (iblk m c 1 t) y := by
  rw [outsAt0_A m c t h (by omega) (by omega)]
  frame_open
  frame_out
  clear h
  unfold part
  open_payloads
  pointwise []

theorem step_B (c : Dev nD) (t : Fin cfg0.N) (h : t.val % 2 = 1) (y : S512x1024.Idx) :
    (outsAt0 m c t.val t.isLt).1 y = (outsAt0 m c (t.val - 1) (Nat.lt_of_le_of_lt (Nat.sub_le _ _) t.isLt)).2 y
      + part (iblk m c 0 t) (iblk m c 1 t) y := by
  rw [outsAt0_B m c t (by omega) h h]
  frame_open
  frame_out
  clear h
  generalize (outsAt0 m c (t.val - 1) (Nat.lt_of_le_of_lt (Nat.sub_le _ _) t.isLt)).2 = acc
  simp only [read_unread_whole]
  unfold part
  open_payloads
  pointwise []

/-- The arguments' elements. -/
def aX (c : Dev nD) (r : Fin 8192) (d : Fin 1024) : EReal := m ((c : Thread nD τ).loc main_arg0) (ix2 r d)
def aY (c : Dev nD) (r : Fin 8192) (d : Fin 4096) : EReal := m ((c : Thread nD τ).loc main_arg1) (ix2 r d)

theorem idx : ∀ t : Fin cfg0.N, win0_0.index t = ![t.val % 2, t.val / 8] ∧ win0_1.index t = ![t.val % 2, t.val / 2 % 4]
    ∧ win0_2.index t = ![t.val / 8, t.val / 2 % 4] :=
  (by decide +kernel : ∀ t : Fin grid0.N, _)

theorem pt_lt (t : Fin cfg0.N) : t.val < 16 := lt_of_lt_of_eq t.isLt N_0

/-- One point's part, over the rows of its half. -/
theorem part_at (c : Dev nD) (t : Fin cfg0.N) (y : S512x1024.Idx) :
    part (iblk m c 0 t) (iblk m c 1 t) y = ∑ k : Fin 4096,
      aX m c ⟨t.val % 2 * 4096 + k, by omega⟩ ⟨t.val / 8 * 512 + y 0, by have := pt_lt t; have := (y 0).isLt; simp at this; omega⟩
        * aY m c ⟨t.val % 2 * 4096 + k, by omega⟩ ⟨t.val / 2 % 4 * 1024 + y 1, by have := (y 1).isLt; simp at this; omega⟩ := by
  unfold part aX aY
  refine Finset.sum_congr rfl fun k _ => ?_
  congr 1 <;> blk_ext [iblk, V, idx t]

theorem final (c : Dev nD) : (dats m 0 c).arrAt 2 cfg0.N = fun j : S1024x4096.Idx => mulT (aX m c) (aY m c) (j 0) (j 1) := by
  refine (dats m 0 c).arrAt_eq_of_covers 2 _ (by decide +kernel) fun t hf y => ?_
  have ht := (flush0_2 t).mp hf
  have hl := pt_lt t
  have hp : t.val - 1 < cfg0.N := Nat.lt_of_le_of_lt (Nat.sub_le _ _) t.isLt
  blk_simp
  rw [after0_2, step_B m c t ht, step_A m c ⟨t.val - 1, hp⟩ (by show (t.val - 1) % 2 = 0; omega), part_at, part_at]
  unfold mulT
  rw [sum_halves]
  refine congrArg₂ (· + ·) ?_ ?_ <;> refine Finset.sum_congr rfl fun k _ => mul_at2 _ _ ?_ ?_ ?_ ?_ <;> (try blk_simp [idx t]) <;> dsimp only <;> omega

/-! ## The reference -/

/-- The reference declares no semaphore, and writes none of its arguments. -/
theorem frameRef : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem stage (x : FVec Ideal S8192x1024 .bf16) (y : FVec Ideal S8192x4096 .bf16) (i : Fin 1024) (j : Fin 4096) :
    (Read.val_main_v6 (F := Ideal) x y (ix2 i j) : EReal) = mulT (fun r d => x (ix2 r d)) (fun r d => y (ix2 r d)) i j := by
  rw [mulT_comm]
  unfold mulT
  pointwise [Read.val_main_v6, Read.val_main_v5, Read.val_main_v4, Read.val_main_v3, Read.val_main_v1]

theorem res (c : Dev nD) : Read.val_main_v6 (F := Ideal) (m ((c.tc : Thread nD τ).loc main_arg0)) (m ((c.tc : Thread nD τ).loc main_arg1))
    = fun j : S1024x4096.Idx => mulT (aX m c) (aY m c) (j 0) (j 1) := by
  funext j
  exact (congrArg _ (eq_ix2 j)).trans (stage _ _ (j 0) (j 1))

theorem algebra : Cert.algebraic_Kernel6Ideal_Reference6Ideal (hKernel6Ideal := Cert.Kernel6Ideal.Gen.facts) (hReference6Ideal := Cert.Reference6Ideal.Gen.facts) := by
  intro m ρ m' ρ' _ hm
  refine ⟨fun c => fun j : S1024x4096.Idx => mulT (aX m c) (aY m c) (j 0) (j 1), ?_, ?_⟩
  · exact (θ_run Cert.Kernel6Ideal.defs _ _).mono (fun r h c => ⟨(h c).1.trans (final m c), (h c).2⟩)
      (Cert.Kernel6Ideal.Value.run_blocks (F := Ideal) m ρ)
  · refine (θ_run Cert.Reference6Ideal.defs _ _).mono (fun r h c =>
      ⟨(h c).1.trans (Eq.trans (Read.val_main_v6_eq (F := Ideal) _ _) ?_), (h c).2⟩)
      (Cert.Reference6Ideal.Value.run (F := Ideal) m' ρ')
    obtain ⟨h0, h1⟩ := hm c
    rw [h0, h1]
    exact res m c

end Cert.Kernel6Ideal.Val
-- ==== Proof.Norm.lean ====
module

public import Idealize.ShloMosaic.Lib.Pointwise
public import Idealize.ShloMosaic.Lib.Pipeline.ValueKit

/-! # A row's norm and its gradient

A row `x` is divided by the root of its mean square. The definitions spell the gradient with the sums and products in the order in which the
kernels form them: the square `x * x` is differentiated as a product of two factors, so that its correction appears twice. -/

@[expose] public section
noncomputable section
open Idealize.ShloMosaic

namespace Cert.Norm

/-- Twice a number is its sum with itself. -/
theorem two_mul_ereal (x : EReal) : 2 * x = x + x := by
  have h : (2 : EReal) = 1 + 1 := one_add_one_eq_two.symm
  rw [h, EReal.right_distrib_of_nonneg zero_le_one zero_le_one, one_mul]

/-- The pattern of the number two. -/
theorem two_bits : Ideal.ofBits FTy.f32 1073741824#32 = 2 := by
  rw [show (2 : EReal) = ((2 : ℝ) : EReal) by norm_cast]
  simp [Ideal.ofBits, Ideal.ieee, -EReal.coe_mul]; norm_num

section
variable {n : ℕ} (N : EReal) (x g : Fin n → EReal)

/-- The mean square of a row of `N` elements, with the norm's small constant. -/
def msq : EReal := Ideal.div (∑ k : Fin n, x k * x k) N + Ideal.ofBits FTy.f32 897988541#32

/-- The normalised row. -/
def nrm (d : Fin n) : EReal := x d * Ideal.rsqrt (msq N x)

/-- The normalised row, scaled by one and `s` and shifted by `b`. -/
def modn (s b : Fin n → EReal) (d : Fin n) : EReal := nrm N x d * (1 + s d) + b d

/-- What the gradient of the mean square adds to every element of a row, for each factor of its square. -/
def corr : EReal :=
  Ideal.div ((∑ k : Fin n, x k * g k) * (Ideal.ofBits FTy.f32 3204448256#32 * Ideal.div (Ideal.rsqrt (msq N x)) (msq N x))) N

/-- The gradient of the row, where `g` is the gradient of the normalised row. -/
def grad (d : Fin n) : EReal := g d * Ideal.rsqrt (msq N x) + x d * corr N x g + corr N x g * x d

/-- The same with the square's derivative written `2 x`. -/
theorem grad_two (d : Fin n) : g d * Ideal.rsqrt (msq N x) + corr N x g * (2 * x d) = grad N x g d := by
  unfold grad
  rw [mul_left_comm, two_mul_ereal, add_assoc]
  congr 2
  exact mul_comm _ _
end

end Cert.Norm
-- ==== Proof.GateNorm.lean ====
module

public import proofs.«01_k».proof.Defs
public import proofs.«01_k».proof.Proof.Gen.Kernel7Ideal.Value
public import proofs.«01_k».proof.Proof.Norm
public import proofs.«01_k».proof.Proof.Spec
public import Idealize.ShloMosaic.Lib.Pipeline.ValueKit
public import Idealize.ShloMosaic.Lib.Pipeline.ReadBack

/-! # The gradient of the gated norm over groups of 256 lanes: the kernel -/

@[expose] public section
set_option maxRecDepth 16384
noncomputable section
open Idealize.ShloMosaic Idealize.ShloMosaic.TcCoe Idealize.SL.Sem
namespace Cert.Kernel7Ideal.Val
open Cert.Kernel7Ideal Cert.Kernel7Ideal.Gen Cert.Norm

/-! ## One row of a group -/

/-- The number of lanes of a group. -/
abbrev lanes : EReal := Ideal.ofBits FTy.f32 1132462080#32

/-- The gate. -/
def gate (z : EReal) : EReal := z * Ideal.logistic z

section
variable (y z w d : Fin 256 → EReal)
/-- The gated row, -/
def tX (e : Fin 256) : EReal := y e * gate (z e)
/-- the gradient of the normalised row, -/
def tG (e : Fin 256) : EReal := d e * w e
/-- of the gated row, -/
def tU (e : Fin 256) : EReal := grad lanes (tX y z) (tG w d) e
/-- of the row, -/
def tY (e : Fin 256) : EReal := tU y z w d e * gate (z e)
/-- of the gate's argument, -/
def tZ (e : Fin 256) : EReal := (y e * tU y z w d e) * Ideal.logistic (z e) + (z e * (y e * tU y z w d e)) * (Ideal.logistic (z e) * (1 - Ideal.logistic (z e)))
/-- and what the row adds to the gradient of the scale. -/
def tW (e : Fin 256) : EReal := nrm lanes (tX y z) e * d e
end

/-! ## The groups -/

/-- A lane's group, -/
def grp (c : Fin 2048) : Fin 8 := ⟨c / 256, by omega⟩
/-- its place in the group, -/
def pos (c : Fin 2048) : Fin 256 := ⟨c % 256, by omega⟩
/-- and the lane of a place. -/
def col (g : Fin 8) (e : Fin 256) : Fin 2048 := ⟨g * 256 + e, by omega⟩

/-- The part of a row in a lane's group. -/
def part (f : Fin 2048 → EReal) (c : Fin 2048) (e : Fin 256) : EReal := f (col (grp c) e)

section
variable (y z w d : Fin 2048 → EReal) (c : Fin 2048)
/-- The gradients of a row of all the groups. -/
def rY : EReal := tY (part y c) (part z c) (part w c) (part d c) (pos c)
def rZ : EReal := tZ (part y c) (part z c) (part w c) (part d c) (pos c)
def rW : EReal := tW (part y c) (part z c) (part d c) (pos c)
end

/-! ## One tile -/

/-- A row of a block. -/
def bx {n : ℕ} (v : (⟨2, ![n, 256]⟩ : Shape).Idx → EReal) (r : Fin n) (e : Fin 256) : EReal := v (ix2 r e)

section
variable (v3 : Vec Ideal S256x256 .f32) (v4 : Vec Ideal S256x256 .bf16) (v6 : Vec Ideal S1x256 .f32) (v26 : Vec Ideal S256x256 .bf16) (r e : Fin 256)

theorem pay7_at : (k0_pay7 (F := Ideal) v4 (ix2 r e) : EReal) = bx v4 r e := by
  pointwise [k0_pay7, bx]

theorem pay8_at : (k0_pay8 (F := Ideal) v4 (ix2 r e) : EReal) = Ideal.logistic (bx v4 r e) := by
  pointwise [k0_pay8, pay7_at]

theorem pay9_at : (k0_pay9 (F := Ideal) v4 (ix2 r e) : EReal) = Ideal.logistic (bx v4 r e) * (1 - Ideal.logistic (bx v4 r e)) := by
  pointwise [k0_pay9, pay8_at]

theorem pay10_at : (k0_pay10 (F := Ideal) v4 (ix2 r e) : EReal) = gate (bx v4 r e) := by
  unfold gate
  pointwise [k0_pay10, pay8_at, pay7_at]

theorem pay11_at : (k0_pay11 (F := Ideal) v3 v4 (ix2 r e) : EReal) = tX (bx v3 r) (bx v4 r) e := by
  unfold tX
  pointwise [k0_pay11, pay10_at]
  rfl

theorem pay12_at : (k0_pay12 (F := Ideal) v3 v4 (ix2 r 0) : EReal) = msq lanes (tX (bx v3 r) (bx v4 r)) := by
  unfold msq
  pointwise [k0_pay12, pay11_at]

theorem pay13_at : (k0_pay13 (F := Ideal) v3 v4 (ix2 r 0) : EReal) = Ideal.rsqrt (msq lanes (tX (bx v3 r) (bx v4 r))) := by
  pointwise [k0_pay13, pay12_at]

theorem pay14_at : (k0_pay14 (F := Ideal) v26 (ix2 r e) : EReal) = bx v26 r e := by
  pointwise [k0_pay14, bx]

theorem pay15_at : (k0_pay15 (F := Ideal) v3 v4 v26 (ix2 0 e) : EReal) = ∑ r : Fin 256, tW (bx v3 r) (bx v4 r) (bx v26 r) e := by
  unfold tW nrm
  pointwise [k0_pay15, pay14_at, pay13_at, pay11_at]

theorem pay16_at : (k0_pay16 (F := Ideal) v6 v26 (ix2 r e) : EReal) = tG (bx v6 0) (bx v26 r) e := by
  unfold tG
  pointwise [k0_pay16, pay14_at]
  rfl

theorem pay17_at : (k0_pay17 (F := Ideal) v3 v4 v6 v26 (ix2 r e) : EReal)
    = tG (bx v6 0) (bx v26 r) e * Ideal.rsqrt (msq lanes (tX (bx v3 r) (bx v4 r))) := by
  pointwise [k0_pay17, pay16_at, pay13_at]

theorem pay18_at : (Ideal.div (k0_pay18 (F := Ideal) v3 v4 v6 v26 (ix2 r 0)) lanes : EReal) = corr lanes (tX (bx v3 r) (bx v4 r)) (tG (bx v6 0) (bx v26 r)) := by
  unfold corr
  pointwise [k0_pay18, pay16_at, pay13_at, pay12_at, pay11_at]

/-- The gradient of the gated tile, -/
def p20 : FVec Ideal S256x256 .f32 := k0_pay20 (F := Ideal) (k0_pay11 v3 v4) (k0_pay17 v3 v4 v6 v26) (k0_pay18 v3 v4 v6 v26) k0_pay19
/-- of the tile, -/
def p22 : FVec Ideal S256x256 .bf16 :=
  k0_pay22 (F := Ideal) (k0_pay10 v4) (k0_pay11 v3 v4) (k0_pay17 v3 v4 v6 v26) (k0_pay18 v3 v4 v6 v26) k0_pay19
/-- transposed, -/
def p23 : FVec Ideal S256x256 .bf16 :=
  k0_pay23 (F := Ideal) (k0_pay10 v4) (k0_pay11 v3 v4) (k0_pay17 v3 v4 v6 v26) (k0_pay18 v3 v4 v6 v26) k0_pay19
/-- of the gate's argument, -/
def p24 : FVec Ideal S256x256 .bf16 :=
  k0_pay24 (F := Ideal) v3 (k0_pay7 v4) (k0_pay8 v4) (k0_pay9 v4) (k0_pay11 v3 v4) (k0_pay17 v3 v4 v6 v26) (k0_pay18 v3 v4 v6 v26) k0_pay19
/-- and of the scale, added to what is there. -/
def p25 (a : Vec Ideal S1x256 .f32) : FVec Ideal S1x256 .f32 := k0_pay25 (F := Ideal) (k0_pay15 v3 v4 v26) a

theorem p20_at : (p20 v3 v4 v6 v26 (ix2 r e) : EReal) = tU (bx v3 r) (bx v4 r) (bx v6 0) (bx v26 r) e := by
  unfold tU grad p20
  rw [← pay18_at]
  pointwise [k0_pay20, k0_pay19, pay17_at, pay11_at, Fin.sum_univ_one]

theorem p22_at : (p22 v3 v4 v6 v26 (ix2 r e) : EReal) = tY (bx v3 r) (bx v4 r) (bx v6 0) (bx v26 r) e := by
  unfold tY p22
  rw [← p20_at]
  unfold p20
  pointwise [k0_pay22, k0_pay21, pay10_at]

theorem p23_at : (p23 v3 v4 v6 v26 (ix2 e r) : EReal) = tY (bx v3 r) (bx v4 r) (bx v6 0) (bx v26 r) e := by
  unfold tY p23
  rw [← p20_at]
  unfold p20
  pointwise [k0_pay23, k0_pay21, pay10_at]

theorem p24_at : (p24 v3 v4 v6 v26 (ix2 r e) : EReal) = tZ (bx v3 r) (bx v4 r) (bx v6 0) (bx v26 r) e := by
  unfold tZ p24
  rw [← p20_at]
  unfold p20
  pointwise [k0_pay24, pay9_at, pay8_at, pay7_at]
  rfl

theorem p25_at (a : Vec Ideal S1x256 .f32) : (p25 v3 v4 v26 a (ix2 0 e) : EReal) = a (ix2 0 e) + ∑ r : Fin 256, tW (bx v3 r) (bx v4 r) (bx v26 r) e := by
  rw [← pay15_at]
  unfold p25
  pointwise [k0_pay25]
end

/-! ## A tile of a block -/

/-- A row of a block. -/
def bR {n : ℕ} (v : (⟨2, ![n, 2048]⟩ : Shape).Idx → EReal) (r : Fin n) (c : Fin 2048) : EReal := v (ix2 r c)

theorem inb2 {n o : ℕ} (ho : o ≤ 1792) : ∀ a, (![0, o] : Fin 2 → ℕ) a + (![n, 256] : Fin 2 → ℕ) a ≤ (⟨2, ![n, 2048]⟩ : Shape).size a := by
  intro a
  fin_cases a
  · exact le_of_eq (Nat.zero_add n)
  · show o + 256 ≤ 2048
    omega

theorem ld_row {n o : ℕ} (X : (⟨2, ![n, 2048]⟩ : Shape).Idx → EReal) (ho : o ≤ 1792) (hd : o % 256 = 0) (r : Fin n) (c : Fin 2048) (e : Fin 256)
    (hc : (c : ℕ) = o + e) : bx (fun x => X ((Rect.unit (s := ⟨2, ![n, 2048]⟩) ![0, o] ![n, 256] (inb2 ho)).idx x)) r = part (bR X r) c := by
  funext k
  unfold bx part bR
  refine congrArg X ?_
  funext a
  fin_cases a
  · exact Fin.ext (by show 0 + 1 * (r : ℕ) = r; omega)
  · exact Fin.ext (by show o + 1 * (k : ℕ) = (c : ℕ) / 256 * 256 + k; omega)

section
variable (Y : Vec Ideal S256x2048 .f32) (Z : Vec Ideal S256x2048 .bf16) (W : Vec Ideal S1x2048 .f32) (D : Vec Ideal S256x2048 .bf16)
  (o : ℕ) (r e : Fin 256) (c : Fin 2048) (hc : (c : ℕ) = o + e) (ho : o ≤ 1792) (hd : o % 256 = 0)
include hc hd

theorem pos_eq : pos c = e := Fin.ext (by show (c : ℕ) % 256 = e; omega)

theorem tile22 : (p22 (View.ld Y (Rect.unit (s := S256x2048) ![0, o] ![256, 256] (inb2 ho))) (View.ld Z (Rect.unit (s := S256x2048) ![0, o] ![256, 256] (inb2 ho)))
    (View.ld W (Rect.unit (s := S1x2048) ![0, o] ![1, 256] (inb2 ho))) (View.ld D (Rect.unit (s := S256x2048) ![0, o] ![256, 256] (inb2 ho))) (ix2 r e) : EReal)
    = rY (bR Y r) (bR Z r) (bR W 0) (bR D r) c := by
  refine (p22_at _ _ _ _ r e).trans ?_
  unfold rY
  rw [pos_eq o e c hc hd, ← ld_row Y ho hd r c e hc, ← ld_row Z ho hd r c e hc, ← ld_row W ho hd 0 c e hc, ← ld_row D ho hd r c e hc]
  rfl

theorem tile23 : (p23 (View.ld Y (Rect.unit (s := S256x2048) ![0, o] ![256, 256] (inb2 ho))) (View.ld Z (Rect.unit (s := S256x2048) ![0, o] ![256, 256] (inb2 ho)))
    (View.ld W (Rect.unit (s := S1x2048) ![0, o] ![1, 256] (inb2 ho))) (View.ld D (Rect.unit (s := S256x2048) ![0, o] ![256, 256] (inb2 ho))) (ix2 e r) : EReal)
    = rY (bR Y r) (bR Z r) (bR W 0) (bR D r) c := by
  refine (p23_at _ _ _ _ r e).trans ?_
  unfold rY
  rw [pos_eq o e c hc hd, ← ld_row Y ho hd r c e hc, ← ld_row Z ho hd r c e hc, ← ld_row W ho hd 0 c e hc, ← ld_row D ho hd r c e hc]
  rfl

theorem tile24 : (p24 (View.ld Y (Rect.unit (s := S256x2048) ![0, o] ![256, 256] (inb2 ho))) (View.ld Z (Rect.unit (s := S256x2048) ![0, o] ![256, 256] (inb2 ho)))
    (View.ld W (Rect.unit (s := S1x2048) ![0, o] ![1, 256] (inb2 ho))) (View.ld D (Rect.unit (s := S256x2048) ![0, o] ![256, 256] (inb2 ho))) (ix2 r e) : EReal)
    = rZ (bR Y r) (bR Z r) (bR W 0) (bR D r) c := by
  refine (p24_at _ _ _ _ r e).trans ?_
  unfold rZ
  rw [pos_eq o e c hc hd, ← ld_row Y ho hd r c e hc, ← ld_row Z ho hd r c e hc, ← ld_row W ho hd 0 c e hc, ← ld_row D ho hd r c e hc]
  rfl

theorem tile25 (A : Vec Ideal S1x2048 .f32) : (p25 (View.ld Y (Rect.unit (s := S256x2048) ![0, o] ![256, 256] (inb2 ho)))
    (View.ld Z (Rect.unit (s := S256x2048) ![0, o] ![256, 256] (inb2 ho))) (View.ld D (Rect.unit (s := S256x2048) ![0, o] ![256, 256] (inb2 ho)))
    (View.ld A (Rect.unit (s := S1x2048) ![0, o] ![1, 256] (inb2 ho))) (ix2 0 e) : EReal)
    = A (ix2 0 c) + ∑ r : Fin 256, rW (bR Y r) (bR Z r) (bR D r) c := by
  refine (p25_at _ _ _ e _).trans ?_
  refine congrArg₂ (· + ·) ?_ (Finset.sum_congr rfl fun r _ => ?_)
  · refine congrArg A ?_
    funext a
    fin_cases a
    · rfl
    · exact Fin.ext (by show o + 1 * (e : ℕ) = c; omega)
  · unfold rW
    rw [pos_eq o e c hc hd, ← ld_row Y ho hd r c e hc, ← ld_row Z ho hd r c e hc, ← ld_row D ho hd r c e hc]
    rfl
end

variable (m : (ℓ : Loc nD τ sig) → Buf (Elt Ideal) ℓ)

/-- A row of a single line. -/
theorem row0 (y : S1x2048.Idx) : y = ix2 0 (y 1) :=
  (eq_ix2 y).trans (congrArg (fun a => ix2 a (y 1)) (Subsingleton.elim (α := Fin 1) _ _))

/-! ## One grid point -/

/-- The rows of point `t`'s blocks. -/
abbrev yB (c : Dev nD) (t : Fin cfg0.N) : Fin 256 → Fin 2048 → EReal := bR (n := 256) (iblk m c 0 t)
abbrev zB (c : Dev nD) (t : Fin cfg0.N) : Fin 256 → Fin 2048 → EReal := bR (n := 256) (X0_1 m c t)
abbrev wB (c : Dev nD) (t : Fin cfg0.N) : Fin 2048 → EReal := bR (n := 1) (iblk m c 2 t) 0
abbrev dB (c : Dev nD) (t : Fin cfg0.N) : Fin 256 → Fin 2048 → EReal := bR (n := 256) (iblk m c 3 t)

theorem key4 (c : Dev nD) (t : Fin cfg0.N) (y : S256x2048.Idx) (o : ℕ) (x : S256x256.Idx) (hr : ((y 0 : Fin 256) : ℕ) = (x 0 : Fin 256))
    (hl : ((y 1 : Fin 2048) : ℕ) = o + (x 1 : Fin 256)) (ho : o ≤ 1792) (hd : o % 256 = 0) :
    (p22 (View.ld (iblk m c 0 t) (Rect.unit (s := S256x2048) ![0, o] ![256, 256] (inb2 ho)))
        (View.ld (X0_1 m c t) (Rect.unit (s := S256x2048) ![0, o] ![256, 256] (inb2 ho)))
        (View.ld (iblk m c 2 t) (Rect.unit (s := S1x2048) ![0, o] ![1, 256] (inb2 ho)))
        (View.ld (iblk m c 3 t) (Rect.unit (s := S256x2048) ![0, o] ![256, 256] (inb2 ho))) x : EReal)
      = rY (yB m c t (y 0)) (zB m c t (y 0)) (wB m c t) (dB m c t (y 0)) (y 1) := by
  rw [show (y 0 : Fin 256) = x 0 from Fin.ext hr]
  exact (congrArg _ (eq_ix2 x)).trans (tile22 _ _ _ _ o (x 0) (x 1) (y 1) hl ho hd)

theorem step4 (c : Dev nD) (t : Fin cfg0.N) (y : S256x2048.Idx) : ((outsAt0 m c t.val t.isLt).1 y : EReal)
    = rY (yB m c t (y 0)) (zB m c t (y 0)) (wB m c t) (dB m c t (y 0)) (y 1) := by
  by_cases h : t.val % 32 = 0
  · rw [outsAt0_A m c t h]
    frame_open
    simp (disch := decide) only [↓ View.readCov_skip, ↓ View.readCov_cons_toLoadRect, ↓ View.readCov_fill]
    frame_out
    canon_tiles x h
    · exact key4 m c t y 1792 x h0 h1 (by decide) (by decide)
    · exact key4 m c t y 1536 x h0 h1 (by decide) (by decide)
    · exact key4 m c t y 1280 x h0 h1 (by decide) (by decide)
    · exact key4 m c t y 1024 x h0 h1 (by decide) (by decide)
    · exact key4 m c t y 768 x h0 h1 (by decide) (by decide)
    · exact key4 m c t y 512 x h0 h1 (by decide) (by decide)
    · exact key4 m c t y 256 x h0 h1 (by decide) (by decide)
    · exact key4 m c t y 0 x h0 (by omega) (by decide) (by decide)
  · rw [outsAt0_B m c t h]
    frame_open
    simp (disch := decide) only [↓ View.readCov_skip, ↓ View.readCov_cons_toLoadRect, ↓ View.readCov_fill]
    frame_out
    canon_tiles x h
    · exact key4 m c t y 1792 x h0 h1 (by decide) (by decide)
    · exact key4 m c t y 1536 x h0 h1 (by decide) (by decide)
    · exact key4 m c t y 1280 x h0 h1 (by decide) (by decide)
    · exact key4 m c t y 1024 x h0 h1 (by decide) (by decide)
    · exact key4 m c t y 768 x h0 h1 (by decide) (by decide)
    · exact key4 m c t y 512 x h0 h1 (by decide) (by decide)
    · exact key4 m c t y 256 x h0 h1 (by decide) (by decide)
    · exact key4 m c t y 0 x h0 (by omega) (by decide) (by decide)

theorem key5 (c : Dev nD) (t : Fin cfg0.N) (y : S2048x256.Idx) (o : ℕ) (x : S256x256.Idx) (hr : ((y 1 : Fin 256) : ℕ) = (x 1 : Fin 256))
    (hl : ((y 0 : Fin 2048) : ℕ) = o + (x 0 : Fin 256)) (ho : o ≤ 1792) (hd : o % 256 = 0) :
    (p23 (View.ld (iblk m c 0 t) (Rect.unit (s := S256x2048) ![0, o] ![256, 256] (inb2 ho)))
        (View.ld (X0_1 m c t) (Rect.unit (s := S256x2048) ![0, o] ![256, 256] (inb2 ho)))
        (View.ld (iblk m c 2 t) (Rect.unit (s := S1x2048) ![0, o] ![1, 256] (inb2 ho)))
        (View.ld (iblk m c 3 t) (Rect.unit (s := S256x2048) ![0, o] ![256, 256] (inb2 ho))) x : EReal)
      = rY (yB m c t (y 1)) (zB m c t (y 1)) (wB m c t) (dB m c t (y 1)) (y 0) := by
  rw [show (y 1 : Fin 256) = x 1 from Fin.ext hr]
  exact (congrArg _ (eq_ix2 x)).trans (tile23 _ _ _ _ o (x 1) (x 0) (y 0) hl ho hd)

theorem step5 (c : Dev nD) (t : Fin cfg0.N) (y : S2048x256.Idx) : ((outsAt0 m c t.val t.isLt).2.1 y : EReal)
    = rY (yB m c t (y 1)) (zB m c t (y 1)) (wB m c t) (dB m c t (y 1)) (y 0) := by
  by_cases h : t.val % 32 = 0
  · rw [outsAt0_A m c t h]
    frame_open
    simp (disch := decide) only [↓ View.readCov_skip, ↓ View.readCov_cons_toLoadRect, ↓ View.readCov_fill]
    frame_out
    canon_tiles x h
    · exact key5 m c t y 1792 x h1 h0 (by decide) (by decide)
    · exact key5 m c t y 1536 x h1 h0 (by decide) (by decide)
    · exact key5 m c t y 1280 x h1 h0 (by decide) (by decide)
    · exact key5 m c t y 1024 x h1 h0 (by decide) (by decide)
    · exact key5 m c t y 768 x h1 h0 (by decide) (by decide)
    · exact key5 m c t y 512 x h1 h0 (by decide) (by decide)
    · exact key5 m c t y 256 x h1 h0 (by decide) (by decide)
    · exact key5 m c t y 0 x h1 (by omega) (by decide) (by decide)
  · rw [outsAt0_B m c t h]
    frame_open
    simp (disch := decide) only [↓ View.readCov_skip, ↓ View.readCov_cons_toLoadRect, ↓ View.readCov_fill]
    frame_out
    canon_tiles x h
    · exact key5 m c t y 1792 x h1 h0 (by decide) (by decide)
    · exact key5 m c t y 1536 x h1 h0 (by decide) (by decide)
    · exact key5 m c t y 1280 x h1 h0 (by decide) (by decide)
    · exact key5 m c t y 1024 x h1 h0 (by decide) (by decide)
    · exact key5 m c t y 768 x h1 h0 (by decide) (by decide)
    · exact key5 m c t y 512 x h1 h0 (by decide) (by decide)
    · exact key5 m c t y 256 x h1 h0 (by decide) (by decide)
    · exact key5 m c t y 0 x h1 (by omega) (by decide) (by decide)

theorem key6 (c : Dev nD) (t : Fin cfg0.N) (y : S256x2048.Idx) (o : ℕ) (x : S256x256.Idx) (hr : ((y 0 : Fin 256) : ℕ) = (x 0 : Fin 256))
    (hl : ((y 1 : Fin 2048) : ℕ) = o + (x 1 : Fin 256)) (ho : o ≤ 1792) (hd : o % 256 = 0) :
    (p24 (View.ld (iblk m c 0 t) (Rect.unit (s := S256x2048) ![0, o] ![256, 256] (inb2 ho)))
        (View.ld (X0_1 m c t) (Rect.unit (s := S256x2048) ![0, o] ![256, 256] (inb2 ho)))
        (View.ld (iblk m c 2 t) (Rect.unit (s := S1x2048) ![0, o] ![1, 256] (inb2 ho)))
        (View.ld (iblk m c 3 t) (Rect.unit (s := S256x2048) ![0, o] ![256, 256] (inb2 ho))) x : EReal)
      = rZ (yB m c t (y 0)) (zB m c t (y 0)) (wB m c t) (dB m c t (y 0)) (y 1) := by
  rw [show (y 0 : Fin 256) = x 0 from Fin.ext hr]
  exact (congrArg _ (eq_ix2 x)).trans (tile24 _ _ _ _ o (x 0) (x 1) (y 1) hl ho hd)

theorem step6 (c : Dev nD) (t : Fin cfg0.N) (y : S256x2048.Idx) : ((outsAt0 m c t.val t.isLt).2.2.1 y : EReal)
    = rZ (yB m c t (y 0)) (zB m c t (y 0)) (wB m c t) (dB m c t (y 0)) (y 1) := by
  by_cases h : t.val % 32 = 0
  · rw [outsAt0_A m c t h]
    frame_open
    simp (disch := decide) only [↓ View.readCov_skip, ↓ View.readCov_cons_toLoadRect, ↓ View.readCov_fill]
    frame_out
    canon_tiles x h
    · exact key6 m c t y 1792 x h0 h1 (by decide) (by decide)
    · exact key6 m c t y 1536 x h0 h1 (by decide) (by decide)
    · exact key6 m c t y 1280 x h0 h1 (by decide) (by decide)
    · exact key6 m c t y 1024 x h0 h1 (by decide) (by decide)
    · exact key6 m c t y 768 x h0 h1 (by decide) (by decide)
    · exact key6 m c t y 512 x h0 h1 (by decide) (by decide)
    · exact key6 m c t y 256 x h0 h1 (by decide) (by decide)
    · exact key6 m c t y 0 x h0 (by omega) (by decide) (by decide)
  · rw [outsAt0_B m c t h]
    frame_open
    simp (disch := decide) only [↓ View.readCov_skip, ↓ View.readCov_cons_toLoadRect, ↓ View.readCov_fill]
    frame_out
    canon_tiles x h
    · exact key6 m c t y 1792 x h0 h1 (by decide) (by decide)
    · exact key6 m c t y 1536 x h0 h1 (by decide) (by decide)
    · exact key6 m c t y 1280 x h0 h1 (by decide) (by decide)
    · exact key6 m c t y 1024 x h0 h1 (by decide) (by decide)
    · exact key6 m c t y 768 x h0 h1 (by decide) (by decide)
    · exact key6 m c t y 512 x h0 h1 (by decide) (by decide)
    · exact key6 m c t y 256 x h0 h1 (by decide) (by decide)
    · exact key6 m c t y 0 x h0 (by omega) (by decide) (by decide)

/-- What a point adds to the gradient of the scale. -/
def wS (c : Dev nD) (t : Fin cfg0.N) (q : Fin 2048) : EReal := ∑ r : Fin 256, rW (yB m c t r) (zB m c t r) (dB m c t r) q

theorem key7 (c : Dev nD) (t : Fin cfg0.N) (A : Vec Ideal S1x2048 .f32) (y : S1x2048.Idx) (o : ℕ) (x : S1x256.Idx)
    (hl : ((y 1 : Fin 2048) : ℕ) = o + (x 1 : Fin 256)) (ho : o ≤ 1792) (hd : o % 256 = 0) :
    (p25 (View.ld (iblk m c 0 t) (Rect.unit (s := S256x2048) ![0, o] ![256, 256] (inb2 ho)))
        (View.ld (X0_1 m c t) (Rect.unit (s := S256x2048) ![0, o] ![256, 256] (inb2 ho)))
        (View.ld (iblk m c 3 t) (Rect.unit (s := S256x2048) ![0, o] ![256, 256] (inb2 ho)))
        (View.ld A (Rect.unit (s := S1x2048) ![0, o] ![1, 256] (inb2 ho))) x : EReal) = A y + wS m c t (y 1) := by
  have hx : x = ix2 0 (x 1) := (eq_ix2 x).trans (congrArg (fun a => ix2 a (x 1)) (Subsingleton.elim (α := Fin 1) _ _))
  refine (congrArg _ hx).trans ((tile25 _ _ _ o (x 1) (y 1) hl ho hd A).trans ?_)
  exact congrArg (· + wS m c t (y 1)) (congrArg A (row0 y).symm)

theorem step7_A (c : Dev nD) (t : Fin cfg0.N) (h : t.val % 32 = 0) (y : S1x2048.Idx) : ((outsAt0 m c t.val t.isLt).2.2.2 y : EReal)
    = (0 : EReal) + wS m c t (y 1) := by
  have h6 : (k0_pay6 (F := Ideal) y : EReal) = 0 := by pointwise [k0_pay6]
  rw [← h6]
  rw [outsAt0_A m c t h]
  frame_open
  simp (disch := decide) only [↓ View.readCov_skip, ↓ View.readCov_cons_toLoadRect, ↓ View.readCov_fill]
  frame_out
  clear h
  refine (View.canon_take 8 _ y (by exact View.cover_of_tiled_head _ _ _ rfl y)).trans ?_
  simp only [List.take]
  canon_tiles x h
  · exact key7 m c t _ y 1792 x h1 (by decide) (by decide)
  · exact key7 m c t _ y 1536 x h1 (by decide) (by decide)
  · exact key7 m c t _ y 1280 x h1 (by decide) (by decide)
  · exact key7 m c t _ y 1024 x h1 (by decide) (by decide)
  · exact key7 m c t _ y 768 x h1 (by decide) (by decide)
  · exact key7 m c t _ y 512 x h1 (by decide) (by decide)
  · exact key7 m c t _ y 256 x h1 (by decide) (by decide)
  · exact key7 m c t _ y 0 x (by omega) (by decide) (by decide)

theorem step7_B (c : Dev nD) (t : Fin cfg0.N) (h : ¬ t.val % 32 = 0) (y : S1x2048.Idx) : ((outsAt0 m c t.val t.isLt).2.2.2 y : EReal)
    = (outsAt0 m c (t.val - 1) (Nat.lt_of_le_of_lt (Nat.sub_le _ _) t.isLt)).2.2.2 y + wS m c t (y 1) := by
  rw [outsAt0_B m c t h]
  frame_open
  simp (disch := decide) only [↓ View.readCov_skip, ↓ View.readCov_cons_toLoadRect, ↓ View.readCov_fill]
  frame_out
  clear h
  refine (View.canon_take 8 _ y (by exact View.cover_of_tiled_head _ _ _ rfl y)).trans ?_
  simp only [List.take]
  canon_tiles x h
  · exact key7 m c t _ y 1792 x h1 (by decide) (by decide)
  · exact key7 m c t _ y 1536 x h1 (by decide) (by decide)
  · exact key7 m c t _ y 1280 x h1 (by decide) (by decide)
  · exact key7 m c t _ y 1024 x h1 (by decide) (by decide)
  · exact key7 m c t _ y 768 x h1 (by decide) (by decide)
  · exact key7 m c t _ y 512 x h1 (by decide) (by decide)
  · exact key7 m c t _ y 256 x h1 (by decide) (by decide)
  · exact key7 m c t _ y 0 x (by omega) (by decide) (by decide)

end Cert.Kernel7Ideal.Val
-- ==== Proof.GateNormArr.lean ====
module

public import proofs.«01_k».proof.Proof.GateNorm
public import Idealize.ShloMosaic.Lib.StableHlo.ReadAt

/-! # The gradient of the gated norm over groups of 256 lanes: what the kernel's run leaves in its four result arrays -/

@[expose] public section
set_option maxRecDepth 16384
noncomputable section
open Idealize.ShloMosaic Idealize.ShloMosaic.TcCoe Idealize.SL.Sem
namespace Cert.Kernel7Ideal.Val
open Cert.Kernel7Ideal Cert.Kernel7Ideal.Gen Cert.Norm

variable (m : (ℓ : Loc nD τ sig) → Buf (Elt Ideal) ℓ)

/-- The arguments' elements: the rows, -/
def aY (c : Dev nD) (r : Fin 8192) (d : Fin 2048) : EReal := m ((c : Thread nD τ).loc main_arg0) (ix2 r d)
/-- the gate's argument, in the projection's columns from 2048 on, -/
def aZ (c : Dev nD) (r : Fin 8192) (d : Fin 2048) : EReal := m ((c : Thread nD τ).loc main_arg1) (ix2 r ⟨2048 + d, by omega⟩)
/-- the scale -/
def aW (c : Dev nD) (d : Fin 2048) : EReal := m ((c : Thread nD τ).loc main_arg2) (ix2 0 d)
/-- and the incoming gradient. -/
def aD (c : Dev nD) (r : Fin 8192) (d : Fin 2048) : EReal := m ((c : Thread nD τ).loc main_arg3) (ix2 r d)

/-- The gradients: of the rows, -/
def gY (c : Dev nD) (r : Fin 8192) (d : Fin 2048) : EReal := rY (aY m c r) (aZ m c r) (aW m c) (aD m c r) d
/-- of the gate's argument -/
def gZ (c : Dev nD) (r : Fin 8192) (d : Fin 2048) : EReal := rZ (aY m c r) (aZ m c r) (aW m c) (aD m c r) d
/-- and of the scale. -/
def gW (c : Dev nD) (d : Fin 2048) : EReal := ∑ r : Fin 8192, rW (aY m c r) (aZ m c r) (aD m c r) d

theorem pt_lt (t : Fin cfg0.N) : t.val < 32 := lt_of_lt_of_eq t.isLt N_0

/-- Row `r` of point `t`'s block. -/
def rk (t : Fin cfg0.N) (r : Fin 256) : Fin 8192 := ⟨t.val * 256 + r, by have := pt_lt t; omega⟩

theorem idx : ∀ t : Fin cfg0.N, win0_0.index t = ![t.val, 0] ∧ win0_1.index t = ![t.val, 1] ∧ win0_2.index t = ![0, 0] ∧ win0_3.index t = ![t.val, 0]
    ∧ win0_4.index t = ![t.val, 0] ∧ win0_5.index t = ![0, t.val] ∧ win0_6.index t = ![t.val, 1] ∧ win0_7.index t = ![0, 0] :=
  (by decide +kernel : ∀ t : Fin grid0.N, _)

theorem y_at (c : Dev nD) (t : Fin cfg0.N) (r : Fin 256) : yB m c t r = aY m c (rk t r) := by
  funext d
  unfold aY rk yB bR
  blk_point [iblk, V, idx t]

theorem z_at (c : Dev nD) (t : Fin cfg0.N) (r : Fin 256) : zB m c t r = aZ m c (rk t r) := by
  funext d
  unfold zB bR X0_1 Pipeline.Window.fill
  rw [dif_pos (moved0_1 t _)]
  unfold aZ rk
  blk_point [iblk, V, idx t]

theorem w_at (c : Dev nD) (t : Fin cfg0.N) : wB m c t = aW m c := by
  funext d
  unfold aW wB bR
  blk_point [iblk, V, idx t]

theorem d_at (c : Dev nD) (t : Fin cfg0.N) (r : Fin 256) : dB m c t r = aD m c (rk t r) := by
  funext d
  unfold aD rk dB bR
  blk_point [iblk, V, idx t]

theorem rY_at (c : Dev nD) (t : Fin cfg0.N) (r : Fin 256) (d : Fin 2048) :
    rY (yB m c t r) (zB m c t r) (wB m c t) (dB m c t r) d = gY m c (rk t r) d := by
  rw [y_at, z_at, w_at, d_at]
  rfl

theorem rZ_at (c : Dev nD) (t : Fin cfg0.N) (r : Fin 256) (d : Fin 2048) :
    rZ (yB m c t r) (zB m c t r) (wB m c t) (dB m c t r) d = gZ m c (rk t r) d := by
  rw [y_at, z_at, w_at, d_at]
  rfl

theorem final4 (c : Dev nD) : (dats m 0 c).arrAt 4 cfg0.N = fun j : S8192x2048.Idx => gY m c (j 0) (j 1) := by
  refine (dats m 0 c).arrAt_eq_of_covers 4 _ (by decide +kernel) fun t hf y => ?_
  blk_simp
  rw [after0_4]
  refine ((step4 m c t y).trans (rY_at m c t (y 0) (y 1))).trans ?_
  refine congrArg₂ (gY m c) (Fin.ext ?_) (Fin.ext ?_)
  · unfold rk; blk_simp [idx t]
  · blk_simp [idx t]

theorem final5 (c : Dev nD) : (dats m 0 c).arrAt 5 cfg0.N = fun j : S2048x8192.Idx => gY m c (j 1) (j 0) := by
  refine (dats m 0 c).arrAt_eq_of_covers 5 _ (by decide +kernel) fun t hf y => ?_
  blk_simp
  rw [after0_5]
  refine ((step5 m c t y).trans (rY_at m c t (y 1) (y 0))).trans ?_
  refine congrArg₂ (gY m c) (Fin.ext ?_) (Fin.ext ?_)
  · unfold rk; blk_simp [idx t]
  · blk_simp [idx t]

/-- The third result: the gradient of the gate's argument in its columns, and the last argument's other columns. -/
def kO6 (c : Dev nD) (j : S8192x10368.Idx) : EReal :=
  if h : 2048 ≤ ((j 1 : Fin 10368) : ℕ) ∧ ((j 1 : Fin 10368) : ℕ) < 4096 then gZ m c (j 0) ⟨((j 1 : Fin 10368) : ℕ) - 2048, by omega⟩
  else m ((c : Thread nD τ).loc main_arg4) j

theorem kO6_of (c : Dev nD) (j : S8192x10368.Idx) (r : Fin 8192) (d : Fin 2048) (h0 : (j 0 : Fin 8192) = r) (h1 : ((j 1 : Fin 10368) : ℕ) = 2048 + d) :
    kO6 m c j = gZ m c r d := by
  have e : 2048 ≤ ((j 1 : Fin 10368) : ℕ) ∧ ((j 1 : Fin 10368) : ℕ) < 4096 := by have := d.isLt; omega
  unfold kO6
  rw [dif_pos e]
  exact congrArg₂ (gZ m c) h0 (Fin.ext (by show ((j 1 : Fin 10368) : ℕ) - 2048 = d; omega))

theorem entry (c : Dev nD) : V m c main_v0_2 = m ((c : Thread nD τ).loc main_arg4) := by
  funext j
  unfold V
  after_reads_at
  rfl

theorem final6 (c : Dev nD) : (dats m 0 c).arrAt 6 cfg0.N = kO6 m c := by
  refine ((dats m 0 c).arrAt_eq_of_coversWhere (P := fun j : S8192x10368.Idx => 2048 ≤ ((j 1 : Fin 10368) : ℕ) ∧ ((j 1 : Fin 10368) : ℕ) < 4096) 6
    (kO6 m c) (fun β => β 1 = 1) (by decide +kernel) (fun t hf y => ?_)
    (fun j => by blk_simp [Pipeline.Window.cell_apply]; omega)).trans ?_
  · blk_simp
    rw [after0_6]
    generalize hx : (cfg0.win 6).xinj (cfg0.grid.coords t) y = x
    have h0 : ((x (0 : Fin 2) : Fin 256) : ℕ) = ((y (0 : Fin 2)) : ℕ) := by rw [← hx]
    have h1 : ((x (1 : Fin 2) : Fin 2048) : ℕ) = ((y (1 : Fin 2)) : ℕ) := by rw [← hx]
    refine ((step6 m c t x).trans (rZ_at m c t (x 0) (x 1))).trans ?_
    have e0 : ((win0_6.blk t).view.emb y (0 : Fin 2) : Fin 8192) = rk t (x 0) := by
      apply Fin.ext
      show _ = t.val * 256 + ((x 0 : Fin 256) : ℕ)
      rw [h0]
      blk_simp [idx t]
    have e1 : (((win0_6.blk t).view.emb y (1 : Fin 2) : Fin 10368) : ℕ) = 2048 + ((x 1 : Fin 2048) : ℕ) := by
      rw [h1]
      blk_simp [idx t]
    exact (kO6_of m c _ _ _ e0 e1).symm
  · funext j
    show (if 2048 ≤ ((j 1 : Fin 10368) : ℕ) ∧ ((j 1 : Fin 10368) : ℕ) < 4096 then kO6 m c j else V m c main_v0_2 j) = kO6 m c j
    by_cases h : 2048 ≤ ((j 1 : Fin 10368) : ℕ) ∧ ((j 1 : Fin 10368) : ℕ) < 4096
    · exact if_pos h
    · refine (if_neg h).trans ?_
      rw [entry]
      unfold kO6
      rw [dif_neg h]

theorem sum7 (c : Dev nD) (d : Fin 2048) : (∑ p : Fin cfg0.N, wS m c p d) = gW m c d := by
  unfold gW wS
  simp only [y_at, z_at, d_at]
  exact Fin.sum_mul_add_congr (fun s r hl => rfl) (by rw [show cfg0.N = 32 from N_0])

theorem final7 (c : Dev nD) : (dats m 0 c).arrAt 7 cfg0.N = fun j : S1x2048.Idx => gW m c (j 1) := by
  refine (dats m 0 c).arrAt_eq_of_covers 7 _ (by decide +kernel) fun t hf y => ?_
  have ht := (flush0_7 t).mp hf
  have hl := pt_lt t
  have hN : cfg0.N = 32 := N_0
  blk_simp
  rw [after0_7, Pipeline.eq_sum_fin_of_reset_step_apply_last (fun n h => (outsAt0 m c n h).2.2.2) 32 (fun _ => (0 : EReal))
    (fun p j => (wS m c p (j 1) : EReal))
    (fun p h j => step7_A m c p h j) (fun p h j => step7_B m c p h j) (le_of_eq N_0) t (by omega) y]
  refine (zero_add (_ : EReal)).trans ?_
  refine (sum7 m c (y 1)).trans ?_
  congr 1; exact Fin.ext (by blk_simp [idx t])

end Cert.Kernel7Ideal.Val
-- ==== Proof.GateNormRef.lean ====
module

public import proofs.«01_k».proof.Proof.GateNormArr
public import proofs.«01_k».proof.Proof.Gen.Reference7Ideal.Run
public import proofs.«01_k».proof.Proof.Gen.Reference7Ideal.Read

/-! # The gradient of the gated norm over groups of 256 lanes: the reference and the claim -/

@[expose] public section
set_option maxRecDepth 16384
noncomputable section
open Idealize.ShloMosaic Idealize.ShloMosaic.TcCoe Idealize.ShloMosaic.StableHlo Idealize.SL.Sem
namespace Cert.Kernel7Ideal.Val
open Cert.Kernel7Ideal Cert.Kernel7Ideal.Gen Cert.Norm Cert.Reference7Ideal

variable (m : (ℓ : Loc nD τ sig) → Buf (Elt Ideal) ℓ)

/-- The reference declares no semaphore, and writes none of its arguments. -/
theorem frameRef : Cert.quiescent_Reference7Ideal (hReference7Ideal := Cert.Reference7Ideal.Gen.facts) := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

/-- The row of a group. -/
def gp (f : Fin 2048 → EReal) (g : Fin 8) (e : Fin 256) : EReal := f (col g e)

theorem col_of (d : Fin 2048) : col (grp d) (pos d) = d := by
  apply Fin.ext; simp only [col, grp, pos]; omega

section
open Read
variable (x0 : FVec Ideal S8192x2048 .f32) (x1 : FVec Ideal S8192x10368 .bf16) (x2 : FVec Ideal S1x2048 .f32) (x3 : FVec Ideal S8192x2048 .bf16)
variable (x4 : FVec Ideal S8192x10368 .bf16) (r : Fin 8192) (d : Fin 2048) (g : Fin 8) (e : Fin 256)

/-- The arguments' rows. -/
def fY (d : Fin 2048) : EReal := x0 (ix2 r d)
def fZ (d : Fin 2048) : EReal := x1 (ix2 r ⟨2048 + d, by omega⟩)
def fW (d : Fin 2048) : EReal := x2 (ix2 0 d)
def fD (d : Fin 2048) : EReal := x3 (ix2 r d)

theorem s1 : (val_main_v1 (F := Ideal) x1 (ix2 r d) : EReal) = fZ x1 r d := by
  unfold fZ
  pointwise [val_main_v1, val_main_v0]

theorem s2_2 : (val_main_v2_2 (F := Ideal) x1 (ix2 r d) : EReal) = Ideal.logistic (fZ x1 r d) := by
  pointwise [val_main_v2_2, val_main_call0_v4, val_main_call0_cst_0, val_main_call0_v3, val_main_call0_v2, val_main_call0_cst, val_main_call0_v1, val_main_call0_v0, s1]
  rfl

theorem s2_1 : (val_main_v2_1 (F := Ideal) x1 (ix2 r d) : EReal) = Ideal.logistic (fZ x1 r d) * (1 - Ideal.logistic (fZ x1 r d)) := by
  pointwise [val_main_v2_1, val_main_call0_v7, val_main_call0_v6, val_main_call0_cst_1, s2_2]

theorem s2_0 : (val_main_v2_0 (F := Ideal) x1 (ix2 r d) : EReal) = gate (fZ x1 r d) := by
  unfold gate
  pointwise [val_main_v2_0, s2_2, s1]

theorem s3 : (val_main_v3 (F := Ideal) x0 x1 (ix2 r d) : EReal) = fY x0 r d * gate (fZ x1 r d) := by
  unfold fY
  pointwise [val_main_v3, s2_0]

/-- The gated row of a group, -/
abbrev qX : Fin 256 → EReal := tX (gp (fY x0 r) g) (gp (fZ x1 r) g)
/-- and the gradient of its normalised row. -/
abbrev qG : Fin 256 → EReal := tG (gp (fW x2) g) (gp (fD x3 r) g)

theorem s4 : (val_main_v4 (F := Ideal) x0 x1 (ix3 r g e) : EReal) = qX x0 x1 r g e := by
  refine Eq.trans ?_ (s3 x0 x1 r (col g e))
  rw [val_main_v4_apply]
  congr 1
  funext a
  apply Fin.ext
  match a with
  | ⟨0, _⟩ => show (((r : ℕ) * 8 + g) * 256 + e) / 2048 = (r : ℕ); omega
  | ⟨1, _⟩ => show (((r : ℕ) * 8 + g) * 256 + e) % 2048 = (g : ℕ) * 256 + e; omega

theorem s13 : (val_main_v13 (F := Ideal) x0 x1 (ix3 r g 0) : EReal) = msq lanes (qX x0 x1 r g) := by
  unfold msq
  pointwise [val_main_v13, val_main_v12, val_main_v11, val_main_v10, val_main_v9, val_main_v8, val_main_v5, val_main_cst_2, val_main_cst_1, val_main_cst_0, s4]

theorem s19 : (val_main_v19 (F := Ideal) x0 x1 (ix3 r g e) : EReal) = nrm lanes (qX x0 x1 r g) e := by
  unfold nrm
  pointwise [val_main_v19, val_main_v18, val_main_v14, s13, s4]

theorem s20 : (val_main_v20 (F := Ideal) x0 x1 (ix2 r d) : EReal) = nrm lanes (qX x0 x1 r (grp d)) (pos d) := by
  rw [← s19, val_main_v20_apply]
  congr 1
  funext a
  apply Fin.ext
  match a with
  | ⟨0, _⟩ => show ((r : ℕ) * 2048 + d) / 2048 = (r : ℕ); omega
  | ⟨1, _⟩ => show ((r : ℕ) * 2048 + d) / 256 % 8 = (d : ℕ) / 256; omega
  | ⟨2, _⟩ => show ((r : ℕ) * 2048 + d) % 256 = (d : ℕ) % 256; omega

theorem s24 : (val_main_v24 (F := Ideal) x0 x1 x3 (ix2 r d) : EReal) = rW (fY x0 r) (fZ x1 r) (fD x3 r) d := by
  show _ = nrm lanes (qX x0 x1 r (grp d)) (pos d) * fD x3 r (col (grp d) (pos d))
  rw [col_of]
  unfold fD
  pointwise [val_main_v24, val_main_v23, s20]

theorem s26 : (val_main_v26 (F := Ideal) x0 x1 x3 (ix2 0 d) : EReal) = ∑ r : Fin 8192, rW (fY x0 r) (fZ x1 r) (fD x3 r) d := by
  pointwise [val_main_v26, val_main_v25, val_main_cst_4, s24]

theorem s28 : (val_main_v28 (F := Ideal) x2 x3 (ix2 r d) : EReal) = fD x3 r d * fW x2 d := by
  unfold fD fW
  pointwise [val_main_v28, val_main_v27, val_main_v23]

theorem s29 : (val_main_v29 (F := Ideal) x2 x3 (ix3 r g e) : EReal) = qG x2 x3 r g e := by
  refine Eq.trans ?_ (s28 x2 x3 r (col g e))
  rw [val_main_v29_apply]
  congr 1
  funext a
  apply Fin.ext
  match a with
  | ⟨0, _⟩ => show (((r : ℕ) * 8 + g) * 256 + e) / 2048 = (r : ℕ); omega
  | ⟨1, _⟩ => show (((r : ℕ) * 8 + g) * 256 + e) % 2048 = (g : ℕ) * 256 + e; omega

theorem s37 : (val_main_v37 (F := Ideal) x0 x1 x2 x3 (ix3 r g 0) : EReal) = corr lanes (qX x0 x1 r g) (qG x2 x3 r g) := by
  unfold corr
  pointwise [val_main_v37, val_main_v36, val_main_v35, val_main_v32, val_main_v31, val_main_v30, val_main_v17, val_main_v16, val_main_v15, val_main_v14,
    val_main_cst_6, val_main_cst_5, val_main_cst_3, s29, s13, s4]

theorem s39 : (val_main_v39 (F := Ideal) x0 x1 x2 x3 (ix3 r g e) : EReal) = corr lanes (qX x0 x1 r g) (qG x2 x3 r g) := by
  rw [← s37]
  pointwise [val_main_v39, val_main_v38, val_main_cst_7]
  exact Fin.sum_univ_one _

theorem s41 : (val_main_v41 (F := Ideal) x0 x1 x2 x3 (ix3 r g e) : EReal) = grad lanes (qX x0 x1 r g) (qG x2 x3 r g) e := by
  rw [← grad_two, ← two_bits]
  pointwise [val_main_v41, val_main_v40, val_main_v34, val_main_v33, val_main_v14, val_main_v7, val_main_v6, val_main_cst, s39, s29, s13, s4]

theorem s42 : (val_main_v42 (F := Ideal) x0 x1 x2 x3 (ix2 r d) : EReal) = grad lanes (qX x0 x1 r (grp d)) (qG x2 x3 r (grp d)) (pos d) := by
  rw [← s41, val_main_v42_apply]
  congr 1
  funext a
  apply Fin.ext
  match a with
  | ⟨0, _⟩ => show ((r : ℕ) * 2048 + d) / 2048 = (r : ℕ); omega
  | ⟨1, _⟩ => show ((r : ℕ) * 2048 + d) / 256 % 8 = (d : ℕ) / 256; omega
  | ⟨2, _⟩ => show ((r : ℕ) * 2048 + d) % 256 = (d : ℕ) % 256; omega

theorem s44 : (val_main_v44 (F := Ideal) x0 x1 x2 x3 (ix2 r d) : EReal) = rY (fY x0 r) (fZ x1 r) (fW x2) (fD x3 r) d := by
  show _ = grad lanes (qX x0 x1 r (grp d)) (qG x2 x3 r (grp d)) (pos d) * gate (fZ x1 r (col (grp d) (pos d)))
  rw [col_of]
  pointwise [val_main_v44, s42, s2_0]

theorem s45 : (val_main_v45 (F := Ideal) x0 x1 x2 x3 (ix2 r d) : EReal) = rZ (fY x0 r) (fZ x1 r) (fW x2) (fD x3 r) d := by
  show _ = fY x0 r (col (grp d) (pos d)) * grad lanes (qX x0 x1 r (grp d)) (qG x2 x3 r (grp d)) (pos d) * Ideal.logistic (fZ x1 r (col (grp d) (pos d)))
    + fZ x1 r (col (grp d) (pos d)) * (fY x0 r (col (grp d) (pos d)) * grad lanes (qX x0 x1 r (grp d)) (qG x2 x3 r (grp d)) (pos d))
      * (Ideal.logistic (fZ x1 r (col (grp d) (pos d))) * (1 - Ideal.logistic (fZ x1 r (col (grp d) (pos d)))))
  rw [col_of]
  unfold fY
  pointwise [val_main_v45, val_main_call1_v0, val_main_call1_v1, val_main_call1_v2, val_main_v43, s42, s2_2, s2_1, s1]

theorem s50 : (val_main_v50 (F := Ideal) x0 x1 x2 x3 (ix2 r d) : EReal) = rY (fY x0 r) (fZ x1 r) (fW x2) (fD x3 r) d := by
  pointwise [val_main_v50, s44]

theorem s52 : (val_main_v52 (F := Ideal) x0 x1 x2 x3 (ix2 d r) : EReal) = rY (fY x0 r) (fZ x1 r) (fW x2) (fD x3 r) d := by
  pointwise [val_main_v52, val_main_v51, s44]

theorem s49 (e : Fin 10368) : (val_main_v49 (F := Ideal) x0 x1 x2 x3 x4 (ix2 r e) : EReal)
    = if h : 2048 ≤ (e : ℕ) ∧ (e : ℕ) < 4096 then rZ (fY x0 r) (fZ x1 r) (fW x2) (fD x3 r) ⟨e - 2048, by omega⟩ else x4 (ix2 r e) := by
  pointwise [val_main_v49, val_main_v48, val_main_v47, val_main_v46, s45]
  by_cases h : 2048 ≤ (e : ℕ) ∧ (e : ℕ) < 4096
  · rw [dif_neg (by omega), dif_pos (by omega), dif_pos h]
  · rw [dif_neg h]
    by_cases h' : (e : ℕ) < 2048
    · rw [dif_pos h']
    · rw [dif_neg h', dif_neg (by omega)]
      exact congrArg x4 (congrArg (ix2 r) (Fin.ext (by show 4096 + ((e : ℕ) - 2048 - 2048) = e; omega)))
end

section
variable (c : Dev nD)
/-- The kernel's arguments. -/
abbrev k0 := m ((c.tc : Thread nD τ).loc main_arg0)
abbrev k1 := m ((c.tc : Thread nD τ).loc main_arg1)
abbrev k2 := m ((c.tc : Thread nD τ).loc main_arg2)
abbrev k3 := m ((c.tc : Thread nD τ).loc main_arg3)
abbrev k4 := m ((c.tc : Thread nD τ).loc main_arg4)

theorem res0 : Read.val_main_v50 (F := Ideal) (k0 m c) (k1 m c) (k2 m c) (k3 m c) = fun j : S8192x2048.Idx => gY m c (j 0) (j 1) := by
  funext j
  exact (congrArg _ (eq_ix2 j)).trans (s50 _ _ _ _ (j 0) (j 1))

theorem res1 : Read.val_main_v52 (F := Ideal) (k0 m c) (k1 m c) (k2 m c) (k3 m c) = fun j : S2048x8192.Idx => gY m c (j 1) (j 0) := by
  funext j
  exact (congrArg _ (eq_ix2 j)).trans (s52 _ _ _ _ (j 1) (j 0))

theorem res2 : Read.val_main_v49 (F := Ideal) (k0 m c) (k1 m c) (k2 m c) (k3 m c) (k4 m c) = kO6 m c := by
  funext j
  refine (congrArg _ (eq_ix2 j)).trans ((s49 _ _ _ _ _ (j 0) (j 1)).trans ?_)
  unfold kO6
  rw [← eq_ix2 j]
  rfl

theorem res3 : Read.val_main_v26 (F := Ideal) (k0 m c) (k1 m c) (k3 m c) = fun j : S1x2048.Idx => gW m c (j 1) := by
  funext j
  exact (congrArg _ (row0 j)).trans (s26 _ _ _ (j 1))
end

theorem algebra : Cert.algebraic_Kernel7Ideal_Reference7Ideal (hKernel7Ideal := Cert.Kernel7Ideal.Gen.facts) (hReference7Ideal := Cert.Reference7Ideal.Gen.facts) := by
  intro m ρ m' ρ' _ hm
  refine ⟨fun c => fun j : S8192x2048.Idx => gY m c (j 0) (j 1), fun c => fun j : S2048x8192.Idx => gY m c (j 1) (j 0),
    fun c => kO6 m c, fun c => fun j : S1x2048.Idx => gW m c (j 1), ?_, ?_⟩
  · exact (θ_run Cert.Kernel7Ideal.defs _ _).mono (fun r h c =>
      ⟨(h c).1.trans (final4 m c), (h c).2.1.trans (final5 m c), (h c).2.2.1.trans (final6 m c), (h c).2.2.2.1.trans (final7 m c), (h c).2.2.2.2⟩)
      (Cert.Kernel7Ideal.Value.run_blocks (F := Ideal) m ρ)
  · refine (θ_run Cert.Reference7Ideal.defs _ _).mono (fun r h c =>
      ⟨(h c).1.trans (Eq.trans (Read.val_main_v50_eq (F := Ideal) m' c) ?_),
        (h c).2.1.trans (Eq.trans (Read.val_main_v52_eq (F := Ideal) m' c) ?_),
        (h c).2.2.1.trans (Eq.trans (Read.val_main_v49_eq (F := Ideal) m' c) ?_),
        (h c).2.2.2.1.trans (Eq.trans (Read.val_main_v26_eq (F := Ideal) _ _ _) ?_), (h c).2.2.2.2⟩)
      (Cert.Reference7Ideal.Value.run (F := Ideal) m' ρ')
    all_goals obtain ⟨h0, h1, h2, h3, h4⟩ := hm c
    · rw [h0, h1, h2, h3]; exact res0 m c
    · rw [h0, h1, h2, h3]; exact res1 m c
    · rw [h0, h1, h2, h3, h4]; exact res2 m c
    · rw [h0, h1, h3]; exact res3 m c

end Cert.Kernel7Ideal.Val
-- ==== Proof.ResidNorm.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Norm
public import Idealize.ShloMosaic.Lib.Pipeline.ValueKit
public import Idealize.ShloMosaic.Lib.Pipeline.ReadBack
public import Idealize.ShloMosaic.Lib.StableHlo.ReadAt

/-! # The gradient of the gated residual and of the norm after it -/

@[expose] public section
set_option maxRecDepth 16384
noncomputable section
open Idealize.ShloMosaic Idealize.ShloMosaic.TcCoe Idealize.ShloMosaic.StableHlo Idealize.SL.Sem
namespace Cert.Kernel8Ideal.Val
open Cert.Kernel8Ideal Cert.Kernel8Ideal.Gen Cert.Norm Cert.Reference8Ideal

/-- The number of lanes of a row. -/
abbrev lanes : EReal := Ideal.ofBits FTy.f32 1149239296#32

/-! ## One block -/

section
variable (x : Vec Ideal S512x1024 .f32) (s g : Vec Ideal S1x1024 .f32) (h o : Vec Ideal S512x1024 .bf16) (D : Vec Ideal S512x1024 .f32)
  (v : FVec Ideal S512x1024 .f32)

/-- A row of the block, -/
def bx (r : Fin 512) (d : Fin 1024) : EReal := x (ix2 r d)
/-- and the gradient of its normalised row. -/
def bg (r : Fin 512) (d : Fin 1024) : EReal := h (ix2 r d) * (1 + s (ix2 0 d))

theorem pay9_at (y : S512x1024.Idx) : (k0_pay9 (F := Ideal) x y : EReal) = x y := by
  pointwise [k0_pay9]

theorem pay10_at (r : Fin 512) : (k0_pay10 (F := Ideal) x (ix2 r 0) : EReal) = msq lanes (bx x r) := by
  unfold msq bx
  pointwise [k0_pay10, pay9_at]

theorem pay11_at (r : Fin 512) : (k0_pay11 (F := Ideal) x (ix2 r 0) : EReal) = Ideal.rsqrt (msq lanes (bx x r)) := by
  pointwise [k0_pay11, pay10_at]

theorem pay12_at (y : S512x1024.Idx) : (k0_pay12 (F := Ideal) h y : EReal) = h y := by
  pointwise [k0_pay12]

theorem pay13_at (d : Fin 1024) : (k0_pay13 (F := Ideal) h (ix2 0 d) : EReal) = ∑ r : Fin 512, (h (ix2 r d) : EReal) := by
  pointwise [k0_pay13, pay12_at]

theorem pay14_at (d : Fin 1024) : (k0_pay14 (F := Ideal) x h (ix2 0 d) : EReal) = ∑ r : Fin 512, nrm lanes (bx x r) d * h (ix2 r d) := by
  pointwise [k0_pay14, pay12_at, pay11_at, pay9_at, nrm, bx]

theorem pay15_at (r : Fin 512) (d : Fin 1024) : (k0_pay15 (F := Ideal) x s h (ix2 r d) : EReal) = grad lanes (bx x r) (bg s h r) d := by
  unfold grad corr
  pointwise [k0_pay15, pay12_at, pay11_at, pay10_at, pay9_at, Fin.sum_univ_one, bg]
  rfl

theorem pay1_at (y : S512x1024.Idx) : (k0_pay1 (F := Ideal) v D y : EReal) = D y + v y := by
  pointwise [k0_pay1]

theorem pay2_at (r : Fin 512) (d : Fin 1024) : (k0_pay2 (F := Ideal) v D g (ix2 r d) : EReal) = k0_pay1 (F := Ideal) v D (ix2 r d) * g (ix2 0 d) := by
  pointwise [k0_pay2]

/-- What the block adds to the gradient of the gate. -/
def ga (d : Fin 1024) : EReal := ∑ r : Fin 512, (k0_pay1 (F := Ideal) v D (ix2 r d) : EReal) * o (ix2 r d)

theorem pay6_at (a : Vec Ideal S1x1024 .f32) (d : Fin 1024) : (k0_pay6 (F := Ideal) v D a o (ix2 0 d) : EReal) = a (ix2 0 d) + ga o D v d := by
  unfold ga
  pointwise [k0_pay6]
end

variable (m : (ℓ : Loc nD τ sig) → Buf (Elt Ideal) ℓ)

/-- A row of a single line. -/
theorem row0 (y : S1x1024.Idx) : y = ix2 0 (y 1) :=
  (eq_ix2 y).trans (congrArg (fun a => ix2 a (y 1)) (Subsingleton.elim (α := Fin 1) _ _))

/-! ## One grid point -/

/-- The norm's part of the rows' gradient in point `t`'s block. -/
abbrev nB (c : Dev nD) (t : Fin cfg0.N) : FVec Ideal S512x1024 .f32 := k0_pay15 (F := Ideal) (iblk m c 0 t) (iblk m c 3 t) (iblk m c 5 t)

theorem step7 (c : Dev nD) (t : Fin cfg0.N) (y : S512x1024.Idx) : ((outsAt0 m c t.val t.isLt).1 y : EReal) = k0_pay1 (F := Ideal) (nB m c t) (iblk m c 6 t) y := by
  by_cases h : t.val % 16 = 0
  · rw [outsAt0_A m c t h]
    frame_open
    frame_out
  · rw [outsAt0_B m c t h]
    frame_open
    frame_out

theorem step8 (c : Dev nD) (t : Fin cfg0.N) (y : S512x1024.Idx) : ((outsAt0 m c t.val t.isLt).2.1 y : EReal)
    = k0_pay2 (F := Ideal) (nB m c t) (iblk m c 6 t) (iblk m c 2 t) y := by
  by_cases h : t.val % 16 = 0
  · rw [outsAt0_A m c t h]
    frame_open
    frame_out
  · rw [outsAt0_B m c t h]
    frame_open
    frame_out

/-- What a point adds to the gradient of the gate. -/
def p9 (c : Dev nD) (t : Fin cfg0.N) (y : S1x1024.Idx) : EReal := ga (iblk m c 1 t) (iblk m c 6 t) (nB m c t) (y 1)

theorem step9_A (c : Dev nD) (t : Fin cfg0.N) (h : t.val % 16 = 0) (y : S1x1024.Idx) : ((outsAt0 m c t.val t.isLt).2.2.1 y : EReal) = 0 + p9 m c t y := by
  rw [outsAt0_A m c t h]
  frame_open
  simp (disch := decide) only [↓ View.readCov_skip, ↓ View.readCov_cons_toLoadRect, ↓ View.readCov_fill]
  frame_out
  refine (congrArg _ (row0 y)).trans ((pay6_at _ _ _ _ (y 1)).trans ?_)
  unfold p9
  congr 1
  pointwise [k0_pay3]

theorem step9_B (c : Dev nD) (t : Fin cfg0.N) (h : ¬ t.val % 16 = 0) (y : S1x1024.Idx) : ((outsAt0 m c t.val t.isLt).2.2.1 y : EReal)
    = (outsAt0 m c (t.val - 1) (Nat.lt_of_le_of_lt (Nat.sub_le _ _) t.isLt)).2.2.1 y + p9 m c t y := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.1 = acc
  refine (congrArg _ (row0 y)).trans ((pay6_at _ _ _ _ (y 1)).trans ?_)
  exact congrArg (· + p9 m c t y) (congrArg acc (row0 y).symm)

theorem step10_A (c : Dev nD) (t : Fin cfg0.N) (h : t.val % 16 = 0) (y : S1x1024.Idx) : ((outsAt0 m c t.val t.isLt).2.2.2.1 y : EReal)
    = 0 + k0_pay14 (F := Ideal) (iblk m c 0 t) (iblk m c 5 t) y := by
  rw [outsAt0_A m c t h]
  frame_open
  simp (disch := decide) only [↓ View.readCov_skip, ↓ View.readCov_cons_toLoadRect, ↓ View.readCov_fill]
  frame_out
  pointwise [k0_pay7, k0_pay4]

theorem step10_B (c : Dev nD) (t : Fin cfg0.N) (h : ¬ t.val % 16 = 0) (y : S1x1024.Idx) : ((outsAt0 m c t.val t.isLt).2.2.2.1 y : EReal)
    = (outsAt0 m c (t.val - 1) (Nat.lt_of_le_of_lt (Nat.sub_le _ _) t.isLt)).2.2.2.1 y + k0_pay14 (F := Ideal) (iblk m c 0 t) (iblk m c 5 t) y := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.2.1 = acc
  pointwise [k0_pay7]

theorem step11_A (c : Dev nD) (t : Fin cfg0.N) (h : t.val % 16 = 0) (y : S1x1024.Idx) : ((outsAt0 m c t.val t.isLt).2.2.2.2 y : EReal)
    = 0 + k0_pay13 (F := Ideal) (iblk m c 5 t) y := by
  rw [outsAt0_A m c t h]
  frame_open
  simp (disch := decide) only [↓ View.readCov_skip, ↓ View.readCov_cons_toLoadRect, ↓ View.readCov_fill]
  frame_out
  pointwise [k0_pay8, k0_pay5]

theorem step11_B (c : Dev nD) (t : Fin cfg0.N) (h : ¬ t.val % 16 = 0) (y : S1x1024.Idx) : ((outsAt0 m c t.val t.isLt).2.2.2.2 y : EReal)
    = (outsAt0 m c (t.val - 1) (Nat.lt_of_le_of_lt (Nat.sub_le _ _) t.isLt)).2.2.2.2 y + k0_pay13 (F := Ideal) (iblk m c 5 t) y := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.2.2 = acc
  pointwise [k0_pay8]

/-! ## The arrays -/

/-- The residual, -/
def aR (c : Dev nD) (r : Fin 8192) (d : Fin 1024) : EReal := m ((c : Thread nD τ).loc main_arg0) (ix2 r d)
/-- the mixer's output, -/
def aO (c : Dev nD) (r : Fin 8192) (d : Fin 1024) : EReal := m ((c : Thread nD τ).loc main_arg1) (ix2 r d)
/-- its gate, -/
def aG (c : Dev nD) (d : Fin 1024) : EReal := m ((c : Thread nD τ).loc main_arg2) (ix2 0 d)
/-- the rows: the residual and the gated output, -/
def aX (c : Dev nD) (r : Fin 8192) (d : Fin 1024) : EReal := aR m c r d + aG m c d * aO m c r d
/-- the scale, -/
def aS (c : Dev nD) (d : Fin 1024) : EReal := m ((c : Thread nD τ).loc main_arg3) (ix2 0 d)
/-- the gradient of the modulated rows -/
def aH (c : Dev nD) (r : Fin 8192) (d : Fin 1024) : EReal := m ((c : Thread nD τ).loc main_arg5) (ix2 r d)
/-- and the gradient that reaches the rows directly. -/
def aD (c : Dev nD) (r : Fin 8192) (d : Fin 1024) : EReal := m ((c : Thread nD τ).loc main_arg6) (ix2 r d)

/-- The gradient of the rows, -/
def gX (c : Dev nD) (r : Fin 8192) (d : Fin 1024) : EReal := aD m c r d + grad lanes (aX m c r) (fun d => aH m c r d * (1 + aS m c d)) d
/-- of the mixer's output, -/
def gO (c : Dev nD) (r : Fin 8192) (d : Fin 1024) : EReal := gX m c r d * aG m c d
/-- of its gate, -/
def gG (c : Dev nD) (d : Fin 1024) : EReal := ∑ r : Fin 8192, gX m c r d * aO m c r d
/-- of the scale -/
def gS (c : Dev nD) (d : Fin 1024) : EReal := ∑ r : Fin 8192, nrm lanes (aX m c r) d * aH m c r d
/-- and of the shift. -/
def gB (c : Dev nD) (d : Fin 1024) : EReal := ∑ r : Fin 8192, aH m c r d

theorem pt_lt (t : Fin cfg0.N) : t.val < 16 := lt_of_lt_of_eq t.isLt N_0

/-- Row `r` of point `t`'s block. -/
def rk (t : Fin cfg0.N) (r : Fin 512) : Fin 8192 := ⟨t.val * 512 + r, by have := pt_lt t; omega⟩

theorem idx : ∀ t : Fin cfg0.N, win0_0.index t = ![t.val, 0] ∧ win0_1.index t = ![t.val, 0] ∧ win0_2.index t = ![0, 0] ∧ win0_3.index t = ![0, 0]
    ∧ win0_5.index t = ![t.val, 0] ∧ win0_6.index t = ![t.val, 0] :=
  (by decide +kernel : ∀ t : Fin grid0.N, _)

theorem idx' : ∀ t : Fin cfg0.N, win0_7.index t = ![t.val, 0] ∧ win0_8.index t = ![t.val, 0] ∧ win0_9.index t = ![0, 0] ∧ win0_10.index t = ![0, 0]
    ∧ win0_11.index t = ![0, 0] :=
  (by decide +kernel : ∀ t : Fin grid0.N, _)

theorem x_at (c : Dev nD) (t : Fin cfg0.N) (r : Fin 512) (d : Fin 1024) : (iblk m c 0 t (ix2 r d) : EReal) = aX m c (rk t r) d := by
  have h : (V m c main_v3 (ix2 (rk t r) d) : EReal) = aX m c (rk t r) d := by
    unfold V aX aR aG aO
    after_reads_at
  rw [← h]
  unfold rk
  blk_ext [iblk, idx t]

theorem o_at (c : Dev nD) (t : Fin cfg0.N) (r : Fin 512) (d : Fin 1024) : (iblk m c 1 t (ix2 r d) : EReal) = aO m c (rk t r) d := by
  unfold aO rk
  blk_point [iblk, V, idx t]

theorem g_at (c : Dev nD) (t : Fin cfg0.N) (d : Fin 1024) : (iblk m c 2 t (ix2 0 d) : EReal) = aG m c d := by
  unfold aG
  blk_point [iblk, V, idx t]

theorem s_at (c : Dev nD) (t : Fin cfg0.N) (d : Fin 1024) : (iblk m c 3 t (ix2 0 d) : EReal) = aS m c d := by
  unfold aS
  blk_point [iblk, V, idx t]

theorem h_at (c : Dev nD) (t : Fin cfg0.N) (r : Fin 512) (d : Fin 1024) : (iblk m c 5 t (ix2 r d) : EReal) = aH m c (rk t r) d := by
  unfold aH rk
  blk_point [iblk, V, idx t]

theorem d_at (c : Dev nD) (t : Fin cfg0.N) (r : Fin 512) (d : Fin 1024) : (iblk m c 6 t (ix2 r d) : EReal) = aD m c (rk t r) d := by
  unfold aD rk
  blk_point [iblk, V, idx t]

theorem bx_at (c : Dev nD) (t : Fin cfg0.N) (r : Fin 512) : bx (iblk m c 0 t) r = aX m c (rk t r) := funext fun d => x_at m c t r d

theorem gX_at (c : Dev nD) (t : Fin cfg0.N) (r : Fin 512) (d : Fin 1024) :
    (k0_pay1 (F := Ideal) (nB m c t) (iblk m c 6 t) (ix2 r d) : EReal) = gX m c (rk t r) d := by
  unfold nB
  rw [pay1_at, pay15_at, bx_at, d_at]
  unfold gX bg
  simp only [h_at, s_at]

theorem out7 (c : Dev nD) (t : Fin cfg0.N) (r : Fin 512) (d : Fin 1024) : ((outsAt0 m c t.val t.isLt).1 (ix2 r d) : EReal) = gX m c (rk t r) d :=
  (step7 m c t (ix2 r d)).trans (gX_at m c t r d)

theorem out8 (c : Dev nD) (t : Fin cfg0.N) (r : Fin 512) (d : Fin 1024) : ((outsAt0 m c t.val t.isLt).2.1 (ix2 r d) : EReal) = gO m c (rk t r) d :=
  (step8 m c t (ix2 r d)).trans ((pay2_at _ _ _ r d).trans (congrArg₂ (· * ·) (gX_at m c t r d) (g_at m c t d)))

theorem final7 (c : Dev nD) : (dats m 0 c).arrAt 7 cfg0.N = fun j : S8192x1024.Idx => gX m c (j 0) (j 1) := by
  refine (dats m 0 c).arrAt_eq_of_covers 7 _ (by decide +kernel) fun t hf y => ?_
  blk_simp
  rw [after0_7]
  refine (congrArg _ (eq_ix2 y)).trans ((out7 m c t (y 0) (y 1)).trans ?_)
  refine congrArg₂ (gX m c) (Fin.ext ?_) (Fin.ext ?_)
  · unfold rk; blk_simp [idx' t]
  · blk_simp [idx' t]

theorem final8 (c : Dev nD) : (dats m 0 c).arrAt 8 cfg0.N = fun j : S8192x1024.Idx => gO m c (j 0) (j 1) := by
  refine (dats m 0 c).arrAt_eq_of_covers 8 _ (by decide +kernel) fun t hf y => ?_
  blk_simp
  rw [after0_8]
  refine (congrArg _ (eq_ix2 y)).trans ((out8 m c t (y 0) (y 1)).trans ?_)
  refine congrArg₂ (gO m c) (Fin.ext ?_) (Fin.ext ?_)
  · unfold rk; blk_simp [idx' t]
  · blk_simp [idx' t]

theorem sum9 (c : Dev nD) (d : Fin 1024) : (∑ p : Fin cfg0.N, ga (iblk m c 1 p) (iblk m c 6 p) (nB m c p) d) = gG m c d := by
  unfold ga
  simp only [gX_at, o_at]
  exact Fin.sum_mul_add_congr (fun s r hl => rfl) (by rw [show cfg0.N = 16 from N_0])

theorem sum10 (c : Dev nD) (d : Fin 1024) :
    (∑ p : Fin cfg0.N, (k0_pay14 (F := Ideal) (iblk m c 0 p) (iblk m c 5 p) (ix2 0 d) : EReal)) = gS m c d := by
  simp only [pay14_at, bx_at, h_at]
  exact Fin.sum_mul_add_congr (fun s r hl => rfl) (by rw [show cfg0.N = 16 from N_0])

theorem sum11 (c : Dev nD) (d : Fin 1024) :
    (∑ p : Fin cfg0.N, (k0_pay13 (F := Ideal) (iblk m c 5 p) (ix2 0 d) : EReal)) = gB m c d := by
  simp only [pay13_at, h_at]
  exact Fin.sum_mul_add_congr (fun s r hl => rfl) (by rw [show cfg0.N = 16 from N_0])

theorem final9 (c : Dev nD) : (dats m 0 c).arrAt 9 cfg0.N = fun j : S1x1024.Idx => gG m c (j 1) := by
  refine (dats m 0 c).arrAt_eq_of_covers 9 _ (by decide +kernel) fun t hf y => ?_
  have ht := (flush0_9 t).mp hf
  have hl := pt_lt t
  have hN : cfg0.N = 16 := N_0
  blk_simp
  rw [after0_9, Pipeline.eq_sum_fin_of_reset_step_apply_last (fun n h => (outsAt0 m c n h).2.2.1) 16 (fun _ => (0 : EReal))
    (fun p j => p9 m c p j)
    (fun p h j => step9_A m c p h j) (fun p h j => step9_B m c p h j) (le_of_eq N_0) t (by omega) y]
  refine (zero_add (_ : EReal)).trans ?_
  refine (Eq.trans ?_ (sum9 m c (y 1))).trans ?_
  · rfl
  · congr 1; exact Fin.ext (by blk_simp [idx' t])

theorem final10 (c : Dev nD) : (dats m 0 c).arrAt 10 cfg0.N = fun j : S1x1024.Idx => gS m c (j 1) := by
  refine (dats m 0 c).arrAt_eq_of_covers 10 _ (by decide +kernel) fun t hf y => ?_
  have ht := (flush0_10 t).mp hf
  have hl := pt_lt t
  have hN : cfg0.N = 16 := N_0
  blk_simp
  rw [after0_10, Pipeline.eq_sum_fin_of_reset_step_apply_last (fun n h => (outsAt0 m c n h).2.2.2.1) 16 (fun _ => (0 : EReal))
    (fun p j => (k0_pay14 (F := Ideal) (iblk m c 0 p) (iblk m c 5 p) j : EReal))
    (fun p h j => step10_A m c p h j) (fun p h j => step10_B m c p h j) (le_of_eq N_0) t (by omega) y]
  refine (zero_add (_ : EReal)).trans ?_
  refine (Eq.trans ?_ (sum10 m c (y 1))).trans ?_
  · congr! 4; exact row0 y
  · congr 1; exact Fin.ext (by blk_simp [idx' t])

theorem final11 (c : Dev nD) : (dats m 0 c).arrAt 11 cfg0.N = fun j : S1x1024.Idx => gB m c (j 1) := by
  refine (dats m 0 c).arrAt_eq_of_covers 11 _ (by decide +kernel) fun t hf y => ?_
  have ht := (flush0_11 t).mp hf
  have hl := pt_lt t
  have hN : cfg0.N = 16 := N_0
  blk_simp
  rw [after0_11, Pipeline.eq_sum_fin_of_reset_step_apply_last (fun n h => (outsAt0 m c n h).2.2.2.2) 16 (fun _ => (0 : EReal))
    (fun p j => (k0_pay13 (F := Ideal) (iblk m c 5 p) j : EReal))
    (fun p h j => step11_A m c p h j) (fun p h j => step11_B m c p h j) (le_of_eq N_0) t (by omega) y]
  refine (zero_add (_ : EReal)).trans ?_
  refine (Eq.trans ?_ (sum11 m c (y 1))).trans ?_
  · congr! 4; exact row0 y
  · congr 1; exact Fin.ext (by blk_simp [idx' t])

/-! ## The reference -/

/-- The reference declares no semaphore, and writes none of its arguments. -/
theorem frameRef : Cert.quiescent_Reference8Ideal (hReference8Ideal := Cert.Reference8Ideal.Gen.facts) := fun m ρ _ =>
  (θ_run Cert.Reference8Ideal.defs _ _).mono (fun r h => ⟨fun c => (h c).2.2.2.2.2, sem_eq_zero_of_no_sems (by decide) r.2⟩)
    (Cert.Reference8Ideal.Value.run (F := Ideal) m ρ)

section
open Read
variable (x0 : FVec Ideal S8192x1024 .f32) (x1 : FVec Ideal S8192x1024 .bf16) (x2 x3 : FVec Ideal S1x1024 .f32) (x5 : FVec Ideal S8192x1024 .bf16)
  (x6 : FVec Ideal S8192x1024 .f32) (r : Fin 8192) (d : Fin 1024)

/-- A row of the reference, -/
def rX (d : Fin 1024) : EReal := x0 (ix2 r d) + x2 (ix2 0 d) * x1 (ix2 r d)
/-- the gradient of its normalised row, -/
def rG (d : Fin 1024) : EReal := x5 (ix2 r d) * (1 + x3 (ix2 0 d))
/-- and that of the row. -/
def rD (d : Fin 1024) : EReal := x6 (ix2 r d) + grad lanes (rX x0 x1 x2 r) (rG x3 x5 r) d

theorem s3 : (val_main_v3 (F := Ideal) x0 x1 x2 (ix2 r d) : EReal) = rX x0 x1 x2 r d := by
  unfold rX
  pointwise [val_main_v3, val_main_v2, val_main_v1, val_main_v0]

theorem s12 : (val_main_v12 (F := Ideal) x0 x1 x2 (ix2 r 0) : EReal) = msq lanes (rX x0 x1 x2 r) := by
  unfold msq
  pointwise [val_main_v12, val_main_v11, val_main_v10, val_main_v9, val_main_v8, val_main_v7, val_main_v4, val_main_cst_2, val_main_cst_1, val_main_cst_0, s3]

theorem s18 : (val_main_v18 (F := Ideal) x0 x1 x2 (ix2 r d) : EReal) = nrm lanes (rX x0 x1 x2 r) d := by
  unfold nrm
  pointwise [val_main_v18, val_main_v17, val_main_v13, s12, s3]

theorem s32 : (val_main_v32 (F := Ideal) x3 x5 (ix2 r d) : EReal) = rG x3 x5 r d := by
  unfold rG
  pointwise [val_main_v32, val_main_v31, val_main_v25, val_main_v20, val_main_v19, val_main_cst_4]

theorem s41 : (val_main_v41 (F := Ideal) x0 x1 x2 x3 x5 (ix2 r 0) : EReal) = corr lanes (rX x0 x1 x2 r) (rG x3 x5 r) := by
  unfold corr
  pointwise [val_main_v41, val_main_v40, val_main_v39, val_main_v35, val_main_v34, val_main_v33, val_main_v16, val_main_v15, val_main_v14, val_main_v13,
    val_main_cst_8, val_main_cst_7, val_main_cst_3, s32, s12, s3]

theorem s43 : (val_main_v43 (F := Ideal) x0 x1 x2 x3 x5 (ix2 r d) : EReal) = corr lanes (rX x0 x1 x2 r) (rG x3 x5 r) := by
  rw [← s41]
  pointwise [val_main_v43, val_main_v42, val_main_cst_9]
  exact Fin.sum_univ_one _

theorem s45 : (val_main_v45 (F := Ideal) x0 x1 x2 x3 x5 x6 (ix2 r d) : EReal) = rD x0 x1 x2 x3 x5 x6 r d := by
  unfold rD
  rw [← grad_two, ← add_assoc, ← two_bits]
  pointwise [val_main_v45, val_main_v44, val_main_v38, val_main_v37, val_main_v36, val_main_v13, val_main_v6, val_main_v5, val_main_cst, s43, s32, s12, s3]

theorem s46 : (val_main_v46 (F := Ideal) x0 x1 x2 x3 x5 x6 (ix2 r d) : EReal) = rD x0 x1 x2 x3 x5 x6 r d := by
  rw [← s45]
  pointwise [val_main_v46]

theorem s52 : (val_main_v52 (F := Ideal) x0 x1 x2 x3 x5 x6 (ix2 r d) : EReal) = rD x0 x1 x2 x3 x5 x6 r d * x2 (ix2 0 d) := by
  rw [mul_comm]
  pointwise [val_main_v52, val_main_v48, val_main_v47, s46]

theorem s51 : (val_main_v51 (F := Ideal) x0 x1 x2 x3 x5 x6 (ix2 0 d) : EReal) = ∑ r : Fin 8192, rD x0 x1 x2 x3 x5 x6 r d * x1 (ix2 r d) := by
  pointwise [val_main_v51, val_main_v50, val_main_v49, val_main_v0, val_main_cst_10, s46]

theorem s30 : (val_main_v30 (F := Ideal) x0 x1 x2 x5 (ix2 0 d) : EReal) = ∑ r : Fin 8192, nrm lanes (rX x0 x1 x2 r) d * x5 (ix2 r d) := by
  pointwise [val_main_v30, val_main_v29, val_main_v28, val_main_v25, val_main_cst_6, s18]

theorem s27 : (val_main_v27 (F := Ideal) x5 (ix2 0 d) : EReal) = ∑ r : Fin 8192, (x5 (ix2 r d) : EReal) := by
  pointwise [val_main_v27, val_main_v26, val_main_v25, val_main_cst_5]
end

section
variable (c : Dev nD)
/-- The kernel's arguments that the results read. -/
abbrev k0 := m ((c.tc : Thread nD τ).loc main_arg0)
abbrev k1 := m ((c.tc : Thread nD τ).loc main_arg1)
abbrev k2 := m ((c.tc : Thread nD τ).loc main_arg2)
abbrev k3 := m ((c.tc : Thread nD τ).loc main_arg3)
abbrev k5 := m ((c.tc : Thread nD τ).loc main_arg5)
abbrev k6 := m ((c.tc : Thread nD τ).loc main_arg6)

theorem res0 : Read.val_main_v45 (F := Ideal) (k0 m c) (k1 m c) (k2 m c) (k3 m c) (k5 m c) (k6 m c) = fun j : S8192x1024.Idx => gX m c (j 0) (j 1) := by
  funext j
  exact (congrArg _ (eq_ix2 j)).trans (s45 _ _ _ _ _ _ (j 0) (j 1))

theorem res1 : Read.val_main_v52 (F := Ideal) (k0 m c) (k1 m c) (k2 m c) (k3 m c) (k5 m c) (k6 m c) = fun j : S8192x1024.Idx => gO m c (j 0) (j 1) := by
  funext j
  exact (congrArg _ (eq_ix2 j)).trans (s52 _ _ _ _ _ _ (j 0) (j 1))

theorem res2 : Read.val_main_v51 (F := Ideal) (k0 m c) (k1 m c) (k2 m c) (k3 m c) (k5 m c) (k6 m c) = fun j : S1x1024.Idx => gG m c (j 1) := by
  funext j
  exact (congrArg _ (row0 j)).trans (s51 _ _ _ _ _ _ (j 1))

theorem res3 : Read.val_main_v30 (F := Ideal) (k0 m c) (k1 m c) (k2 m c) (k5 m c) = fun j : S1x1024.Idx => gS m c (j 1) := by
  funext j
  exact (congrArg _ (row0 j)).trans (s30 _ _ _ _ (j 1))

theorem res4 : Read.val_main_v27 (F := Ideal) (k5 m c) = fun j : S1x1024.Idx => gB m c (j 1) := by
  funext j
  exact (congrArg _ (row0 j)).trans (s27 _ (j 1))
end

theorem algebra : Cert.algebraic_Kernel8Ideal_Reference8Ideal (hKernel8Ideal := Cert.Kernel8Ideal.Gen.facts) (hReference8Ideal := Cert.Reference8Ideal.Gen.facts) := by
  intro m ρ m' ρ' _ hm
  refine ⟨fun c => fun j : S8192x1024.Idx => gX m c (j 0) (j 1), fun c => fun j : S8192x1024.Idx => gO m c (j 0) (j 1),
    fun c => fun j : S1x1024.Idx => gG m c (j 1), fun c => fun j : S1x1024.Idx => gS m c (j 1), fun c => fun j : S1x1024.Idx => gB m c (j 1), ?_, ?_⟩
  · exact (θ_run Cert.Kernel8Ideal.defs _ _).mono (fun r h c =>
      ⟨(h c).1.trans (final7 m c), (h c).2.1.trans (final8 m c), (h c).2.2.1.trans (final9 m c), (h c).2.2.2.1.trans (final10 m c),
        (h c).2.2.2.2.1.trans (final11 m c), (h c).2.2.2.2.2⟩)
      (Cert.Kernel8Ideal.Value.run_blocks (F := Ideal) m ρ)
  · refine (θ_run Cert.Reference8Ideal.defs _ _).mono (fun r h c =>
      ⟨(h c).1.trans (Eq.trans (Read.val_main_v45_eq (F := Ideal) m' c) ?_),
        (h c).2.1.trans (Eq.trans (Read.val_main_v52_eq (F := Ideal) m' c) ?_),
        (h c).2.2.1.trans (Eq.trans (Read.val_main_v51_eq (F := Ideal) m' c) ?_),
        (h c).2.2.2.1.trans (Eq.trans (Read.val_main_v30_eq (F := Ideal) _ _ _ _) ?_),
        (h c).2.2.2.2.1.trans (Eq.trans (Read.val_main_v27_eq (F := Ideal) _) ?_), (h c).2.2.2.2.2⟩)
      (Cert.Reference8Ideal.Value.run (F := Ideal) m' ρ')
    all_goals obtain ⟨h0, h1, h2, h3, h4, h5, h6⟩ := hm c
    · rw [h0, h1, h2, h3, h5, h6]; exact res0 m c
    · rw [h0, h1, h2, h3, h5, h6]; exact res1 m c
    · rw [h0, h1, h2, h3, h5, h6]; exact res2 m c
    · rw [h0, h1, h2, h5]; exact res3 m c
    · rw [h5]; exact res4 m c

end Cert.Kernel8Ideal.Val
-- ==== Proof.PreNorm.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Norm
public import Idealize.ShloMosaic.Lib.Pipeline.ValueKit
public import Idealize.ShloMosaic.Lib.Pipeline.ReadBack
public import Idealize.ShloMosaic.Lib.StableHlo.ReadAt

/-! # The gradient of the norm before the mixer -/

@[expose] public section
set_option maxRecDepth 16384
noncomputable section
open Idealize.ShloMosaic Idealize.ShloMosaic.TcCoe Idealize.ShloMosaic.StableHlo Idealize.SL.Sem
namespace Cert.Kernel9Ideal.Val
open Cert.Kernel9Ideal Cert.Kernel9Ideal.Gen Cert.Norm Cert.Reference9Ideal

/-- The number of lanes of a row. -/
abbrev lanes : EReal := Ideal.ofBits FTy.f32 1149239296#32

/-! ## One block -/

section
variable (x : Vec Ideal S512x1024 .f32) (s : Vec Ideal S1x1024 .f32) (h : Vec Ideal S512x1024 .bf16)

/-- A row of the block, -/
def bx (r : Fin 512) (d : Fin 1024) : EReal := x (ix2 r d)
/-- and the gradient of its normalised row. -/
def bg (r : Fin 512) (d : Fin 1024) : EReal := h (ix2 r d) * (1 + s (ix2 0 d))

theorem pay6_at (r : Fin 512) : (k0_pay6 (F := Ideal) x (ix2 r 0) : EReal) = msq lanes (bx x r) := by
  unfold msq bx
  pointwise [k0_pay6]

theorem pay7_at (r : Fin 512) : (k0_pay7 (F := Ideal) x (ix2 r 0) : EReal) = Ideal.rsqrt (msq lanes (bx x r)) := by
  pointwise [k0_pay7, pay6_at]

theorem pay8_at (y : S512x1024.Idx) : (k0_pay8 (F := Ideal) h y : EReal) = h y := by
  pointwise [k0_pay8]

theorem pay9_at (d : Fin 1024) : (k0_pay9 (F := Ideal) h (ix2 0 d) : EReal) = ∑ r : Fin 512, (h (ix2 r d) : EReal) := by
  pointwise [k0_pay9, pay8_at]

theorem pay10_at (d : Fin 1024) : (k0_pay10 (F := Ideal) x h (ix2 0 d) : EReal) = ∑ r : Fin 512, nrm lanes (bx x r) d * h (ix2 r d) := by
  pointwise [k0_pay10, pay8_at, pay7_at, nrm, bx]

theorem pay11_at (r : Fin 512) (d : Fin 1024) : (k0_pay11 (F := Ideal) x s h (ix2 r d) : EReal) = grad lanes (bx x r) (bg s h r) d := by
  unfold grad corr
  pointwise [k0_pay11, pay8_at, pay7_at, pay6_at, Fin.sum_univ_one, bg]
  rfl

theorem pay1_at (v : FVec Ideal S512x1024 .f32) (D : Vec Ideal S512x1024 .f32) (y : S512x1024.Idx) : (k0_pay1 (F := Ideal) v D y : EReal) = D y + v y := by
  pointwise [k0_pay1]
end

variable (m : (ℓ : Loc nD τ sig) → Buf (Elt Ideal) ℓ)

/-! ## One grid point -/

theorem step5 (c : Dev nD) (t : Fin cfg0.N) (y : S512x1024.Idx) : ((outsAt0 m c t.val t.isLt).1 y : EReal)
    = k0_pay1 (F := Ideal) (k0_pay11 (F := Ideal) (iblk m c 0 t) (iblk m c 1 t) (iblk m c 3 t)) (iblk m c 4 t) y := by
  by_cases h : t.val % 16 = 0
  · rw [outsAt0_A m c t h]
    frame_open
    frame_out
  · rw [outsAt0_B m c t h]
    frame_open
    frame_out

theorem step6_A (c : Dev nD) (t : Fin cfg0.N) (h : t.val % 16 = 0) (y : S1x1024.Idx) : ((outsAt0 m c t.val t.isLt).2.1 y : EReal)
    = 0 + k0_pay10 (F := Ideal) (iblk m c 0 t) (iblk m c 3 t) y := by
  rw [outsAt0_A m c t h]
  frame_open
  simp (disch := decide) only [↓ View.readCov_skip, ↓ View.readCov_cons_toLoadRect, ↓ View.readCov_fill]
  frame_out
  pointwise [k0_pay4, k0_pay2]

theorem step6_B (c : Dev nD) (t : Fin cfg0.N) (h : ¬ t.val % 16 = 0) (y : S1x1024.Idx) : ((outsAt0 m c t.val t.isLt).2.1 y : EReal)
    = (outsAt0 m c (t.val - 1) (Nat.lt_of_le_of_lt (Nat.sub_le _ _) t.isLt)).2.1 y + k0_pay10 (F := Ideal) (iblk m c 0 t) (iblk m c 3 t) y := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.1 = acc
  pointwise [k0_pay4]

theorem step7_A (c : Dev nD) (t : Fin cfg0.N) (h : t.val % 16 = 0) (y : S1x1024.Idx) : ((outsAt0 m c t.val t.isLt).2.2 y : EReal)
    = 0 + k0_pay9 (F := Ideal) (iblk m c 3 t) y := by
  rw [outsAt0_A m c t h]
  frame_open
  simp (disch := decide) only [↓ View.readCov_skip, ↓ View.readCov_cons_toLoadRect, ↓ View.readCov_fill]
  frame_out
  pointwise [k0_pay5, k0_pay3]

theorem step7_B (c : Dev nD) (t : Fin cfg0.N) (h : ¬ t.val % 16 = 0) (y : S1x1024.Idx) : ((outsAt0 m c t.val t.isLt).2.2 y : EReal)
    = (outsAt0 m c (t.val - 1) (Nat.lt_of_le_of_lt (Nat.sub_le _ _) t.isLt)).2.2 y + k0_pay9 (F := Ideal) (iblk m c 3 t) y := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2 = acc
  pointwise [k0_pay5]

/-! ## The arrays -/

/-- The rows, -/
def aX (c : Dev nD) (r : Fin 8192) (d : Fin 1024) : EReal := m ((c : Thread nD τ).loc main_arg0) (ix2 r d)
/-- the scale, -/
def aS (c : Dev nD) (d : Fin 1024) : EReal := m ((c : Thread nD τ).loc main_arg1) (ix2 0 d)
/-- the gradient of the modulated rows -/
def aH (c : Dev nD) (r : Fin 8192) (d : Fin 1024) : EReal := m ((c : Thread nD τ).loc main_arg3) (ix2 r d)
/-- and the gradient that reaches the rows directly. -/
def aD (c : Dev nD) (r : Fin 8192) (d : Fin 1024) : EReal := m ((c : Thread nD τ).loc main_arg4) (ix2 r d)

/-- The gradient of the rows, -/
def gX (c : Dev nD) (r : Fin 8192) (d : Fin 1024) : EReal := aD m c r d + grad lanes (aX m c r) (fun d => aH m c r d * (1 + aS m c d)) d
/-- of the scale -/
def gS (c : Dev nD) (d : Fin 1024) : EReal := ∑ r : Fin 8192, nrm lanes (aX m c r) d * aH m c r d
/-- and of the shift. -/
def gB (c : Dev nD) (d : Fin 1024) : EReal := ∑ r : Fin 8192, aH m c r d

theorem pt_lt (t : Fin cfg0.N) : t.val < 16 := lt_of_lt_of_eq t.isLt N_0

/-- Row `r` of point `t`'s block. -/
def rk (t : Fin cfg0.N) (r : Fin 512) : Fin 8192 := ⟨t.val * 512 + r, by have := pt_lt t; omega⟩

theorem idx : ∀ t : Fin cfg0.N, win0_0.index t = ![t.val, 0] ∧ win0_1.index t = ![0, 0] ∧ win0_3.index t = ![t.val, 0] ∧ win0_4.index t = ![t.val, 0]
    ∧ win0_5.index t = ![t.val, 0] ∧ win0_6.index t = ![0, 0] ∧ win0_7.index t = ![0, 0] :=
  (by decide +kernel : ∀ t : Fin grid0.N, _)

theorem x_at (c : Dev nD) (t : Fin cfg0.N) (r : Fin 512) (d : Fin 1024) : (iblk m c 0 t (ix2 r d) : EReal) = aX m c (rk t r) d := by
  unfold aX rk
  blk_point [iblk, V, idx t]

theorem s_at (c : Dev nD) (t : Fin cfg0.N) (d : Fin 1024) : (iblk m c 1 t (ix2 0 d) : EReal) = aS m c d := by
  unfold aS
  blk_point [iblk, V, idx t]

theorem h_at (c : Dev nD) (t : Fin cfg0.N) (r : Fin 512) (d : Fin 1024) : (iblk m c 3 t (ix2 r d) : EReal) = aH m c (rk t r) d := by
  unfold aH rk
  blk_point [iblk, V, idx t]

theorem d_at (c : Dev nD) (t : Fin cfg0.N) (r : Fin 512) (d : Fin 1024) : (iblk m c 4 t (ix2 r d) : EReal) = aD m c (rk t r) d := by
  unfold aD rk
  blk_point [iblk, V, idx t]

theorem bx_at (c : Dev nD) (t : Fin cfg0.N) (r : Fin 512) : bx (iblk m c 0 t) r = aX m c (rk t r) := funext fun d => x_at m c t r d

theorem out5 (c : Dev nD) (t : Fin cfg0.N) (r : Fin 512) (d : Fin 1024) : ((outsAt0 m c t.val t.isLt).1 (ix2 r d) : EReal) = gX m c (rk t r) d := by
  refine (step5 m c t (ix2 r d)).trans ?_
  rw [pay1_at, pay11_at, bx_at, d_at]
  unfold gX bg
  simp only [h_at, s_at]

theorem final5 (c : Dev nD) : (dats m 0 c).arrAt 5 cfg0.N = fun j : S8192x1024.Idx => gX m c (j 0) (j 1) := by
  refine (dats m 0 c).arrAt_eq_of_covers 5 _ (by decide +kernel) fun t hf y => ?_
  blk_simp
  rw [after0_5]
  refine (congrArg _ (eq_ix2 y)).trans ((out5 m c t (y 0) (y 1)).trans ?_)
  refine congrArg₂ (gX m c) (Fin.ext ?_) (Fin.ext ?_)
  · unfold rk; blk_simp [idx t]
  · blk_simp [idx t]

theorem sum6 (c : Dev nD) (d : Fin 1024) :
    (∑ p : Fin cfg0.N, (k0_pay10 (F := Ideal) (iblk m c 0 p) (iblk m c 3 p) (ix2 0 d) : EReal)) = gS m c d := by
  simp only [pay10_at, bx_at, h_at]
  exact Fin.sum_mul_add_congr (fun s r hl => rfl) (by rw [show cfg0.N = 16 from N_0])

theorem sum7 (c : Dev nD) (d : Fin 1024) :
    (∑ p : Fin cfg0.N, (k0_pay9 (F := Ideal) (iblk m c 3 p) (ix2 0 d) : EReal)) = gB m c d := by
  simp only [pay9_at, h_at]
  exact Fin.sum_mul_add_congr (fun s r hl => rfl) (by rw [show cfg0.N = 16 from N_0])

theorem row0 (y : S1x1024.Idx) : y = ix2 0 (y 1) :=
  (eq_ix2 y).trans (congrArg (fun a => ix2 a (y 1)) (Subsingleton.elim (α := Fin 1) _ _))

theorem final6 (c : Dev nD) : (dats m 0 c).arrAt 6 cfg0.N = fun j : S1x1024.Idx => gS m c (j 1) := by
  refine (dats m 0 c).arrAt_eq_of_covers 6 _ (by decide +kernel) fun t hf y => ?_
  have ht := (flush0_6 t).mp hf
  have hl := pt_lt t
  have hN : cfg0.N = 16 := N_0
  blk_simp
  rw [after0_6, Pipeline.eq_sum_fin_of_reset_step_apply_last (fun n h => (outsAt0 m c n h).2.1) 16 (fun _ => (0 : EReal))
    (fun p j => (k0_pay10 (F := Ideal) (iblk m c 0 p) (iblk m c 3 p) j : EReal))
    (fun p h j => step6_A m c p h j) (fun p h j => step6_B m c p h j) (le_of_eq N_0) t (by omega) y]
  refine (zero_add (_ : EReal)).trans ?_
  refine (Eq.trans ?_ (sum6 m c (y 1))).trans ?_
  · congr! 4; exact row0 y
  · congr 1; exact Fin.ext (by blk_simp [idx t])

theorem final7 (c : Dev nD) : (dats m 0 c).arrAt 7 cfg0.N = fun j : S1x1024.Idx => gB m c (j 1) := by
  refine (dats m 0 c).arrAt_eq_of_covers 7 _ (by decide +kernel) fun t hf y => ?_
  have ht := (flush0_7 t).mp hf
  have hl := pt_lt t
  have hN : cfg0.N = 16 := N_0
  blk_simp
  rw [after0_7, Pipeline.eq_sum_fin_of_reset_step_apply_last (fun n h => (outsAt0 m c n h).2.2) 16 (fun _ => (0 : EReal))
    (fun p j => (k0_pay9 (F := Ideal) (iblk m c 3 p) j : EReal))
    (fun p h j => step7_A m c p h j) (fun p h j => step7_B m c p h j) (le_of_eq N_0) t (by omega) y]
  refine (zero_add (_ : EReal)).trans ?_
  refine (Eq.trans ?_ (sum7 m c (y 1))).trans ?_
  · congr! 4; exact row0 y
  · congr 1; exact Fin.ext (by blk_simp [idx t])

/-! ## The reference -/

/-- The reference declares no semaphore, and writes none of its arguments. -/
theorem frameRef : Cert.quiescent_Reference9Ideal (hReference9Ideal := Cert.Reference9Ideal.Gen.facts) := fun m ρ _ =>
  (θ_run Cert.Reference9Ideal.defs _ _).mono (fun r h => ⟨fun c => (h c).2.2.2, sem_eq_zero_of_no_sems (by decide) r.2⟩)
    (Cert.Reference9Ideal.Value.run (F := Ideal) m ρ)

section
open Read
variable (x0 : FVec Ideal S8192x1024 .f32) (x1 : FVec Ideal S1x1024 .f32) (x3 : FVec Ideal S8192x1024 .bf16) (x4 : FVec Ideal S8192x1024 .f32)
  (r : Fin 8192) (d : Fin 1024)

/-- A row of the reference's argument, -/
def rX (d : Fin 1024) : EReal := x0 (ix2 r d)
/-- and the gradient of its normalised row. -/
def rG (d : Fin 1024) : EReal := x3 (ix2 r d) * (1 + x1 (ix2 0 d))

theorem s8 : (val_main_v8 (F := Ideal) x0 (ix2 r 0) : EReal) = msq lanes (rX x0 r) := by
  unfold msq rX
  pointwise [val_main_v8, val_main_v7, val_main_v6, val_main_v5, val_main_v4, val_main_v3, val_main_v0, val_main_cst_2, val_main_cst_1, val_main_cst_0]

theorem s14 : (val_main_v14 (F := Ideal) x0 (ix2 r d) : EReal) = nrm lanes (rX x0 r) d := by
  unfold nrm
  pointwise [val_main_v14, val_main_v13, val_main_v9, s8]
  rfl

theorem s28 : (val_main_v28 (F := Ideal) x1 x3 (ix2 r d) : EReal) = rG x1 x3 r d := by
  unfold rG
  pointwise [val_main_v28, val_main_v27, val_main_v21, val_main_v16, val_main_v15, val_main_cst_4]

theorem s37 : (val_main_v37 (F := Ideal) x0 x1 x3 (ix2 r 0) : EReal) = corr lanes (rX x0 r) (rG x1 x3 r) := by
  unfold corr
  pointwise [val_main_v37, val_main_v36, val_main_v35, val_main_v31, val_main_v30, val_main_v29, val_main_v12, val_main_v11, val_main_v10, val_main_v9,
    val_main_cst_8, val_main_cst_7, val_main_cst_3, s28, s8, rX]

theorem s39 : (val_main_v39 (F := Ideal) x0 x1 x3 (ix2 r d) : EReal) = corr lanes (rX x0 r) (rG x1 x3 r) := by
  rw [← s37]
  pointwise [val_main_v39, val_main_v38, val_main_cst_9]
  exact Fin.sum_univ_one _

theorem s41 : (val_main_v41 (F := Ideal) x0 x1 x3 x4 (ix2 r d) : EReal) = x4 (ix2 r d) + grad lanes (rX x0 r) (rG x1 x3 r) d := by
  rw [← grad_two, ← add_assoc, ← two_bits]
  pointwise [val_main_v41, val_main_v40, val_main_v34, val_main_v33, val_main_v32, val_main_v9, val_main_v2, val_main_v1, val_main_cst, s39, s28, s8, rX]

theorem s26 : (val_main_v26 (F := Ideal) x0 x3 (ix2 0 d) : EReal) = ∑ r : Fin 8192, nrm lanes (rX x0 r) d * x3 (ix2 r d) := by
  pointwise [val_main_v26, val_main_v25, val_main_v24, val_main_v21, val_main_cst_6, s14]

theorem s23 : (val_main_v23 (F := Ideal) x3 (ix2 0 d) : EReal) = ∑ r : Fin 8192, (x3 (ix2 r d) : EReal) := by
  pointwise [val_main_v23, val_main_v22, val_main_v21, val_main_cst_5]
end

section
variable (c : Dev nD)
/-- The kernel's arguments that the results read. -/
abbrev k0 := m ((c.tc : Thread nD τ).loc main_arg0)
abbrev k1 := m ((c.tc : Thread nD τ).loc main_arg1)
abbrev k3 := m ((c.tc : Thread nD τ).loc main_arg3)
abbrev k4 := m ((c.tc : Thread nD τ).loc main_arg4)

theorem res0 : Read.val_main_v41 (F := Ideal) (k0 m c) (k1 m c) (k3 m c) (k4 m c) = fun j : S8192x1024.Idx => gX m c (j 0) (j 1) := by
  funext j
  exact (congrArg _ (eq_ix2 j)).trans (s41 _ _ _ _ (j 0) (j 1))

theorem res1 : Read.val_main_v26 (F := Ideal) (k0 m c) (k3 m c) = fun j : S1x1024.Idx => gS m c (j 1) := by
  funext j
  exact (congrArg _ (row0 j)).trans (s26 _ _ (j 1))

theorem res2 : Read.val_main_v23 (F := Ideal) (k3 m c) = fun j : S1x1024.Idx => gB m c (j 1) := by
  funext j
  exact (congrArg _ (row0 j)).trans (s23 _ (j 1))
end

theorem algebra : Cert.algebraic_Kernel9Ideal_Reference9Ideal (hKernel9Ideal := Cert.Kernel9Ideal.Gen.facts) (hReference9Ideal := Cert.Reference9Ideal.Gen.facts) := by
  intro m ρ m' ρ' _ hm
  refine ⟨fun c => fun j : S8192x1024.Idx => gX m c (j 0) (j 1), fun c => fun j : S1x1024.Idx => gS m c (j 1),
    fun c => fun j : S1x1024.Idx => gB m c (j 1), ?_, ?_⟩
  · exact (θ_run Cert.Kernel9Ideal.defs _ _).mono (fun r h c =>
      ⟨(h c).1.trans (final5 m c), (h c).2.1.trans (final6 m c), (h c).2.2.1.trans (final7 m c), (h c).2.2.2⟩)
      (Cert.Kernel9Ideal.Value.run_blocks (F := Ideal) m ρ)
  · refine (θ_run Cert.Reference9Ideal.defs _ _).mono (fun r h c =>
      ⟨(h c).1.trans (Eq.trans (Read.val_main_v41_eq (F := Ideal) _ _ _ _) ?_),
        (h c).2.1.trans (Eq.trans (Read.val_main_v26_eq (F := Ideal) _ _) ?_),
        (h c).2.2.1.trans (Eq.trans (Read.val_main_v23_eq (F := Ideal) _) ?_), (h c).2.2.2⟩)
      (Cert.Reference9Ideal.Value.run (F := Ideal) m' ρ')
    all_goals obtain ⟨h0, h1, h2, h3, h4⟩ := hm c
    · rw [h0, h1, h3, h4]; exact res0 m c
    · rw [h0, h3]; exact res1 m c
    · rw [h3]; exact res2 m c

end Cert.Kernel9Ideal.Val
-- ==== Proof.OutDx.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Prod
public import Idealize.ShloMosaic.Lib.Pipeline.ValueKit
public import Idealize.ShloMosaic.Lib.StableHlo.ReadAt

/-! # The gradient of the mixed branches' output product, in its rows -/

@[expose] public section
set_option maxRecDepth 16384
noncomputable section
open Idealize.ShloMosaic Idealize.ShloMosaic.TcCoe Idealize.ShloMosaic.StableHlo Idealize.SL.Sem
namespace Cert.Kernel11Ideal.Val
open Cert.Kernel11Ideal Cert.Kernel11Ideal.Gen Cert.Prod Cert.Reference11Ideal

variable (m : (ℓ : Loc nD τ sig) → Buf (Elt Ideal) ℓ)

/-- The arguments' elements. -/
def aW (c : Dev nD) (r : Fin 1024) (d : Fin 1024) : EReal := m ((c : Thread nD τ).loc main_arg0) (ix2 r d)
def aY (c : Dev nD) (r : Fin 8192) (d : Fin 1024) : EReal := m ((c : Thread nD τ).loc main_arg1) (ix2 r d)

theorem idx : ∀ t : Fin cfg0.N, win0_0.index t = ![t.val, 0] ∧ win0_1.index t = ![0, 0] ∧ win0_2.index t = ![t.val, 0] :=
  (by decide +kernel : ∀ t : Fin grid0.N, _)

theorem pay_at (x : Vec Ideal S1024x1024 .bf16) (y : Vec Ideal S1024x1024 .bf16) (i : S1024x1024.Idx) :
    (k0_pay1 x y i : EReal) = ∑ k : Fin 1024, (x (ix2 (i 0) k) : EReal) * y (ix2 (i 1) k) := by
  pointwise [k0_pay1]

theorem out_at (c : Dev nD) (t : Fin cfg0.N) (y : S1024x1024.Idx) : outsAt0 m c t y = k0_pay1 (iblk m c 0 t) (iblk m c 1 t) y := by
  unfold outsAt0
  frame_out

theorem final (c : Dev nD) : (dats m 0 c).arrAt 2 cfg0.N = fun j : S8192x1024.Idx => mulR (aY m c) (aW m c) (j 0) (j 1) := by
  refine (dats m 0 c).arrAt_eq_of_covers 2 _ (by decide +kernel) fun t hf y => ?_
  blk_simp
  rw [after0_2]
  refine (out_at m c t y).trans ((pay_at (iblk m c 0 t) (iblk m c 1 t) y).trans ?_)
  unfold mulR
  refine Finset.sum_congr rfl fun k _ => congrArg₂ (· * ·) ?_ ?_
  · unfold aY; blk_ext [iblk, V, idx t]
  · unfold aW; blk_ext [iblk, V, idx t]

/-! ## The reference -/

/-- The reference declares no semaphore, and writes none of its arguments. -/
theorem frameRef : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

theorem stage (w : FVec Ideal S1024x1024 .bf16) (y : FVec Ideal S8192x1024 .bf16) (i : Fin 8192) (j : Fin 1024) :
    (Read.val_main_v5 (F := Ideal) w y (ix2 i j) : EReal) = mulR (fun r d => y (ix2 r d)) (fun r d => w (ix2 r d)) i j := by
  unfold mulR
  pointwise [Read.val_main_v5, Read.val_main_v4, Read.val_main_v3, Read.val_main_v1]

theorem res (c : Dev nD) : Read.val_main_v5 (F := Ideal) (m ((c.tc : Thread nD τ).loc main_arg0)) (m ((c.tc : Thread nD τ).loc main_arg1))
    = fun j : S8192x1024.Idx => mulR (aY m c) (aW m c) (j 0) (j 1) := by
  funext j
  exact (congrArg _ (eq_ix2 j)).trans (stage _ _ (j 0) (j 1))

theorem algebra : Cert.algebraic_Kernel11Ideal_Reference11Ideal (hKernel11Ideal := Cert.Kernel11Ideal.Gen.facts) (hReference11Ideal := Cert.Reference11Ideal.Gen.facts) := by
  intro m ρ m' ρ' _ hm
  refine ⟨fun c => fun j : S8192x1024.Idx => mulR (aY m c) (aW m c) (j 0) (j 1), ?_, ?_⟩
  · exact (θ_run Cert.Kernel11Ideal.defs _ _).mono (fun r h c => ⟨(h c).1.trans (final m c), (h c).2⟩)
      (Cert.Kernel11Ideal.Value.run_blocks (F := Ideal) m ρ)
  · refine (θ_run Cert.Reference11Ideal.defs _ _).mono (fun r h c =>
      ⟨(h c).1.trans (Eq.trans (Read.val_main_v5_eq (F := Ideal) _ _) ?_), (h c).2⟩)
      (Cert.Reference11Ideal.Value.run (F := Ideal) m' ρ')
    obtain ⟨h0, h1⟩ := hm c
    rw [h0, h1]
    exact res m c

end Cert.Kernel11Ideal.Val
-- ==== Proof.OutDw.lean ====
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Prod
public import Idealize.ShloMosaic.Lib.Pipeline.ValueKit
public import Idealize.ShloMosaic.Lib.Pipeline.ReadBack
public import Idealize.ShloMosaic.Lib.StableHlo.ReadAt

/-! # The gradient of the mixed branches' output weights -/

@[expose] public section
set_option maxRecDepth 16384
noncomputable section
open Idealize.ShloMosaic Idealize.ShloMosaic.TcCoe Idealize.ShloMosaic.StableHlo Idealize.SL.Sem
namespace Cert.Kernel12Ideal.Val
open Cert.Kernel12Ideal Cert.Kernel12Ideal.Gen Cert.Prod Cert.Reference12Ideal

variable (m : (ℓ : Loc nD τ sig) → Buf (Elt Ideal) ℓ)

/-- The part of the product that one grid point adds. -/
def part (x : Vec Ideal S4096x512 .bf16) (y : Vec Ideal S4096x1024 .bf16) (i : S512x1024.Idx) : EReal :=
  ∑ k : Fin 4096, (x (ix2 k (i 0)) : EReal) * y (ix2 k (i 1))

theorem step_A (c : Dev nD) (t : Fin cfg0.N) (h : t.val % 2 = 0) (y : S512x1024.Idx) :
    (outsAt0 m c t.val t.isLt).2 y = part (iblk m c 0 t) (iblk m c 1 t) y := by
  rw [outsAt0_A m c t h (by omega) (by omega)]
  frame_open
  frame_out
  clear h
  unfold part
  open_payloads
  pointwise []

theorem step_B (c : Dev nD) (t : Fin cfg0.N) (h : t.val % 2 = 1) (y : S512x1024.Idx) :
    (outsAt0 m c t.val t.isLt).1 y = (outsAt0 m c (t.val - 1) (Nat.lt_of_le_of_lt (Nat.sub_le _ _) t.isLt)).2 y
      + part (iblk m c 0 t) (iblk m c 1 t) y := by
  rw [outsAt0_B m c t (by omega) h h]
  frame_open
  frame_out
  clear h
  generalize (outsAt0 m c (t.val - 1) (Nat.lt_of_le_of_lt (Nat.sub_le _ _) t.isLt)).2 = acc
  simp only [read_unread_whole]
  unfold part
  open_payloads
  pointwise []

/-- The arguments' elements. -/
def aX (c : Dev nD) (r : Fin 8192) (d : Fin 1024) : EReal := m ((c : Thread nD τ).loc main_arg0) (ix2 r d)
def aY (c : Dev nD) (r : Fin 8192) (d : Fin 1024) : EReal := m ((c : Thread nD τ).loc main_arg1) (ix2 r d)

theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

theorem pt_lt (t : Fin cfg0.N) : t.val < 4 := lt_of_lt_of_eq t.isLt N_0

/-- One point's part, over the rows of its half. -/
theorem part_at (c : Dev nD) (t : Fin cfg0.N) (y : S512x1024.Idx) :
    part (iblk m c 0 t) (iblk m c 1 t) y = ∑ k : Fin 4096,
      aX m c ⟨t.val % 2 * 4096 + k, by omega⟩ ⟨t.val / 2 * 512 + y 0, by have := pt_lt t; have := (y 0).isLt; simp at this; omega⟩
        * aY m c ⟨t.val % 2 * 4096 + k, by omega⟩ (y 1) := by
  unfold part aX aY
  refine Finset.sum_congr rfl fun k _ => ?_
  congr 1 <;> blk_ext [iblk, V, idx t]

theorem final (c : Dev nD) : (dats m 0 c).arrAt 2 cfg0.N = fun j : S1024x1024.Idx => mulT (aX m c) (aY m c) (j 0) (j 1) := by
  refine (dats m 0 c).arrAt_eq_of_covers 2 _ (by decide +kernel) fun t hf y => ?_
  have ht := (flush0_2 t).mp hf
  have hl := pt_lt t
  have hp : t.val - 1 < cfg0.N := Nat.lt_of_le_of_lt (Nat.sub_le _ _) t.isLt
  blk_simp
  rw [after0_2, step_B m c t ht, step_A m c ⟨t.val - 1, hp⟩ (by show (t.val - 1) % 2 = 0; omega), part_at, part_at]
  unfold mulT
  rw [sum_halves]
  refine congrArg₂ (· + ·) ?_ ?_ <;> refine Finset.sum_congr rfl fun k _ => mul_at2 _ _ ?_ ?_ ?_ ?_ <;> (try blk_simp [idx t]) <;> dsimp only <;> omega

/-! ## The reference -/

/-- The reference declares no semaphore, and writes none of its arguments. -/
theorem frameRef : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

theorem stage (x : FVec Ideal S8192x1024 .bf16) (y : FVec Ideal S8192x1024 .bf16) (i : Fin 1024) (j : Fin 1024) :
    (Read.val_main_v6 (F := Ideal) x y (ix2 i j) : EReal) = mulT (fun r d => x (ix2 r d)) (fun r d => y (ix2 r d)) i j := by
  rw [mulT_comm]
  unfold mulT
  pointwise [Read.val_main_v6, Read.val_main_v5, Read.val_main_v4, Read.val_main_v3, Read.val_main_v1]

theorem res (c : Dev nD) : Read.val_main_v6 (F := Ideal) (m ((c.tc : Thread nD τ).loc main_arg0)) (m ((c.tc : Thread nD τ).loc main_arg1))
    = fun j : S1024x1024.Idx => mulT (aX m c) (aY m c) (j 0) (j 1) := by
  funext j
  exact (congrArg _ (eq_ix2 j)).trans (stage _ _ (j 0) (j 1))

theorem algebra : Cert.algebraic_Kernel12Ideal_Reference12Ideal (hKernel12Ideal := Cert.Kernel12Ideal.Gen.facts) (hReference12Ideal := Cert.Reference12Ideal.Gen.facts) := by
  intro m ρ m' ρ' _ hm
  refine ⟨fun c => fun j : S1024x1024.Idx => mulT (aX m c) (aY m c) (j 0) (j 1), ?_, ?_⟩
  · exact (θ_run Cert.Kernel12Ideal.defs _ _).mono (fun r h c => ⟨(h c).1.trans (final m c), (h c).2⟩)
      (Cert.Kernel12Ideal.Value.run_blocks (F := Ideal) m ρ)
  · refine (θ_run Cert.Reference12Ideal.defs _ _).mono (fun r h c =>
      ⟨(h c).1.trans (Eq.trans (Read.val_main_v6_eq (F := Ideal) _ _) ?_), (h c).2⟩)
      (Cert.Reference12Ideal.Value.run (F := Ideal) m' ρ')
    obtain ⟨h0, h1⟩ := hm c
    rw [h0, h1]
    exact res m c

end Cert.Kernel12Ideal.Val
-- ==== Proof.SsmDx.lean ====
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Prod
public import Idealize.ShloMosaic.Lib.Pipeline.ValueKit
public import Idealize.ShloMosaic.Lib.StableHlo.ReadAt

/-! # The gradient of the state-space branch's product, in its rows -/

@[expose] public section
set_option maxRecDepth 16384
noncomputable section
open Idealize.ShloMosaic Idealize.ShloMosaic.TcCoe Idealize.ShloMosaic.StableHlo Idealize.SL.Sem
namespace Cert.Kernel13Ideal.Val
open Cert.Kernel13Ideal Cert.Kernel13Ideal.Gen Cert.Prod Cert.Reference13Ideal

variable (m : (ℓ : Loc nD τ sig) → Buf (Elt Ideal) ℓ)

/-- The arguments' elements. -/
def aW (c : Dev nD) (r : Fin 2048) (d : Fin 1024) : EReal := m ((c : Thread nD τ).loc main_arg0) (ix2 r d)
def aY (c : Dev nD) (r : Fin 8192) (d : Fin 1024) : EReal := m ((c : Thread nD τ).loc main_arg1) (ix2 r d)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem pay_at (x : Vec Ideal S1024x1024 .bf16) (y : Vec Ideal S1024x1024 .bf16) (i : S1024x1024.Idx) :
    (k0_pay1 x y i : EReal) = ∑ k : Fin 1024, (x (ix2 (i 0) k) : EReal) * y (ix2 (i 1) k) := by
  pointwise [k0_pay1]

theorem out_at (c : Dev nD) (t : Fin cfg0.N) (y : S1024x1024.Idx) : outsAt0 m c t y = k0_pay1 (iblk m c 0 t) (iblk m c 1 t) y := by
  unfold outsAt0
  frame_out

theorem final (c : Dev nD) : (dats m 0 c).arrAt 2 cfg0.N = fun j : S8192x2048.Idx => mulR (aY m c) (aW m c) (j 0) (j 1) := by
  refine (dats m 0 c).arrAt_eq_of_covers 2 _ (by decide +kernel) fun t hf y => ?_
  blk_simp
  rw [after0_2]
  refine (out_at m c t y).trans ((pay_at (iblk m c 0 t) (iblk m c 1 t) y).trans ?_)
  unfold mulR
  refine Finset.sum_congr rfl fun k _ => congrArg₂ (· * ·) ?_ ?_
  · unfold aY; blk_ext [iblk, V, idx t]
  · unfold aW; blk_ext [iblk, V, idx t]

/-! ## The reference -/

/-- The reference declares no semaphore, and writes none of its arguments. -/
theorem frameRef : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

theorem stage (w : FVec Ideal S2048x1024 .bf16) (y : FVec Ideal S8192x1024 .bf16) (i : Fin 8192) (j : Fin 2048) :
    (Read.val_main_v5 (F := Ideal) w y (ix2 i j) : EReal) = mulR (fun r d => y (ix2 r d)) (fun r d => w (ix2 r d)) i j := by
  unfold mulR
  pointwise [Read.val_main_v5, Read.val_main_v4, Read.val_main_v3, Read.val_main_v1]

theorem res (c : Dev nD) : Read.val_main_v5 (F := Ideal) (m ((c.tc : Thread nD τ).loc main_arg0)) (m ((c.tc : Thread nD τ).loc main_arg1))
    = fun j : S8192x2048.Idx => mulR (aY m c) (aW m c) (j 0) (j 1) := by
  funext j
  exact (congrArg _ (eq_ix2 j)).trans (stage _ _ (j 0) (j 1))

theorem algebra : Cert.algebraic_Kernel13Ideal_Reference13Ideal (hKernel13Ideal := Cert.Kernel13Ideal.Gen.facts) (hReference13Ideal := Cert.Reference13Ideal.Gen.facts) := by
  intro m ρ m' ρ' _ hm
  refine ⟨fun c => fun j : S8192x2048.Idx => mulR (aY m c) (aW m c) (j 0) (j 1), ?_, ?_⟩
  · exact (θ_run Cert.Kernel13Ideal.defs _ _).mono (fun r h c => ⟨(h c).1.trans (final m c), (h c).2⟩)
      (Cert.Kernel13Ideal.Value.run_blocks (F := Ideal) m ρ)
  · refine (θ_run Cert.Reference13Ideal.defs _ _).mono (fun r h c =>
      ⟨(h c).1.trans (Eq.trans (Read.val_main_v5_eq (F := Ideal) _ _) ?_), (h c).2⟩)
      (Cert.Reference13Ideal.Value.run (F := Ideal) m' ρ')
    obtain ⟨h0, h1⟩ := hm c
    rw [h0, h1]
    exact res m c

end Cert.Kernel13Ideal.Val
-- ==== Proof.SsmDw.lean ====
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Prod
public import Idealize.ShloMosaic.Lib.Pipeline.ValueKit
public import Idealize.ShloMosaic.Lib.Pipeline.ReadBack
public import Idealize.ShloMosaic.Lib.StableHlo.ReadAt

/-! # The gradient of the state-space branch's weights -/

@[expose] public section
set_option maxRecDepth 16384
noncomputable section
open Idealize.ShloMosaic Idealize.ShloMosaic.TcCoe Idealize.ShloMosaic.StableHlo Idealize.SL.Sem
namespace Cert.Kernel14Ideal.Val
open Cert.Kernel14Ideal Cert.Kernel14Ideal.Gen Cert.Prod Cert.Reference14Ideal

variable (m : (ℓ : Loc nD τ sig) → Buf (Elt Ideal) ℓ)

/-- The part of the product that one grid point adds. -/
def part (x : Vec Ideal S4096x512 .bf16) (y : Vec Ideal S4096x1024 .bf16) (i : S512x1024.Idx) : EReal :=
  ∑ k : Fin 4096, (x (ix2 k (i 0)) : EReal) * y (ix2 k (i 1))

theorem step_A (c : Dev nD) (t : Fin cfg0.N) (h : t.val % 2 = 0) (y : S512x1024.Idx) :
    (outsAt0 m c t.val t.isLt).2 y = part (iblk m c 0 t) (iblk m c 1 t) y := by
  rw [outsAt0_A m c t h (by omega) (by omega)]
  frame_open
  frame_out
  clear h
  unfold part
  open_payloads
  pointwise []

theorem step_B (c : Dev nD) (t : Fin cfg0.N) (h : t.val % 2 = 1) (y : S512x1024.Idx) :
    (outsAt0 m c t.val t.isLt).1 y = (outsAt0 m c (t.val - 1) (Nat.lt_of_le_of_lt (Nat.sub_le _ _) t.isLt)).2 y
      + part (iblk m c 0 t) (iblk m c 1 t) y := by
  rw [outsAt0_B m c t (by omega) h h]
  frame_open
  frame_out
  clear h
  generalize (outsAt0 m c (t.val - 1) (Nat.lt_of_le_of_lt (Nat.sub_le _ _) t.isLt)).2 = acc
  simp only [read_unread_whole]
  unfold part
  open_payloads
  pointwise []

/-- The arguments' elements. -/
def aX (c : Dev nD) (r : Fin 8192) (d : Fin 2048) : EReal := m ((c : Thread nD τ).loc main_arg0) (ix2 r d)
def aY (c : Dev nD) (r : Fin 8192) (d : Fin 1024) : EReal := m ((c : Thread nD τ).loc main_arg1) (ix2 r d)

theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

theorem pt_lt (t : Fin cfg0.N) : t.val < 8 := lt_of_lt_of_eq t.isLt N_0

/-- One point's part, over the rows of its half. -/
theorem part_at (c : Dev nD) (t : Fin cfg0.N) (y : S512x1024.Idx) :
    part (iblk m c 0 t) (iblk m c 1 t) y = ∑ k : Fin 4096,
      aX m c ⟨t.val % 2 * 4096 + k, by omega⟩ ⟨t.val / 2 * 512 + y 0, by have := pt_lt t; have := (y 0).isLt; simp at this; omega⟩
        * aY m c ⟨t.val % 2 * 4096 + k, by omega⟩ (y 1) := by
  unfold part aX aY
  refine Finset.sum_congr rfl fun k _ => ?_
  congr 1 <;> blk_ext [iblk, V, idx t]

theorem final (c : Dev nD) : (dats m 0 c).arrAt 2 cfg0.N = fun j : S2048x1024.Idx => mulT (aX m c) (aY m c) (j 0) (j 1) := by
  refine (dats m 0 c).arrAt_eq_of_covers 2 _ (by decide +kernel) fun t hf y => ?_
  have ht := (flush0_2 t).mp hf
  have hl := pt_lt t
  have hp : t.val - 1 < cfg0.N := Nat.lt_of_le_of_lt (Nat.sub_le _ _) t.isLt
  blk_simp
  rw [after0_2, step_B m c t ht, step_A m c ⟨t.val - 1, hp⟩ (by show (t.val - 1) % 2 = 0; omega), part_at, part_at]
  unfold mulT
  rw [sum_halves]
  refine congrArg₂ (· + ·) ?_ ?_ <;> refine Finset.sum_congr rfl fun k _ => mul_at2 _ _ ?_ ?_ ?_ ?_ <;> (try blk_simp [idx t]) <;> dsimp only <;> omega

/-! ## The reference -/

/-- The reference declares no semaphore, and writes none of its arguments. -/
theorem frameRef : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

theorem stage (x : FVec Ideal S8192x2048 .bf16) (y : FVec Ideal S8192x1024 .bf16) (i : Fin 2048) (j : Fin 1024) :
    (Read.val_main_v6 (F := Ideal) x y (ix2 i j) : EReal) = mulT (fun r d => x (ix2 r d)) (fun r d => y (ix2 r d)) i j := by
  rw [mulT_comm]
  unfold mulT
  pointwise [Read.val_main_v6, Read.val_main_v5, Read.val_main_v4, Read.val_main_v3, Read.val_main_v1]

theorem res (c : Dev nD) : Read.val_main_v6 (F := Ideal) (m ((c.tc : Thread nD τ).loc main_arg0)) (m ((c.tc : Thread nD τ).loc main_arg1))
    = fun j : S2048x1024.Idx => mulT (aX m c) (aY m c) (j 0) (j 1) := by
  funext j
  exact (congrArg _ (eq_ix2 j)).trans (stage _ _ (j 0) (j 1))

theorem algebra : Cert.algebraic_Kernel14Ideal_Reference14Ideal (hKernel14Ideal := Cert.Kernel14Ideal.Gen.facts) (hReference14Ideal := Cert.Reference14Ideal.Gen.facts) := by
  intro m ρ m' ρ' _ hm
  refine ⟨fun c => fun j : S2048x1024.Idx => mulT (aX m c) (aY m c) (j 0) (j 1), ?_, ?_⟩
  · exact (θ_run Cert.Kernel14Ideal.defs _ _).mono (fun r h c => ⟨(h c).1.trans (final m c), (h c).2⟩)
      (Cert.Kernel14Ideal.Value.run_blocks (F := Ideal) m ρ)
  · refine (θ_run Cert.Reference14Ideal.defs _ _).mono (fun r h c =>
      ⟨(h c).1.trans (Eq.trans (Read.val_main_v6_eq (F := Ideal) _ _) ?_), (h c).2⟩)
      (Cert.Reference14Ideal.Value.run (F := Ideal) m' ρ')
    obtain ⟨h0, h1⟩ := hm c
    rw [h0, h1]
    exact res m c

end Cert.Kernel14Ideal.Val
-- ==== Proof.ProjDx.lean ====
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Prod
public import Idealize.ShloMosaic.Lib.Pipeline.ValueKit
public import Idealize.ShloMosaic.Lib.Pipeline.ReadBack
public import Idealize.ShloMosaic.Lib.StableHlo.ReadAt

/-! # The gradient of the projection's input -/

@[expose] public section
set_option maxRecDepth 16384
noncomputable section
open Idealize.ShloMosaic Idealize.ShloMosaic.TcCoe Idealize.ShloMosaic.StableHlo Idealize.SL.Sem
namespace Cert.Kernel15Ideal.Val
open Cert.Kernel15Ideal Cert.Kernel15Ideal.Gen Cert.Prod Cert.Reference15Ideal

variable (m : (ℓ : Loc nD τ sig) → Buf (Elt Ideal) ℓ)

/-- A sum over 10368 columns is the sum of those over its three thirds. -/
theorem sum_thirds (f : Fin 10368 → EReal) :
    ∑ k : Fin 10368, f k = (∑ k : Fin 3456, f ⟨k, by omega⟩ + ∑ k : Fin 3456, f ⟨3456 + k, by omega⟩) + ∑ k : Fin 3456, f ⟨6912 + k, by omega⟩ := by
  refine (Fin.sum_univ_add (a := 6912) (b := 3456) f).trans (congrArg (· + _) ?_)
  exact Fin.sum_univ_add (a := 3456) (b := 3456) fun k => f (Fin.castAdd 3456 k)

/-- The part of the product that one grid point adds. -/
def part (x y : Vec Ideal S1024x3456 .bf16) (i : S1024x1024.Idx) : EReal :=
  ∑ k : Fin 3456, (x (ix2 (i 0) k) : EReal) * y (ix2 (i 1) k)

theorem step_A (c : Dev nD) (t : Fin cfg0.N) (h : t.val % 3 = 0) (y : S1024x1024.Idx) :
    (outsAt0 m c t.val t.isLt).2 y = part (iblk m c 0 t) (iblk m c 1 t) y := by
  rw [outsAt0_A m c t h (by omega) (by omega)]
  frame_open
  frame_out
  clear h
  unfold part
  open_payloads
  pointwise []

theorem step_B (c : Dev nD) (t : Fin cfg0.N) (h : t.val % 3 = 1) (y : S1024x1024.Idx) :
    (outsAt0 m c t.val t.isLt).2 y = (outsAt0 m c (t.val - 1) (Nat.lt_of_le_of_lt (Nat.sub_le _ _) t.isLt)).2 y
      + part (iblk m c 0 t) (iblk m c 1 t) y := by
  rw [outsAt0_B m c t (by omega) (by omega) (by omega)]
  frame_open
  frame_out
  clear h
  generalize (outsAt0 m c (t.val - 1) (Nat.lt_of_le_of_lt (Nat.sub_le _ _) t.isLt)).2 = acc
  simp only [read_unread_whole]
  unfold part
  open_payloads
  pointwise []

theorem step_C (c : Dev nD) (t : Fin cfg0.N) (h : t.val % 3 = 2) (y : S1024x1024.Idx) :
    (outsAt0 m c t.val t.isLt).1 y = (outsAt0 m c (t.val - 1) (Nat.lt_of_le_of_lt (Nat.sub_le _ _) t.isLt)).2 y
      + part (iblk m c 0 t) (iblk m c 1 t) y := by
  rw [outsAt0_C m c t (by omega) (by omega) h]
  frame_open
  frame_out
  clear h
  generalize (outsAt0 m c (t.val - 1) (Nat.lt_of_le_of_lt (Nat.sub_le _ _) t.isLt)).2 = acc
  simp only [read_unread_whole]
  unfold part
  open_payloads
  pointwise []

/-- The arguments' elements. -/
def aW (c : Dev nD) (r : Fin 1024) (d : Fin 10368) : EReal := m ((c : Thread nD τ).loc main_arg0) (ix2 r d)
def aY (c : Dev nD) (r : Fin 8192) (d : Fin 10368) : EReal := m ((c : Thread nD τ).loc main_arg1) (ix2 r d)

theorem idx : ∀ t : Fin cfg0.N, win0_0.index t = ![t.val / 3, t.val % 3] ∧ win0_1.index t = ![0, t.val % 3]
    ∧ win0_2.index t = ![t.val / 3, 0] :=
  (by decide +kernel : ∀ t : Fin grid0.N, _)

theorem pt_lt (t : Fin cfg0.N) : t.val < 24 := lt_of_lt_of_eq t.isLt N_0

/-- One point's part, over the columns of its third. -/
theorem part_at (c : Dev nD) (t : Fin cfg0.N) (y : S1024x1024.Idx) :
    part (iblk m c 0 t) (iblk m c 1 t) y = ∑ k : Fin 3456,
      aY m c ⟨t.val / 3 * 1024 + y 0, by have := pt_lt t; have := (y 0).isLt; simp at this; omega⟩ ⟨t.val % 3 * 3456 + k, by omega⟩
        * aW m c (y 1) ⟨t.val % 3 * 3456 + k, by omega⟩ := by
  unfold part aW aY
  refine Finset.sum_congr rfl fun k _ => ?_
  congr 1 <;> blk_ext [iblk, V, idx t]

theorem final (c : Dev nD) : (dats m 0 c).arrAt 2 cfg0.N = fun j : S8192x1024.Idx => mulR (aY m c) (aW m c) (j 0) (j 1) := by
  refine (dats m 0 c).arrAt_eq_of_covers 2 _ (by decide +kernel) fun t hf y => ?_
  have ht := (flush0_2 t).mp hf
  have hl := pt_lt t
  have hp : t.val - 1 < cfg0.N := Nat.lt_of_le_of_lt (Nat.sub_le _ _) t.isLt
  have hq : t.val - 1 - 1 < cfg0.N := Nat.lt_of_le_of_lt (Nat.sub_le _ _) hp
  blk_simp
  rw [after0_2, step_C m c t ht, step_B m c ⟨t.val - 1, hp⟩ (by show (t.val - 1) % 3 = 1; omega),
    step_A m c ⟨t.val - 1 - 1, hq⟩ (by show (t.val - 1 - 1) % 3 = 0; omega), part_at, part_at, part_at]
  unfold mulR
  rw [sum_thirds]
  refine congrArg₂ (· + ·) (congrArg₂ (· + ·) ?_ ?_) ?_ <;> refine Finset.sum_congr rfl fun k _ => mul_at2 _ _ ?_ ?_ ?_ ?_ <;> (try blk_simp [idx t]) <;> dsimp only <;> omega

/-! ## The reference -/

/-- The reference declares no semaphore, and writes none of its arguments. -/
theorem frameRef : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

theorem stage (w : FVec Ideal S1024x10368 .bf16) (y : FVec Ideal S8192x10368 .bf16) (i : Fin 8192) (j : Fin 1024) :
    (Read.val_main_v5 (F := Ideal) w y (ix2 i j) : EReal) = mulR (fun r d => y (ix2 r d)) (fun r d => w (ix2 r d)) i j := by
  unfold mulR
  pointwise [Read.val_main_v5, Read.val_main_v4, Read.val_main_v3, Read.val_main_v1]

theorem res (c : Dev nD) : Read.val_main_v5 (F := Ideal) (m ((c.tc : Thread nD τ).loc main_arg0)) (m ((c.tc : Thread nD τ).loc main_arg1))
    = fun j : S8192x1024.Idx => mulR (aY m c) (aW m c) (j 0) (j 1) := by
  funext j
  exact (congrArg _ (eq_ix2 j)).trans (stage _ _ (j 0) (j 1))

theorem algebra : Cert.algebraic_Kernel15Ideal_Reference15Ideal (hKernel15Ideal := Cert.Kernel15Ideal.Gen.facts) (hReference15Ideal := Cert.Reference15Ideal.Gen.facts) := by
  intro m ρ m' ρ' _ hm
  refine ⟨fun c => fun j : S8192x1024.Idx => mulR (aY m c) (aW m c) (j 0) (j 1), ?_, ?_⟩
  · exact (θ_run Cert.Kernel15Ideal.defs _ _).mono (fun r h c => ⟨(h c).1.trans (final m c), (h c).2⟩)
      (Cert.Kernel15Ideal.Value.run_blocks (F := Ideal) m ρ)
  · refine (θ_run Cert.Reference15Ideal.defs _ _).mono (fun r h c =>
      ⟨(h c).1.trans (Eq.trans (Read.val_main_v5_eq (F := Ideal) _ _) ?_), (h c).2⟩)
      (Cert.Reference15Ideal.Value.run (F := Ideal) m' ρ')
    obtain ⟨h0, h1⟩ := hm c
    rw [h0, h1]
    exact res m c

end Cert.Kernel15Ideal.Val
-- ==== Proof.Proj.lean ====
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Prod
public import Idealize.ShloMosaic.Lib.Pipeline.ValueKit
public import Idealize.ShloMosaic.Lib.StableHlo.ReadAt

/-! # The projection's product -/

@[expose] public section
set_option maxRecDepth 16384
noncomputable section
open Idealize.ShloMosaic Idealize.ShloMosaic.TcCoe Idealize.ShloMosaic.StableHlo Idealize.SL.Sem
namespace Cert.Kernel16Ideal.Val
open Cert.Kernel16Ideal Cert.Kernel16Ideal.Gen Cert.Prod Cert.Reference16Ideal

variable (m : (ℓ : Loc nD τ sig) → Buf (Elt Ideal) ℓ)

/-- The arguments' elements. -/
def aX (c : Dev nD) (r : Fin 8192) (d : Fin 1024) : EReal := m ((c : Thread nD τ).loc main_arg0) (ix2 r d)
def aW (c : Dev nD) (r : Fin 1024) (d : Fin 10368) : EReal := m ((c : Thread nD τ).loc main_arg1) (ix2 r d)

theorem idx : ∀ t : Fin cfg0.N, win0_0.index t = ![t.val / 9, 0] ∧ win0_1.index t = ![0, t.val % 9] ∧ win0_2.index t = ![t.val / 9, t.val % 9] :=
  (by decide +kernel : ∀ t : Fin grid0.N, _)

theorem pay_at (x : Vec Ideal S1024x1024 .bf16) (y : Vec Ideal S1024x1152 .bf16) (i : S1024x1152.Idx) :
    (k0_pay1 x y i : EReal) = ∑ k : Fin 1024, (x (ix2 (i 0) k) : EReal) * y (ix2 k (i 1)) := by
  pointwise [k0_pay1]

theorem out_at (c : Dev nD) (t : Fin cfg0.N) (y : S1024x1152.Idx) : outsAt0 m c t y = k0_pay1 (iblk m c 0 t) (iblk m c 1 t) y := by
  unfold outsAt0
  frame_out

theorem final (c : Dev nD) : (dats m 0 c).arrAt 2 cfg0.N = fun j : S8192x10368.Idx => mulN (aX m c) (aW m c) (j 0) (j 1) := by
  refine (dats m 0 c).arrAt_eq_of_covers 2 _ (by decide +kernel) fun t hf y => ?_
  blk_simp
  rw [after0_2]
  refine (out_at m c t y).trans ((pay_at (iblk m c 0 t) (iblk m c 1 t) y).trans ?_)
  unfold mulN
  refine Finset.sum_congr rfl fun k _ => congrArg₂ (· * ·) ?_ ?_
  · unfold aX; blk_ext [iblk, V, idx t]
  · unfold aW; blk_ext [iblk, V, idx t]

/-! ## The reference -/

/-- The reference declares no semaphore, and writes none of its arguments. -/
theorem frameRef : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

theorem stage (x : FVec Ideal S8192x1024 .bf16) (w : FVec Ideal S1024x10368 .bf16) (i : Fin 8192) (j : Fin 10368) :
    (Read.val_main_v3 (F := Ideal) x w (ix2 i j) : EReal) = mulN (fun r d => x (ix2 r d)) (fun r d => w (ix2 r d)) i j := by
  unfold mulN
  pointwise [Read.val_main_v3, Read.val_main_v2, Read.val_main_v1, Read.val_main_v0]

theorem res (c : Dev nD) : Read.val_main_v3 (F := Ideal) (m ((c.tc : Thread nD τ).loc main_arg0)) (m ((c.tc : Thread nD τ).loc main_arg1))
    = fun j : S8192x10368.Idx => mulN (aX m c) (aW m c) (j 0) (j 1) := by
  funext j
  exact (congrArg _ (eq_ix2 j)).trans (stage _ _ (j 0) (j 1))

theorem algebra : Cert.algebraic_Kernel16Ideal_Reference16Ideal (hKernel16Ideal := Cert.Kernel16Ideal.Gen.facts) (hReference16Ideal := Cert.Reference16Ideal.Gen.facts) := by
  intro m ρ m' ρ' _ hm
  refine ⟨fun c => fun j : S8192x10368.Idx => mulN (aX m c) (aW m c) (j 0) (j 1), ?_, ?_⟩
  · exact (θ_run Cert.Kernel16Ideal.defs _ _).mono (fun r h c => ⟨(h c).1.trans (final m c), (h c).2⟩)
      (Cert.Kernel16Ideal.Value.run_blocks (F := Ideal) m ρ)
  · refine (θ_run Cert.Reference16Ideal.defs _ _).mono (fun r h c =>
      ⟨(h c).1.trans (Eq.trans (Read.val_main_v3_eq (F := Ideal) _ _) ?_), (h c).2⟩)
      (Cert.Reference16Ideal.Value.run (F := Ideal) m' ρ')
    obtain ⟨h0, h1⟩ := hm c
    rw [h0, h1]
    exact res m c

end Cert.Kernel16Ideal.Val
-- ==== Proof.Ff1.lean ====
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Prod
public import Idealize.ShloMosaic.Lib.Pipeline.ValueKit
public import Idealize.ShloMosaic.Lib.StableHlo.ReadAt

/-! # The feed-forward's first product and its squared rectifier -/

@[expose] public section
set_option maxRecDepth 16384
noncomputable section
open Idealize.ShloMosaic Idealize.ShloMosaic.TcCoe Idealize.ShloMosaic.StableHlo Idealize.SL.Sem
namespace Cert.Kernel17Ideal.Val
open Cert.Kernel17Ideal Cert.Kernel17Ideal.Gen Cert.Prod Cert.Reference17Ideal

variable (m : (ℓ : Loc nD τ sig) → Buf (Elt Ideal) ℓ)

/-- The arguments' elements. -/
def aX (c : Dev nD) (r : Fin 8192) (d : Fin 1024) : EReal := m ((c : Thread nD τ).loc main_arg0) (ix2 r d)
def aW (c : Dev nD) (r : Fin 1024) (d : Fin 4096) : EReal := m ((c : Thread nD τ).loc main_arg1) (ix2 r d)

theorem idx : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, _)

/-- The squared rectifier. -/
def sq (p : EReal) : EReal := max p 0 * max p 0

section
variable (x : Vec Ideal S1024x1024 .bf16) (y : Vec Ideal S1024x1024 .bf16) (i : S1024x1024.Idx)

theorem pay1_at : (k0_pay1 x y i : EReal) = ∑ k : Fin 1024, (x (ix2 (i 0) k) : EReal) * y (ix2 k (i 1)) := by
  pointwise [k0_pay1]

theorem pay2_at : (k0_pay2 x y i : EReal) = k0_pay1 x y i := by
  pointwise [k0_pay2]

theorem pay3_at : (k0_pay3 x y i : EReal) = sq (k0_pay1 x y i) := by
  unfold sq
  pointwise [k0_pay3]
end

theorem prod_at (c : Dev nD) (t : Fin cfg0.N) (y : S1024x1024.Idx) (r : Fin 8192) (d : Fin 4096)
    (h0 : (r : ℕ) = t.val / 4 * 1024 + ((y 0 : Fin 1024) : ℕ)) (h1 : (d : ℕ) = t.val % 4 * 1024 + ((y 1 : Fin 1024) : ℕ)) :
    (k0_pay1 (F := Ideal) (iblk m c 0 t) (iblk m c 1 t) y : EReal) = mulN (aX m c) (aW m c) r d := by
  refine (pay1_at (iblk m c 0 t) (iblk m c 1 t) y).trans ?_
  unfold mulN
  refine Finset.sum_congr rfl fun k _ => congrArg₂ (· * ·) ?_ ?_
  · unfold aX; blk_ext [iblk, V, idx t, h0]
  · unfold aW; blk_ext [iblk, V, idx t, h1]

theorem out2_at (c : Dev nD) (t : Fin cfg0.N) (y : S1024x1024.Idx) : (outsAt0 m c t).1 y = k0_pay2 (iblk m c 0 t) (iblk m c 1 t) y := by
  unfold outsAt0
  frame_out

theorem out3_at (c : Dev nD) (t : Fin cfg0.N) (y : S1024x1024.Idx) : (outsAt0 m c t).2 y = k0_pay3 (iblk m c 0 t) (iblk m c 1 t) y := by
  unfold outsAt0
  frame_out

theorem final2 (c : Dev nD) : (dats m 0 c).arrAt 2 cfg0.N = fun j : S8192x4096.Idx => mulN (aX m c) (aW m c) (j 0) (j 1) := by
  refine (dats m 0 c).arrAt_eq_of_covers 2 _ (by decide +kernel) fun t hf y => ?_
  blk_simp
  rw [after0_2]
  refine (out2_at m c t y).trans ((pay2_at _ _ y).trans (prod_at m c t y _ _ ?_ ?_))
  · blk_simp [idx t]
  · blk_simp [idx t]

theorem final3 (c : Dev nD) : (dats m 0 c).arrAt 3 cfg0.N = fun j : S8192x4096.Idx => sq (mulN (aX m c) (aW m c) (j 0) (j 1)) := by
  refine (dats m 0 c).arrAt_eq_of_covers 3 _ (by decide +kernel) fun t hf y => ?_
  blk_simp
  rw [after0_3]
  refine (out3_at m c t y).trans ((pay3_at _ _ y).trans (congrArg sq (prod_at m c t y _ _ ?_ ?_)))
  · blk_simp [idx t]
  · blk_simp [idx t]

/-! ## The reference -/

/-- The reference declares no semaphore, and writes none of its arguments. -/
theorem frameRef : Cert.quiescent_Reference17Ideal (hReference17Ideal := Cert.Reference17Ideal.Gen.facts) := fun m ρ _ =>
  (θ_run Cert.Reference17Ideal.defs _ _).mono (fun r h => ⟨fun c => (h c).2.2, sem_eq_zero_of_no_sems (by decide) r.2⟩)
    (Cert.Reference17Ideal.Value.run (F := Ideal) m ρ)

section
variable (x : FVec Ideal S8192x1024 .bf16) (w : FVec Ideal S1024x4096 .bf16) (i : Fin 8192) (j : Fin 4096)

theorem stage2 : (Read.val_main_v2 (F := Ideal) x w (ix2 i j) : EReal) = mulN (fun r d => x (ix2 r d)) (fun r d => w (ix2 r d)) i j := by
  unfold mulN
  pointwise [Read.val_main_v2, Read.val_main_v1, Read.val_main_v0]

theorem stage3 : (Read.val_main_v3 (F := Ideal) x w (ix2 i j) : EReal) = mulN (fun r d => x (ix2 r d)) (fun r d => w (ix2 r d)) i j := by
  pointwise [Read.val_main_v3, stage2]

theorem stage6 : (Read.val_main_v6 (F := Ideal) x w (ix2 i j) : EReal) = sq (mulN (fun r d => x (ix2 r d)) (fun r d => w (ix2 r d)) i j) := by
  unfold sq
  pointwise [Read.val_main_v6, Read.val_main_v5, Read.val_main_v4, Read.val_main_call0_v0, Read.val_main_call0_cst, stage2]
end

theorem res3 (c : Dev nD) : Read.val_main_v3 (F := Ideal) (m ((c.tc : Thread nD τ).loc main_arg0)) (m ((c.tc : Thread nD τ).loc main_arg1))
    = fun j : S8192x4096.Idx => mulN (aX m c) (aW m c) (j 0) (j 1) := by
  funext j
  exact (congrArg _ (eq_ix2 j)).trans (stage3 _ _ (j 0) (j 1))

theorem res6 (c : Dev nD) : Read.val_main_v6 (F := Ideal) (m ((c.tc : Thread nD τ).loc main_arg0)) (m ((c.tc : Thread nD τ).loc main_arg1))
    = fun j : S8192x4096.Idx => sq (mulN (aX m c) (aW m c) (j 0) (j 1)) := by
  funext j
  exact (congrArg _ (eq_ix2 j)).trans (stage6 _ _ (j 0) (j 1))

theorem algebra : Cert.algebraic_Kernel17Ideal_Reference17Ideal (hKernel17Ideal := Cert.Kernel17Ideal.Gen.facts) (hReference17Ideal := Cert.Reference17Ideal.Gen.facts) := by
  intro m ρ m' ρ' _ hm
  refine ⟨fun c => fun j : S8192x4096.Idx => mulN (aX m c) (aW m c) (j 0) (j 1), fun c => fun j : S8192x4096.Idx => sq (mulN (aX m c) (aW m c) (j 0) (j 1)), ?_, ?_⟩
  · exact (θ_run Cert.Kernel17Ideal.defs _ _).mono (fun r h c => ⟨(h c).1.trans (final2 m c), (h c).2.1.trans (final3 m c), (h c).2.2⟩)
      (Cert.Kernel17Ideal.Value.run_blocks (F := Ideal) m ρ)
  · refine (θ_run Cert.Reference17Ideal.defs _ _).mono (fun r h c =>
      ⟨(h c).1.trans (Eq.trans (Read.val_main_v3_eq (F := Ideal) _ _) ?_), (h c).2.1.trans (Eq.trans (Read.val_main_v6_eq (F := Ideal) _ _) ?_), (h c).2.2⟩)
      (Cert.Reference17Ideal.Value.run (F := Ideal) m' ρ')
    all_goals obtain ⟨h0, h1⟩ := hm c
    · rw [h0, h1]
      exact res3 m c
    · rw [h0, h1]
      exact res6 m c

end Cert.Kernel17Ideal.Val
-- ==== Proof.Ff2.lean ====
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Prod
public import Idealize.ShloMosaic.Lib.Pipeline.ValueKit
public import Idealize.ShloMosaic.Lib.StableHlo.ReadAt

/-! # The feed-forward's second product -/

@[expose] public section
set_option maxRecDepth 16384
noncomputable section
open Idealize.ShloMosaic Idealize.ShloMosaic.TcCoe Idealize.ShloMosaic.StableHlo Idealize.SL.Sem
namespace Cert.Kernel18Ideal.Val
open Cert.Kernel18Ideal Cert.Kernel18Ideal.Gen Cert.Prod Cert.Reference18Ideal

variable (m : (ℓ : Loc nD τ sig) → Buf (Elt Ideal) ℓ)

/-- The arguments' elements. -/
def aX (c : Dev nD) (r : Fin 8192) (d : Fin 4096) : EReal := m ((c : Thread nD τ).loc main_arg0) (ix2 r d)
def aW (c : Dev nD) (r : Fin 4096) (d : Fin 1024) : EReal := m ((c : Thread nD τ).loc main_arg1) (ix2 r d)

theorem idx : ∀ t : Fin cfg0.N, win0_0.index t = ![t.val, 0] ∧ win0_1.index t = ![0, 0] ∧ win0_2.index t = ![t.val, 0] :=
  (by decide +kernel : ∀ t : Fin grid0.N, _)

theorem pay_at (x : Vec Ideal S512x4096 .bf16) (y : Vec Ideal S4096x1024 .bf16) (i : S512x1024.Idx) :
    (k0_pay1 x y i : EReal) = ∑ k : Fin 4096, (x (ix2 (i 0) k) : EReal) * y (ix2 k (i 1)) := by
  pointwise [k0_pay1]

theorem out_at (c : Dev nD) (t : Fin cfg0.N) (y : S512x1024.Idx) : outsAt0 m c t y = k0_pay1 (iblk m c 0 t) (iblk m c 1 t) y := by
  unfold outsAt0
  frame_out

theorem final (c : Dev nD) : (dats m 0 c).arrAt 2 cfg0.N = fun j : S8192x1024.Idx => mulN (aX m c) (aW m c) (j 0) (j 1) := by
  refine (dats m 0 c).arrAt_eq_of_covers 2 _ (by decide +kernel) fun t hf y => ?_
  blk_simp
  rw [after0_2]
  refine (out_at m c t y).trans ((pay_at (iblk m c 0 t) (iblk m c 1 t) y).trans ?_)
  unfold mulN
  refine Finset.sum_congr rfl fun k _ => congrArg₂ (· * ·) ?_ ?_
  · unfold aX; blk_ext [iblk, V, idx t]
  · unfold aW; blk_ext [iblk, V, idx t]

/-! ## The reference -/

/-- The reference declares no semaphore, and writes none of its arguments. -/
theorem frameRef : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run (F := Ideal) m ρ)

theorem stage (x : FVec Ideal S8192x4096 .bf16) (w : FVec Ideal S4096x1024 .bf16) (i : Fin 8192) (j : Fin 1024) :
    (Read.val_main_v3 (F := Ideal) x w (ix2 i j) : EReal) = mulN (fun r d => x (ix2 r d)) (fun r d => w (ix2 r d)) i j := by
  unfold mulN
  pointwise [Read.val_main_v3, Read.val_main_v2, Read.val_main_v1, Read.val_main_v0]

theorem res (c : Dev nD) : Read.val_main_v3 (F := Ideal) (m ((c.tc : Thread nD τ).loc main_arg0)) (m ((c.tc : Thread nD τ).loc main_arg1))
    = fun j : S8192x1024.Idx => mulN (aX m c) (aW m c) (j 0) (j 1) := by
  funext j
  exact (congrArg _ (eq_ix2 j)).trans (stage _ _ (j 0) (j 1))

theorem algebra : Cert.algebraic_Kernel18Ideal_Reference18Ideal (hKernel18Ideal := Cert.Kernel18Ideal.Gen.facts) (hReference18Ideal := Cert.Reference18Ideal.Gen.facts) := by
  intro m ρ m' ρ' _ hm
  refine ⟨fun c => fun j : S8192x1024.Idx => mulN (aX m c) (aW m c) (j 0) (j 1), ?_, ?_⟩
  · exact (θ_run Cert.Kernel18Ideal.defs _ _).mono (fun r h c => ⟨(h c).1.trans (final m c), (h c).2⟩)
      (Cert.Kernel18Ideal.Value.run_blocks (F := Ideal) m ρ)
  · refine (θ_run Cert.Reference18Ideal.defs _ _).mono (fun r h c =>
      ⟨(h c).1.trans (Eq.trans (Read.val_main_v3_eq (F := Ideal) _ _) ?_), (h c).2⟩)
      (Cert.Reference18Ideal.Value.run (F := Ideal) m' ρ')
    obtain ⟨h0, h1⟩ := hm c
    rw [h0, h1]
    exact res m c

end Cert.Kernel18Ideal.Val
-- ==== Proof.Out.lean ====
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.Prod
public import Idealize.ShloMosaic.Lib.Pipeline.ValueKit
public import Idealize.ShloMosaic.Lib.StableHlo.ReadAt

/-! # The mixed branches' output product -/

@[expose] public section
set_option maxRecDepth 16384
noncomputable section
open Idealize.ShloMosaic Idealize.ShloMosaic.TcCoe Idealize.ShloMosaic.StableHlo Idealize.SL.Sem
namespace Cert.Kernel19Ideal.Val
open Cert.Kernel19Ideal Cert.Kernel19Ideal.Gen Cert.Prod Cert.Reference19Ideal

variable (m : (ℓ : Loc nD τ sig) → Buf (Elt Ideal) ℓ)

/-- The arguments' elements. -/
def aX (c : Dev nD) (r : Fin 8192) (d : Fin 1024) : EReal := m ((c : Thread nD τ).loc main_arg0) (ix2 r d)
def aW (c : Dev nD) (r : Fin 1024) (d : Fin 1024) : EReal := m ((c : Thread nD τ).loc main_arg1) (ix2 r d)

theorem idx : ∀ t : Fin cfg0.N, win0_0.index t = ![t.val, 0] ∧ win0_1.index t = ![0, 0] ∧ win0_2.index t = ![t.val, 0] :=
  (by decide +kernel : ∀ t : Fin grid0.N, _)

theorem pay_at (x : Vec Ideal S1024x1024 .bf16) (y : Vec Ideal S1024x1024 .bf16) (i : S1024x1024.Idx) :
    (k0_pay1 x y i : EReal) = ∑ k : Fin 1024, (x (ix2 (i 0) k) : EReal) * y (ix2 k (i 1)) := by
  pointwise [k0_pay1]

theorem out_at (c : Dev nD) (t : Fin cfg0.N) (y : S1024x1024.Idx) : outsAt0 m c t y = k0_pay1 (iblk m c 0 t) (iblk m c 1 t) y := by
  unfold outsAt0
  frame_out

theorem final (c : Dev nD) : (dats m 0 c).arrAt 2 cfg0.N = fun j : S8192x1024.Idx => mulN (aX m c) (aW m c) (j 0) (j 1) := by
  refine (dats m 0 c).arrAt_eq_of_covers 2 _ (by decide +kernel) fun t hf y => ?_
  blk_simp
  rw [after0_2]
  refine (out_at m c t y).trans ((pay_at (iblk m c 0 t) (iblk m c 1 t) y).trans ?_)
  unfold mulN
  refine Finset.sum_congr rfl fun k _ => congrArg₂ (· * ·) ?_ ?_
  · unfold aX; blk_ext [iblk, V, idx t]
  · unfold aW; blk_ext [iblk, V, idx t]

/-! ## The reference -/

/-- The reference declares no semaphore, and writes none of its arguments. -/
theorem frameRef : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)

theorem stage (x : FVec Ideal S8192x1024 .bf16) (w : FVec Ideal S1024x1024 .bf16) (i : Fin 8192) (j : Fin 1024) :
    (Read.val_main_v3 (F := Ideal) x w (ix2 i j) : EReal) = mulN (fun r d => x (ix2 r d)) (fun r d => w (ix2 r d)) i j := by
  unfold mulN
  pointwise [Read.val_main_v3, Read.val_main_v2, Read.val_main_v1, Read.val_main_v0]

theorem res (c : Dev nD) : Read.val_main_v3 (F := Ideal) (m ((c.tc : Thread nD τ).loc main_arg0)) (m ((c.tc : Thread nD τ).loc main_arg1))
    = fun j : S8192x1024.Idx => mulN (aX m c) (aW m c) (j 0) (j 1) := by
  funext j
  exact (congrArg _ (eq_ix2 j)).trans (stage _ _ (j 0) (j 1))

theorem algebra : Cert.algebraic_Kernel19Ideal_Reference19Ideal (hKernel19Ideal := Cert.Kernel19Ideal.Gen.facts) (hReference19Ideal := Cert.Reference19Ideal.Gen.facts) := by
  intro m ρ m' ρ' _ hm
  refine ⟨fun c => fun j : S8192x1024.Idx => mulN (aX m c) (aW m c) (j 0) (j 1), ?_, ?_⟩
  · exact (θ_run Cert.Kernel19Ideal.defs _ _).mono (fun r h c => ⟨(h c).1.trans (final m c), (h c).2⟩)
      (Cert.Kernel19Ideal.Value.run_blocks (F := Ideal) m ρ)
  · refine (θ_run Cert.Reference19Ideal.defs _ _).mono (fun r h c =>
      ⟨(h c).1.trans (Eq.trans (Read.val_main_v3_eq (F := Ideal) _ _) ?_), (h c).2⟩)
      (Cert.Reference19Ideal.Value.run (F := Ideal) m' ρ')
    obtain ⟨h0, h1⟩ := hm c
    rw [h0, h1]
    exact res m c

end Cert.Kernel19Ideal.Val
-- ==== Proof.SsmOut.lean ====
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.Prod
public import Idealize.ShloMosaic.Lib.Pipeline.ValueKit
public import Idealize.ShloMosaic.Lib.StableHlo.ReadAt

/-! # The state-space branch's output product -/

@[expose] public section
set_option maxRecDepth 16384
noncomputable section
open Idealize.ShloMosaic Idealize.ShloMosaic.TcCoe Idealize.ShloMosaic.StableHlo Idealize.SL.Sem
namespace Cert.Kernel20Ideal.Val
open Cert.Kernel20Ideal Cert.Kernel20Ideal.Gen Cert.Prod Cert.Reference20Ideal

variable (m : (ℓ : Loc nD τ sig) → Buf (Elt Ideal) ℓ)

/-- The arguments' elements. -/
def aX (c : Dev nD) (r : Fin 8192) (d : Fin 2048) : EReal := m ((c : Thread nD τ).loc main_arg0) (ix2 r d)
def aW (c : Dev nD) (r : Fin 2048) (d : Fin 1024) : EReal := m ((c : Thread nD τ).loc main_arg1) (ix2 r d)

theorem idx : ∀ t : Fin cfg0.N, win0_0.index t = ![t.val, 0] ∧ win0_1.index t = ![0, 0] ∧ win0_2.index t = ![t.val, 0] :=
  (by decide +kernel : ∀ t : Fin grid0.N, _)

theorem pay_at (x : Vec Ideal S512x2048 .bf16) (y : Vec Ideal S2048x1024 .bf16) (i : S512x1024.Idx) :
    (k0_pay1 x y i : EReal) = ∑ k : Fin 2048, (x (ix2 (i 0) k) : EReal) * y (ix2 k (i 1)) := by
  pointwise [k0_pay1]

theorem out_at (c : Dev nD) (t : Fin cfg0.N) (y : S512x1024.Idx) : outsAt0 m c t y = k0_pay1 (iblk m c 0 t) (iblk m c 1 t) y := by
  unfold outsAt0
  frame_out

theorem final (c : Dev nD) : (dats m 0 c).arrAt 2 cfg0.N = fun j : S8192x1024.Idx => mulN (aX m c) (aW m c) (j 0) (j 1) := by
  refine (dats m 0 c).arrAt_eq_of_covers 2 _ (by decide +kernel) fun t hf y => ?_
  blk_simp
  rw [after0_2]
  refine (out_at m c t y).trans ((pay_at (iblk m c 0 t) (iblk m c 1 t) y).trans ?_)
  unfold mulN
  refine Finset.sum_congr rfl fun k _ => congrArg₂ (· * ·) ?_ ?_
  · unfold aX; blk_ext [iblk, V, idx t]
  · unfold aW; blk_ext [iblk, V, idx t]

/-! ## The reference -/

/-- The reference declares no semaphore, and writes none of its arguments. -/
theorem frameRef : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run (F := Ideal) m ρ)

theorem stage (x : FVec Ideal S8192x2048 .bf16) (w : FVec Ideal S2048x1024 .bf16) (i : Fin 8192) (j : Fin 1024) :
    (Read.val_main_v3 (F := Ideal) x w (ix2 i j) : EReal) = mulN (fun r d => x (ix2 r d)) (fun r d => w (ix2 r d)) i j := by
  unfold mulN
  pointwise [Read.val_main_v3, Read.val_main_v2, Read.val_main_v1, Read.val_main_v0]

theorem res (c : Dev nD) : Read.val_main_v3 (F := Ideal) (m ((c.tc : Thread nD τ).loc main_arg0)) (m ((c.tc : Thread nD τ).loc main_arg1))
    = fun j : S8192x1024.Idx => mulN (aX m c) (aW m c) (j 0) (j 1) := by
  funext j
  exact (congrArg _ (eq_ix2 j)).trans (stage _ _ (j 0) (j 1))

theorem algebra : Cert.algebraic_Kernel20Ideal_Reference20Ideal (hKernel20Ideal := Cert.Kernel20Ideal.Gen.facts) (hReference20Ideal := Cert.Reference20Ideal.Gen.facts) := by
  intro m ρ m' ρ' _ hm
  refine ⟨fun c => fun j : S8192x1024.Idx => mulN (aX m c) (aW m c) (j 0) (j 1), ?_, ?_⟩
  · exact (θ_run Cert.Kernel20Ideal.defs _ _).mono (fun r h c => ⟨(h c).1.trans (final m c), (h c).2⟩)
      (Cert.Kernel20Ideal.Value.run_blocks (F := Ideal) m ρ)
  · refine (θ_run Cert.Reference20Ideal.defs _ _).mono (fun r h c =>
      ⟨(h c).1.trans (Eq.trans (Read.val_main_v3_eq (F := Ideal) _ _) ?_), (h c).2⟩)
      (Cert.Reference20Ideal.Value.run (F := Ideal) m' ρ')
    obtain ⟨h0, h1⟩ := hm c
    rw [h0, h1]
    exact res m c

end Cert.Kernel20Ideal.Val
-- ==== Proof.ProjDt.lean ====
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import proofs.«01_k».proof.Proof.Prod
public import Idealize.ShloMosaic.Lib.Pipeline.ValueKit
public import Idealize.ShloMosaic.Lib.Pipeline.ReadBack
public import Idealize.ShloMosaic.Lib.StableHlo.ReadAt

/-! # The projection's last columns, kept in full precision -/

@[expose] public section
set_option maxRecDepth 16384
noncomputable section
open Idealize.ShloMosaic Idealize.ShloMosaic.TcCoe Idealize.ShloMosaic.StableHlo Idealize.SL.Sem
namespace Cert.Kernel21Ideal.Val
open Cert.Kernel21Ideal Cert.Kernel21Ideal.Gen Cert.Prod Cert.Reference21Ideal

variable (m : (ℓ : Loc nD τ sig) → Buf (Elt Ideal) ℓ)

/-- The arguments' elements: the rows, and the weights' last columns. -/
def aX (c : Dev nD) (r : Fin 8192) (d : Fin 1024) : EReal := m ((c : Thread nD τ).loc main_arg0) (ix2 r d)
def aW (c : Dev nD) (r : Fin 1024) (d : Fin 128) : EReal := m ((c : Thread nD τ).loc main_arg1) (ix2 r ⟨10240 + d, by omega⟩)

theorem idx : ∀ t : Fin cfg0.N, win0_0.index t = ![t.val, 0] ∧ win0_1.index t = ![0, 0] ∧ win0_2.index t = ![t.val, 0] :=
  (by decide +kernel : ∀ t : Fin grid0.N, _)

theorem pay_at (x : Vec Ideal S1024x1024 .bf16) (y : Vec Ideal S1024x128 .bf16) (i : S1024x128.Idx) :
    (k0_pay1 x y i : EReal) = ∑ k : Fin 1024, (x (ix2 (i 0) k) : EReal) * y (ix2 k (i 1)) := by
  pointwise [k0_pay1]

theorem out_at (c : Dev nD) (t : Fin cfg0.N) (y : S1024x128.Idx) : outsAt0 m c t y = k0_pay1 (iblk m c 0 t) (iblk m c 1 t) y := by
  unfold outsAt0
  frame_out

theorem entry (c : Dev nD) (k : Fin 1024) (d : Fin 128) : (V m c main_v0 (ix2 k d) : EReal) = aW m c k d := by
  unfold aW V
  after_reads_at

theorem w_at (c : Dev nD) (t : Fin cfg0.N) (k : Fin 1024) (d : Fin 128) : (iblk m c 1 t (ix2 k d) : EReal) = aW m c k d := by
  rw [← entry]
  blk_ext [iblk, idx t]

theorem final (c : Dev nD) : (dats m 0 c).arrAt 2 cfg0.N = fun j : S8192x128.Idx => mulN (aX m c) (aW m c) (j 0) (j 1) := by
  refine (dats m 0 c).arrAt_eq_of_covers 2 _ (by decide +kernel) fun t hf y => ?_
  blk_simp
  rw [after0_2]
  refine (out_at m c t y).trans ((pay_at (iblk m c 0 t) (iblk m c 1 t) y).trans ?_)
  unfold mulN
  refine Finset.sum_congr rfl fun k _ => congrArg₂ (· * ·) ?_ ((w_at m c t k (y 1)).trans (congrArg (aW m c k) (Fin.ext ?_)))
  · unfold aX; blk_ext [iblk, V, idx t]
  · blk_simp [idx t]

/-! ## The reference -/

/-- The reference declares no semaphore, and writes none of its arguments. -/
theorem frameRef : Cert.quiescent_Reference21Ideal (hReference21Ideal := Cert.Reference21Ideal.Gen.facts) := fun m ρ _ =>
  (θ_run Cert.Reference21Ideal.defs _ _).mono (fun r h => ⟨fun c => (h c).2, sem_eq_zero_of_no_sems (by decide) r.2⟩)
    (Cert.Reference21Ideal.Value.run (F := Ideal) m ρ)

theorem stage (x : FVec Ideal S8192x1024 .bf16) (w : FVec Ideal S1024x10368 .bf16) (i : Fin 8192) (j : Fin 128) :
    (Read.val_main_v3 (F := Ideal) x w (ix2 i j) : EReal) = mulN (fun r d => x (ix2 r d)) (fun r (d : Fin 128) => w (ix2 r ⟨10240 + d, by omega⟩)) i j := by
  unfold mulN
  pointwise [Read.val_main_v3, Read.val_main_v2, Read.val_main_v1, Read.val_main_v0]

theorem res (c : Dev nD) : Read.val_main_v3 (F := Ideal) (m ((c.tc : Thread nD τ).loc main_arg0)) (m ((c.tc : Thread nD τ).loc main_arg1))
    = fun j : S8192x128.Idx => mulN (aX m c) (aW m c) (j 0) (j 1) := by
  funext j
  exact (congrArg _ (eq_ix2 j)).trans (stage _ _ (j 0) (j 1))

theorem algebra : Cert.algebraic_Kernel21Ideal_Reference21Ideal (hKernel21Ideal := Cert.Kernel21Ideal.Gen.facts) (hReference21Ideal := Cert.Reference21Ideal.Gen.facts) := by
  intro m ρ m' ρ' _ hm
  refine ⟨fun c => fun j : S8192x128.Idx => mulN (aX m c) (aW m c) (j 0) (j 1), ?_, ?_⟩
  · exact (θ_run Cert.Kernel21Ideal.defs _ _).mono (fun r h c => ⟨(h c).1.trans (final m c), (h c).2⟩)
      (Cert.Kernel21Ideal.Value.run_blocks (F := Ideal) m ρ)
  · refine (θ_run Cert.Reference21Ideal.defs _ _).mono (fun r h c =>
      ⟨(h c).1.trans (Eq.trans (Read.val_main_v3_eq (F := Ideal) _ _) ?_), (h c).2⟩)
      (Cert.Reference21Ideal.Value.run (F := Ideal) m' ρ')
    all_goals obtain ⟨h0, h1⟩ := hm c
    · rw [h0, h1]; exact res m c

end Cert.Kernel21Ideal.Val
-- ==== Proof.PreNormFwd.lean ====
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import proofs.«01_k».proof.Proof.Norm
public import Idealize.ShloMosaic.Lib.Pipeline.ValueKit
public import Idealize.ShloMosaic.Lib.Pipeline.ReadBack
public import Idealize.ShloMosaic.Lib.StableHlo.ReadAt

/-! # The modulated norm before the mixer -/

@[expose] public section
set_option maxRecDepth 16384
noncomputable section
open Idealize.ShloMosaic Idealize.ShloMosaic.TcCoe Idealize.ShloMosaic.StableHlo Idealize.SL.Sem
namespace Cert.Kernel22Ideal.Val
open Cert.Kernel22Ideal Cert.Kernel22Ideal.Gen Cert.Norm Cert.Reference22Ideal

variable (m : (ℓ : Loc nD τ sig) → Buf (Elt Ideal) ℓ)

/-- The number of lanes of a row. -/
abbrev lanes : EReal := Ideal.ofBits FTy.f32 1149239296#32

/-- The arguments' elements: the rows, the scale and the shift. -/
def aX (c : Dev nD) (r : Fin 8192) (d : Fin 1024) : EReal := m ((c : Thread nD τ).loc main_arg0) (ix2 r d)
def aS (c : Dev nD) (d : Fin 1024) : EReal := m ((c : Thread nD τ).loc main_arg1) (ix2 0 d)
def aB (c : Dev nD) (d : Fin 1024) : EReal := m ((c : Thread nD τ).loc main_arg2) (ix2 0 d)

/-- The result. -/
def out (c : Dev nD) (r : Fin 8192) (d : Fin 1024) : EReal := modn lanes (aX m c r) (aS m c) (aB m c) d

theorem pay1_at (x : Vec Ideal S512x1024 .f32) (s b : Vec Ideal S1x1024 .f32) (r : Fin 512) (d : Fin 1024) :
    (k0_pay1 x s b (ix2 r d) : EReal) = modn lanes (fun k => x (ix2 r k)) (fun k => s (ix2 0 k)) (fun k => b (ix2 0 k)) d := by
  unfold modn nrm msq
  pointwise [k0_pay1]

theorem out_at (x : Vec Ideal S512x1024 .f32) (s b : Vec Ideal S1x1024 .f32) (y : S512x1024.Idx) : out0_3 x s b y = k0_pay1 x s b y := by
  unfold out0_3
  frame_out

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem pt_lt (t : Fin cfg0.N) : t.val < 16 := lt_of_lt_of_eq t.isLt N_0

/-- Row `r` of point `t`'s block. -/
def rk (t : Fin cfg0.N) (r : Fin 512) : Fin 8192 := ⟨t.val * 512 + r, by have := pt_lt t; omega⟩

theorem blk_at (c : Dev nD) (t : Fin cfg0.N) (y : S512x1024.Idx) :
    (out0_3 (F := Ideal) (iblk m c 0 t) (iblk m c 1 t) (iblk m c 2 t) y : EReal) = out m c (rk t (y 0)) (y 1) := by
  refine (out_at _ _ _ y).trans ((congrArg _ (eq_ix2 y)).trans ((pay1_at _ _ _ (y 0) (y 1)).trans ?_))
  have hx : (fun k => (iblk m c 0 t (ix2 (y 0) k) : EReal)) = aX m c (rk t (y 0)) := by
    funext k
    unfold aX rk
    blk_ext [iblk, V, idx t]
  have hs : (fun k => (iblk m c 1 t (ix2 0 k) : EReal)) = aS m c := by
    funext k
    unfold aS
    blk_ext [iblk, V, idx t]
  have hb : (fun k => (iblk m c 2 t (ix2 0 k) : EReal)) = aB m c := by
    funext k
    unfold aB
    blk_ext [iblk, V, idx t]
  unfold out
  rw [← hx, ← hs, ← hb]

theorem final (c : Dev nD) : (dats m 0 c).arrAt 3 cfg0.N = fun j : S8192x1024.Idx => out m c (j 0) (j 1) := by
  refine (dats m 0 c).arrAt_eq_of_covers 3 _ (by decide +kernel) fun t hf y => ?_
  blk_simp
  rw [after0_3]
  refine (blk_at m c t y).trans (congrArg₂ (out m c) (Fin.ext ?_) (Fin.ext ?_))
  · unfold rk; blk_simp [idx t]
  · blk_simp [idx t]

/-! ## The reference -/

/-- The reference declares no semaphore, and writes none of its arguments. -/
theorem frameRef : Cert.quiescent_Reference22Ideal (hReference22Ideal := Cert.Reference22Ideal.Gen.facts) := fun m ρ _ =>
  (θ_run Cert.Reference22Ideal.defs _ _).mono (fun r h => ⟨fun c => (h c).2, sem_eq_zero_of_no_sems (by decide) r.2⟩)
    (Cert.Reference22Ideal.Value.run (F := Ideal) m ρ)

section
open Read
variable (x0 : FVec Ideal S8192x1024 .f32) (x1 x2 : FVec Ideal S1x1024 .f32) (r : Fin 8192) (d : Fin 1024)

theorem s6 : (val_main_v6 (F := Ideal) x0 (ix2 r 0) : EReal) = msq lanes (fun k => x0 (ix2 r k)) := by
  unfold msq
  pointwise [val_main_v6, val_main_v5, val_main_v4, val_main_v3, val_main_v2, val_main_v1, val_main_v0, val_main_cst, val_main_cst_0, val_main_cst_1]

theorem s16 : (val_main_v16 (F := Ideal) x0 x1 x2 (ix2 r d) : EReal)
    = modn lanes (fun k => x0 (ix2 r k)) (fun k => x1 (ix2 0 k)) (fun k => x2 (ix2 0 k)) d := by
  unfold modn nrm
  pointwise [val_main_v16, val_main_v15, val_main_v14, val_main_v13, val_main_v12, val_main_v11, val_main_v10, val_main_v9, val_main_v8, val_main_v7,
    val_main_cst_2, s6]
end

theorem res (c : Dev nD) : Read.val_main_v16 (F := Ideal) (m ((c.tc : Thread nD τ).loc main_arg0)) (m ((c.tc : Thread nD τ).loc main_arg1)) (m ((c.tc : Thread nD τ).loc main_arg2))
    = fun j : S8192x1024.Idx => out m c (j 0) (j 1) := by
  funext j
  exact (congrArg _ (eq_ix2 j)).trans (s16 _ _ _ (j 0) (j 1))

theorem algebra : Cert.algebraic_Kernel22Ideal_Reference22Ideal (hKernel22Ideal := Cert.Kernel22Ideal.Gen.facts) (hReference22Ideal := Cert.Reference22Ideal.Gen.facts) := by
  intro m ρ m' ρ' _ hm
  refine ⟨fun c => fun j : S8192x1024.Idx => out m c (j 0) (j 1), ?_, ?_⟩
  · exact (θ_run Cert.Kernel22Ideal.defs _ _).mono (fun r h c => ⟨(h c).1.trans (final m c), (h c).2⟩)
      (Cert.Kernel22Ideal.Value.run_blocks (F := Ideal) m ρ)
  · refine (θ_run Cert.Reference22Ideal.defs _ _).mono (fun r h c =>
      ⟨(h c).1.trans (Eq.trans (Read.val_main_v16_eq (F := Ideal) _ _ _) ?_), (h c).2⟩)
      (Cert.Reference22Ideal.Value.run (F := Ideal) m' ρ')
    all_goals obtain ⟨h0, h1, h2⟩ := hm c
    · rw [h0, h1, h2]; exact res m c

end Cert.Kernel22Ideal.Val
-- ==== Proof.ResidNormFwd.lean ====
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Norm
public import Idealize.ShloMosaic.Lib.Pipeline.ValueKit
public import Idealize.ShloMosaic.Lib.Pipeline.ReadBack
public import Idealize.ShloMosaic.Lib.StableHlo.ReadAt

/-! # The gated residual and the modulated norm after it -/

@[expose] public section
set_option maxRecDepth 16384
noncomputable section
open Idealize.ShloMosaic Idealize.ShloMosaic.TcCoe Idealize.ShloMosaic.StableHlo Idealize.SL.Sem
namespace Cert.Kernel23Ideal.Val
open Cert.Kernel23Ideal Cert.Kernel23Ideal.Gen Cert.Norm Cert.Reference23Ideal

variable (m : (ℓ : Loc nD τ sig) → Buf (Elt Ideal) ℓ)

/-- The number of lanes of a row. -/
abbrev lanes : EReal := Ideal.ofBits FTy.f32 1149239296#32

/-- The arguments' elements: the residual, what is added to it, its gate, the scale and the shift. -/
def aX (c : Dev nD) (r : Fin 8192) (d : Fin 1024) : EReal := m ((c : Thread nD τ).loc main_arg0) (ix2 r d)
def aO (c : Dev nD) (r : Fin 8192) (d : Fin 1024) : EReal := m ((c : Thread nD τ).loc main_arg1) (ix2 r d)
def aG (c : Dev nD) (d : Fin 1024) : EReal := m ((c : Thread nD τ).loc main_arg2) (ix2 0 d)
def aS (c : Dev nD) (d : Fin 1024) : EReal := m ((c : Thread nD τ).loc main_arg3) (ix2 0 d)
def aB (c : Dev nD) (d : Fin 1024) : EReal := m ((c : Thread nD τ).loc main_arg4) (ix2 0 d)

/-- A row with another one added to it, gated. -/
def sumRow (x o g : Fin 1024 → EReal) (d : Fin 1024) : EReal := x d + g d * o d

/-- The results. -/
def outX (c : Dev nD) (r : Fin 8192) (d : Fin 1024) : EReal := sumRow (aX m c r) (aO m c r) (aG m c) d
def outH (c : Dev nD) (r : Fin 8192) (d : Fin 1024) : EReal := modn lanes (sumRow (aX m c r) (aO m c r) (aG m c)) (aS m c) (aB m c) d

/-- A row of a block. -/
def bx {n : ℕ} (v : (⟨2, ![n, 1024]⟩ : Shape).Idx → EReal) (r : Fin n) (d : Fin 1024) : EReal := v (ix2 r d)

section
variable (x : Vec Ideal S512x1024 .f32) (o : Vec Ideal S512x1024 .bf16) (g s b : Vec Ideal S1x1024 .f32)

theorem pay1_at (r : Fin 512) (d : Fin 1024) : (k0_pay1 x g o (ix2 r d) : EReal) = sumRow (bx x r) (bx o r) (bx g 0) d := by
  unfold sumRow bx
  pointwise [k0_pay1]

theorem pay2_at (r : Fin 512) (d : Fin 1024) :
    (k0_pay2 x g o s b (ix2 r d) : EReal) = modn lanes (sumRow (bx x r) (bx o r) (bx g 0)) (bx s 0) (bx b 0) d := by
  unfold modn nrm msq
  pointwise [k0_pay2, pay1_at]
  rfl

theorem out5_at (y : S512x1024.Idx) : out0_5 x o g s b y = k0_pay1 x g o y := by
  unfold out0_5
  frame_out

theorem out6_at (y : S512x1024.Idx) : out0_6 x o g s b y = k0_pay2 x g o s b y := by
  unfold out0_6
  frame_out
end

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] :=
  (by decide +kernel : ∀ t : Fin grid0.N, _)

theorem pt_lt (t : Fin cfg0.N) : t.val < 16 := lt_of_lt_of_eq t.isLt N_0

/-- Row `r` of point `t`'s block. -/
def rk (t : Fin cfg0.N) (r : Fin 512) : Fin 8192 := ⟨t.val * 512 + r, by have := pt_lt t; omega⟩

section
variable (c : Dev nD) (t : Fin cfg0.N)
theorem x_at (r : Fin 512) : bx (n := 512) (iblk m c 0 t) r = aX m c (rk t r) := by
  funext k
  unfold aX rk bx
  blk_ext [iblk, V, idx t]

theorem o_at (r : Fin 512) : bx (n := 512) (iblk m c 1 t) r = aO m c (rk t r) := by
  funext k
  unfold aO rk bx
  blk_ext [iblk, V, idx t]

theorem g_at : bx (n := 1) (iblk m c 2 t) 0 = aG m c := by
  funext k
  unfold aG bx
  blk_ext [iblk, V, idx t]

theorem s_at : bx (n := 1) (iblk m c 3 t) 0 = aS m c := by
  funext k
  unfold aS bx
  blk_ext [iblk, V, idx t]

theorem b_at : bx (n := 1) (iblk m c 4 t) 0 = aB m c := by
  funext k
  unfold aB bx
  blk_ext [iblk, V, idx t]

theorem sum_at (r : Fin 512) : sumRow (bx (n := 512) (iblk m c 0 t) r) (bx (n := 512) (iblk m c 1 t) r) (bx (n := 1) (iblk m c 2 t) 0)
    = sumRow (aX m c (rk t r)) (aO m c (rk t r)) (aG m c) := by
  rw [x_at, o_at, g_at]

theorem mod_at (r : Fin 512) (d : Fin 1024) :
    modn lanes (sumRow (bx (n := 512) (iblk m c 0 t) r) (bx (n := 512) (iblk m c 1 t) r) (bx (n := 1) (iblk m c 2 t) 0))
      (bx (n := 1) (iblk m c 3 t) 0) (bx (n := 1) (iblk m c 4 t) 0) d = outH m c (rk t r) d := by
  rw [sum_at, s_at, b_at]
  rfl

theorem blk5 (y : S512x1024.Idx) :
    (out0_5 (F := Ideal) (iblk m c 0 t) (iblk m c 1 t) (iblk m c 2 t) (iblk m c 3 t) (iblk m c 4 t) y : EReal) = outX m c (rk t (y 0)) (y 1) :=
  (out5_at _ _ _ _ _ y).trans ((congrArg _ (eq_ix2 y)).trans ((pay1_at _ _ _ (y 0) (y 1)).trans (congrFun (sum_at m c t (y 0)) (y 1))))

theorem blk6 (y : S512x1024.Idx) :
    (out0_6 (F := Ideal) (iblk m c 0 t) (iblk m c 1 t) (iblk m c 2 t) (iblk m c 3 t) (iblk m c 4 t) y : EReal) = outH m c (rk t (y 0)) (y 1) :=
  (out6_at _ _ _ _ _ y).trans ((congrArg _ (eq_ix2 y)).trans ((pay2_at _ _ _ _ _ (y 0) (y 1)).trans (mod_at m c t (y 0) (y 1))))
end

theorem final5 (c : Dev nD) : (dats m 0 c).arrAt 5 cfg0.N = fun j : S8192x1024.Idx => outX m c (j 0) (j 1) := by
  refine (dats m 0 c).arrAt_eq_of_covers 5 _ (by decide +kernel) fun t hf y => ?_
  blk_simp
  rw [after0_5]
  refine (blk5 m c t y).trans (congrArg₂ (outX m c) (Fin.ext ?_) (Fin.ext ?_))
  · unfold rk; blk_simp [idx t]
  · blk_simp [idx t]

theorem final6 (c : Dev nD) : (dats m 0 c).arrAt 6 cfg0.N = fun j : S8192x1024.Idx => outH m c (j 0) (j 1) := by
  refine (dats m 0 c).arrAt_eq_of_covers 6 _ (by decide +kernel) fun t hf y => ?_
  blk_simp
  rw [after0_6]
  refine (blk6 m c t y).trans (congrArg₂ (outH m c) (Fin.ext ?_) (Fin.ext ?_))
  · unfold rk; blk_simp [idx t]
  · blk_simp [idx t]

/-! ## The reference -/

/-- The reference declares no semaphore, and writes none of its arguments. -/
theorem frameRef : Cert.quiescent_Reference23Ideal (hReference23Ideal := Cert.Reference23Ideal.Gen.facts) := fun m ρ _ =>
  (θ_run Cert.Reference23Ideal.defs _ _).mono (fun r h => ⟨fun c => (h c).2.2, sem_eq_zero_of_no_sems (by decide) r.2⟩)
    (Cert.Reference23Ideal.Value.run (F := Ideal) m ρ)

section
open Read
variable (x0 : FVec Ideal S8192x1024 .f32) (x1 : FVec Ideal S8192x1024 .bf16) (x2 x3 x4 : FVec Ideal S1x1024 .f32) (r : Fin 8192) (d : Fin 1024)

theorem s3 : (val_main_v3 (F := Ideal) x0 x1 x2 (ix2 r d) : EReal) = sumRow (bx x0 r) (bx x1 r) (bx x2 0) d := by
  unfold sumRow bx
  pointwise [val_main_v3, val_main_v2, val_main_v1, val_main_v0]

theorem s10 : (val_main_v10 (F := Ideal) x0 x1 x2 (ix2 r 0) : EReal) = msq lanes (sumRow (bx x0 r) (bx x1 r) (bx x2 0)) := by
  unfold msq
  pointwise [val_main_v10, val_main_v9, val_main_v8, val_main_v7, val_main_v6, val_main_v5, val_main_v4, val_main_cst, val_main_cst_0, val_main_cst_1, s3]

theorem s20 : (val_main_v20 (F := Ideal) x0 x1 x2 x3 x4 (ix2 r d) : EReal)
    = modn lanes (sumRow (bx x0 r) (bx x1 r) (bx x2 0)) (bx x3 0) (bx x4 0) d := by
  unfold modn nrm
  pointwise [val_main_v20, val_main_v19, val_main_v18, val_main_v17, val_main_v16, val_main_v15, val_main_v14, val_main_v13, val_main_v12, val_main_v11,
    val_main_cst_2, s10, s3]
  rfl
end

section
variable (c : Dev nD)
theorem res0 : Read.val_main_v3 (F := Ideal) (m ((c.tc : Thread nD τ).loc main_arg0)) (m ((c.tc : Thread nD τ).loc main_arg1)) (m ((c.tc : Thread nD τ).loc main_arg2))
    = fun j : S8192x1024.Idx => outX m c (j 0) (j 1) := by
  funext j
  exact (congrArg _ (eq_ix2 j)).trans (s3 _ _ _ (j 0) (j 1))

theorem res1 : Read.val_main_v20 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))
    = fun j : S8192x1024.Idx => outH m c (j 0) (j 1) := by
  funext j
  exact (congrArg _ (eq_ix2 j)).trans (s20 _ _ _ _ _ (j 0) (j 1))
end

theorem algebra : Cert.algebraic_Kernel23Ideal_Reference23Ideal (hKernel23Ideal := Cert.Kernel23Ideal.Gen.facts) (hReference23Ideal := Cert.Reference23Ideal.Gen.facts) := by
  intro m ρ m' ρ' _ hm
  refine ⟨fun c => fun j : S8192x1024.Idx => outX m c (j 0) (j 1), fun c => fun j : S8192x1024.Idx => outH m c (j 0) (j 1), ?_, ?_⟩
  · exact (θ_run Cert.Kernel23Ideal.defs _ _).mono (fun r h c => ⟨(h c).1.trans (final5 m c), (h c).2.1.trans (final6 m c), (h c).2.2⟩)
      (Cert.Kernel23Ideal.Value.run_blocks (F := Ideal) m ρ)
  · refine (θ_run Cert.Reference23Ideal.defs _ _).mono (fun r h c =>
      ⟨(h c).1.trans (Eq.trans (Read.val_main_v3_eq (F := Ideal) _ _ _) ?_), (h c).2.1.trans (Eq.trans (Read.val_main_v20_eq (F := Ideal) _ _ _ _ _) ?_), (h c).2.2⟩)
      (Cert.Reference23Ideal.Value.run (F := Ideal) m' ρ')
    all_goals obtain ⟨h0, h1, h2, h3, h4⟩ := hm c
    · rw [h0, h1, h2]; exact res0 m c
    · rw [h0, h1, h2, h3, h4]; exact res1 m c

end Cert.Kernel23Ideal.Val
-- ==== Proof.GateNormFwd.lean ====
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.GateNormRef
public import Idealize.ShloMosaic.Lib.Pipeline.ValueKit
public import Idealize.ShloMosaic.Lib.Pipeline.ReadBack
public import Idealize.ShloMosaic.Lib.StableHlo.ReadAt

/-! # The gated norm over groups of 256 lanes -/

@[expose] public section
set_option maxRecDepth 16384
noncomputable section
open Idealize.ShloMosaic Idealize.ShloMosaic.TcCoe Idealize.ShloMosaic.StableHlo Idealize.SL.Sem
namespace Cert.Kernel24Ideal.Val
open Cert.Kernel24Ideal Cert.Kernel24Ideal.Gen Cert.Norm Cert.Reference24Ideal
open Cert.Kernel7Ideal.Val (lanes gate tX grp pos col part gp col_of bx bR inb2 ld_row pos_eq)

variable (m : (ℓ : Loc nD τ sig) → Buf (Elt Ideal) ℓ)

/-- The gated and normalised row of a group, scaled, -/
def tN (y z w : Fin 256 → EReal) (e : Fin 256) : EReal := nrm lanes (tX y z) e * w e
/-- and of all the groups. -/
def rN (y z w : Fin 2048 → EReal) (c : Fin 2048) : EReal := tN (part y c) (part z c) (part w c) (pos c)

/-- The arguments' elements: the rows, -/
def aY (c : Dev nD) (r : Fin 8192) (d : Fin 2048) : EReal := m ((c : Thread nD τ).loc main_arg0) (ix2 r d)
/-- the gate's argument, in the projection's columns from 2048 on, -/
def aZ (c : Dev nD) (r : Fin 8192) (d : Fin 2048) : EReal := m ((c : Thread nD τ).loc main_arg1) (ix2 r ⟨2048 + d, by omega⟩)
/-- and the scale. -/
def aW (c : Dev nD) (d : Fin 2048) : EReal := m ((c : Thread nD τ).loc main_arg2) (ix2 0 d)

/-- The result. -/
def out (c : Dev nD) (r : Fin 8192) (d : Fin 2048) : EReal := rN (aY m c r) (aZ m c r) (aW m c) d

/-! ## One tile -/

section
variable (y : Vec Ideal S256x256 .f32) (z : Vec Ideal S256x256 .bf16) (w : Vec Ideal S1x256 .f32) (r e : Fin 256)

theorem pay6_at : (k0_pay6 (F := Ideal) y z (ix2 r e) : EReal) = tX (bx y r) (bx z r) e := by
  unfold tX gate bx
  pointwise [k0_pay6]

theorem pay7_at : (k0_pay7 (F := Ideal) y z (ix2 r 0) + Ideal.ofBits FTy.f32 897988541#32 : EReal) = msq lanes (tX (bx y r) (bx z r)) := by
  unfold msq
  pointwise [k0_pay7, pay6_at]

/-- The tile's result. -/
def pN : FVec Ideal S256x256 .bf16 := k0_pay8 (F := Ideal) w (k0_pay6 y z) (k0_pay7 y z)

theorem pN_at : (pN y z w (ix2 r e) : EReal) = tN (bx y r) (bx z r) (bx w 0) e := by
  unfold tN nrm pN
  rw [← pay7_at]
  pointwise [k0_pay8, pay6_at]
  rfl
end

/-! ## One block -/

section
variable (Y : Vec Ideal S256x2048 .f32) (Z : Vec Ideal S256x2048 .bf16) (W : Vec Ideal S1x2048 .f32)

theorem key (y : S256x2048.Idx) (o : ℕ) (x : S256x256.Idx) (hr : ((y 0 : Fin 256) : ℕ) = (x 0 : Fin 256)) (hl : ((y 1 : Fin 2048) : ℕ) = o + (x 1 : Fin 256))
    (ho : o ≤ 1792) (hd : o % 256 = 0) :
    (pN (View.ld Y (Rect.unit (s := S256x2048) ![0, o] ![256, 256] (inb2 ho))) (View.ld Z (Rect.unit (s := S256x2048) ![0, o] ![256, 256] (inb2 ho)))
        (View.ld W (Rect.unit (s := S1x2048) ![0, o] ![1, 256] (inb2 ho))) x : EReal)
      = rN (bR Y (y 0)) (bR Z (y 0)) (bR W 0) (y 1) := by
  rw [show (y 0 : Fin 256) = x 0 from Fin.ext hr]
  refine (congrArg _ (eq_ix2 x)).trans ((pN_at _ _ _ (x 0) (x 1)).trans ?_)
  unfold rN
  rw [pos_eq o (x 1) (y 1) hl hd, ← ld_row Y ho hd (x 0) (y 1) (x 1) hl, ← ld_row Z ho hd (x 0) (y 1) (x 1) hl, ← ld_row W ho hd 0 (y 1) (x 1) hl]
  rfl
end

theorem step (c : Dev nD) (t : Fin cfg0.N) (y : S256x2048.Idx) : (outsAt0 m c t y : EReal)
    = rN (bR (n := 256) (iblk m c 0 t) (y 0)) (bR (n := 256) (X0_1 m c t) (y 0)) (bR (n := 1) (iblk m c 2 t) 0) (y 1) := by
  unfold outsAt0
  frame_out
  canon_tiles x h
  · exact key _ _ _ y 1792 x h0 h1 (by decide) (by decide)
  · exact key _ _ _ y 1536 x h0 h1 (by decide) (by decide)
  · exact key _ _ _ y 1280 x h0 h1 (by decide) (by decide)
  · exact key _ _ _ y 1024 x h0 h1 (by decide) (by decide)
  · exact key _ _ _ y 768 x h0 h1 (by decide) (by decide)
  · exact key _ _ _ y 512 x h0 h1 (by decide) (by decide)
  · exact key _ _ _ y 256 x h0 h1 (by decide) (by decide)
  · exact key _ _ _ y 0 x h0 (by omega) (by decide) (by decide)

theorem pt_lt (t : Fin cfg0.N) : t.val < 32 := lt_of_lt_of_eq t.isLt N_0

/-- Row `r` of point `t`'s block. -/
def rk (t : Fin cfg0.N) (r : Fin 256) : Fin 8192 := ⟨t.val * 256 + r, by have := pt_lt t; omega⟩

theorem idx : ∀ t : Fin cfg0.N, win0_0.index t = ![t.val, 0] ∧ win0_1.index t = ![t.val, 1] ∧ win0_2.index t = ![0, 0] ∧ win0_3.index t = ![t.val, 0] :=
  (by decide +kernel : ∀ t : Fin grid0.N, _)

theorem y_at (c : Dev nD) (t : Fin cfg0.N) (r : Fin 256) : bR (n := 256) (iblk m c 0 t) r = aY m c (rk t r) := by
  funext d
  unfold aY rk bR
  blk_point [iblk, V, idx t]

theorem z_at (c : Dev nD) (t : Fin cfg0.N) (r : Fin 256) : bR (n := 256) (X0_1 m c t) r = aZ m c (rk t r) := by
  funext d
  unfold bR X0_1 Pipeline.Window.fill
  rw [dif_pos (moved0_1 t _)]
  unfold aZ rk
  blk_point [iblk, V, idx t]

theorem w_at (c : Dev nD) (t : Fin cfg0.N) : bR (n := 1) (iblk m c 2 t) 0 = aW m c := by
  funext d
  unfold aW bR
  blk_point [iblk, V, idx t]

theorem out_at (c : Dev nD) (t : Fin cfg0.N) (r : Fin 256) (d : Fin 2048) :
    rN (bR (n := 256) (iblk m c 0 t) r) (bR (n := 256) (X0_1 m c t) r) (bR (n := 1) (iblk m c 2 t) 0) d = out m c (rk t r) d := by
  rw [y_at, z_at, w_at]
  rfl

theorem final (c : Dev nD) : (dats m 0 c).arrAt 3 cfg0.N = fun j : S8192x2048.Idx => out m c (j 0) (j 1) := by
  refine (dats m 0 c).arrAt_eq_of_covers 3 _ (by decide +kernel) fun t hf y => ?_
  blk_simp
  rw [after0_3]
  refine ((step m c t y).trans (out_at m c t (y 0) (y 1))).trans (congrArg₂ (out m c) (Fin.ext ?_) (Fin.ext ?_))
  · unfold rk; blk_simp [idx t]
  · blk_simp [idx t]

/-! ## The reference -/

/-- The reference declares no semaphore, and writes none of its arguments. -/
theorem frameRef : Cert.quiescent_Reference24Ideal (hReference24Ideal := Cert.Reference24Ideal.Gen.facts) := fun m ρ _ =>
  (θ_run Cert.Reference24Ideal.defs _ _).mono (fun r h => ⟨fun c => (h c).2, sem_eq_zero_of_no_sems (by decide) r.2⟩)
    (Cert.Reference24Ideal.Value.run (F := Ideal) m ρ)

section
open Read
variable (x0 : FVec Ideal S8192x2048 .f32) (x1 : FVec Ideal S8192x10368 .bf16) (x2 : FVec Ideal S1x2048 .f32) (r : Fin 8192) (d : Fin 2048) (g : Fin 8) (e : Fin 256)

/-- The arguments' rows. -/
def fY (d : Fin 2048) : EReal := x0 (ix2 r d)
def fZ (d : Fin 2048) : EReal := x1 (ix2 r ⟨2048 + d, by omega⟩)
def fW (d : Fin 2048) : EReal := x2 (ix2 0 d)

theorem s1 : (val_main_v1 (F := Ideal) x1 (ix2 r d) : EReal) = fZ x1 r d := by
  unfold fZ
  pointwise [val_main_v1, val_main_v0]

theorem s2 : (val_main_v2 (F := Ideal) x1 (ix2 r d) : EReal) = gate (fZ x1 r d) := by
  unfold gate
  pointwise [val_main_v2, val_main_call0_v5, val_main_call0_v4, val_main_call0_cst_0, val_main_call0_v3, val_main_call0_v2, val_main_call0_cst,
    val_main_call0_v1, val_main_call0_v0, s1]
  rfl

theorem s3 : (val_main_v3 (F := Ideal) x0 x1 (ix2 r d) : EReal) = fY x0 r d * gate (fZ x1 r d) := by
  unfold fY
  pointwise [val_main_v3, s2]

/-- The gated row of a group. -/
abbrev qX : Fin 256 → EReal := tX (gp (fY x0 r) g) (gp (fZ x1 r) g)

theorem s4 : (val_main_v4 (F := Ideal) x0 x1 (ix3 r g e) : EReal) = qX x0 x1 r g e := by
  refine Eq.trans ?_ (s3 x0 x1 r (col g e))
  rw [val_main_v4_apply]
  congr 1
  funext a
  apply Fin.ext
  match a with
  | ⟨0, _⟩ => show (((r : ℕ) * 8 + g) * 256 + e) / 2048 = (r : ℕ); omega
  | ⟨1, _⟩ => show (((r : ℕ) * 8 + g) * 256 + e) % 2048 = (g : ℕ) * 256 + e; omega

theorem s11 : (val_main_v11 (F := Ideal) x0 x1 (ix3 r g 0) : EReal) = msq lanes (qX x0 x1 r g) := by
  unfold msq
  pointwise [val_main_v11, val_main_v10, val_main_v9, val_main_v8, val_main_v7, val_main_v6, val_main_v5, val_main_cst, val_main_cst_1, val_main_cst_0, s4]

theorem s14 : (val_main_v14 (F := Ideal) x0 x1 (ix3 r g e) : EReal) = nrm lanes (qX x0 x1 r g) e := by
  unfold nrm
  pointwise [val_main_v14, val_main_v13, val_main_v12, s11, s4]

theorem s15 : (val_main_v15 (F := Ideal) x0 x1 (ix2 r d) : EReal) = nrm lanes (qX x0 x1 r (grp d)) (pos d) := by
  rw [← s14, val_main_v15_apply]
  congr 1
  funext a
  apply Fin.ext
  match a with
  | ⟨0, _⟩ => show ((r : ℕ) * 2048 + d) / 2048 = (r : ℕ); omega
  | ⟨1, _⟩ => show ((r : ℕ) * 2048 + d) / 256 % 8 = (d : ℕ) / 256; omega
  | ⟨2, _⟩ => show ((r : ℕ) * 2048 + d) % 256 = (d : ℕ) % 256; omega

theorem s18 : (val_main_v18 (F := Ideal) x0 x1 x2 (ix2 r d) : EReal) = rN (fY x0 r) (fZ x1 r) (fW x2) d := by
  show _ = nrm lanes (qX x0 x1 r (grp d)) (pos d) * fW x2 (col (grp d) (pos d))
  rw [col_of]
  unfold fW
  pointwise [val_main_v18, val_main_v17, val_main_v16, s15]
end

theorem res (c : Dev nD) : Read.val_main_v18 (F := Ideal) (m ((c.tc : Thread nD τ).loc main_arg0)) (m ((c.tc : Thread nD τ).loc main_arg1)) (m ((c.tc : Thread nD τ).loc main_arg2))
    = fun j : S8192x2048.Idx => out m c (j 0) (j 1) := by
  funext j
  exact (congrArg _ (eq_ix2 j)).trans (s18 _ _ _ (j 0) (j 1))

theorem algebra : Cert.algebraic_Kernel24Ideal_Reference24Ideal (hKernel24Ideal := Cert.Kernel24Ideal.Gen.facts) (hReference24Ideal := Cert.Reference24Ideal.Gen.facts) := by
  intro m ρ m' ρ' _ hm
  refine ⟨fun c => fun j : S8192x2048.Idx => out m c (j 0) (j 1), ?_, ?_⟩
  · exact (θ_run Cert.Kernel24Ideal.defs _ _).mono (fun r h c => ⟨(h c).1.trans (final m c), (h c).2⟩)
      (Cert.Kernel24Ideal.Value.run_blocks (F := Ideal) m ρ)
  · refine (θ_run Cert.Reference24Ideal.defs _ _).mono (fun r h c =>
      ⟨(h c).1.trans (Eq.trans (Read.val_main_v18_eq (F := Ideal) _ _ _) ?_), (h c).2⟩)
      (Cert.Reference24Ideal.Value.run (F := Ideal) m' ρ')
    all_goals obtain ⟨h0, h1, h2⟩ := hm c
    · rw [h0, h1, h2]; exact res m c

end Cert.Kernel24Ideal.Val
-- ==== Proof.KVoc.lean ====
module

public import proofs.«01_k».proof.Proof.Gen.KernelIdeal.Value
public import proofs.«01_k».proof.Proof.Spec

/-! # What a grid point leaves in the kernel's blocks: vocabulary -/

@[expose] public section
set_option maxRecDepth 16384
noncomputable section
open Idealize.ShloMosaic Idealize.ShloMosaic.TcCoe Idealize.SL.Sem
namespace Cert.KernelIdeal.Val
open Cert.KernelIdeal Cert.KernelIdeal.Gen Cert.Sgu
variable (m : (ℓ : Loc nD τ sig) → Buf (Elt Ideal) ℓ)

/-- The 0/1 matrix of the causal order. -/
def causal : FVec Ideal S128x128 .f32 := fun y => tri (y 0) (y 1)

/-- A comparison of two small naturals, widened and converted, is 1 or 0. -/
theorem sge_nat (a b : ℕ) (ha : a < 128) (hb : b < 128) :
    (FloatOps.sitofp (F := Ideal) FTy.f32 (BitVec.setWidth 32 (IntOp.cmpi CmpIPredicate.sge (BitVec.ofNat 32 a) (BitVec.ofNat 32 b))) : EReal)
      = if b ≤ a then 1 else 0 := by
  have e : IntOp.cmpi CmpIPredicate.sge (BitVec.ofNat 32 a) (BitVec.ofNat 32 b) = if b ≤ a then 1#1 else 0#1 := by
    show BitVec.ofBool (BitVec.sle (BitVec.ofNat 32 b) (BitVec.ofNat 32 a)) = _
    have : BitVec.sle (BitVec.ofNat 32 b) (BitVec.ofNat 32 a) = decide (b ≤ a) := by
      rw [BitVec.sle_eq_decide, BitVec.toInt_eq_toNat_of_lt, BitVec.toInt_eq_toNat_of_lt]
      · simp only [BitVec.toNat_ofNat]
        have h1 : b % 2 ^ 32 = b := Nat.mod_eq_of_lt (by omega)
        have h2 : a % 2 ^ 32 = a := Nat.mod_eq_of_lt (by omega)
        rw [h1, h2]; simp
      · simp only [BitVec.toNat_ofNat]; omega
      · simp only [BitVec.toNat_ofNat]; omega
    rw [this]
    split <;> rename_i h <;> simp [h]
  rw [e]
  split
  · simp [FloatOps.sitofp]
  · simp [FloatOps.sitofp]

theorem causal_eq : k0_pay24 (F := Ideal) = causal := by
  funext y
  pointwise [k0_pay24, causal, tri]
  exact sge_nat _ _ (y 0).isLt (y 1).isLt

/-- Row `i` of chunk `k` of a block of two chunks. -/
def row (k : Fin 2) (i : Fin 128) : Fin 256 := ⟨k * 128 + i, by omega⟩

/-- The chunk of a row of the block, -/
def chk (r : Fin 256) : Fin 2 := ⟨r / 128, by omega⟩

/-- and its place in the chunk. -/
def pos (r : Fin 256) : Fin 128 := ⟨r % 128, by omega⟩

/-- One chunk's part of the gradient of the mixing matrices. -/
def dwsB (cz : FVec Ideal S128x128 .f32) (ug dy : FVec Ideal S256x1024 .f32) (vnb : FVec Ideal S256x1024 .bf16) (k : Fin 2) (y : S8x128x128.Idx) : EReal :=
  cz (ix2 (y 1) (y 2)) * ∑ e : Fin 128,
    (dy (ix2 (row k (y 1)) (lane (y 0) e)) * ug (ix2 (row k (y 1)) (lane (y 0) e))) * vnb (ix2 (row k (y 2)) (lane (y 0) e))

/-- One chunk's part of the gradient of the biases. -/
def dbsB (ug dy : FVec Ideal S256x1024 .f32) (k : Fin 2) (y : S128x8.Idx) : EReal :=
  ∑ e : Fin 128, dy (ix2 (row k (y 0)) (lane (y 1) e)) * ug (ix2 (row k (y 0)) (lane (y 1) e))

/-- The incoming gradient times the mixture, on the block. -/
def dugB (dy : FVec Ideal S256x1024 .f32) (vnb : FVec Ideal S256x1024 .bf16) (ws : Vec Ideal S8x128x128 .bf16) (bs : Vec Ideal S128x8 .f32) :
    Vec Ideal S256x1024 .f32 := fun y =>
  (dy y : EReal) * (∑ j : Fin 128, ws (ix3 (grp (y 1)) (pos (y 0)) j) * vnb (ix2 (row (chk (y 0)) j) (y 1)) + bs (ix2 (pos (y 0)) (grp (y 1))))

/-- The transposed mixture of the gradient, on the block. -/
def dvnB (ug dy : FVec Ideal S256x1024 .f32) (ws : Vec Ideal S8x128x128 .bf16) : Vec Ideal S256x1024 .f32 := fun y =>
  (∑ i : Fin 128, ws (ix3 (grp (y 1)) i (pos (y 0))) * (dy (ix2 (row (chk (y 0)) i) (y 1)) * ug (ix2 (row (chk (y 0)) i) (y 1))) : EReal)

end Cert.KernelIdeal.Val
-- ==== Proof.KBlock6.lean ====
module

public import proofs.«01_k».proof.Proof.Gen.KernelIdeal.Value
public import proofs.«01_k».proof.Proof.KVoc

/-! # The gradients of the two factors after one grid point -/

@[expose] public section
set_option maxRecDepth 16384
noncomputable section
open Idealize.ShloMosaic Idealize.ShloMosaic.TcCoe Idealize.SL.Sem
namespace Cert.KernelIdeal.Val
open Cert.KernelIdeal Cert.KernelIdeal.Gen Cert.Sgu
variable (m : (ℓ : Loc nD τ sig) → Buf (Elt Ideal) ℓ)

/-- The gradient of `u` on the block. -/
def duB (X0 : Vec Ideal S256x1024 .bf16) (S : Vec Ideal S256x1024 .f32) : FVec Ideal S256x1024 .bf16 :=
  k0_pay154 (k0_pay6 X0) (k0_pay8 X0) (k0_pay10 X0) (k0_pay11 X0) S

/-- The gradient of `v` on the block. -/
def dvB (X1 : Vec Ideal S256x1024 .bf16) (w : Vec Ideal S1x1024 .f32) (S : Vec Ideal S256x1024 .f32) : FVec Ideal S256x1024 .bf16 :=
  k0_pay1 (k0_pay153 (k0_pay7 X1) (k0_pay13 X1) (k0_pay15 (k0_pay14 X1)) (k0_pay16 (k0_pay14 X1)) (k0_pay17 (k0_pay7 X1) (k0_pay14 X1))
    (k0_pay151 w (k0_pay19 (k0_pay7 X1) (k0_pay14 X1)) S)
    (k0_pay152 w (k0_pay17 (k0_pay7 X1) (k0_pay14 X1)) (k0_pay20 (k0_pay7 X1) (k0_pay14 X1)) S))

/-- The two gradients side by side. -/
def out6 (A B : FVec Ideal S256x1024 .bf16) (y : S256x2048.Idx) : EReal :=
  if h : (y 1 : ℕ) < 1024 then A (ix2 (y 0) ⟨y 1, h⟩) else B (ix2 (y 0) ⟨y 1 - 1024, by have h1 : (y 1 : ℕ) < 2048 := (y 1).isLt; show (y 1 : ℕ) - 1024 < 1024; omega⟩)

theorem step6_B (c : Dev nD) (t : Fin cfg0.N) (h : ¬ t.val % 32 = 0) (y : S256x2048.Idx) : (outsAt0 m c t.val t.isLt).1 y =
    out6 (duB (X0_0 m c t) (dugB (k0_pay23 (iblk m c 5 t)) (k0_pay22 (k0_pay7 (X0_1 m c t)) (iblk m c 2 t) (k0_pay14 (X0_1 m c t))) (iblk m c 3 t) (iblk m c 4 t)))
      (dvB (X0_1 m c t) (iblk m c 2 t) (dvnB (k0_pay12 (X0_0 m c t)) (k0_pay23 (iblk m c 5 t)) (iblk m c 3 t))) y := by
  rw [outsAt0_B m c t h]
  frame_open
  simp (disch := decide) only [↓ View.readCov_skip, ↓ View.readCov_cons_toLoadRect, ↓ View.readCov_fill]
  frame_out
  clear h
  rw [View.readCov_whole (G := dvnB (k0_pay12 (X0_0 m c t)) (k0_pay23 (iblk m c 5 t)) (iblk m c 3 t)) (h := by decide),
    View.readCov_whole (G := dugB (k0_pay23 (iblk m c 5 t)) (k0_pay22 (k0_pay7 (X0_1 m c t)) (iblk m c 2 t) (k0_pay14 (X0_1 m c t))) (iblk m c 3 t) (iblk m c 4 t)) (h := by decide)]
  · generalize dugB (k0_pay23 (iblk m c 5 t)) (k0_pay22 (k0_pay7 (X0_1 m c t)) (iblk m c 2 t) (k0_pay14 (X0_1 m c t))) (iblk m c 3 t) (iblk m c 4 t) = G1
    generalize dvnB (k0_pay12 (X0_0 m c t)) (k0_pay23 (iblk m c 5 t)) (iblk m c 3 t) = G2
    canon_tiles x h
    · have hn : ¬ (y 1 : ℕ) < 1024 := by omega
      unfold out6
      rw [dif_neg hn]
      show dvB (X0_1 m c t) (iblk m c 2 t) G2 x = _
      generalize dvB (X0_1 m c t) (iblk m c 2 t) G2 = T
      blk_ext
    · have hn : (y 1 : ℕ) < 1024 := by omega
      unfold out6
      rw [dif_pos hn]
      show duB (X0_0 m c t) G1 x = _
      generalize duB (X0_0 m c t) G1 = T
      blk_ext
  · intro y
    simp only [k0_pay26, k0_pay25]
    generalize iblk m c 3 t = ws
    generalize iblk m c 4 t = bs
    generalize k0_pay23 (iblk m c 5 t) = dy
    generalize k0_pay22 (k0_pay7 (X0_1 m c t)) (iblk m c 2 t) (k0_pay14 (X0_1 m c t)) = vnb
    unfold dugB
    canon_tiles x h
    all_goals (open_payloads; pointwise [row, chk, pos, grp, lane]; blk_point [])
  · intro y
    generalize iblk m c 3 t = ws
    generalize k0_pay12 (X0_0 m c t) = ug
    generalize k0_pay23 (iblk m c 5 t) = dy
    unfold dvnB
    canon_tiles x h
    all_goals (open_payloads; pointwise [row, chk, pos, grp, lane]; blk_point [])

theorem step6_A (c : Dev nD) (t : Fin cfg0.N) (h : t.val % 32 = 0) (y : S256x2048.Idx) : (outsAt0 m c t.val t.isLt).1 y =
    out6 (duB (X0_0 m c t) (dugB (k0_pay23 (iblk m c 5 t)) (k0_pay22 (k0_pay7 (X0_1 m c t)) (iblk m c 2 t) (k0_pay14 (X0_1 m c t))) (iblk m c 3 t) (iblk m c 4 t)))
      (dvB (X0_1 m c t) (iblk m c 2 t) (dvnB (k0_pay12 (X0_0 m c t)) (k0_pay23 (iblk m c 5 t)) (iblk m c 3 t))) y := by
  rw [outsAt0_A m c t h]
  frame_open
  simp (disch := decide) only [↓ View.readCov_skip, ↓ View.readCov_cons_toLoadRect, ↓ View.readCov_fill]
  frame_out
  clear h
  rw [View.readCov_whole (G := dvnB (k0_pay12 (X0_0 m c t)) (k0_pay23 (iblk m c 5 t)) (iblk m c 3 t)) (h := by decide),
    View.readCov_whole (G := dugB (k0_pay23 (iblk m c 5 t)) (k0_pay22 (k0_pay7 (X0_1 m c t)) (iblk m c 2 t) (k0_pay14 (X0_1 m c t))) (iblk m c 3 t) (iblk m c 4 t)) (h := by decide)]
  · generalize dugB (k0_pay23 (iblk m c 5 t)) (k0_pay22 (k0_pay7 (X0_1 m c t)) (iblk m c 2 t) (k0_pay14 (X0_1 m c t))) (iblk m c 3 t) (iblk m c 4 t) = G1
    generalize dvnB (k0_pay12 (X0_0 m c t)) (k0_pay23 (iblk m c 5 t)) (iblk m c 3 t) = G2
    canon_tiles x h
    · have hn : ¬ (y 1 : ℕ) < 1024 := by omega
      unfold out6
      rw [dif_neg hn]
      show dvB (X0_1 m c t) (iblk m c 2 t) G2 x = _
      generalize dvB (X0_1 m c t) (iblk m c 2 t) G2 = T
      blk_ext
    · have hn : (y 1 : ℕ) < 1024 := by omega
      unfold out6
      rw [dif_pos hn]
      show duB (X0_0 m c t) G1 x = _
      generalize duB (X0_0 m c t) G1 = T
      blk_ext
  · intro y
    simp only [k0_pay26, k0_pay25]
    generalize iblk m c 3 t = ws
    generalize iblk m c 4 t = bs
    generalize k0_pay23 (iblk m c 5 t) = dy
    generalize k0_pay22 (k0_pay7 (X0_1 m c t)) (iblk m c 2 t) (k0_pay14 (X0_1 m c t)) = vnb
    unfold dugB
    canon_tiles x h
    all_goals (open_payloads; pointwise [row, chk, pos, grp, lane]; blk_point [])
  · intro y
    generalize iblk m c 3 t = ws
    generalize k0_pay12 (X0_0 m c t) = ug
    generalize k0_pay23 (iblk m c 5 t) = dy
    unfold dvnB
    canon_tiles x h
    all_goals (open_payloads; pointwise [row, chk, pos, grp, lane]; blk_point [])

end Cert.KernelIdeal.Val
-- ==== Proof.KBlock7.lean ====
module

public import proofs.«01_k».proof.Proof.Gen.KernelIdeal.Value
public import proofs.«01_k».proof.Proof.KVoc

/-! # The gradient of the norm's scale after one grid point -/

@[expose] public section
set_option maxRecDepth 16384
noncomputable section
open Idealize.ShloMosaic Idealize.ShloMosaic.TcCoe Idealize.SL.Sem
namespace Cert.KernelIdeal.Val
open Cert.KernelIdeal Cert.KernelIdeal.Gen Cert.Sgu
variable (m : (ℓ : Loc nD τ sig) → Buf (Elt Ideal) ℓ)

theorem step7_B (c : Dev nD) (t : Fin cfg0.N) (h : ¬ t.val % 32 = 0) (y : S1x1024.Idx) : (outsAt0 m c t.val t.isLt).2.1 y =
    (outsAt0 m c (t.val - 1) (Nat.lt_of_le_of_lt (Nat.sub_le _ _) t.isLt)).2.1 y
      + ∑ r : Fin 256, (k0_pay21 (k0_pay7 (X0_1 m c t)) (k0_pay14 (X0_1 m c t))) (ix2 r (y 1)) * dvnB (k0_pay12 (X0_0 m c t)) (k0_pay23 (iblk m c 5 t)) (iblk m c 3 t) (ix2 r (y 1)) := by
  rw [outsAt0_B m c t h]
  frame_open
  simp (disch := decide) only [↓ View.readCov_skip, ↓ View.readCov_cons_toLoadRect, ↓ View.readCov_fill]
  frame_out
  clear h
  generalize (outsAt0 m c (t.val - 1) (Nat.lt_of_le_of_lt (Nat.sub_le _ _) t.isLt)).2.1 = acc
  generalize k0_pay12 (X0_0 m c t) = ug
  generalize k0_pay23 (iblk m c 5 t) = dy
  generalize k0_pay21 (k0_pay7 (X0_1 m c t)) (k0_pay14 (X0_1 m c t)) = nb
  generalize iblk m c 3 t = ws
  rw [View.readCov_whole (G := dvnB ug dy ws) (h := by decide)]
  · generalize dvnB ug dy ws = G
    pointwise [k0_pay2, k0_pay149]
  · intro y
    unfold dvnB
    canon_tiles x h
    all_goals (open_payloads; pointwise [row, chk, pos, grp, lane]; blk_point [])

theorem step7_A (c : Dev nD) (t : Fin cfg0.N) (h : t.val % 32 = 0) (y : S1x1024.Idx) : (outsAt0 m c t.val t.isLt).2.1 y =
    (0 : EReal)
      + ∑ r : Fin 256, (k0_pay21 (k0_pay7 (X0_1 m c t)) (k0_pay14 (X0_1 m c t))) (ix2 r (y 1)) * dvnB (k0_pay12 (X0_0 m c t)) (k0_pay23 (iblk m c 5 t)) (iblk m c 3 t) (ix2 r (y 1)) := by
  rw [outsAt0_A m c t h]
  frame_open
  simp (disch := decide) only [↓ View.readCov_skip, ↓ View.readCov_cons_toLoadRect, ↓ View.readCov_fill]
  frame_out
  clear h
  have h0 : k0_pay3 (F := Ideal) y = 0 := by pointwise [k0_pay3]
  rw [← h0]
  generalize k0_pay3 (F := Ideal) = acc
  clear h0
  generalize k0_pay12 (X0_0 m c t) = ug
  generalize k0_pay23 (iblk m c 5 t) = dy
  generalize k0_pay21 (k0_pay7 (X0_1 m c t)) (k0_pay14 (X0_1 m c t)) = nb
  generalize iblk m c 3 t = ws
  rw [View.readCov_whole (G := dvnB ug dy ws) (h := by decide)]
  · generalize dvnB ug dy ws = G
    pointwise [k0_pay2, k0_pay149]
  · intro y
    unfold dvnB
    canon_tiles x h
    all_goals (open_payloads; pointwise [row, chk, pos, grp, lane]; blk_point [])

end Cert.KernelIdeal.Val
-- ==== Proof.KBlock8.lean ====
module

public import proofs.«01_k».proof.Proof.Gen.KernelIdeal.Value
public import proofs.«01_k».proof.Proof.KVoc

/-! # The gradient of the mixing matrices after one grid point -/

@[expose] public section
set_option maxRecDepth 16384
noncomputable section
open Idealize.ShloMosaic Idealize.ShloMosaic.TcCoe Idealize.SL.Sem
namespace Cert.KernelIdeal.Val
open Cert.KernelIdeal Cert.KernelIdeal.Gen Cert.Sgu
variable (m : (ℓ : Loc nD τ sig) → Buf (Elt Ideal) ℓ)

theorem step8_B (c : Dev nD) (t : Fin cfg0.N) (h : ¬ t.val % 32 = 0) (y : S8x128x128.Idx) : (outsAt0 m c t.val t.isLt).2.2.1 y =
    ((outsAt0 m c (t.val - 1) (Nat.lt_of_le_of_lt (Nat.sub_le _ _) t.isLt)).2.2.1 y
      + dwsB causal (k0_pay12 (X0_0 m c t)) (k0_pay23 (iblk m c 5 t)) (k0_pay22 (k0_pay7 (X0_1 m c t)) (iblk m c 2 t) (k0_pay14 (X0_1 m c t))) 0 y)
      + dwsB causal (k0_pay12 (X0_0 m c t)) (k0_pay23 (iblk m c 5 t)) (k0_pay22 (k0_pay7 (X0_1 m c t)) (iblk m c 2 t) (k0_pay14 (X0_1 m c t))) 1 y := by
  rw [outsAt0_B m c t h]
  frame_open
  simp (disch := decide) only [↓ View.readCov_skip, ↓ View.readCov_cons_toLoadRect, ↓ View.readCov_fill]
  frame_out
  clear h
  simp only [k0_pay25, causal_eq]
  unfold dwsB
  generalize (outsAt0 m c (t.val - 1) (Nat.lt_of_le_of_lt (Nat.sub_le _ _) t.isLt)).2.2.1 = acc
  generalize causal = cz
  generalize k0_pay12 (X0_0 m c t) = ug
  generalize k0_pay23 (iblk m c 5 t) = dy
  generalize k0_pay22 (k0_pay7 (X0_1 m c t)) (iblk m c 2 t) (k0_pay14 (X0_1 m c t)) = vnb
  refine (View.canon_take 8 _ y (by exact View.cover_of_tiled_head _ _ _ rfl y)).trans ?_
  simp only [List.take]
  canon_tiles x h
  all_goals (open_payloads; pointwise [row, lane]; blk_point [])

theorem step8_A (c : Dev nD) (t : Fin cfg0.N) (h : t.val % 32 = 0) (y : S8x128x128.Idx) : (outsAt0 m c t.val t.isLt).2.2.1 y =
    ((0 : EReal)
      + dwsB causal (k0_pay12 (X0_0 m c t)) (k0_pay23 (iblk m c 5 t)) (k0_pay22 (k0_pay7 (X0_1 m c t)) (iblk m c 2 t) (k0_pay14 (X0_1 m c t))) 0 y)
      + dwsB causal (k0_pay12 (X0_0 m c t)) (k0_pay23 (iblk m c 5 t)) (k0_pay22 (k0_pay7 (X0_1 m c t)) (iblk m c 2 t) (k0_pay14 (X0_1 m c t))) 1 y := by
  rw [outsAt0_A m c t h]
  frame_open
  simp (disch := decide) only [↓ View.readCov_skip, ↓ View.readCov_cons_toLoadRect, ↓ View.readCov_fill]
  frame_out
  clear h
  simp only [k0_pay25, causal_eq]
  unfold dwsB
  have h0 : k0_pay4 (F := Ideal) y = 0 := by pointwise [k0_pay4]
  rw [← h0]
  generalize k0_pay4 (F := Ideal) = acc
  clear h0
  generalize causal = cz
  generalize k0_pay12 (X0_0 m c t) = ug
  generalize k0_pay23 (iblk m c 5 t) = dy
  generalize k0_pay22 (k0_pay7 (X0_1 m c t)) (iblk m c 2 t) (k0_pay14 (X0_1 m c t)) = vnb
  refine (View.canon_take 8 _ y (by exact View.cover_of_tiled_head _ _ _ rfl y)).trans ?_
  simp only [List.take]
  canon_tiles x h
  all_goals (open_payloads; pointwise [row, lane]; blk_point [])

end Cert.KernelIdeal.Val
-- ==== Proof.KBlock9.lean ====
module

public import proofs.«01_k».proof.Proof.Gen.KernelIdeal.Value
public import proofs.«01_k».proof.Proof.KVoc

/-! # The gradient of the biases after one grid point -/

@[expose] public section
set_option maxRecDepth 16384
noncomputable section
open Idealize.ShloMosaic Idealize.ShloMosaic.TcCoe Idealize.SL.Sem
namespace Cert.KernelIdeal.Val
open Cert.KernelIdeal Cert.KernelIdeal.Gen Cert.Sgu
variable (m : (ℓ : Loc nD τ sig) → Buf (Elt Ideal) ℓ)

theorem step9_B (c : Dev nD) (t : Fin cfg0.N) (h : ¬ t.val % 32 = 0) (y : S128x8.Idx) : (outsAt0 m c t.val t.isLt).2.2.2 y =
    ((outsAt0 m c (t.val - 1) (Nat.lt_of_le_of_lt (Nat.sub_le _ _) t.isLt)).2.2.2 y
      + dbsB (k0_pay12 (X0_0 m c t)) (k0_pay23 (iblk m c 5 t)) 0 y)
      + dbsB (k0_pay12 (X0_0 m c t)) (k0_pay23 (iblk m c 5 t)) 1 y := by
  rw [outsAt0_B m c t h]
  frame_open
  simp (disch := decide) only [↓ View.readCov_skip, ↓ View.readCov_cons_toLoadRect, ↓ View.readCov_fill]
  frame_out
  clear h
  unfold dbsB
  generalize (outsAt0 m c (t.val - 1) (Nat.lt_of_le_of_lt (Nat.sub_le _ _) t.isLt)).2.2.2 = acc
  generalize k0_pay12 (X0_0 m c t) = ug
  generalize k0_pay23 (iblk m c 5 t) = dy
  refine (View.canon_take 8 _ y (by exact View.cover_of_tiled_head _ _ _ rfl y)).trans ?_
  simp only [List.take]
  canon_tiles x h
  all_goals (open_payloads; pointwise [row, lane]; blk_point [])

theorem step9_A (c : Dev nD) (t : Fin cfg0.N) (h : t.val % 32 = 0) (y : S128x8.Idx) : (outsAt0 m c t.val t.isLt).2.2.2 y =
    ((0 : EReal)
      + dbsB (k0_pay12 (X0_0 m c t)) (k0_pay23 (iblk m c 5 t)) 0 y)
      + dbsB (k0_pay12 (X0_0 m c t)) (k0_pay23 (iblk m c 5 t)) 1 y := by
  rw [outsAt0_A m c t h]
  frame_open
  simp (disch := decide) only [↓ View.readCov_skip, ↓ View.readCov_cons_toLoadRect, ↓ View.readCov_fill]
  frame_out
  clear h
  unfold dbsB
  have h0 : k0_pay5 (F := Ideal) y = 0 := by pointwise [k0_pay5]
  rw [← h0]
  generalize k0_pay5 (F := Ideal) = acc
  clear h0
  generalize k0_pay12 (X0_0 m c t) = ug
  generalize k0_pay23 (iblk m c 5 t) = dy
  refine (View.canon_take 8 _ y (by exact View.cover_of_tiled_head _ _ _ rfl y)).trans ?_
  simp only [List.take]
  canon_tiles x h
  all_goals (open_payloads; pointwise [row, lane]; blk_point [])

end Cert.KernelIdeal.Val
-- ==== Proof.KVal.lean ====
module

public import proofs.«01_k».proof.Proof.KBlock6
public import proofs.«01_k».proof.Proof.KBlock7
public import proofs.«01_k».proof.Proof.KBlock8
public import proofs.«01_k».proof.Proof.KBlock9

/-! # The kernel's blocks as the gradient of the gating unit on the block's two chunks -/

@[expose] public section
set_option maxRecDepth 16384
noncomputable section
open Idealize.ShloMosaic Idealize.ShloMosaic.TcCoe Idealize.SL.Sem
namespace Cert.KernelIdeal.Val
open Cert.KernelIdeal Cert.KernelIdeal.Gen Cert.Sgu

/-- Chunk `k` of a block. -/
def bk (X : S256x1024.Idx → EReal) (k : Fin 2) (i : Fin 128) (d : Fin 1024) : EReal := X (ix2 (row k i) d)

theorem row_chk_pos (r : Fin 256) : row (chk r) (pos r) = r := by
  apply Fin.ext; simp only [row, chk, pos]; omega

theorem bk_pos (X : S256x1024.Idx → EReal) (r : Fin 256) (d : Fin 1024) : bk X (chk r) (pos r) d = X (ix2 r d) := by
  unfold bk; rw [row_chk_pos]

section
variable (X0 X1 X5 : Vec Ideal S256x1024 .bf16) (w : Vec Ideal S1x1024 .f32) (ws : Vec Ideal S8x128x128 .bf16) (bs : Vec Ideal S128x8 .f32)

/-- The norm's scale as a function of the lane, -/
def wf (d : Fin 1024) : EReal := w (ix2 0 d)
/-- the block's matrices, -/
def af (g : Fin 8) (i j : Fin 128) : EReal := ws (ix3 g i j)
/-- and its biases. -/
def bf (g : Fin 8) (i : Fin 128) : EReal := bs (ix2 i g)

theorem pay12_at (y : S256x1024.Idx) : k0_pay12 (F := Ideal) X0 y = gl (X0 y) := by
  pointwise [k0_pay12, k0_pay11, k0_pay9, k0_pay6, gl, cdf, th]

theorem pay17_at (y : S256x1024.Idx) : k0_pay17 (F := Ideal) (k0_pay7 X1) (k0_pay14 X1) y = gl (X1 y) := by
  pointwise [k0_pay17, k0_pay16, k0_pay14, k0_pay7, gl, cdf, th]

theorem pay23_at (y : S256x1024.Idx) : k0_pay23 (F := Ideal) X5 y = X5 y := by
  pointwise [k0_pay23]

theorem pay18_at (r : Fin 256) (z : Fin 1) : k0_pay18 (F := Ideal) (k0_pay7 X1) (k0_pay14 X1) (ix2 r z) = msq (bk X1 (chk r)) (pos r) := by
  unfold msq
  simp only [bk_pos]
  pointwise [k0_pay18, pay17_at]

theorem pay19_at (r : Fin 256) (z : Fin 1) : k0_pay19 (F := Ideal) (k0_pay7 X1) (k0_pay14 X1) (ix2 r z) = Ideal.rsqrt (msq (bk X1 (chk r)) (pos r)) := by
  pointwise [k0_pay19, pay18_at]

theorem pay20_at (r : Fin 256) (z : Fin 1) : k0_pay20 (F := Ideal) (k0_pay7 X1) (k0_pay14 X1) (ix2 r z) =
    Ideal.ofBits FTy.f32 3204448256#32 * Ideal.div (Ideal.rsqrt (msq (bk X1 (chk r)) (pos r))) (msq (bk X1 (chk r)) (pos r)) := by
  pointwise [k0_pay20, pay18_at, pay19_at]

theorem pay21_at (r : Fin 256) (d : Fin 1024) : k0_pay21 (F := Ideal) (k0_pay7 X1) (k0_pay14 X1) (ix2 r d) = nrm (bk X1 (chk r)) (pos r) d := by
  unfold nrm
  rw [bk_pos]
  pointwise [k0_pay21, pay17_at, pay19_at]

theorem pay22_at (r : Fin 256) (d : Fin 1024) : k0_pay22 (F := Ideal) (k0_pay7 X1) w (k0_pay14 X1) (ix2 r d) = vn (bk X1 (chk r)) (wf w) (pos r) d := by
  unfold vn
  pointwise [k0_pay22, pay21_at, wf]

theorem chk_row (k : Fin 2) (i : Fin 128) : chk (row k i) = k := by
  apply Fin.ext; simp only [row, chk]; omega

theorem pos_row (k : Fin 2) (i : Fin 128) : pos (row k i) = i := by
  apply Fin.ext; simp only [row, pos]; omega

theorem dugB_at (r : Fin 256) (d : Fin 1024) :
    dugB (k0_pay23 X5) (k0_pay22 (k0_pay7 X1) w (k0_pay14 X1)) ws bs (ix2 r d)
      = dug (bk X1 (chk r)) (bk X5 (chk r)) (wf w) (af ws) (bf bs) (pos r) d := by
  simp only [dugB, dug, pay23_at, af, bf, bk_pos]
  congr 1
  congr 1
  refine Finset.sum_congr rfl fun j _ => ?_
  congr 1
  exact (pay22_at _ _ _ _).trans (by rw [chk_row, pos_row]; rfl)

theorem dsvB_at (k : Fin 2) (i : Fin 128) (d : Fin 1024) :
    (k0_pay23 (F := Ideal) X5 (ix2 (row k i) d) : EReal) * k0_pay12 (F := Ideal) X0 (ix2 (row k i) d) = dsv (bk X0 k) (bk X5 k) i d := by
  rw [pay23_at, pay12_at]; rfl

theorem dvnB_at (r : Fin 256) (d : Fin 1024) :
    dvnB (k0_pay12 X0) (k0_pay23 X5) ws (ix2 r d) = dvn (bk X0 (chk r)) (bk X5 (chk r)) (af ws) (pos r) d := by
  unfold dvnB dvn
  refine Finset.sum_congr rfl fun i _ => ?_
  exact congrArg (_ * ·) (dsvB_at X0 X5 _ _ _)

theorem duB_at (S : Vec Ideal S256x1024 .f32) (y : S256x1024.Idx) : duB X0 S y = dgl (X0 y) (S y) := by
  pointwise [duB, k0_pay154, k0_pay12, k0_pay11, k0_pay10, k0_pay8, k0_pay9, k0_pay6, dgl, cdf, th]

theorem pay153_at (v6 v33 v44 v48 v49 v676 : Vec Ideal S256x1024 .f32) (v681 : Vec Ideal S256x1 .f32) (r : Fin 256) (d : Fin 1024) :
    k0_pay1 (F := Ideal) (k0_pay153 v6 v33 v44 v48 v49 v676 v681) (ix2 r d)
      = (v676 (ix2 r d) + v49 (ix2 r d) * v681 (ix2 r 0) + v681 (ix2 r 0) * v49 (ix2 r d)) * v48 (ix2 r d)
        + Ideal.ofBits FTy.f32 1061962282#32 * (Ideal.ofBits FTy.f32 1056964608#32 * (v6 (ix2 r d) *
            (v676 (ix2 r d) + v49 (ix2 r d) * v681 (ix2 r 0) + v681 (ix2 r 0) * v49 (ix2 r d))) * v44 (ix2 r d))
        + Ideal.ofBits FTy.f32 1027024659#32 * (Ideal.ofBits FTy.f32 1061962282#32 * (Ideal.ofBits FTy.f32 1056964608#32 * (v6 (ix2 r d) *
            (v676 (ix2 r d) + v49 (ix2 r d) * v681 (ix2 r 0) + v681 (ix2 r 0) * v49 (ix2 r d))) * v44 (ix2 r d))) * v33 (ix2 r d) := by
  pointwise [k0_pay1, k0_pay153]

theorem pay151_at (v57 : Vec Ideal S256x1 .f32) (S : Vec Ideal S256x1024 .f32) (r : Fin 256) (d : Fin 1024) :
    (k0_pay151 (F := Ideal) w v57 S (ix2 r d) : EReal) = S (ix2 r d) * w (ix2 0 d) * v57 (ix2 r 0) := by
  pointwise [k0_pay151, k0_pay150]

theorem pay152_at (v49 S : Vec Ideal S256x1024 .f32) (v60 : Vec Ideal S256x1 .f32) (r : Fin 256) :
    (k0_pay152 (F := Ideal) w v49 v60 S (ix2 r 0) : EReal)
      = Ideal.div ((∑ x : Fin 1024, v49 (ix2 r x) * (S (ix2 r x) * w (ix2 0 x))) * v60 (ix2 r 0)) (Ideal.ofBits FTy.f32 1149239296#32) := by
  pointwise [k0_pay152, k0_pay150]
  exact Fin.sum_univ_one _

theorem pay16_at (y : S256x1024.Idx) : k0_pay16 (F := Ideal) (k0_pay14 X1) y = cdf (X1 y) := by
  pointwise [k0_pay16, k0_pay14, k0_pay7, cdf, th]

theorem pay15_at (y : S256x1024.Idx) : k0_pay15 (F := Ideal) (k0_pay14 X1) y = (1 + th (X1 y)) * (1 - th (X1 y)) := by
  pointwise [k0_pay15, k0_pay14, k0_pay7, th]

theorem pay13_at (y : S256x1024.Idx) : k0_pay13 (F := Ideal) X1 y = Ideal.ofBits FTy.f32 1077936128#32 * (X1 y * X1 y) := by
  pointwise [k0_pay13, k0_pay7]

theorem pay7_at (y : S256x1024.Idx) : k0_pay7 (F := Ideal) X1 y = X1 y := by
  pointwise [k0_pay7]

theorem dvB_at (S : Vec Ideal S256x1024 .f32) (r : Fin 256) (d : Fin 1024)
    (hS : ∀ r d, (S (ix2 r d) : EReal) = dvn (bk X0 (chk r)) (bk X5 (chk r)) (af ws) (pos r) d) :
    dvB X1 w S (ix2 r d) = dv (bk X0 (chk r)) (bk X1 (chk r)) (bk X5 (chk r)) (wf w) (af ws) (pos r) d := by
  unfold dvB
  rw [pay153_at, pay151_at, pay152_at]
  simp only [pay17_at, pay19_at, pay20_at, pay16_at, pay15_at, pay13_at, pay7_at, hS]
  unfold dv dgv corr dgl wf
  simp only [bk_pos]
end
end Cert.KernelIdeal.Val
-- ==== Proof.Arr.lean ====
module

public import proofs.«01_k».proof.Proof.Spec

/-! # The gradient of the gating unit on whole arrays: 64 chunks of 128 rows -/

@[expose] public section
noncomputable section
open Idealize.ShloMosaic

namespace Cert.Sgu

/-- The comparison of two small counters, as a bit. -/
theorem sge_bit (a b : ℕ) (ha : a < 128) (hb : b < 128) :
    IntOp.cmpi CmpIPredicate.sge (BitVec.ofNat 32 a) (BitVec.ofNat 32 b) = if b ≤ a then 1#1 else 0#1 := by
  show BitVec.ofBool (BitVec.sle (BitVec.ofNat 32 b) (BitVec.ofNat 32 a)) = _
  have : BitVec.sle (BitVec.ofNat 32 b) (BitVec.ofNat 32 a) = decide (b ≤ a) := by
    rw [BitVec.sle_eq_decide, BitVec.toInt_eq_toNat_of_lt, BitVec.toInt_eq_toNat_of_lt]
    · simp only [BitVec.toNat_ofNat]
      have h1 : b % 2 ^ 32 = b := Nat.mod_eq_of_lt (by omega)
      have h2 : a % 2 ^ 32 = a := Nat.mod_eq_of_lt (by omega)
      rw [h1, h2]
      simp
    · simp only [BitVec.toNat_ofNat]; omega
    · simp only [BitVec.toNat_ofNat]; omega
  rw [this]
  by_cases h : b ≤ a <;> simp [h]

/-- A choice by the triangle's bit. -/
theorem tri_select (a b : ℕ) (ha : a < 128) (hb : b < 128) {α : Type} (x y : α) :
    Scalar.select (Scalar.select (IntOp.cmpi CmpIPredicate.sge (IntOp.addi (BitVec.ofNat 32 a) 0#32) (BitVec.ofNat 32 b)) 1#1 0#1) x y
      = if b ≤ a then x else y := by
  have e : IntOp.addi (BitVec.ofNat 32 a) 0#32 = BitVec.ofNat 32 a := by simp [IntOp.addi]
  rw [e, sge_bit a b ha hb]
  by_cases h : b ≤ a
  · rw [if_pos h, if_pos h]; rfl
  · rw [if_neg h, if_neg h]; rfl

/-- Row `i` of chunk `n`, -/
def arow (n : Fin 64) (i : Fin 128) : Fin 8192 := ⟨n * 128 + i, by omega⟩
/-- the chunk of a row -/
def nOf (r : Fin 8192) : Fin 64 := ⟨r / 128, by omega⟩
/-- and its place in the chunk. -/
def iOf (r : Fin 8192) : Fin 128 := ⟨r % 128, by omega⟩

theorem arow_of (r : Fin 8192) : arow (nOf r) (iOf r) = r := by
  apply Fin.ext; simp only [arow, nOf, iOf]; omega

section
variable (P : Fin 8192 → Fin 10368 → EReal) (DY : Fin 8192 → Fin 1024 → EReal) (W : Fin 1024 → EReal)
  (WS : Fin 8 → Fin 128 → Fin 128 → EReal) (B : Fin 8 → Fin 128 → EReal)

/-- Chunk `n` of `u`: the projection's first 1024 columns, -/
def cU (n : Fin 64) (i : Fin 128) (d : Fin 1024) : EReal := P (arow n i) ⟨d, by omega⟩
/-- of `v`: its next 1024 columns, -/
def cV (n : Fin 64) (i : Fin 128) (d : Fin 1024) : EReal := P (arow n i) ⟨1024 + d, by omega⟩
/-- and of the incoming gradient. -/
def cY (n : Fin 64) (i : Fin 128) (d : Fin 1024) : EReal := DY (arow n i) d
/-- The matrices with what lies above the diagonal set to zero. -/
def low (g : Fin 8) (i j : Fin 128) : EReal := if (j : ℕ) ≤ i then WS g i j else 0

/-- The gradient of `u`, -/
def gU (r : Fin 8192) (d : Fin 1024) : EReal := du (cU P (nOf r)) (cV P (nOf r)) (cY DY (nOf r)) W (low WS) B (iOf r) d
/-- of `v`, -/
def gV (r : Fin 8192) (d : Fin 1024) : EReal := dv (cU P (nOf r)) (cV P (nOf r)) (cY DY (nOf r)) W (low WS) (iOf r) d
/-- of the norm's scale, -/
def gW (d : Fin 1024) : EReal :=
  ∑ r : Fin 8192, nrm (cV P (nOf r)) (iOf r) d * dvn (cU P (nOf r)) (cY DY (nOf r)) (low WS) (iOf r) d
/-- of the matrices -/
def gM (g : Fin 8) (i j : Fin 128) : EReal :=
  if (j : ℕ) ≤ i then ∑ n : Fin 64, dws (cU P n) (cV P n) (cY DY n) W g i j else 0
/-- and of the biases. -/
def gB (i : Fin 128) (g : Fin 8) : EReal := ∑ n : Fin 64, dbs (cU P n) (cY DY n) i g
end
end Cert.Sgu
-- ==== Proof.KArr.lean ====
module

public import proofs.«01_k».proof.Proof.KVal
public import proofs.«01_k».proof.Proof.Arr
public import proofs.«01_k».proof.Proof.Gen.KernelIdeal.Value
public import Idealize.ShloMosaic.Lib.Pipeline.ValueKit
public import Idealize.ShloMosaic.Lib.StableHlo.ReadAt

/-! # The kernel's blocks as parts of the arrays -/

@[expose] public section
set_option maxRecDepth 16384
noncomputable section
open Idealize.ShloMosaic Idealize.ShloMosaic.TcCoe Idealize.SL.Sem
namespace Cert.KernelIdeal.Val
open Cert.KernelIdeal Cert.KernelIdeal.Gen Cert.Sgu

variable (m : (ℓ : Loc nD τ sig) → Buf (Elt Ideal) ℓ)

/-- The arguments' elements: the projection, -/
def aP (c : Dev nD) (r : Fin 8192) (d : Fin 10368) : EReal := m ((c : Thread nD τ).loc main_arg0) (ix2 r d)
/-- the norm's scale, -/
def aW (c : Dev nD) (d : Fin 1024) : EReal := m ((c : Thread nD τ).loc main_arg1) (ix2 0 d)
/-- the matrices, -/
def aM (c : Dev nD) (g : Fin 8) (i j : Fin 128) : EReal := m ((c : Thread nD τ).loc main_arg2) (ix3 g i j)
/-- the biases -/
def aB (c : Dev nD) (g : Fin 8) (i : Fin 128) : EReal := m ((c : Thread nD τ).loc main_arg3) (ix2 g i)
/-- and the incoming gradient. -/
def aY (c : Dev nD) (r : Fin 8192) (d : Fin 1024) : EReal := m ((c : Thread nD τ).loc main_arg4) (ix2 r d)

theorem pt_lt (t : Fin cfg0.N) : t.val < 32 := lt_of_lt_of_eq t.isLt N_0

/-- Chunk `k` of point `t`'s block. -/
def nk (t : Fin cfg0.N) (k : Fin 2) : Fin 64 := ⟨t.val * 2 + k, by have := pt_lt t; omega⟩

/-- Row `r` of point `t`'s block. -/
def rk (t : Fin cfg0.N) (r : Fin 256) : Fin 8192 := ⟨t.val * 256 + r, by have := pt_lt t; omega⟩

theorem nOf_rk (t : Fin cfg0.N) (r : Fin 256) : nOf (rk t r) = nk t (chk r) := by
  apply Fin.ext; simp only [nOf, rk, nk, chk]; omega

theorem iOf_rk (t : Fin cfg0.N) (r : Fin 256) : iOf (rk t r) = pos r := by
  apply Fin.ext; simp only [iOf, rk, pos]; omega

theorem idx : ∀ t : Fin cfg0.N, win0_0.index t = ![t.val, 0] ∧ win0_1.index t = ![t.val, 1] ∧ win0_5.index t = ![t.val, 0] ∧ win0_6.index t = ![t.val, 0] :=
  (by decide +kernel : ∀ t : Fin grid0.N, _)

theorem idx' : ∀ t : Fin cfg0.N, win0_2.index t = ![0, 0] ∧ win0_3.index t = ![0, 0, 0] ∧ win0_4.index t = ![0, 0]
    ∧ win0_7.index t = ![0, 0] ∧ win0_8.index t = ![0, 0, 0] ∧ win0_9.index t = ![0, 0] :=
  (by decide +kernel : ∀ t : Fin grid0.N, _)

theorem x0_at (c : Dev nD) (t : Fin cfg0.N) (r : Fin 256) (d : Fin 1024) :
    (X0_0 m c t (ix2 r d) : EReal) = aP m c (rk t r) ⟨d, by omega⟩ := by
  unfold X0_0 Pipeline.Window.fill
  rw [dif_pos (moved0_0 t _)]
  unfold aP rk
  blk_point [iblk, V, idx t]

theorem x1_at (c : Dev nD) (t : Fin cfg0.N) (r : Fin 256) (d : Fin 1024) :
    (X0_1 m c t (ix2 r d) : EReal) = aP m c (rk t r) ⟨1024 + d, by omega⟩ := by
  unfold X0_1 Pipeline.Window.fill
  rw [dif_pos (moved0_1 t _)]
  unfold aP rk
  blk_point [iblk, V, idx t]

theorem x5_at (c : Dev nD) (t : Fin cfg0.N) (r : Fin 256) (d : Fin 1024) :
    (iblk m c 5 t (ix2 r d) : EReal) = aY m c (rk t r) d := by
  unfold aY rk
  blk_point [iblk, V, idx t]

theorem x2_at (c : Dev nD) (t : Fin cfg0.N) (d : Fin 1024) : (iblk m c 2 t (ix2 0 d) : EReal) = aW m c d := by
  unfold aW
  blk_point [iblk, V, idx' t]

theorem x4_at (c : Dev nD) (t : Fin cfg0.N) (i : Fin 128) (g : Fin 8) : (iblk m c 4 t (ix2 i g) : EReal) = aB m c g i := by
  unfold aB
  have h : (V m c main_v5 (ix2 i g) : EReal) = m ((c : Thread nD τ).loc main_arg3) (ix2 g i) := by
    unfold V
    after_reads_at
  rw [← h]
  blk_ext [iblk, idx' t]

theorem x3_at (c : Dev nD) (t : Fin cfg0.N) (g : Fin 8) (i j : Fin 128) : (iblk m c 3 t (ix3 g i j) : EReal) = low (aM m c) g i j := by
  unfold aM low
  have h : (V m c main_v4 (ix3 g i j) : EReal) = if (j : ℕ) ≤ i then m ((c : Thread nD τ).loc main_arg2) (ix3 g i j) else (0 : EReal) := by
    unfold V
    after_reads_at
    rw [tri_select i j i.isLt j.isLt]
    congr 1
    exact Ideal.ofBits_zero FTy.f32
  rw [← h]
  blk_ext [iblk, idx' t]
end Cert.KernelIdeal.Val
-- ==== Proof.RefVal.lean ====
module

public import proofs.«01_k».proof.Proof.Arr
public import proofs.«01_k».proof.Proof.Gen.ReferenceIdeal.Read
public import proofs.«01_k».proof.Proof.Norm
public import Idealize.ShloMosaic.Lib.Pipeline.ValueKit

/-! # The reference's stages as the gradient of the gating unit -/

@[expose] public section
set_option maxRecDepth 16384
noncomputable section
open Idealize.ShloMosaic Idealize.ShloMosaic.TcCoe Idealize.SL.Sem
namespace Cert.ReferenceIdeal.Val
open Cert.ReferenceIdeal Cert.ReferenceIdeal.Gen Cert.ReferenceIdeal.Read Cert.Sgu
open Cert.Norm (two_mul_ereal two_bits)

section
variable (x0 : (⟨S8192x10368, .bf16⟩ : BufTy).Contents (Elt Ideal)) (x1 : (⟨S1x1024, .f32⟩ : BufTy).Contents (Elt Ideal))
  (x2 : (⟨S8x128x128, .f32⟩ : BufTy).Contents (Elt Ideal)) (x3 : (⟨S8x128, .f32⟩ : BufTy).Contents (Elt Ideal))
  (x4 : (⟨S8192x1024, .bf16⟩ : BufTy).Contents (Elt Ideal)) (x5 : (⟨S8192x10368, .bf16⟩ : BufTy).Contents (Elt Ideal))
  (r : Fin 8192) (d : Fin 1024)

/-- The host's sum of an array of rank four over its first and its last axis. -/
theorem sum03 {a b c d : ℕ} (h : (⟨4, ![a, b, c, d]⟩ : Shape).ReducesTo [0, 3] ⟨2, ![b, c]⟩)
    (v : (⟨4, ![a, b, c, d]⟩ : Shape).Idx → EReal) (z : EReal) (i : Fin b) (g : Fin c) :
    Ideal.hostReduceAdd h v z (ix2 i g) = z + ∑ n : Fin a, ∑ e : Fin d, v (ix4 n i g e) := by
  refine congrArg (z + ·) ?_
  refine (Finset.sum_filter_eq_sum_of_fiber _ (fun k : Fin a × Fin d => ix4 k.1 i g k.2)
    (fun _ _ e => Prod.ext (congrFun e 0) (congrFun e 3)) (fun w => ?_) v).trans ?_
  · constructor
    · intro e
      refine ⟨(w 0, w 3), ?_⟩
      funext t
      apply Fin.ext
      match t with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext t
      apply Fin.ext
      match t with
      | ⟨0, _⟩ => rfl
      | ⟨1, _⟩ => rfl
  · simp only [Fintype.sum_prod_type]

/-- The arguments' elements. -/
def rP (r : Fin 8192) (d : Fin 10368) : EReal := x0 (ix2 r d)
def rW (d : Fin 1024) : EReal := x1 (ix2 0 d)
def rM (g : Fin 8) (i j : Fin 128) : EReal := x2 (ix3 g i j)
def rB (g : Fin 8) (i : Fin 128) : EReal := x3 (ix2 g i)
def rY (r : Fin 8192) (d : Fin 1024) : EReal := x4 (ix2 r d)

/-- `u` and `v` at a row. -/
abbrev uR : EReal := cU (rP x0) (nOf r) (iOf r) d
abbrev vR : EReal := cV (rP x0) (nOf r) (iOf r) d

theorem s1 : (val_main_v1 (F := Ideal) x0 (ix2 r d) : EReal) = uR x0 r d := by
  unfold uR cU rP
  rw [arow_of]
  pointwise [val_main_v1, val_main_v0]
  blk_ext

theorem s3 : (val_main_v3 (F := Ideal) x0 (ix2 r d) : EReal) = vR x0 r d := by
  unfold vR cV rP
  rw [arow_of]
  pointwise [val_main_v3, val_main_v2]
  blk_ext

theorem s14 : (val_main_v14 (F := Ideal) x0 (ix2 r d) : EReal) = th (uR x0 r d) := by
  unfold th
  rw [mul_comm (uR x0 r d) (uR x0 r d * uR x0 r d)]
  pointwise [val_main_v14, val_main_v13, val_main_v12, val_main_v11, val_main_v10, val_main_v9, val_main_v5, val_main_v4, val_main_cst_1, val_main_cst_0, s1]

theorem s35 : (val_main_v35 (F := Ideal) x0 (ix2 r d) : EReal) = th (vR x0 r d) := by
  unfold th
  rw [mul_comm (vR x0 r d) (vR x0 r d * vR x0 r d)]
  pointwise [val_main_v35, val_main_v34, val_main_v33, val_main_v32, val_main_v31, val_main_v30, val_main_v26, val_main_v25, val_main_cst_8, val_main_cst_7, s3]

theorem s23 : (val_main_v23 (F := Ideal) x0 (ix2 r d) : EReal) = cdf (uR x0 r d) := by
  unfold cdf
  pointwise [val_main_v23, val_main_v22, val_main_v21, val_main_v20, val_main_cst_5, val_main_cst_4, s14]

theorem s44 : (val_main_v44 (F := Ideal) x0 (ix2 r d) : EReal) = cdf (vR x0 r d) := by
  unfold cdf
  pointwise [val_main_v44, val_main_v43, val_main_v42, val_main_v41, val_main_cst_12, val_main_cst_11, s35]

theorem s24 : (val_main_v24 (F := Ideal) x0 (ix2 r d) : EReal) = gl (uR x0 r d) := by
  unfold gl
  pointwise [val_main_v24, s1, s23]

theorem s45 : (val_main_v45 (F := Ideal) x0 (ix2 r d) : EReal) = gl (vR x0 r d) := by
  unfold gl
  pointwise [val_main_v45, s3, s44]

theorem s54 : (val_main_v54 (F := Ideal) x0 (ix2 r 0) : EReal) = msq (cV (rP x0) (nOf r)) (iOf r) := by
  unfold msq
  pointwise [val_main_v54, val_main_v53, val_main_v52, val_main_v51, val_main_v50, val_main_v49, val_main_v46, val_main_cst_16, val_main_cst_15, val_main_cst_14, s45]

theorem s60 : (val_main_v60 (F := Ideal) x0 (ix2 r d) : EReal) = nrm (cV (rP x0) (nOf r)) (iOf r) d := by
  unfold nrm
  pointwise [val_main_v60, val_main_v59, val_main_v55, s54, s45]

theorem s62 : (val_main_v62 (F := Ideal) x0 x1 (ix2 r d) : EReal) = vn (cV (rP x0) (nOf r)) (rW x1) (iOf r) d := by
  unfold vn rW
  pointwise [val_main_v62, val_main_v61, s60]

theorem nOf_arow (n : Fin 64) (i : Fin 128) : nOf (arow n i) = n := by
  apply Fin.ext; simp only [nOf, arow]; omega

theorem iOf_arow (n : Fin 64) (i : Fin 128) : iOf (arow n i) = i := by
  apply Fin.ext; simp only [iOf, arow]; omega

theorem s63 (n : Fin 64) (i : Fin 128) (g : Fin 8) (e : Fin 128) :
    (val_main_v63 (F := Ideal) x0 x1 (ix4 n i g e) : EReal) = vn (cV (rP x0) n) (rW x1) i (lane g e) := by
  have h := s62 x0 x1 (arow n i) (lane g e)
  rw [nOf_arow, iOf_arow] at h
  rw [← h, val_main_v63_apply]
  congr 1
  funext a
  apply Fin.ext
  match a with
  | ⟨0, _⟩ => show ((((n : ℕ) * 128 + i) * 8 + g) * 128 + e) / 1024 = (n : ℕ) * 128 + i; omega
  | ⟨1, _⟩ => show ((((n : ℕ) * 128 + i) * 8 + g) * 128 + e) % 1024 = (g : ℕ) * 128 + e; omega

theorem s68_1 (g : Fin 8) (i j : Fin 128) {α : Type} (x y : α) :
    Scalar.select (val_main_v68_1 (F := Ideal) (ix3 g i j)) x y = if (j : ℕ) ≤ i then x else y := by
  rw [← tri_select i j i.isLt j.isLt]
  congr 1

theorem s68_0 (g : Fin 8) (i j : Fin 128) : (val_main_v68_0 (F := Ideal) x2 (ix3 g i j) : EReal) = low (rM x2) g i j := by
  unfold low rM
  refine (s68_1 g i j _ _).trans ?_
  congr 1
  pointwise [val_main_v67, val_main_cst_18]

/-- A lane's place in its group. -/
def eOf (d : Fin 1024) : Fin 128 := ⟨d % 128, by omega⟩

theorem lane_of (d : Fin 1024) : lane (grp d) (eOf d) = d := by
  apply Fin.ext; simp only [lane, grp, eOf]; omega

theorem s69 (n : Fin 64) (i : Fin 128) (g : Fin 8) (e : Fin 128) :
    (val_main_v69 (F := Ideal) x0 x1 x2 (ix4 g n e i) : EReal)
      = ∑ j : Fin 128, low (rM x2) g i j * vn (cV (rP x0) n) (rW x1) j (lane g e) := by
  rw [val_main_v69_apply]
  refine Finset.sum_congr rfl fun j _ => ?_
  rw [mul_comm]
  have e1 : lidx_main_v69 (ix4 g n e i) j = ix4 n j g e := by
    funext a
    match a with
    | ⟨0, _⟩ => rfl
    | ⟨1, _⟩ => rfl
    | ⟨2, _⟩ => rfl
    | ⟨3, _⟩ => rfl
  have e2 : ridx_main_v69 (ix4 g n e i) j = ix3 g i j := by
    funext a
    match a with
    | ⟨0, _⟩ => rfl
    | ⟨1, _⟩ => rfl
    | ⟨2, _⟩ => rfl
  rw [e1, e2, s63, s68_0]

theorem s74 (n : Fin 64) (i : Fin 128) (g : Fin 8) (e : Fin 128) :
    (val_main_v74 (F := Ideal) x0 x1 x2 x3 (ix4 n i g e) : EReal)
      = ∑ j : Fin 128, low (rM x2) g i j * vn (cV (rP x0) n) (rW x1) j (lane g e) + rB x3 g i := by
  unfold rB
  pointwise [val_main_v74, val_main_v73, val_main_v72, val_main_v71, val_main_v70, s69]

theorem s75 : (val_main_v75 (F := Ideal) x0 x1 x2 x3 (ix2 r d) : EReal)
      = ∑ j : Fin 128, low (rM x2) (grp d) (iOf r) j * vn (cV (rP x0) (nOf r)) (rW x1) j d + rB x3 (grp d) (iOf r) := by
  have h := s74 x0 x1 x2 x3 (nOf r) (iOf r) (grp d) (eOf d)
  rw [lane_of] at h
  rw [← h, val_main_v75_apply]
  congr 1
  funext a
  apply Fin.ext
  match a with
  | ⟨0, _⟩ => show ((r : ℕ) * 1024 + d) / _ = (r : ℕ) / 128; omega
  | ⟨1, _⟩ => show ((r : ℕ) * 1024 + d) / _ % _ = (r : ℕ) % 128; omega
  | ⟨2, _⟩ => show ((r : ℕ) * 1024 + d) / _ % _ = (d : ℕ) / 128; omega
  | ⟨3, _⟩ => show ((r : ℕ) * 1024 + d) % _ = (d : ℕ) % 128; omega

theorem s79 : (val_main_v79 (F := Ideal) x0 x1 x2 x3 x4 (ix2 r d) : EReal)
      = dug (cV (rP x0) (nOf r)) (cY (rY x4) (nOf r)) (rW x1) (low (rM x2)) (rB x3) (iOf r) d := by
  unfold dug cY rY
  rw [arow_of]
  pointwise [val_main_v79, val_main_v77, s75]

theorem s78 : (val_main_v78 (F := Ideal) x0 x4 (ix2 r d) : EReal) = dsv (cU (rP x0) (nOf r)) (cY (rY x4) (nOf r)) (iOf r) d := by
  unfold dsv cY rY
  rw [arow_of, mul_comm]
  pointwise [val_main_v78, val_main_v77, s24]

theorem s80 (n : Fin 64) (i : Fin 128) (g : Fin 8) (e : Fin 128) :
    (val_main_v80 (F := Ideal) x0 x4 (ix4 n i g e) : EReal) = dsv (cU (rP x0) n) (cY (rY x4) n) i (lane g e) := by
  have h := s78 x0 x4 (arow n i) (lane g e)
  rw [nOf_arow, iOf_arow] at h
  rw [← h, val_main_v80_apply]
  congr 1
  funext a
  apply Fin.ext
  match a with
  | ⟨0, _⟩ => show ((((n : ℕ) * 128 + i) * 8 + g) * 128 + e) / 1024 = (n : ℕ) * 128 + i; omega
  | ⟨1, _⟩ => show ((((n : ℕ) * 128 + i) * 8 + g) * 128 + e) % 1024 = (g : ℕ) * 128 + e; omega

theorem s85 (n : Fin 64) (i : Fin 128) (g : Fin 8) (e : Fin 128) :
    (val_main_v85 (F := Ideal) x0 x4 (ix4 g n e i) : EReal) = dsv (cU (rP x0) n) (cY (rY x4) n) i (lane g e) := by
  rw [← s80, val_main_v85_apply]
  congr 1
  funext a
  match a with
  | ⟨0, _⟩ => rfl
  | ⟨1, _⟩ => rfl
  | ⟨2, _⟩ => rfl
  | ⟨3, _⟩ => rfl

theorem s87 (n : Fin 64) (j : Fin 128) (g : Fin 8) (e : Fin 128) :
    (val_main_v87 (F := Ideal) x0 x2 x4 (ix4 g n e j) : EReal)
      = ∑ i : Fin 128, low (rM x2) g i j * dsv (cU (rP x0) n) (cY (rY x4) n) i (lane g e) := by
  rw [val_main_v87_apply]
  refine Finset.sum_congr rfl fun i _ => ?_
  rw [mul_comm]
  have e1 : lidx_main_v87 (ix4 g n e j) i = ix4 g n e i := by
    funext a
    match a with
    | ⟨0, _⟩ => rfl
    | ⟨1, _⟩ => rfl
    | ⟨2, _⟩ => rfl
    | ⟨3, _⟩ => rfl
  have e2 : ridx_main_v87 (ix4 g n e j) i = ix3 g i j := by
    funext a
    match a with
    | ⟨0, _⟩ => rfl
    | ⟨1, _⟩ => rfl
    | ⟨2, _⟩ => rfl
  rw [e1, e2, s85, s68_0]

theorem s88 (n : Fin 64) (j : Fin 128) (g : Fin 8) (e : Fin 128) :
    (val_main_v88 (F := Ideal) x0 x2 x4 (ix4 n j g e) : EReal)
      = ∑ i : Fin 128, low (rM x2) g i j * dsv (cU (rP x0) n) (cY (rY x4) n) i (lane g e) := by
  rw [← s87, val_main_v88_apply]
  congr 1
  funext a
  match a with
  | ⟨0, _⟩ => rfl
  | ⟨1, _⟩ => rfl
  | ⟨2, _⟩ => rfl
  | ⟨3, _⟩ => rfl

theorem s90 : (val_main_v90 (F := Ideal) x0 x2 x4 (ix2 r d) : EReal)
      = dvn (cU (rP x0) (nOf r)) (cY (rY x4) (nOf r)) (low (rM x2)) (iOf r) d := by
  have h := s88 x0 x2 x4 (nOf r) (iOf r) (grp d) (eOf d)
  rw [lane_of] at h
  unfold dvn
  rw [← h, val_main_v90_apply]
  congr 1
  funext a
  apply Fin.ext
  match a with
  | ⟨0, _⟩ => show ((r : ℕ) * 1024 + d) / _ = (r : ℕ) / 128; omega
  | ⟨1, _⟩ => show ((r : ℕ) * 1024 + d) / _ % _ = (r : ℕ) % 128; omega
  | ⟨2, _⟩ => show ((r : ℕ) * 1024 + d) / _ % _ = (d : ℕ) / 128; omega
  | ⟨3, _⟩ => show ((r : ℕ) * 1024 + d) % _ = (d : ℕ) % 128; omega

theorem s95 : (val_main_v95 (F := Ideal) x0 x1 x2 x4 (ix2 r d) : EReal)
      = dvn (cU (rP x0) (nOf r)) (cY (rY x4) (nOf r)) (low (rM x2)) (iOf r) d * rW x1 d := by
  unfold rW
  pointwise [val_main_v95, val_main_v94, s90]

theorem s103 : (val_main_v103 (F := Ideal) x0 x1 x2 x4 (ix2 r 0) : EReal)
      = corr (cU (rP x0) (nOf r)) (cV (rP x0) (nOf r)) (cY (rY x4) (nOf r)) (rW x1) (low (rM x2)) (iOf r) := by
  unfold corr
  pointwise [val_main_v103, val_main_v102, val_main_v101, val_main_v98, val_main_v97, val_main_v96, val_main_v58, val_main_v57, val_main_v56, val_main_v55,
    val_main_cst_23, val_main_cst_22, val_main_cst_17, s95, s54, s45]

theorem s105 : (val_main_v105 (F := Ideal) x0 x1 x2 x4 (ix2 r d) : EReal)
      = corr (cU (rP x0) (nOf r)) (cV (rP x0) (nOf r)) (cY (rY x4) (nOf r)) (rW x1) (low (rM x2)) (iOf r) := by
  rw [← s103]
  pointwise [val_main_v105, val_main_v104, val_main_cst_24]
  exact Fin.sum_univ_one _

theorem s107 : (val_main_v107 (F := Ideal) x0 x1 x2 x4 (ix2 r d) : EReal)
      = dgv (cU (rP x0) (nOf r)) (cV (rP x0) (nOf r)) (cY (rY x4) (nOf r)) (rW x1) (low (rM x2)) (iOf r) d := by
  unfold dgv
  pointwise [val_main_v107, val_main_v106, val_main_v100, val_main_v99, val_main_v55, val_main_v48, val_main_v47, val_main_cst_13, s105, s95, s54, s45]
  rw [two_bits, mul_left_comm, two_mul_ereal, add_assoc]
  congr 2
  exact mul_comm _ _

theorem s119 : (val_main_v119 (F := Ideal) x0 x1 x2 x4 (ix2 r d) : EReal) = gV (rP x0) (rY x4) (rW x1) (rM x2) r d := by
  unfold gV dv dgl
  pointwise [val_main_v119, val_main_v118, val_main_v117, val_main_v116, val_main_v115, val_main_v114, val_main_v113, val_main_v112, val_main_v111, val_main_v110, val_main_v109, val_main_v108,
    val_main_cst_27, val_main_cst_26, val_main_cst_25, val_main_v40, val_main_v39, val_main_v38, val_main_v37, val_main_v36, val_main_cst_10, val_main_cst_9,
    val_main_v29, val_main_v28, val_main_v27, val_main_cst_6, s107, s44, s35, s3]

theorem s131 : (val_main_v131 (F := Ideal) x0 x1 x2 x3 x4 (ix2 r d) : EReal) = gU (rP x0) (rY x4) (rW x1) (rM x2) (rB x3) r d := by
  unfold gU du dgl
  pointwise [val_main_v131, val_main_v130, val_main_v129, val_main_v128, val_main_v127, val_main_v126, val_main_v125, val_main_v124, val_main_v123, val_main_v122, val_main_v121, val_main_v120,
    val_main_cst_30, val_main_cst_29, val_main_cst_28, val_main_v19, val_main_v18, val_main_v17, val_main_v16, val_main_v15, val_main_cst_3, val_main_cst_2,
    val_main_v8, val_main_v7, val_main_v6, val_main_cst, s79, s23, s14, s1]

/-! ## The four results -/

theorem s93 : (val_main_v93 (F := Ideal) x0 x2 x4 (ix2 0 d) : EReal) = gW (rP x0) (rY x4) (rM x2) d := by
  unfold gW
  pointwise [val_main_v93, val_main_v92, val_main_v91, val_main_cst_21, s60, s90]

theorem s89 (g : Fin 8) (i j : Fin 128) : (val_main_v89 (F := Ideal) x0 x1 x4 (ix3 g i j) : EReal)
      = gM (rP x0) (rY x4) (rW x1) g i j := by
  unfold gM dws
  refine (s68_1 g i j _ _).trans ?_
  congr 1
  · pointwise [val_main_v86, s85, s63]
  · pointwise [val_main_call2_v0, val_main_call2_cst]

theorem s136 (i : Fin 128) (g : Fin 8) : (val_main_v136 (F := Ideal) x0 x4 (ix2 i g) : EReal) = gB (rP x0) (rY x4) i g := by
  unfold gB dbs
  have h1 : (val_main_v81 (F := Ideal) x0 x4 (ix2 i g) : EReal) = ∑ n : Fin 64, ∑ e : Fin 128, dsv (cU (rP x0) n) (cY (rY x4) n) i (lane g e) := by
    refine (sum03 _ _ _ i g).trans ?_
    rw [show (val_main_cst_19 (F := Ideal) (Shape.Idx.first h_S_) : EReal) = 0 from Ideal.ofBits_zero FTy.f32, zero_add]
    exact Finset.sum_congr rfl fun n _ => Finset.sum_congr rfl fun e _ => s80 x0 x4 n i g e
  have h2 : (val_main_v82 (F := Ideal) x0 x4 (ix4 0 i g 0) : EReal) = val_main_v81 (F := Ideal) x0 x4 (ix2 i g) := by
    rw [val_main_v82_apply]
    congr 1
    funext a
    apply Fin.ext
    match a with
    | ⟨0, _⟩ => show ((((0 : ℕ) * 128 + i) * 8 + g) * 1 + 0) / 8 = (i : ℕ); omega
    | ⟨1, _⟩ => show ((((0 : ℕ) * 128 + i) * 8 + g) * 1 + 0) % 8 = (g : ℕ); omega
  have h3 : (val_main_v83 (F := Ideal) x0 x4 (ix2 i g) : EReal) = val_main_v82 (F := Ideal) x0 x4 (ix4 0 i g 0) := by
    refine (sum03 _ _ _ i g).trans ?_
    rw [show (val_main_cst_20 (F := Ideal) (Shape.Idx.first h_S_) : EReal) = 0 from Ideal.ofBits_zero FTy.f32, zero_add]
    rw [Fin.sum_univ_one, Fin.sum_univ_one]
  refine Eq.trans ?_ (h3.trans (h2.trans h1))
  pointwise [val_main_v136, val_main_v84]

theorem s135 (e : Fin 10368) : (val_main_v135 (F := Ideal) x0 x1 x2 x3 x4 x5 (ix2 r e) : EReal)
      = if h : (e : ℕ) < 2048 then
          if h' : (e : ℕ) < 1024 then gU (rP x0) (rY x4) (rW x1) (rM x2) (rB x3) r ⟨e, h'⟩
          else gV (rP x0) (rY x4) (rW x1) (rM x2) r ⟨e - 1024, by omega⟩
        else x5 (ix2 r e) := by
  pointwise [val_main_v135, val_main_v134, val_main_v133, val_main_v132, s131, s119]
  by_cases h : (e : ℕ) < 2048
  · rw [dif_pos h, dif_pos h]
  · rw [dif_neg h, dif_neg h]
    congr 1
    blk_ext
end
end Cert.ReferenceIdeal.Val
-- ==== Proof.SguFwd.lean ====
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.KArr
public import proofs.«01_k».proof.Proof.RefVal
public import Idealize.ShloMosaic.Lib.Pipeline.ValueKit
public import Idealize.ShloMosaic.Lib.Pipeline.ReadBack
public import Idealize.ShloMosaic.Lib.StableHlo.ReadAt

/-! # The gating unit

The unit's result is `gelu u` times the mixture of the normalised rows of `gelu v`. In the words of the gradient's file it is `dug` with
`gelu u` in the place of the incoming gradient. -/

@[expose] public section
set_option maxRecDepth 16384
noncomputable section
open Idealize.ShloMosaic Idealize.ShloMosaic.TcCoe Idealize.ShloMosaic.StableHlo Idealize.SL.Sem
namespace Cert.Kernel25Ideal.Val
open Cert.Kernel25Ideal Cert.Kernel25Ideal.Gen Cert.Sgu Cert.Reference25Ideal
open Cert.KernelIdeal.Val (row chk pos bk bk_pos chk_row pos_row wf af bf dugB)
open Cert.ReferenceIdeal.Val (rP rW rM rB nOf_arow iOf_arow eOf lane_of uR vR)

variable (m : (ℓ : Loc nD τ sig) → Buf (Elt Ideal) ℓ)

/-- The smooth rectifier of a chunk of `u`. -/
def glU (U : Fin 128 → Fin 1024 → EReal) (i : Fin 128) (d : Fin 1024) : EReal := gl (U i d)

/-- The unit's result on whole arrays. -/
def fwd (P : Fin 8192 → Fin 10368 → EReal) (W : Fin 1024 → EReal) (WS : Fin 8 → Fin 128 → Fin 128 → EReal) (B : Fin 8 → Fin 128 → EReal)
    (r : Fin 8192) (d : Fin 1024) : EReal := dug (cV P (nOf r)) (glU (cU P (nOf r))) W (low WS) B (iOf r) d

/-! ## One block -/

section
variable (X0 X1 : Vec Ideal S256x1024 .bf16) (w : Vec Ideal S1x1024 .f32) (ws : Vec Ideal S8x128x128 .bf16) (bs : Vec Ideal S128x8 .f32)

theorem pay3_at (y : S256x1024.Idx) : k0_pay3 (F := Ideal) X0 y = gl (X0 y) := by
  pointwise [k0_pay3, gl, cdf, th]

theorem pay4_at (r : Fin 256) (d : Fin 1024) : k0_pay4 (F := Ideal) X1 (ix2 r d) = nrm (bk X1 (chk r)) (pos r) d := by
  unfold nrm msq
  simp only [bk_pos]
  pointwise [k0_pay4, gl, cdf, th]

theorem pay6_at (r : Fin 256) (d : Fin 1024) :
    k0_pay6 (F := Ideal) (k0_pay4 X1) (k0_pay5 w) (ix2 r d) = vn (bk X1 (chk r)) (wf w) (pos r) d := by
  unfold vn
  pointwise [k0_pay6, k0_pay5, pay4_at, wf]

theorem mix_at (r : Fin 256) (d : Fin 1024) :
    dugB (k0_pay3 X0) (k0_pay6 (k0_pay4 X1) (k0_pay5 w)) ws bs (ix2 r d)
      = dug (bk X1 (chk r)) (glU (bk X0 (chk r))) (wf w) (af ws) (bf bs) (pos r) d := by
  simp only [dugB, dug, glU, pay3_at, af, bf, bk_pos]
  congr 1
  congr 1
  refine Finset.sum_congr rfl fun j _ => ?_
  congr 1
  exact (pay6_at _ _ _ _).trans (by rw [chk_row, pos_row]; rfl)
end

theorem step (c : Dev nD) (t : Fin cfg0.N) (y : S256x1024.Idx) : (outsAt0 m c t y : EReal)
    = dugB (k0_pay3 (X0_0 m c t)) (k0_pay6 (k0_pay4 (X0_1 m c t)) (k0_pay5 (iblk m c 2 t))) (iblk m c 3 t) (iblk m c 4 t) y := by
  unfold outsAt0
  frame_out
  simp only [k0_pay7, k0_pay8, k0_pay9]
  generalize iblk m c 3 t = ws
  generalize iblk m c 4 t = bs
  generalize k0_pay3 (X0_0 m c t) = ug
  generalize k0_pay6 (k0_pay4 (X0_1 m c t)) (k0_pay5 (iblk m c 2 t)) = vnb
  unfold dugB
  canon_tiles x h
  all_goals (open_payloads; pointwise [row, chk, pos, grp, lane]; blk_point [])

/-! ## The arrays -/

theorem pt_lt (t : Fin cfg0.N) : t.val < 32 := lt_of_lt_of_eq t.isLt N_0

/-- Row `r` of point `t`'s block. -/
def rk (t : Fin cfg0.N) (r : Fin 256) : Fin 8192 := ⟨t.val * 256 + r, by have := pt_lt t; omega⟩

/-- The arguments' elements. -/
def aP (c : Dev nD) : Fin 8192 → Fin 10368 → EReal := rP (m ((c : Thread nD τ).loc main_arg0))
def aW (c : Dev nD) : Fin 1024 → EReal := rW (m ((c : Thread nD τ).loc main_arg1))
def aM (c : Dev nD) : Fin 8 → Fin 128 → Fin 128 → EReal := rM (m ((c : Thread nD τ).loc main_arg2))
def aB (c : Dev nD) : Fin 8 → Fin 128 → EReal := rB (m ((c : Thread nD τ).loc main_arg3))

theorem idx : ∀ t : Fin cfg0.N, win0_0.index t = ![t.val, 0] ∧ win0_1.index t = ![t.val, 1] ∧ win0_2.index t = ![0, 0]
    ∧ win0_3.index t = ![0, 0, 0] ∧ win0_4.index t = ![0, 0] ∧ win0_5.index t = ![t.val, 0] :=
  (by decide +kernel : ∀ t : Fin grid0.N, _)

theorem x0_at (c : Dev nD) (t : Fin cfg0.N) (r : Fin 256) (d : Fin 1024) :
    (X0_0 m c t (ix2 r d) : EReal) = aP m c (rk t r) ⟨d, by omega⟩ := by
  unfold X0_0 Pipeline.Window.fill
  rw [dif_pos (moved0_0 t _)]
  unfold aP rP rk
  blk_point [iblk, V, idx t]

theorem x1_at (c : Dev nD) (t : Fin cfg0.N) (r : Fin 256) (d : Fin 1024) :
    (X0_1 m c t (ix2 r d) : EReal) = aP m c (rk t r) ⟨1024 + d, by omega⟩ := by
  unfold X0_1 Pipeline.Window.fill
  rw [dif_pos (moved0_1 t _)]
  unfold aP rP rk
  blk_point [iblk, V, idx t]

theorem x2_at (c : Dev nD) (t : Fin cfg0.N) : wf (iblk m c 2 t) = aW m c := by
  funext d
  unfold wf aW rW
  blk_point [iblk, V, idx t]

theorem x4_at (c : Dev nD) (t : Fin cfg0.N) : bf (iblk m c 4 t) = aB m c := by
  funext g i
  unfold bf aB rB
  have h : (V m c main_v5 (ix2 i g) : EReal) = m ((c : Thread nD τ).loc main_arg3) (ix2 g i) := by
    unfold V
    after_reads_at
  rw [← h]
  blk_ext [iblk, idx t]

theorem x3_at (c : Dev nD) (t : Fin cfg0.N) : af (iblk m c 3 t) = low (aM m c) := by
  funext g i j
  unfold af aM rM low
  have h : (V m c main_v4 (ix3 g i j) : EReal) = if (j : ℕ) ≤ i then m ((c : Thread nD τ).loc main_arg2) (ix3 g i j) else (0 : EReal) := by
    unfold V
    after_reads_at
    rw [tri_select i j i.isLt j.isLt]
    congr 1
    exact Ideal.ofBits_zero FTy.f32
  rw [← h]
  blk_ext [iblk, idx t]

theorem arow_rk (t : Fin cfg0.N) (r : Fin 256) (i : Fin 128) : arow (nOf (rk t r)) i = rk t (row (chk r) i) := by
  apply Fin.ext; simp only [arow, nOf, rk, row, chk]; omega

theorem iOf_rk (t : Fin cfg0.N) (r : Fin 256) : iOf (rk t r) = pos r := by
  apply Fin.ext; simp only [iOf, rk, pos]; omega

theorem bk0 (c : Dev nD) (t : Fin cfg0.N) (r : Fin 256) : bk (X0_0 m c t) (chk r) = cU (aP m c) (nOf (rk t r)) := by
  funext i d
  unfold bk cU
  rw [x0_at, arow_rk]

theorem bk1 (c : Dev nD) (t : Fin cfg0.N) (r : Fin 256) : bk (X0_1 m c t) (chk r) = cV (aP m c) (nOf (rk t r)) := by
  funext i d
  unfold bk cV
  rw [x1_at, arow_rk]

theorem out_at (c : Dev nD) (t : Fin cfg0.N) (r : Fin 256) (d : Fin 1024) :
    dugB (k0_pay3 (X0_0 m c t)) (k0_pay6 (k0_pay4 (X0_1 m c t)) (k0_pay5 (iblk m c 2 t))) (iblk m c 3 t) (iblk m c 4 t) (ix2 r d)
      = fwd (aP m c) (aW m c) (aM m c) (aB m c) (rk t r) d := by
  refine (mix_at _ _ _ _ _ r d).trans ?_
  unfold fwd
  rw [bk0, bk1, x2_at, x3_at, x4_at, iOf_rk]

theorem final (c : Dev nD) : (dats m 0 c).arrAt 5 cfg0.N = fun j : S8192x1024.Idx => fwd (aP m c) (aW m c) (aM m c) (aB m c) (j 0) (j 1) := by
  refine (dats m 0 c).arrAt_eq_of_covers 5 _ (by decide +kernel) fun t hf y => ?_
  blk_simp
  rw [after0_5]
  refine ((step m c t y).trans ((congrArg _ (eq_ix2 y)).trans (out_at m c t (y 0) (y 1)))).trans
    (congrArg₂ (fwd (aP m c) (aW m c) (aM m c) (aB m c)) (Fin.ext ?_) (Fin.ext ?_))
  · unfold rk; blk_simp [idx t]
  · blk_simp [idx t]

/-! ## The reference -/

/-- The reference declares no semaphore, and writes none of its arguments. -/
theorem frameRef : Cert.quiescent_Reference25Ideal (hReference25Ideal := Cert.Reference25Ideal.Gen.facts) := fun m ρ _ =>
  (θ_run Cert.Reference25Ideal.defs _ _).mono (fun r h => ⟨fun c => (h c).2, sem_eq_zero_of_no_sems (by decide) r.2⟩)
    (Cert.Reference25Ideal.Value.run (F := Ideal) m ρ)

section
open Read
variable (x0 : (⟨S8192x10368, .bf16⟩ : BufTy).Contents (Elt Ideal)) (x1 : (⟨S1x1024, .f32⟩ : BufTy).Contents (Elt Ideal))
  (x2 : (⟨S8x128x128, .f32⟩ : BufTy).Contents (Elt Ideal)) (x3 : (⟨S8x128, .f32⟩ : BufTy).Contents (Elt Ideal))
  (r : Fin 8192) (d : Fin 1024)

theorem s1 : (val_main_v1 (F := Ideal) x0 (ix2 r d) : EReal) = uR x0 r d := by
  unfold uR cU rP
  rw [arow_of]
  pointwise [val_main_v1, val_main_v0]
  blk_ext

theorem s3 : (val_main_v3 (F := Ideal) x0 (ix2 r d) : EReal) = vR x0 r d := by
  unfold vR cV rP
  rw [arow_of]
  pointwise [val_main_v3, val_main_v2]
  blk_ext

theorem s16 : (val_main_v16 (F := Ideal) x0 (ix2 r d) : EReal) = gl (uR x0 r d) := by
  unfold gl cdf th
  rw [mul_comm (uR x0 r d) (uR x0 r d * uR x0 r d)]
  pointwise [val_main_v16, val_main_v15, val_main_v14, val_main_v13, val_main_v12, val_main_v11, val_main_v10, val_main_v9, val_main_v8, val_main_v7,
    val_main_v6, val_main_v5, val_main_v4, val_main_cst, val_main_cst_0, val_main_cst_1, val_main_cst_2, s1]

theorem s29 : (val_main_v29 (F := Ideal) x0 (ix2 r d) : EReal) = gl (vR x0 r d) := by
  unfold gl cdf th
  rw [mul_comm (vR x0 r d) (vR x0 r d * vR x0 r d)]
  pointwise [val_main_v29, val_main_v28, val_main_v27, val_main_v26, val_main_v25, val_main_v24, val_main_v23, val_main_v22, val_main_v21, val_main_v20,
    val_main_v19, val_main_v18, val_main_v17, val_main_cst_3, val_main_cst_4, val_main_cst_5, val_main_cst_6, s3]

theorem s36 : (val_main_v36 (F := Ideal) x0 (ix2 r 0) : EReal) = msq (cV (rP x0) (nOf r)) (iOf r) := by
  unfold msq
  pointwise [val_main_v36, val_main_v35, val_main_v34, val_main_v33, val_main_v32, val_main_v31, val_main_v30, val_main_cst_7, val_main_cst_8, val_main_cst_9, s29]

theorem s41 : (val_main_v41 (F := Ideal) x0 x1 (ix2 r d) : EReal) = vn (cV (rP x0) (nOf r)) (rW x1) (iOf r) d := by
  unfold vn nrm rW
  pointwise [val_main_v41, val_main_v40, val_main_v39, val_main_v38, val_main_v37, s36, s29]

theorem s42 (n : Fin 64) (i : Fin 128) (g : Fin 8) (e : Fin 128) :
    (val_main_v42 (F := Ideal) x0 x1 (ix4 n i g e) : EReal) = vn (cV (rP x0) n) (rW x1) i (lane g e) := by
  have h := s41 x0 x1 (arow n i) (lane g e)
  rw [nOf_arow, iOf_arow] at h
  rw [← h, val_main_v42_apply]
  congr 1
  funext a
  apply Fin.ext
  match a with
  | ⟨0, _⟩ => show ((((n : ℕ) * 128 + i) * 8 + g) * 128 + e) / 1024 = (n : ℕ) * 128 + i; omega
  | ⟨1, _⟩ => show ((((n : ℕ) * 128 + i) * 8 + g) * 128 + e) % 1024 = (g : ℕ) * 128 + e; omega

theorem s47 (g : Fin 8) (i j : Fin 128) : (val_main_v47 (F := Ideal) x2 (ix3 g i j) : EReal) = low (rM x2) g i j := by
  unfold low rM
  rw [← Ideal.ofBits_zero FTy.f32]
  exact tri_select i j i.isLt j.isLt _ _

theorem s48 (n : Fin 64) (i : Fin 128) (g : Fin 8) (e : Fin 128) :
    (val_main_v48 (F := Ideal) x0 x1 x2 (ix4 g n e i) : EReal)
      = ∑ j : Fin 128, low (rM x2) g i j * vn (cV (rP x0) n) (rW x1) j (lane g e) := by
  rw [val_main_v48_apply]
  refine Finset.sum_congr rfl fun j _ => ?_
  rw [mul_comm]
  have e1 : lidx_main_v48 (ix4 g n e i) j = ix4 n j g e := by
    funext a
    match a with
    | ⟨0, _⟩ => rfl
    | ⟨1, _⟩ => rfl
    | ⟨2, _⟩ => rfl
    | ⟨3, _⟩ => rfl
  have e2 : ridx_main_v48 (ix4 g n e i) j = ix3 g i j := by
    funext a
    match a with
    | ⟨0, _⟩ => rfl
    | ⟨1, _⟩ => rfl
    | ⟨2, _⟩ => rfl
  rw [e1, e2, s42, s47]

theorem s53 (n : Fin 64) (i : Fin 128) (g : Fin 8) (e : Fin 128) :
    (val_main_v53 (F := Ideal) x0 x1 x2 x3 (ix4 n i g e) : EReal)
      = ∑ j : Fin 128, low (rM x2) g i j * vn (cV (rP x0) n) (rW x1) j (lane g e) + rB x3 g i := by
  unfold rB
  pointwise [val_main_v53, val_main_v52, val_main_v51, val_main_v50, val_main_v49, s48]

theorem s54 : (val_main_v54 (F := Ideal) x0 x1 x2 x3 (ix2 r d) : EReal)
      = ∑ j : Fin 128, low (rM x2) (grp d) (iOf r) j * vn (cV (rP x0) (nOf r)) (rW x1) j d + rB x3 (grp d) (iOf r) := by
  have h := s53 x0 x1 x2 x3 (nOf r) (iOf r) (grp d) (eOf d)
  rw [lane_of] at h
  rw [← h, val_main_v54_apply]
  congr 1
  funext a
  apply Fin.ext
  match a with
  | ⟨0, _⟩ => show ((r : ℕ) * 1024 + d) / _ = (r : ℕ) / 128; omega
  | ⟨1, _⟩ => show ((r : ℕ) * 1024 + d) / _ % _ = (r : ℕ) % 128; omega
  | ⟨2, _⟩ => show ((r : ℕ) * 1024 + d) / _ % _ = (d : ℕ) / 128; omega
  | ⟨3, _⟩ => show ((r : ℕ) * 1024 + d) % _ = (d : ℕ) % 128; omega

theorem s56 : (val_main_v56 (F := Ideal) x0 x1 x2 x3 (ix2 r d) : EReal) = fwd (rP x0) (rW x1) (rM x2) (rB x3) r d := by
  unfold fwd dug glU
  pointwise [val_main_v56, val_main_v55, s54, s16]
end

theorem res (c : Dev nD) : Read.val_main_v56 (F := Ideal) (m ((c.tc : Thread nD τ).loc main_arg0)) (m ((c.tc : Thread nD τ).loc main_arg1))
      (m ((c.tc : Thread nD τ).loc main_arg2)) (m ((c.tc : Thread nD τ).loc main_arg3))
    = fun j : S8192x1024.Idx => fwd (aP m c) (aW m c) (aM m c) (aB m c) (j 0) (j 1) := by
  funext j
  exact (congrArg _ (eq_ix2 j)).trans (s56 _ _ _ _ (j 0) (j 1))

theorem algebra : Cert.algebraic_Kernel25Ideal_Reference25Ideal (hKernel25Ideal := Cert.Kernel25Ideal.Gen.facts) (hReference25Ideal := Cert.Reference25Ideal.Gen.facts) := by
  intro m ρ m' ρ' _ hm
  refine ⟨fun c => fun j : S8192x1024.Idx => fwd (aP m c) (aW m c) (aM m c) (aB m c) (j 0) (j 1), ?_, ?_⟩
  · exact (θ_run Cert.Kernel25Ideal.defs _ _).mono (fun r h c => ⟨(h c).1.trans (final m c), (h c).2⟩)
      (Cert.Kernel25Ideal.Value.run_blocks (F := Ideal) m ρ)
  · refine (θ_run Cert.Reference25Ideal.defs _ _).mono (fun r h c =>
      ⟨(h c).1.trans (Eq.trans (Read.val_main_v56_eq (F := Ideal) m' c) ?_), (h c).2⟩)
      (Cert.Reference25Ideal.Value.run (F := Ideal) m' ρ')
    all_goals obtain ⟨h0, h1, h2, h3⟩ := hm c
    · rw [h0, h1, h2, h3]; exact res m c

end Cert.Kernel25Ideal.Val
-- ==== Proof.MixFwd.lean ====
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pipeline.ValueKit
public import Idealize.ShloMosaic.Lib.Pipeline.ReadBack
public import Idealize.ShloMosaic.Lib.StableHlo.ReadAt

/-! # The two branches merged by their gates -/

@[expose] public section
set_option maxRecDepth 16384
noncomputable section
open Idealize.ShloMosaic Idealize.ShloMosaic.TcCoe Idealize.ShloMosaic.StableHlo Idealize.SL.Sem
namespace Cert.Kernel26Ideal.Val
open Cert.Kernel26Ideal Cert.Kernel26Ideal.Gen Cert.Reference26Ideal

variable (m : (ℓ : Loc nD τ sig) → Buf (Elt Ideal) ℓ)

/-- The arguments' elements: the gates' arguments, in the projection's columns from 8192 and from 9216 on, -/
def aG (c : Dev nD) (r : Fin 8192) (d : Fin 1024) : EReal := m ((c : Thread nD τ).loc main_arg0) (ix2 r ⟨8192 + d, by omega⟩)
def aH (c : Dev nD) (r : Fin 8192) (d : Fin 1024) : EReal := m ((c : Thread nD τ).loc main_arg0) (ix2 r ⟨9216 + d, by omega⟩)
/-- and the branches. -/
def aA (c : Dev nD) (r : Fin 8192) (d : Fin 1024) : EReal := m ((c : Thread nD τ).loc main_arg1) (ix2 r d)
def aB (c : Dev nD) (r : Fin 8192) (d : Fin 1024) : EReal := m ((c : Thread nD τ).loc main_arg2) (ix2 r d)

/-- Two numbers, each scaled by its gate. -/
def mix (g h a b : EReal) : EReal := Ideal.logistic g * a + Ideal.logistic h * b

/-- The result. -/
def out (c : Dev nD) (r : Fin 8192) (d : Fin 1024) : EReal := mix (aG m c r d) (aH m c r d) (aA m c r d) (aB m c r d)

theorem pay1_at (g h a b : Vec Ideal S512x1024 .bf16) (y : S512x1024.Idx) : (k0_pay1 g h a b y : EReal) = mix (g y) (h y) (a y) (b y) := by
  unfold mix
  pointwise [k0_pay1]

theorem step (c : Dev nD) (t : Fin cfg0.N) (y : S512x1024.Idx) : (outsAt0 m c t y : EReal)
    = mix (X0_0 m c t y) (X0_1 m c t y) (iblk m c 2 t y) (iblk m c 3 t y) := by
  unfold outsAt0
  frame_out
  exact pay1_at _ _ _ _ _

theorem pt_lt (t : Fin cfg0.N) : t.val < 16 := lt_of_lt_of_eq t.isLt N_0

/-- Row `r` of point `t`'s block. -/
def rk (t : Fin cfg0.N) (r : Fin 512) : Fin 8192 := ⟨t.val * 512 + r, by have := pt_lt t; omega⟩

theorem idx : ∀ t : Fin cfg0.N, win0_0.index t = ![t.val, 8] ∧ win0_1.index t = ![t.val, 9] ∧ win0_2.index t = ![t.val, 0]
    ∧ win0_3.index t = ![t.val, 0] ∧ win0_4.index t = ![t.val, 0] :=
  (by decide +kernel : ∀ t : Fin grid0.N, _)

section
variable (c : Dev nD) (t : Fin cfg0.N) (r : Fin 512) (d : Fin 1024)
theorem g_at : (X0_0 m c t (ix2 r d) : EReal) = aG m c (rk t r) d := by
  unfold X0_0 Pipeline.Window.fill
  rw [dif_pos (moved0_0 t _)]
  unfold aG rk
  blk_point [iblk, V, idx t]

theorem h_at : (X0_1 m c t (ix2 r d) : EReal) = aH m c (rk t r) d := by
  unfold X0_1 Pipeline.Window.fill
  rw [dif_pos (moved0_1 t _)]
  unfold aH rk
  blk_point [iblk, V, idx t]

theorem a_at : (iblk m c 2 t (ix2 r d) : EReal) = aA m c (rk t r) d := by
  unfold aA rk
  blk_point [iblk, V, idx t]

theorem b_at : (iblk m c 3 t (ix2 r d) : EReal) = aB m c (rk t r) d := by
  unfold aB rk
  blk_point [iblk, V, idx t]

theorem out_at : mix (X0_0 m c t (ix2 r d)) (X0_1 m c t (ix2 r d)) (iblk m c 2 t (ix2 r d)) (iblk m c 3 t (ix2 r d)) = out m c (rk t r) d := by
  rw [g_at, h_at, a_at, b_at]
  rfl
end

theorem final (c : Dev nD) : (dats m 0 c).arrAt 4 cfg0.N = fun j : S8192x1024.Idx => out m c (j 0) (j 1) := by
  refine (dats m 0 c).arrAt_eq_of_covers 4 _ (by decide +kernel) fun t hf y => ?_
  blk_simp
  rw [after0_4]
  refine (((congrArg _ (eq_ix2 y)).trans (step m c t (ix2 (y 0) (y 1)))).trans (out_at m c t (y 0) (y 1))).trans (congrArg₂ (out m c) (Fin.ext ?_) (Fin.ext ?_))
  · unfold rk; blk_simp [idx t]
  · blk_simp [idx t]

/-! ## The reference -/

/-- The reference declares no semaphore, and writes none of its arguments. -/
theorem frameRef : Cert.quiescent_Reference26Ideal (hReference26Ideal := Cert.Reference26Ideal.Gen.facts) := fun m ρ _ =>
  (θ_run Cert.Reference26Ideal.defs _ _).mono (fun r h => ⟨fun c => (h c).2, sem_eq_zero_of_no_sems (by decide) r.2⟩)
    (Cert.Reference26Ideal.Value.run (F := Ideal) m ρ)

section
open Read
variable (x0 : FVec Ideal S8192x10368 .bf16) (x1 x2 : FVec Ideal S8192x1024 .bf16) (r : Fin 8192) (d : Fin 1024)

theorem s11 : (val_main_v11 (F := Ideal) x0 (ix2 r d) : EReal) = Ideal.logistic (x0 (ix2 r ⟨8192 + d, by omega⟩)) := by
  pointwise [val_main_v11, val_main_v10, val_main_v9, val_main_v8, val_main_v7, val_main_v6, val_main_v1, val_main_v0, val_main_cst, val_main_cst_0]
  rfl

theorem s18 : (val_main_v18 (F := Ideal) x0 (ix2 r d) : EReal) = Ideal.logistic (x0 (ix2 r ⟨9216 + d, by omega⟩)) := by
  pointwise [val_main_v18, val_main_v17, val_main_v16, val_main_v15, val_main_v14, val_main_v13, val_main_v3, val_main_v2, val_main_cst_1, val_main_cst_2]
  rfl

theorem s21 : (val_main_v21 (F := Ideal) x0 x1 x2 (ix2 r d) : EReal)
    = mix (x0 (ix2 r ⟨8192 + d, by omega⟩)) (x0 (ix2 r ⟨9216 + d, by omega⟩)) (x1 (ix2 r d)) (x2 (ix2 r d)) := by
  unfold mix
  pointwise [val_main_v21, val_main_v20, val_main_v19, val_main_v12, val_main_v5, val_main_v4, s11, s18]
end

theorem res (c : Dev nD) : Read.val_main_v21 (F := Ideal) (m ((c.tc : Thread nD τ).loc main_arg0)) (m ((c.tc : Thread nD τ).loc main_arg1)) (m ((c.tc : Thread nD τ).loc main_arg2))
    = fun j : S8192x1024.Idx => out m c (j 0) (j 1) := by
  funext j
  exact (congrArg _ (eq_ix2 j)).trans (s21 _ _ _ (j 0) (j 1))

theorem algebra : Cert.algebraic_Kernel26Ideal_Reference26Ideal (hKernel26Ideal := Cert.Kernel26Ideal.Gen.facts) (hReference26Ideal := Cert.Reference26Ideal.Gen.facts) := by
  intro m ρ m' ρ' _ hm
  refine ⟨fun c => fun j : S8192x1024.Idx => out m c (j 0) (j 1), ?_, ?_⟩
  · exact (θ_run Cert.Kernel26Ideal.defs _ _).mono (fun r h c => ⟨(h c).1.trans (final m c), (h c).2⟩)
      (Cert.Kernel26Ideal.Value.run_blocks (F := Ideal) m ρ)
  · refine (θ_run Cert.Reference26Ideal.defs _ _).mono (fun r h c =>
      ⟨(h c).1.trans (Eq.trans (Read.val_main_v21_eq (F := Ideal) _ _ _) ?_), (h c).2⟩)
      (Cert.Reference26Ideal.Value.run (F := Ideal) m' ρ')
    all_goals obtain ⟨h0, h1, h2⟩ := hm c
    · rw [h0, h1, h2]; exact res m c

end Cert.Kernel26Ideal.Val
-- ==== Proof.MixBwd.lean ====
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pipeline.ValueKit
public import Idealize.ShloMosaic.Lib.Pipeline.ReadBack
public import Idealize.ShloMosaic.Lib.StableHlo.ReadAt

/-! # The gradient of the merged branches -/

@[expose] public section
set_option maxRecDepth 16384
noncomputable section
open Idealize.ShloMosaic Idealize.ShloMosaic.TcCoe Idealize.ShloMosaic.StableHlo Idealize.SL.Sem
namespace Cert.Kernel27Ideal.Val
open Cert.Kernel27Ideal Cert.Kernel27Ideal.Gen Cert.Reference27Ideal

variable (m : (ℓ : Loc nD τ sig) → Buf (Elt Ideal) ℓ)

/-- The arguments' elements: the gates' arguments, in the projection's columns from 8192 and from 9216 on, -/
def aG (c : Dev nD) (r : Fin 8192) (d : Fin 1024) : EReal := m ((c : Thread nD τ).loc main_arg0) (ix2 r ⟨8192 + d, by omega⟩)
def aH (c : Dev nD) (r : Fin 8192) (d : Fin 1024) : EReal := m ((c : Thread nD τ).loc main_arg0) (ix2 r ⟨9216 + d, by omega⟩)
/-- and the gradient of the merged rows. -/
def aD (c : Dev nD) (r : Fin 8192) (d : Fin 1024) : EReal := m ((c : Thread nD τ).loc main_arg3) (ix2 r d)

/-- The gradients of the two branches. -/
def outA (c : Dev nD) (r : Fin 8192) (d : Fin 1024) : EReal := Ideal.logistic (aG m c r d) * aD m c r d
def outB (c : Dev nD) (r : Fin 8192) (d : Fin 1024) : EReal := Ideal.logistic (aH m c r d) * aD m c r d

theorem pay6_at (g d : Vec Ideal S512x1024 .bf16) (y : S512x1024.Idx) : (k0_pay6 g d y : EReal) = Ideal.logistic (g y) * d y := by
  pointwise [k0_pay6, k0_pay1, k0_pay3]

theorem pay7_at (g d : Vec Ideal S512x1024 .bf16) (y : S512x1024.Idx) : (k0_pay7 g d y : EReal) = Ideal.logistic (g y) * d y := by
  pointwise [k0_pay7, k0_pay2, k0_pay3]

theorem step6 (c : Dev nD) (t : Fin cfg0.N) (y : S512x1024.Idx) : ((outsAt0 m c t).2.1 y : EReal) = Ideal.logistic (X0_0 m c t y) * iblk m c 4 t y := by
  unfold outsAt0
  frame_out
  exact pay6_at _ _ _

theorem step7 (c : Dev nD) (t : Fin cfg0.N) (y : S512x1024.Idx) : ((outsAt0 m c t).2.2 y : EReal) = Ideal.logistic (X0_1 m c t y) * iblk m c 4 t y := by
  unfold outsAt0
  frame_out
  exact pay7_at _ _ _

theorem pt_lt (t : Fin cfg0.N) : t.val < 16 := lt_of_lt_of_eq t.isLt N_0

/-- Row `r` of point `t`'s block. -/
def rk (t : Fin cfg0.N) (r : Fin 512) : Fin 8192 := ⟨t.val * 512 + r, by have := pt_lt t; omega⟩

theorem idx : ∀ t : Fin cfg0.N, win0_0.index t = ![t.val, 8] ∧ win0_1.index t = ![t.val, 9] ∧ win0_4.index t = ![t.val, 0]
    ∧ win0_6.index t = ![t.val, 0] ∧ win0_7.index t = ![t.val, 0] :=
  (by decide +kernel : ∀ t : Fin grid0.N, _)

section
variable (c : Dev nD) (t : Fin cfg0.N) (r : Fin 512) (d : Fin 1024)
theorem g_at : (X0_0 m c t (ix2 r d) : EReal) = aG m c (rk t r) d := by
  unfold X0_0 Pipeline.Window.fill
  rw [dif_pos (moved0_0 t _)]
  unfold aG rk
  blk_point [iblk, V, idx t]

theorem h_at : (X0_1 m c t (ix2 r d) : EReal) = aH m c (rk t r) d := by
  unfold X0_1 Pipeline.Window.fill
  rw [dif_pos (moved0_1 t _)]
  unfold aH rk
  blk_point [iblk, V, idx t]

theorem d_at : (iblk m c 4 t (ix2 r d) : EReal) = aD m c (rk t r) d := by
  unfold aD rk
  blk_point [iblk, V, idx t]

theorem outA_at : Ideal.logistic (X0_0 m c t (ix2 r d)) * iblk m c 4 t (ix2 r d) = outA m c (rk t r) d := by
  rw [g_at, d_at]
  rfl

theorem outB_at : Ideal.logistic (X0_1 m c t (ix2 r d)) * iblk m c 4 t (ix2 r d) = outB m c (rk t r) d := by
  rw [h_at, d_at]
  rfl
end

theorem final6 (c : Dev nD) : (dats m 0 c).arrAt 6 cfg0.N = fun j : S8192x1024.Idx => outA m c (j 0) (j 1) := by
  refine (dats m 0 c).arrAt_eq_of_covers 6 _ (by decide +kernel) fun t hf y => ?_
  blk_simp
  rw [after0_6]
  refine (((congrArg _ (eq_ix2 y)).trans (step6 m c t (ix2 (y 0) (y 1)))).trans (outA_at m c t (y 0) (y 1))).trans (congrArg₂ (outA m c) (Fin.ext ?_) (Fin.ext ?_))
  · unfold rk; blk_simp [idx t]
  · blk_simp [idx t]

theorem final7 (c : Dev nD) : (dats m 0 c).arrAt 7 cfg0.N = fun j : S8192x1024.Idx => outB m c (j 0) (j 1) := by
  refine (dats m 0 c).arrAt_eq_of_covers 7 _ (by decide +kernel) fun t hf y => ?_
  blk_simp
  rw [after0_7]
  refine (((congrArg _ (eq_ix2 y)).trans (step7 m c t (ix2 (y 0) (y 1)))).trans (outB_at m c t (y 0) (y 1))).trans (congrArg₂ (outB m c) (Fin.ext ?_) (Fin.ext ?_))
  · unfold rk; blk_simp [idx t]
  · blk_simp [idx t]

/-! ## The reference -/

/-- The reference declares no semaphore, and writes none of its arguments. -/
theorem frameRef : Cert.quiescent_Reference27Ideal (hReference27Ideal := Cert.Reference27Ideal.Gen.facts) := fun m ρ _ =>
  (θ_run Cert.Reference27Ideal.defs _ _).mono (fun r h => ⟨fun c => (h c).2.2, sem_eq_zero_of_no_sems (by decide) r.2⟩)
    (Cert.Reference27Ideal.Value.run (F := Ideal) m ρ)

section
open Read
variable (x0 : FVec Ideal S8192x10368 .bf16) (x3 : FVec Ideal S8192x1024 .bf16) (r : Fin 8192) (d : Fin 1024)

theorem s11 : (val_main_v11 (F := Ideal) x0 (ix2 r d) : EReal) = Ideal.logistic (x0 (ix2 r ⟨8192 + d, by omega⟩)) := by
  pointwise [val_main_v11, val_main_v10, val_main_v9, val_main_v8, val_main_v7, val_main_v6, val_main_v1, val_main_v0, val_main_cst, val_main_cst_0]
  rfl

theorem s18 : (val_main_v18 (F := Ideal) x0 (ix2 r d) : EReal) = Ideal.logistic (x0 (ix2 r ⟨9216 + d, by omega⟩)) := by
  pointwise [val_main_v18, val_main_v17, val_main_v16, val_main_v15, val_main_v14, val_main_v13, val_main_v3, val_main_v2, val_main_cst_1, val_main_cst_2]
  rfl

theorem s24 : (val_main_v24 (F := Ideal) x0 x3 (ix2 r d) : EReal) = Ideal.logistic (x0 (ix2 r ⟨8192 + d, by omega⟩)) * x3 (ix2 r d) := by
  pointwise [val_main_v24, val_main_v23, val_main_v21, s11]

theorem s25 : (val_main_v25 (F := Ideal) x0 x3 (ix2 r d) : EReal) = Ideal.logistic (x0 (ix2 r ⟨9216 + d, by omega⟩)) * x3 (ix2 r d) := by
  pointwise [val_main_v25, val_main_v22, val_main_v21, s18]
end

theorem res0 (c : Dev nD) : Read.val_main_v24 (F := Ideal) (m ((c.tc : Thread nD τ).loc main_arg0)) (m ((c.tc : Thread nD τ).loc main_arg3))
    = fun j : S8192x1024.Idx => outA m c (j 0) (j 1) := by
  funext j
  exact (congrArg _ (eq_ix2 j)).trans (s24 _ _ (j 0) (j 1))

theorem res1 (c : Dev nD) : Read.val_main_v25 (F := Ideal) (m ((c.tc : Thread nD τ).loc main_arg0)) (m ((c.tc : Thread nD τ).loc main_arg3))
    = fun j : S8192x1024.Idx => outB m c (j 0) (j 1) := by
  funext j
  exact (congrArg _ (eq_ix2 j)).trans (s25 _ _ (j 0) (j 1))

theorem algebra : Cert.algebraic_Kernel27Ideal_Reference27Ideal (hKernel27Ideal := Cert.Kernel27Ideal.Gen.facts) (hReference27Ideal := Cert.Reference27Ideal.Gen.facts) := by
  intro m ρ m' ρ' _ hm
  refine ⟨fun c => fun j : S8192x1024.Idx => outA m c (j 0) (j 1), fun c => fun j : S8192x1024.Idx => outB m c (j 0) (j 1), ?_, ?_⟩
  · exact (θ_run Cert.Kernel27Ideal.defs _ _).mono (fun r h c => ⟨(h c).2.1.trans (final6 m c), (h c).2.2.1.trans (final7 m c), (h c).2.2.2⟩)
      (Cert.Kernel27Ideal.Value.run_blocks (F := Ideal) m ρ)
  · refine (θ_run Cert.Reference27Ideal.defs _ _).mono (fun r h c =>
      ⟨(h c).1.trans (Eq.trans (Read.val_main_v24_eq (F := Ideal) _ _) ?_), (h c).2.1.trans (Eq.trans (Read.val_main_v25_eq (F := Ideal) _ _) ?_), (h c).2.2⟩)
      (Cert.Reference27Ideal.Value.run (F := Ideal) m' ρ')
    all_goals obtain ⟨h0, h1, h2, h3⟩ := hm c
    · rw [h0, h3]; exact res0 m c
    · rw [h0, h3]; exact res1 m c

end Cert.Kernel27Ideal.Val
-- ==== Proof.SsdVoc.lean ====
module

public import Idealize.ShloMosaic.Lib.Pipeline.ValueKit

/-! # The chunked scan's values

The rows come in 64 chunks of 128, the 2048 columns in 32 heads of 64, and four heads share a group's `B` and `C`. A state of 128 numbers a
column goes from one chunk to the next. -/

@[expose] public section
noncomputable section
open Idealize.ShloMosaic
namespace Cert.Ssd

/-! ## One head's values -/

/-- The decay between two rows of a chunk, where `c` are the sums at the rows. -/
def dec (c : Fin 128 → EReal) (i j : Fin 128) : EReal := Ideal.exp (if (j : ℕ) ≤ i then c i - c j else ⊥)

/-- An entry of the result: `x` are the column's inputs, `d` the steps, `s` the incoming state's row. -/
def outv (x d c : Fin 128 → EReal) (B C : Fin 128 → Fin 128 → EReal) (s : Fin 128 → EReal) (k : EReal) (i : Fin 128) : EReal :=
  (∑ j : Fin 128, ((∑ n : Fin 128, C i n * B j n) * dec c i j) * (x j * d j)) + (∑ n : Fin 128, C i n * s n) * Ideal.exp (c i) + x i * k

/-- An entry of the next state. -/
def nxtv (x d c : Fin 128 → EReal) (B : Fin 128 → Fin 128 → EReal) (s : Fin 128 → EReal) (n : Fin 128) : EReal :=
  s n * Ideal.exp (c 127) + ∑ j : Fin 128, (x j * d j * Ideal.exp (c 127 - c j)) * B j n

/-- The head of a column, -/
def hd (d : Fin 2048) : Fin 128 := ⟨d / 64, by omega⟩
/-- and its group's lanes. -/
def gl (d : Fin 2048) (n : Fin 128) : Fin 1024 := ⟨128 * (d / 256) + n, by omega⟩

theorem outv_congr {x x' d d' c c' : Fin 128 → EReal} {B B' C C' : Fin 128 → Fin 128 → EReal} {s s' : Fin 128 → EReal} {k k' : EReal} (i : Fin 128)
    (hx : ∀ j, x j = x' j) (hd : ∀ j, d j = d' j) (hc : ∀ j, c j = c' j) (hB : ∀ j n, B j n = B' j n) (hC : ∀ j n, C j n = C' j n)
    (hs : ∀ n, s n = s' n) (hk : k = k') : outv x d c B C s k i = outv x' d' c' B' C' s' k' i := by
  obtain rfl := funext hx
  obtain rfl := funext hd
  obtain rfl := funext hc
  obtain rfl := funext fun j => funext (hB j)
  obtain rfl := funext fun j => funext (hC j)
  obtain rfl := funext hs
  rw [hk]

theorem nxtv_congr {x x' d d' c c' : Fin 128 → EReal} {B B' : Fin 128 → Fin 128 → EReal} {s s' : Fin 128 → EReal} (i : Fin 128)
    (hx : ∀ j, x j = x' j) (hd : ∀ j, d j = d' j) (hc : ∀ j, c j = c' j) (hB : ∀ j n, B j n = B' j n)
    (hs : ∀ n, s n = s' n) : nxtv x d c B s i = nxtv x' d' c' B' s' i := by
  obtain rfl := funext hx
  obtain rfl := funext hd
  obtain rfl := funext hc
  obtain rfl := funext fun j => funext (hB j)
  obtain rfl := funext hs
  rfl

/-- Row `j` of chunk `n`. -/
def arw (n : ℕ) (j : Fin 128) : Fin 8192 := ⟨(n * 128 + j) % 8192, Nat.mod_lt _ (by decide)⟩

section
variable (X : Fin 8192 → Fin 4096 → EReal) (D Cm : Fin 8192 → Fin 128 → EReal) (K : Fin 128 → EReal)

/-- Chunk `n`'s result from the state `s` that came in, -/
def outC (n : ℕ) (s : Fin 128 → EReal) (i : Fin 128) (d : Fin 2048) : EReal :=
  outv (fun j => X (arw n j) ⟨d, by omega⟩) (fun j => D (arw n j) (hd d)) (fun j => Cm (arw n j) (hd d))
    (fun j e => X (arw n j) ⟨2048 + gl d e, by omega⟩) (fun j e => X (arw n j) ⟨3072 + gl d e, by omega⟩) s (K (hd d)) i
/-- and the next state. -/
def nxtC (n : ℕ) (s : Fin 128 → EReal) (d : Fin 2048) (e : Fin 128) : EReal :=
  nxtv (fun j => X (arw n j) ⟨d, by omega⟩) (fun j => D (arw n j) (hd d)) (fun j => Cm (arw n j) (hd d))
    (fun j e => X (arw n j) ⟨2048 + gl d e, by omega⟩) s e

/-- The state before chunk `n`. -/
def stt : ℕ → Fin 2048 → Fin 128 → EReal
  | 0 => fun _ _ => 0
  | n + 1 => fun d e => nxtC X D Cm n (stt n d) d e

end
theorem row_val (n : Fin 64) (i : Fin 128) : ((arw n i : Fin 8192) : ℕ) = n * 128 + i := Nat.mod_eq_of_lt (by omega)

section
variable (X : Fin 8192 → Fin 4096 → EReal) (D Cm : Fin 8192 → Fin 128 → EReal) (K : Fin 128 → EReal)

/-- The result on whole arrays. -/
def outA (r : Fin 8192) (d : Fin 2048) : EReal := outC X D Cm K (r / 128) (stt X D Cm (r / 128) d) ⟨r % 128, Nat.mod_lt _ (by decide)⟩ d

theorem outA_at (n : Fin 64) (i : Fin 128) (d : Fin 2048) : outA X D Cm K (arw n i) d = outC X D Cm K n (stt X D Cm n d) i d := by
  have h := row_val n i
  have h1 : ((arw n i : Fin 8192) : ℕ) / 128 = n := by rw [h]; omega
  have h2 : (⟨((arw n i : Fin 8192) : ℕ) % 128, Nat.mod_lt _ (by decide)⟩ : Fin 128) = i := Fin.ext (by show _ % 128 = _; rw [h]; omega)
  unfold outA
  rw [h1, h2]
end

/-- The arguments' elements. -/
def rX (x : (⟨⟨2, ![8192, 4096]⟩, .f32⟩ : BufTy).Contents (Elt Ideal)) (r : Fin 8192) (d : Fin 4096) : EReal := x (ix2 r d)
def rD (x : (⟨⟨2, ![8192, 128]⟩, .f32⟩ : BufTy).Contents (Elt Ideal)) (r : Fin 8192) (h : Fin 128) : EReal := x (ix2 r h)
def rK (x : (⟨⟨2, ![1, 128]⟩, .f32⟩ : BufTy).Contents (Elt Ideal)) (h : Fin 128) : EReal := x (ix2 0 h)

end Cert.Ssd
-- ==== Proof.SsdKer.lean ====
module

public import proofs.«01_k».proof.Proof.Gen.Kernel29Ideal.Value
public import proofs.«01_k».proof.Proof.SsdVoc
public import proofs.«01_k».proof.Proof.Arr
public import Idealize.ShloMosaic.Lib.Pipeline.ValueKit
public import Idealize.ShloMosaic.Lib.Pipeline.ReadBack
public import Idealize.ShloMosaic.Lib.StableHlo.ReadAt

/-! # The chunked scan

The kernel works on a chunk of 128 rows and two heads, which are 128 columns, at a time. This file says in the kernel's own operators what it
makes of them and reads the value of every entry. -/

@[expose] public section
set_option maxRecDepth 16384
noncomputable section
open Idealize.ShloMosaic Idealize.ShloMosaic.TcCoe Idealize.ShloMosaic.StableHlo Idealize.SL.Sem
namespace Cert.Kernel29Ideal.Val
open Cert.Kernel29Ideal Cert.Kernel29Ideal.Gen Cert.Kernel29Ideal.Value Cert.Ssd

/-! ## The kernel's words -/

/-- The lanes' and the rows' numbers. -/
def lanes : IVec S1x128 32 := iota .tc S1x128 32 [1] iota_S1x128_d1_w32
def subs : IVec S128x1 32 := iota .tc S128x1 32 [0] iota_S128x1_d0_w32

/-- Column `h` of an array, -/
def colW (h : BitVec 32) (v : Vec Ideal S128x128 .f32) : FVec Ideal S128x1 .f32 :=
  shapeCast S128x1 (multiReduction .add [1] S128
    (select (broadcastTo S128x128 (shapeCast S1x128 (cmpi .eq lanes (broadcast S1x128 h)) shapeCasts_S1x128_S1x128) broadcasts_S1x128_S128x128)
      v (broadcast S128x128 (Scalar.ofBits .f32 0x00000000#32))) 0x00000000#32 reduces_S128x128_S128 (.inl rfl) rfl) shapeCasts_S128_S128x1
/-- row `h`, -/
def rowW (h : BitVec 32) (v : Vec Ideal S128x128 .f32) : FVec Ideal S1x128 .f32 :=
  shapeCast S1x128 (multiReduction .add [0] S128
    (select (broadcastTo S128x128 (shapeCast S128x1 (cmpi .eq subs (broadcast S128x1 h)) shapeCasts_S128x1_S128x1) broadcasts_S128x1_S128x128)
      v (broadcast S128x128 (Scalar.ofBits .f32 0x00000000#32))) 0x00000000#32 reduces_S128x128_S128_2 (.inl rfl) rfl) shapeCasts_S128_S1x128
/-- the last entry of a column -/
def lastW (v : FVec Ideal S128x1 .f32) : FVec Ideal S1x1 .f32 :=
  shapeCast S1x1 (multiReduction .add [0] S1
    (select (cmpi .eq subs (broadcast S128x1 127#32)) v (broadcast S128x1 (Scalar.ofBits .f32 0x00000000#32)))
    0x00000000#32 reduces_S128x1_S1 (.inl rfl) rfl) shapeCasts_S1_S1x1
/-- and entry `h` of a row. -/
def atW (h : BitVec 32) (v : Vec Ideal S1x128 .f32) : FVec Ideal S1x1 .f32 :=
  shapeCast S1x1 (multiReduction .add [1] S1
    (select (cmpi .eq lanes (broadcast S1x128 h)) v (broadcast S1x128 (Scalar.ofBits .f32 0x00000000#32)))
    0x00000000#32 reduces_S1x128_S1 (.inl rfl) rfl) shapeCasts_S1_S1x1

/-- The lanes of the first head of two. -/
def halfW : IVec S1x128 1 := cmpi .slt lanes (broadcast S1x128 64#32)
/-- An array that holds one column in the lanes of the first head and the other in the second's. -/
def twoW (a b : FVec Ideal S128x1 .f32) : FVec Ideal S128x128 .f32 :=
  select (broadcastTo S128x128 (shapeCast S1x128 halfW shapeCasts_S1x128_S1x128) broadcasts_S1x128_S128x128)
    (broadcastTo S128x128 (shapeCast S128x1 a shapeCasts_S128x1_S128x1) broadcasts_S128x1_S128x128)
    (broadcastTo S128x128 (shapeCast S128x1 b shapeCasts_S128x1_S128x1) broadcasts_S128x1_S128x128)

/-- Zero on and under the diagonal, minus infinity above. -/
def futW : FVec Ideal S128x128 .f32 :=
  select (cmpi .sge (iota .tc S128x128 32 [0] iota_S128x128_d0_w32) (iota .tc S128x128 32 [1] iota_S128x128_d1_w32))
    (broadcast S128x128 (Scalar.ofBits .f32 0x00000000#32)) (broadcast S128x128 (Scalar.ofBits .f32 0xFF800000#32))

section
variable (h0 h1 : BitVec 32) (X : Vec Ideal S128x128 .f32) (S : Vec Ideal S1x128x128 .f32) (B C dt cum ct : Vec Ideal S128x128 .f32)
  (dk : Vec Ideal S1x128 .f32)

/-- The input times its step. -/
def xdtW : FVec Ideal S128x128 .f32 := mulf X (twoW (colW h0 dt) (colW h1 dt))
/-- The incoming state. -/
def stW : FVec Ideal S128x128 .f32 := shapeCast S128x128 S shapeCasts_S1x128x128_S128x128
/-- The transposed sums. -/
def ctW (ct : Vec Ideal S1x128x128 .f32) : FVec Ideal S128x128 .f32 := shapeCast S128x128 ct shapeCasts_S1x128x128_S128x128

/-- One head's matrix. -/
def mixW (h : BitVec 32) : FVec Ideal S128x128 .bf16 :=
  truncf .bf16 (mulf (matmul dot_S128x128_S128x128_S128x128_1_1_0_0_n_n none (truncf .bf16 C bitsLt_bf16_f32) (truncf .bf16 B bitsLt_bf16_f32)
      (constant S128x128 .f32 0x00000000#32))
    (exp (addf (subf (broadcastTo S128x128 (colW h cum) broadcasts_S128x1_S128x128) (broadcastTo S128x128 (rowW h ct) broadcasts_S1x128_S128x128)) futW)))
    bitsLt_bf16_f32

/-- The two heads' part of the result. -/
def yW (ct : Vec Ideal S1x128x128 .f32) : FVec Ideal S128x128 .f32 :=
  addf (addf
    (select (broadcastTo S128x128 (shapeCast S1x128 halfW shapeCasts_S1x128_S1x128) broadcasts_S1x128_S128x128)
      (matmul dot_S128x128_S128x128_S128x128_1_0_0_1_n_n none (mixW B C cum (ctW ct) h0) (truncf .bf16 (xdtW h0 h1 X dt) bitsLt_bf16_f32)
        (constant S128x128 .f32 0x00000000#32))
      (matmul dot_S128x128_S128x128_S128x128_1_0_0_1_n_n none (mixW B C cum (ctW ct) h1) (truncf .bf16 (xdtW h0 h1 X dt) bitsLt_bf16_f32)
        (constant S128x128 .f32 0x00000000#32)))
    (mulf (matmul dot_S128x128_S128x128_S128x128_1_1_0_0_n_n none (truncf .bf16 C bitsLt_bf16_f32) (truncf .bf16 (stW S) bitsLt_bf16_f32)
        (constant S128x128 .f32 0x00000000#32))
      (twoW (exp (colW h0 cum)) (exp (colW h1 cum)))))
    (mulf X (broadcastTo S128x128 (select halfW
      (broadcastTo S1x128 (shapeCast S1x1 (atW h0 dk) shapeCasts_S1x1_S1x1) broadcasts_S1x1_S1x128)
      (broadcastTo S1x128 (shapeCast S1x1 (atW h1 dk) shapeCasts_S1x1_S1x1) broadcasts_S1x1_S1x128)) broadcasts_S1x128_S128x128))

/-- What is left of a value at the chunk's end. -/
def endW (h : BitVec 32) : FVec Ideal S128x1 .f32 :=
  exp (subf (broadcastTo S128x1 (lastW (colW h cum)) broadcasts_S1x1_S128x1) (colW h cum))

/-- The two heads' next state. -/
def nW : FVec Ideal S128x128 .f32 :=
  shapeCast S128x128 (addf (mulf (stW S) (broadcastTo S128x128 (select (cmpi .slt subs (broadcast S128x1 64#32))
      (broadcastTo S128x1 (shapeCast S1x1 (exp (lastW (colW h0 cum))) shapeCasts_S1x1_S1x1) broadcasts_S1x1_S128x1)
      (broadcastTo S128x1 (shapeCast S1x1 (exp (lastW (colW h1 cum))) shapeCasts_S1x1_S1x1) broadcasts_S1x1_S128x1)) broadcasts_S128x1_S128x128))
    (matmul dot_S128x128_S128x128_S128x128_0_0_1_1_n_n none
      (truncf .bf16 (mulf (xdtW h0 h1 X dt) (twoW (endW cum h0) (endW cum h1))) bitsLt_bf16_f32) (truncf .bf16 B bitsLt_bf16_f32)
      (constant S128x128 .f32 0x00000000#32))) shapeCasts_S128x128_S128x128
end

/-! ## Their entries -/

theorem eq_bit (a b : ℕ) (ha : a < 128) (hb : b < 128) {α : Type} (x y : α) :
    Scalar.select (IntOp.cmpi CmpIPredicate.eq (BitVec.ofNat 32 a) (BitVec.ofNat 32 b)) x y = if a = b then x else y := by
  have e : IntOp.cmpi CmpIPredicate.eq (BitVec.ofNat 32 a) (BitVec.ofNat 32 b) = if a = b then 1#1 else 0#1 := by
    show BitVec.ofBool (BitVec.ofNat 32 a == BitVec.ofNat 32 b) = _
    by_cases h : a = b
    · subst h; simp
    · have : ¬ BitVec.ofNat 32 a = BitVec.ofNat 32 b := fun e => h (by
        have := congrArg BitVec.toNat e
        simp only [BitVec.toNat_ofNat] at this
        omega)
      simp only [beq_eq_false_iff_ne.mpr this, if_neg h]
      rfl
  rw [e]
  by_cases h : a = b
  · rw [if_pos h, if_pos h]; rfl
  · rw [if_neg h, if_neg h]; rfl

theorem slt_bit (a b : ℕ) (ha : a < 128) (hb : b < 128) {α : Type} (x y : α) :
    Scalar.select (IntOp.cmpi CmpIPredicate.slt (BitVec.ofNat 32 a) (BitVec.ofNat 32 b)) x y = if a < b then x else y := by
  have e : IntOp.cmpi CmpIPredicate.slt (BitVec.ofNat 32 a) (BitVec.ofNat 32 b) = if a < b then 1#1 else 0#1 := by
    show BitVec.ofBool (BitVec.slt (BitVec.ofNat 32 a) (BitVec.ofNat 32 b)) = _
    have : BitVec.slt (BitVec.ofNat 32 a) (BitVec.ofNat 32 b) = decide (a < b) := by
      rw [BitVec.slt_eq_decide, BitVec.toInt_eq_toNat_of_lt, BitVec.toInt_eq_toNat_of_lt]
      · simp only [BitVec.toNat_ofNat]
        rw [Nat.mod_eq_of_lt (show a < 2 ^ 32 by omega), Nat.mod_eq_of_lt (show b < 2 ^ 32 by omega)]
        simp
      · simp only [BitVec.toNat_ofNat]; omega
      · simp only [BitVec.toNat_ofNat]; omega
    rw [this]
    by_cases h : a < b <;> simp [h]
  rw [e]
  by_cases h : a < b
  · rw [if_pos h, if_pos h]; rfl
  · rw [if_neg h, if_neg h]; rfl

/-- The one term of a sum that a comparison with number `h` keeps. -/
theorem pick (f : Fin 128 → EReal) (h : Fin 128) :
    ∑ x : Fin 128, Scalar.select (IntOp.cmpi CmpIPredicate.eq (BitVec.ofNat 32 x) (BitVec.ofNat 32 h)) (f x) 0 = f h := by
  rw [Finset.sum_congr rfl (fun (x : Fin 128) _ => (eq_bit x h x.isLt h.isLt (f x) 0).trans (if_congr (Fin.ext_iff (a := x) (b := h)).symm rfl rfl)),
    Finset.sum_ite_eq' Finset.univ h f, if_pos (Finset.mem_univ _)]

theorem colW_at (h : Fin 128) (v : Vec Ideal S128x128 .f32) (i : Fin 128) : (colW (BitVec.ofNat 32 h) v (ix2 i 0) : EReal) = v (ix2 i h) := by
  pointwise [colW, lanes]
  exact pick (fun x => v (ix2 i x)) h

theorem rowW_at (h : Fin 128) (v : Vec Ideal S128x128 .f32) (i : Fin 128) : (rowW (BitVec.ofNat 32 h) v (ix2 0 i) : EReal) = v (ix2 h i) := by
  pointwise [rowW, subs]
  exact pick (fun x => v (ix2 x i)) h

theorem lastW_at (v : FVec Ideal S128x1 .f32) : (lastW v (ix2 0 0) : EReal) = v (ix2 127 0) := by
  pointwise [lastW, subs]
  exact pick (fun x => v (ix2 x 0)) 127

theorem atW_at (h : Fin 128) (v : Vec Ideal S1x128 .f32) : (atW (BitVec.ofNat 32 h) v (ix2 0 0) : EReal) = v (ix2 0 h) := by
  pointwise [atW, lanes]
  exact pick (fun x => v (ix2 0 x)) h

theorem twoW_at (a b : FVec Ideal S128x1 .f32) (i l : Fin 128) :
    (twoW a b (ix2 i l) : EReal) = if (l : ℕ) < 64 then a (ix2 i 0) else b (ix2 i 0) := by
  pointwise [twoW, halfW, lanes]
  exact slt_bit l 64 l.isLt (by decide) _ _

theorem futW_at (i j : Fin 128) : (futW (ix2 i j) : EReal) = if (j : ℕ) ≤ i then 0 else ⊥ := by
  pointwise [futW]
  rw [Cert.Sgu.sge_bit i j i.isLt j.isLt, show Ideal.ofBits FTy.f32 4286578688#32 = ⊥ from by simp [Ideal.ofBits, Ideal.ieee]]
  by_cases h : (j : ℕ) ≤ i
  · rw [if_pos h, if_pos h]; rfl
  · rw [if_neg h, if_neg h]; rfl

/-! ## One head's values -/

section
variable (a b : Fin 128) (X : Vec Ideal S128x128 .f32) (S : Vec Ideal S1x128x128 .f32) (B C dt cum : Vec Ideal S128x128 .f32)
  (dk : Vec Ideal S1x128 .f32) (ct : Vec Ideal S1x128x128 .f32)

theorem mixW_at (h i j : Fin 128) (hct : ∀ h j : Fin 128, (ct (ix3 0 h j) : EReal) = cum (ix2 j h)) :
    (mixW B C cum (ctW ct) (BitVec.ofNat 32 h) (ix2 i j) : EReal)
      = (∑ n : Fin 128, C (ix2 i n) * B (ix2 j n)) * dec (fun r => cum (ix2 r h)) i j := by
  unfold dec
  pointwise [mixW, ctW, colW_at, rowW_at, futW_at]
  rw [hct]
  by_cases hj : (j : ℕ) ≤ i
  · rw [if_pos hj, if_pos hj, add_zero]
  · rw [if_neg hj, if_neg hj, EReal.add_bot]

theorem xdtW_at (i l : Fin 128) : (xdtW (BitVec.ofNat 32 a) (BitVec.ofNat 32 b) X dt (ix2 i l) : EReal)
    = X (ix2 i l) * dt (ix2 i (if (l : ℕ) < 64 then a else b)) := by
  pointwise [xdtW, twoW_at, colW_at]
  by_cases h : (l : ℕ) < 64
  · rw [if_pos h, if_pos h]
  · rw [if_neg h, if_neg h]

theorem yW_at (i l : Fin 128) (hct : ∀ h j : Fin 128, (ct (ix3 0 h j) : EReal) = cum (ix2 j h)) :
    (yW (BitVec.ofNat 32 a) (BitVec.ofNat 32 b) X S B C dt cum dk ct (ix2 i l) : EReal)
      = outv (fun j => X (ix2 j l)) (fun j => dt (ix2 j (if (l : ℕ) < 64 then a else b))) (fun j => cum (ix2 j (if (l : ℕ) < 64 then a else b)))
          (fun j n => B (ix2 j n)) (fun j n => C (ix2 j n)) (fun n => S (ix3 0 l n)) (dk (ix2 0 (if (l : ℕ) < 64 then a else b))) i := by
  unfold outv
  pointwise [yW, halfW, lanes, twoW_at, colW_at, atW_at, xdtW_at, mixW_at B C cum ct _ _ _ hct, stW]
  rw [slt_bit l 64 l.isLt (by decide), slt_bit l 64 l.isLt (by decide)]
  by_cases h : (l : ℕ) < 64
  · simp only [if_pos h]
  · simp only [if_neg h]

theorem nW_at (l n : Fin 128) :
    (nW (BitVec.ofNat 32 a) (BitVec.ofNat 32 b) X S B dt cum (ix2 l n) : EReal)
      = nxtv (fun j => X (ix2 j l)) (fun j => dt (ix2 j (if (l : ℕ) < 64 then a else b))) (fun j => cum (ix2 j (if (l : ℕ) < 64 then a else b)))
          (fun j n => B (ix2 j n)) (fun n => S (ix3 0 l n)) n := by
  unfold nxtv
  pointwise [nW, subs, twoW_at, endW, lastW_at, colW_at, xdtW_at, stW]
  rw [slt_bit l 64 l.isLt (by decide)]
  by_cases h : (l : ℕ) < 64
  · simp only [if_pos h]
  · simp only [if_neg h]
end

/-! ## A chunk -/

theorem inb2 {w o : ℕ} (ho : o + 128 ≤ w) : ∀ a, (![0, o] : Fin 2 → ℕ) a + (![128, 128] : Fin 2 → ℕ) a ≤ (⟨2, ![128, w]⟩ : Shape).size a := by
  intro a
  fin_cases a
  · exact le_refl 128
  · exact ho

theorem inb3 {o : ℕ} (ho : o + 128 ≤ 2048) : ∀ a, (![0, o, 0] : Fin 3 → ℕ) a + (![1, 128, 128] : Fin 3 → ℕ) a ≤ (⟨3, ![1, 2048, 128]⟩ : Shape).size a := by
  intro a
  fin_cases a
  · exact le_refl 1
  · exact ho
  · exact le_refl 128

theorem ld2 {w o : ℕ} (v : (⟨2, ![128, w]⟩ : Shape).Idx → EReal) (ho : o + 128 ≤ w) (r e : Fin 128) (d : Fin w) (hd : (d : ℕ) = o + e) :
    v ((Rect.unit (s := ⟨2, ![128, w]⟩) ![0, o] ![128, 128] (inb2 ho)).idx (ix2 r e)) = v (ix2 r d) := by
  refine congrArg v ?_
  funext a
  fin_cases a
  · exact Fin.ext (by show 0 + 1 * (r : ℕ) = r; omega)
  · exact Fin.ext (by show o + 1 * (e : ℕ) = d; omega)

theorem ld3 {o : ℕ} (v : (⟨3, ![1, 2048, 128]⟩ : Shape).Idx → EReal) (ho : o + 128 ≤ 2048) (e n : Fin 128) (d : Fin 2048) (hd : (d : ℕ) = o + e) :
    v ((Rect.unit (s := ⟨3, ![1, 2048, 128]⟩) ![0, o, 0] ![1, 128, 128] (inb3 ho)).idx (ix3 0 e n)) = v (ix3 0 d n) := by
  refine congrArg v ?_
  funext a
  fin_cases a
  · exact Fin.ext rfl
  · exact Fin.ext (by show o + 1 * (e : ℕ) = d; omega)
  · exact Fin.ext (by show 0 + 1 * (n : ℕ) = n; omega)

theorem pay5_at (S : Vec Ideal S2048x128 .f32) (d : Fin 2048) (n : Fin 128) : (k0_pay5 (F := Ideal) S (ix3 0 d n) : EReal) = S (ix2 d n) := by
  pointwise [k0_pay5]

theorem row0 (y : S1x2048x128.Idx) : y = ix3 0 (y 1) (y 2) := by
  funext a
  match a with
  | ⟨0, _⟩ => exact Subsingleton.elim (α := Fin 1) _ _
  | ⟨1, _⟩ => rfl
  | ⟨2, _⟩ => rfl

variable (m : (ℓ : Loc nD τ sig) → Buf (Elt Ideal) ℓ)

/-- A chunk's result from the state `s` that came in, -/
def outB (c : Dev nD) (t : Fin cfg0.N) (s : Fin 128 → EReal) (i : Fin 128) (d : Fin 2048) : EReal :=
  outv (fun j => iblk m c 0 t (ix2 j d)) (fun j => iblk m c 3 t (ix2 j (hd d))) (fun j => iblk m c 4 t (ix2 j (hd d)))
    (fun j n => iblk m c 1 t (ix2 j (gl d n))) (fun j n => iblk m c 2 t (ix2 j (gl d n))) s (iblk m c 6 t (ix2 0 (hd d))) i
/-- and the next state. -/
def nxtB (c : Dev nD) (t : Fin cfg0.N) (s : Fin 128 → EReal) (d : Fin 2048) (n : Fin 128) : EReal :=
  nxtv (fun j => iblk m c 0 t (ix2 j d)) (fun j => iblk m c 3 t (ix2 j (hd d))) (fun j => iblk m c 4 t (ix2 j (hd d)))
    (fun j n => iblk m c 1 t (ix2 j (gl d n))) s n

theorem pt_lt (t : Fin cfg0.N) : t.val < 64 := lt_of_lt_of_eq t.isLt N_0

theorem idx : ∀ t : Fin cfg0.N, win0_0.index t = ![t.val, 0] ∧ win0_1.index t = ![t.val, 2] ∧ win0_2.index t = ![t.val, 3]
    ∧ win0_3.index t = ![t.val, 0] ∧ win0_4.index t = ![t.val, 0] ∧ win0_5.index t = ![t.val, 0, 0] ∧ win0_6.index t = ![0, 0]
    ∧ win0_7.index t = ![t.val, 0] ∧ win0_8.index t = ![t.val, 0, 0] :=
  (by decide +kernel : ∀ t : Fin grid0.N, _)

theorem x0_at (c : Dev nD) (t : Fin cfg0.N) (j : Fin 128) (d : Fin 2048) :
    (iblk m c 0 t (ix2 j d) : EReal) = rX (m ((c : Thread nD τ).loc main_arg0)) (arw t.val j) ⟨d, by omega⟩ := by
  unfold rX arw
  have := pt_lt t
  blk_point [iblk, V, idx t]

theorem x1_at (c : Dev nD) (t : Fin cfg0.N) (j : Fin 128) (e : Fin 1024) :
    (iblk m c 1 t (ix2 j e) : EReal) = rX (m ((c : Thread nD τ).loc main_arg0)) (arw t.val j) ⟨2048 + e, by omega⟩ := by
  unfold rX arw
  have := pt_lt t
  blk_point [iblk, V, idx t]

theorem x2_at (c : Dev nD) (t : Fin cfg0.N) (j : Fin 128) (e : Fin 1024) :
    (iblk m c 2 t (ix2 j e) : EReal) = rX (m ((c : Thread nD τ).loc main_arg0)) (arw t.val j) ⟨3072 + e, by omega⟩ := by
  unfold rX arw
  have := pt_lt t
  blk_point [iblk, V, idx t]

theorem x3_at (c : Dev nD) (t : Fin cfg0.N) (j h : Fin 128) :
    (iblk m c 3 t (ix2 j h) : EReal) = rD (m ((c : Thread nD τ).loc main_arg1)) (arw t.val j) h := by
  unfold rD arw
  have := pt_lt t
  blk_point [iblk, V, idx t]

theorem x4_at (c : Dev nD) (t : Fin cfg0.N) (j h : Fin 128) :
    (iblk m c 4 t (ix2 j h) : EReal) = rD (m ((c : Thread nD τ).loc main_arg2)) (arw t.val j) h := by
  unfold rD arw
  have := pt_lt t
  blk_point [iblk, V, idx t]

theorem x5_at (c : Dev nD) (t : Fin cfg0.N) (h j : Fin 128) :
    (iblk m c 5 t (ix3 0 h j) : EReal) = rD (m ((c : Thread nD τ).loc main_arg2)) (arw t.val j) h := by
  have := pt_lt t
  have e : (V m c main_v1 (ix3 (⟨t.val, this⟩ : Fin 64) h j) : EReal) = rD (m ((c : Thread nD τ).loc main_arg2)) (arw t.val j) h := by
    unfold V rD arw
    after_reads_at
    refine congrArg (m ((c : Thread nD τ).loc main_arg2)) (congrArg (fun r => ix2 r h) (Fin.ext ?_))
    show t.val * 128 + (j : ℕ) = (t.val * 128 + (j : ℕ)) % 8192
    omega
  rw [← e]
  blk_ext [iblk, idx t]

theorem x6_at (c : Dev nD) (t : Fin cfg0.N) (h : Fin 128) :
    (iblk m c 6 t (ix2 0 h) : EReal) = rK (m ((c : Thread nD τ).loc main_arg3)) h := by
  unfold rK
  blk_point [iblk, V, idx t]

theorem hct (c : Dev nD) (t : Fin cfg0.N) (h j : Fin 128) : (iblk m c 5 t (ix3 0 h j) : EReal) = iblk m c 4 t (ix2 j h) :=
  (x5_at m c t h j).trans (x4_at m c t j h).symm

section
variable (c : Dev nD) (t : Fin cfg0.N) (S : Vec Ideal S2048x128 .f32) (q : ℕ) (hq : q < 16) (x : S128x128.Idx)

theorem head_of (d : Fin 2048) (l : Fin 128) (h : (d : ℕ) = 128 * q + l) :
    (if (l : ℕ) < 64 then (⟨2 * q, by omega⟩ : Fin 128) else ⟨2 * q + 1, by omega⟩) = hd d := by
  unfold hd
  by_cases hl : (l : ℕ) < 64
  · rw [if_pos hl]; apply Fin.ext; show 2 * q = (d : ℕ) / 64; omega
  · rw [if_neg hl]; apply Fin.ext; show 2 * q + 1 = (d : ℕ) / 64; omega

theorem gl_of (d : Fin 2048) (l n : Fin 128) (h : (d : ℕ) = 128 * q + l) : ((gl d n : Fin 1024) : ℕ) = 128 * (q / 2) + n := by
  show 128 * ((d : ℕ) / 256) + (n : ℕ) = _
  omega

include hq in
theorem tile_le : 128 * q + 128 ≤ 2048 := by omega

theorem keyY (y : S128x2048.Idx) (h0 : ((y 0 : Fin 128) : ℕ) = (x 0 : Fin 128)) (h1 : ((y 1 : Fin 2048) : ℕ) = 128 * q + (x 1 : Fin 128)) :
    (yW (BitVec.ofNat 32 (2 * q)) (BitVec.ofNat 32 (2 * q + 1))
        (View.ld (iblk m c 0 t) (Rect.unit (s := S128x2048) ![0, 128 * q] ![128, 128] (inb2 (by omega))))
        (View.ld (k0_pay5 S) (Rect.unit (s := S1x2048x128) ![0, 128 * q, 0] ![1, 128, 128] (inb3 (by omega))))
        (View.ld (iblk m c 1 t) (Rect.unit (s := S128x1024) ![0, 128 * (q / 2)] ![128, 128] (inb2 (by omega))))
        (View.ld (iblk m c 2 t) (Rect.unit (s := S128x1024) ![0, 128 * (q / 2)] ![128, 128] (inb2 (by omega))))
        (iblk m c 3 t) (iblk m c 4 t) (iblk m c 6 t) (iblk m c 5 t) x : EReal)
      = outB m c t (fun n => S (ix2 (y 1) n)) (y 0) (y 1) := by
  rw [show (y 0 : Fin 128) = x 0 from Fin.ext h0]
  refine (congrArg _ (eq_ix2 x)).trans ((yW_at ⟨2 * q, by omega⟩ ⟨2 * q + 1, by omega⟩ _ _ _ _ _ _ _ _ (x 0) (x 1) (hct m c t)).trans ?_)
  rw [head_of q hq (y 1) (x 1) h1]
  exact outv_congr _ (fun j => ld2 _ (tile_le q hq) j (x 1) (y 1) h1) (fun _ => rfl) (fun _ => rfl)
    (fun j n => ld2 _ (by omega) j n _ (gl_of q (y 1) (x 1) n h1))
    (fun j n => ld2 _ (by omega) j n _ (gl_of q (y 1) (x 1) n h1))
    (fun n => (ld3 _ (tile_le q hq) (x 1) n (y 1) h1).trans (pay5_at S _ _)) rfl

theorem keyN (y : S2048x128.Idx) (h0 : ((y 0 : Fin 2048) : ℕ) = 128 * q + (x 0 : Fin 128)) (h1 : ((y 1 : Fin 128) : ℕ) = (x 1 : Fin 128)) :
    (nW (BitVec.ofNat 32 (2 * q)) (BitVec.ofNat 32 (2 * q + 1))
        (View.ld (iblk m c 0 t) (Rect.unit (s := S128x2048) ![0, 128 * q] ![128, 128] (inb2 (by omega))))
        (View.ld (k0_pay5 S) (Rect.unit (s := S1x2048x128) ![0, 128 * q, 0] ![1, 128, 128] (inb3 (by omega))))
        (View.ld (iblk m c 1 t) (Rect.unit (s := S128x1024) ![0, 128 * (q / 2)] ![128, 128] (inb2 (by omega))))
        (iblk m c 3 t) (iblk m c 4 t) x : EReal)
      = nxtB m c t (fun n => S (ix2 (y 0) n)) (y 0) (y 1) := by
  rw [show (y 1 : Fin 128) = x 1 from Fin.ext h1]
  refine (congrArg _ (eq_ix2 x)).trans ((nW_at ⟨2 * q, by omega⟩ ⟨2 * q + 1, by omega⟩ _ _ _ _ _ (x 0) (x 1)).trans ?_)
  rw [head_of q hq (y 0) (x 0) h0]
  exact nxtv_congr _ (fun j => ld2 _ (tile_le q hq) j (x 0) (y 0) h0) (fun _ => rfl) (fun _ => rfl)
    (fun j n => ld2 _ (by omega) j n _ (gl_of q (y 0) (x 0) n h0))
    (fun n => (ld3 _ (tile_le q hq) (x 0) n (y 0) h0).trans (pay5_at S _ _))
end

theorem stepY_A (c : Dev nD) (t : Fin cfg0.N) (h : t.val % 64 = 0) (y : S128x2048.Idx) : ((outsAt0 m c t.val t.isLt).1 y : EReal)
    = outB m c t (fun n => (k0_pay4 (F := Ideal)) (ix2 (y 1) n)) (y 0) (y 1) := by
  rw [outsAt0_A m c t h]
  frame_open
  simp (disch := decide) only [↓ View.readCov_skip, ↓ View.readCov_cons_toLoadRect, ↓ View.readCov_fill]
  frame_out
  clear h
  canon_tiles x h
  · exact keyY m c t _ 15 (by decide) x y h0 h1
  · exact keyY m c t _ 14 (by decide) x y h0 h1
  · exact keyY m c t _ 13 (by decide) x y h0 h1
  · exact keyY m c t _ 12 (by decide) x y h0 h1
  · exact keyY m c t _ 11 (by decide) x y h0 h1
  · exact keyY m c t _ 10 (by decide) x y h0 h1
  · exact keyY m c t _ 9 (by decide) x y h0 h1
  · exact keyY m c t _ 8 (by decide) x y h0 h1
  · exact keyY m c t _ 7 (by decide) x y h0 h1
  · exact keyY m c t _ 6 (by decide) x y h0 h1
  · exact keyY m c t _ 5 (by decide) x y h0 h1
  · exact keyY m c t _ 4 (by decide) x y h0 h1
  · exact keyY m c t _ 3 (by decide) x y h0 h1
  · exact keyY m c t _ 2 (by decide) x y h0 h1
  · exact keyY m c t _ 1 (by decide) x y h0 h1
  · exact keyY m c t _ 0 (by decide) x y h0 (by omega)

theorem stepN_A (c : Dev nD) (t : Fin cfg0.N) (h : t.val % 64 = 0) (y : S2048x128.Idx) : ((outsAt0 m c t.val t.isLt).2.2 y : EReal)
    = nxtB m c t (fun n => (k0_pay4 (F := Ideal)) (ix2 (y 0) n)) (y 0) (y 1) := by
  rw [outsAt0_A m c t h]
  frame_open
  simp (disch := decide) only [↓ View.readCov_skip, ↓ View.readCov_cons_toLoadRect, ↓ View.readCov_fill]
  frame_out
  clear h
  refine (View.canon_take 16 _ y (by exact View.cover_of_tiled_head _ _ _ rfl y)).trans ?_
  simp only [List.take]
  canon_tiles x h
  · exact keyN m c t _ 15 (by decide) x y h0 h1
  · exact keyN m c t _ 14 (by decide) x y h0 h1
  · exact keyN m c t _ 13 (by decide) x y h0 h1
  · exact keyN m c t _ 12 (by decide) x y h0 h1
  · exact keyN m c t _ 11 (by decide) x y h0 h1
  · exact keyN m c t _ 10 (by decide) x y h0 h1
  · exact keyN m c t _ 9 (by decide) x y h0 h1
  · exact keyN m c t _ 8 (by decide) x y h0 h1
  · exact keyN m c t _ 7 (by decide) x y h0 h1
  · exact keyN m c t _ 6 (by decide) x y h0 h1
  · exact keyN m c t _ 5 (by decide) x y h0 h1
  · exact keyN m c t _ 4 (by decide) x y h0 h1
  · exact keyN m c t _ 3 (by decide) x y h0 h1
  · exact keyN m c t _ 2 (by decide) x y h0 h1
  · exact keyN m c t _ 1 (by decide) x y h0 h1
  · exact keyN m c t _ 0 (by decide) x y (by omega) h1

theorem stepS_A (c : Dev nD) (t : Fin cfg0.N) (h : t.val % 64 = 0) (y : S1x2048x128.Idx) : ((outsAt0 m c t.val t.isLt).2.1 y : EReal)
    = (k0_pay4 (F := Ideal)) (ix2 (y 1) (y 2)) := by
  rw [outsAt0_A m c t h]
  frame_open
  simp (disch := decide) only [↓ View.readCov_skip, ↓ View.readCov_cons_toLoadRect, ↓ View.readCov_fill]
  frame_out
  clear h
  exact (congrArg _ (row0 y)).trans (pay5_at _ _ _)

theorem stepY_B (c : Dev nD) (t : Fin cfg0.N) (h : ¬ t.val % 64 = 0) (y : S128x2048.Idx) : ((outsAt0 m c t.val t.isLt).1 y : EReal)
    = outB m c t (fun n => (outsAt0 m c (t.val - 1) (Nat.lt_of_le_of_lt (Nat.sub_le _ _) t.isLt)).2.2 (ix2 (y 1) n)) (y 0) (y 1) := by
  rw [outsAt0_B m c t h]
  frame_open
  simp (disch := decide) only [↓ View.readCov_skip, ↓ View.readCov_cons_toLoadRect, ↓ View.readCov_fill]
  frame_out
  simp only [read_unread_whole]
  clear h
  canon_tiles x h
  · exact keyY m c t _ 15 (by decide) x y h0 h1
  · exact keyY m c t _ 14 (by decide) x y h0 h1
  · exact keyY m c t _ 13 (by decide) x y h0 h1
  · exact keyY m c t _ 12 (by decide) x y h0 h1
  · exact keyY m c t _ 11 (by decide) x y h0 h1
  · exact keyY m c t _ 10 (by decide) x y h0 h1
  · exact keyY m c t _ 9 (by decide) x y h0 h1
  · exact keyY m c t _ 8 (by decide) x y h0 h1
  · exact keyY m c t _ 7 (by decide) x y h0 h1
  · exact keyY m c t _ 6 (by decide) x y h0 h1
  · exact keyY m c t _ 5 (by decide) x y h0 h1
  · exact keyY m c t _ 4 (by decide) x y h0 h1
  · exact keyY m c t _ 3 (by decide) x y h0 h1
  · exact keyY m c t _ 2 (by decide) x y h0 h1
  · exact keyY m c t _ 1 (by decide) x y h0 h1
  · exact keyY m c t _ 0 (by decide) x y h0 (by omega)

theorem stepN_B (c : Dev nD) (t : Fin cfg0.N) (h : ¬ t.val % 64 = 0) (y : S2048x128.Idx) : ((outsAt0 m c t.val t.isLt).2.2 y : EReal)
    = nxtB m c t (fun n => (outsAt0 m c (t.val - 1) (Nat.lt_of_le_of_lt (Nat.sub_le _ _) t.isLt)).2.2 (ix2 (y 0) n)) (y 0) (y 1) := by
  rw [outsAt0_B m c t h]
  frame_open
  simp (disch := decide) only [↓ View.readCov_skip, ↓ View.readCov_cons_toLoadRect, ↓ View.readCov_fill]
  frame_out
  simp only [read_unread_whole]
  clear h
  canon_tiles x h
  · exact keyN m c t _ 15 (by decide) x y h0 h1
  · exact keyN m c t _ 14 (by decide) x y h0 h1
  · exact keyN m c t _ 13 (by decide) x y h0 h1
  · exact keyN m c t _ 12 (by decide) x y h0 h1
  · exact keyN m c t _ 11 (by decide) x y h0 h1
  · exact keyN m c t _ 10 (by decide) x y h0 h1
  · exact keyN m c t _ 9 (by decide) x y h0 h1
  · exact keyN m c t _ 8 (by decide) x y h0 h1
  · exact keyN m c t _ 7 (by decide) x y h0 h1
  · exact keyN m c t _ 6 (by decide) x y h0 h1
  · exact keyN m c t _ 5 (by decide) x y h0 h1
  · exact keyN m c t _ 4 (by decide) x y h0 h1
  · exact keyN m c t _ 3 (by decide) x y h0 h1
  · exact keyN m c t _ 2 (by decide) x y h0 h1
  · exact keyN m c t _ 1 (by decide) x y h0 h1
  · exact keyN m c t _ 0 (by decide) x y (by omega) h1

theorem stepS_B (c : Dev nD) (t : Fin cfg0.N) (h : ¬ t.val % 64 = 0) (y : S1x2048x128.Idx) : ((outsAt0 m c t.val t.isLt).2.1 y : EReal)
    = (outsAt0 m c (t.val - 1) (Nat.lt_of_le_of_lt (Nat.sub_le _ _) t.isLt)).2.2 (ix2 (y 1) (y 2)) := by
  rw [outsAt0_B m c t h]
  frame_open
  simp (disch := decide) only [↓ View.readCov_skip, ↓ View.readCov_cons_toLoadRect, ↓ View.readCov_fill]
  frame_out
  simp only [read_unread_whole]
  clear h
  exact (congrArg _ (row0 y)).trans (pay5_at _ _ _)

/-! ## The arrays -/

/-- The arguments' elements. -/
def aX (c : Dev nD) : Fin 8192 → Fin 4096 → EReal := rX (m ((c : Thread nD τ).loc main_arg0))
def aD (c : Dev nD) : Fin 8192 → Fin 128 → EReal := rD (m ((c : Thread nD τ).loc main_arg1))
def aC (c : Dev nD) : Fin 8192 → Fin 128 → EReal := rD (m ((c : Thread nD τ).loc main_arg2))
def aK (c : Dev nD) : Fin 128 → EReal := rK (m ((c : Thread nD τ).loc main_arg3))

theorem outB_eq (c : Dev nD) (t : Fin cfg0.N) {s s' : Fin 128 → EReal} (hs : ∀ n, s n = s' n) (i : Fin 128) (d : Fin 2048) :
    outB m c t s i d = outC (aX m c) (aD m c) (aC m c) (aK m c) t.val s' i d :=
  outv_congr _ (fun j => x0_at m c t j d) (fun j => x3_at m c t j _) (fun j => x4_at m c t j _) (fun j n => x1_at m c t j _)
    (fun j n => x2_at m c t j _) hs (x6_at m c t _)

theorem nxtB_eq (c : Dev nD) (t : Fin cfg0.N) {s s' : Fin 128 → EReal} (hs : ∀ n, s n = s' n) (d : Fin 2048) (e : Fin 128) :
    nxtB m c t s d e = nxtC (aX m c) (aD m c) (aC m c) t.val s' d e :=
  nxtv_congr _ (fun j => x0_at m c t j d) (fun j => x3_at m c t j _) (fun j => x4_at m c t j _) (fun j n => x1_at m c t j _) hs

theorem pay4_at (d : Fin 2048) (n : Fin 128) : (k0_pay4 (F := Ideal) (ix2 d n) : EReal) = 0 := by
  pointwise [k0_pay4]

/-- After point `n` the scratch holds the state before chunk `n + 1`. -/
theorem carry (c : Dev nD) : ∀ (n : ℕ) (hn : n < cfg0.N) (d : Fin 2048) (e : Fin 128),
    ((outsAt0 m c n hn).2.2 (ix2 d e) : EReal) = stt (aX m c) (aD m c) (aC m c) (n + 1) d e
  | 0, hn, d, e => (stepN_A m c ⟨0, hn⟩ rfl (ix2 d e)).trans (nxtB_eq m c ⟨0, hn⟩ (fun k => pay4_at d k) d e)
  | n + 1, hn, d, e => (stepN_B m c ⟨n + 1, hn⟩ (by have := pt_lt ⟨n + 1, hn⟩; show ¬ (n + 1) % 64 = 0; simp only at this; omega) (ix2 d e)).trans
      (nxtB_eq m c ⟨n + 1, hn⟩ (fun k => carry c n (Nat.lt_of_succ_lt hn) d k) d e)

theorem came (c : Dev nD) (t : Fin cfg0.N) (h : ¬ t.val % 64 = 0) (d : Fin 2048) (e : Fin 128) :
    ((outsAt0 m c (t.val - 1) (Nat.lt_of_le_of_lt (Nat.sub_le _ _) t.isLt)).2.2 (ix2 d e) : EReal) = stt (aX m c) (aD m c) (aC m c) t.val d e :=
  (carry m c _ _ d e).trans (by rw [Nat.sub_add_cancel (by omega)])

theorem outY (c : Dev nD) (t : Fin cfg0.N) (y : S128x2048.Idx) : ((outsAt0 m c t.val t.isLt).1 y : EReal)
    = outC (aX m c) (aD m c) (aC m c) (aK m c) t.val (stt (aX m c) (aD m c) (aC m c) t.val (y 1)) (y 0) (y 1) := by
  by_cases h : t.val % 64 = 0
  · refine (stepY_A m c t h y).trans (outB_eq m c t (fun k => (pay4_at _ k).trans ?_) (y 0) (y 1))
    rw [show t.val = 0 by have := pt_lt t; omega]
    rfl
  · exact (stepY_B m c t h y).trans (outB_eq m c t (fun k => came m c t h (y 1) k) (y 0) (y 1))

theorem outS (c : Dev nD) (t : Fin cfg0.N) (y : S1x2048x128.Idx) : ((outsAt0 m c t.val t.isLt).2.1 y : EReal)
    = stt (aX m c) (aD m c) (aC m c) t.val (y 1) (y 2) := by
  by_cases h : t.val % 64 = 0
  · refine (stepS_A m c t h y).trans ((pay4_at _ _).trans ?_)
    rw [show t.val = 0 by have := pt_lt t; omega]
    rfl
  · exact (stepS_B m c t h y).trans (came m c t h (y 1) (y 2))

theorem final_y (c : Dev nD) : (dats m 0 c).arrAt 7 cfg0.N = fun j : S8192x2048.Idx => outA (aX m c) (aD m c) (aC m c) (aK m c) (j 0) (j 1) := by
  refine (dats m 0 c).arrAt_eq_of_covers 7 _ (by decide +kernel) fun t hf y => ?_
  blk_simp
  rw [after0_7]
  refine ((outY m c t y).trans (outA_at (aX m c) (aD m c) (aC m c) (aK m c) ⟨t.val, pt_lt t⟩ (y 0) (y 1)).symm).trans
    (congrArg₂ (outA (aX m c) (aD m c) (aC m c) (aK m c)) (Fin.ext ?_) (Fin.ext ?_))
  · refine (row_val ⟨t.val, pt_lt t⟩ (y 0)).trans ?_
    blk_simp [idx t]
  · blk_simp [idx t]

theorem final_s (c : Dev nD) : (dats m 0 c).arrAt 8 cfg0.N = fun j : S64x2048x128.Idx => stt (aX m c) (aD m c) (aC m c) (j 0 : Fin 64) (j 1) (j 2) := by
  refine (dats m 0 c).arrAt_eq_of_covers 8 _ (by decide +kernel) fun t hf y => ?_
  blk_simp
  rw [after0_8]
  refine (outS m c t y).trans (congr (congrArg₂ (stt (aX m c) (aD m c) (aC m c)) ?_ (Fin.ext ?_)) (Fin.ext ?_))
  · blk_simp [idx t]
  · blk_simp [idx t]
  · blk_simp [idx t]

end Cert.Kernel29Ideal.Val
-- ==== Proof.SsdRun.lean ====
module

public import proofs.«01_k».proof.Proof.Gen.Reference29Ideal.Run
public import proofs.«01_k».proof.Proof.Gen.Reference29Ideal.Step

/-! # The scan's loop as a sequence of states

The reference's loop leaves a valuation of its buffers after each trip. The valuation holds a state of the carried values, and one trip of the
loop is one step of that state. -/

@[expose] public section
set_option maxRecDepth 16384
noncomputable section
open Idealize.ShloMosaic Idealize.ShloMosaic.TcCoe Idealize.ShloMosaic.StableHlo Idealize.SL.Sem
namespace Cert.Reference29Ideal.Loop
open Cert.Reference29Ideal Cert.Reference29Ideal.Gen Cert.Reference29Ideal.Value
open Cert.Reference29Ideal.Step (State step init)

variable {F : FTy → Type} [FloatOps F]

/-- The valuation's carried values and constants as a state. -/
def read (V : Valuation τ sig (Elt F)) : State F where
  main_v16_7 := V (Proc.devRef .tc main_v16_7)
  main_v16_8 := V (Proc.devRef .tc main_v16_8)
  main_v16_9 := V (Proc.devRef .tc main_v16_9)
  main_v16_0 := V (Proc.devRef .tc main_v16_0)
  main_v16_1 := V (Proc.devRef .tc main_v16_1)
  main_v16_2 := V (Proc.devRef .tc main_v16_2)
  main_v16_3 := V (Proc.devRef .tc main_v16_3)
  main_v16_4 := V (Proc.devRef .tc main_v16_4)
  main_v16_5 := V (Proc.devRef .tc main_v16_5)

/-- The valuation holds state `s` and the trip's number `j`. -/
structure Holds (V : Valuation τ sig (Elt F)) (s : State F) (j : ℕ) : Prop where
  state : read V = s
  num : V (Proc.devRef .tc main_v16_6) = constantI S_ 32 (BitVec.ofNat 32 j)

variable {V : Valuation τ sig (Elt F)} {s : State F} {j : ℕ}

theorem step_7 (h : V (Proc.devRef .tc main_v16_6) = constantI S_ 32 (BitVec.ofNat 32 j)) : step_main_v16_7 V = (step j (read V)).main_v16_7 := by
  simp only [step_main_v16_7, res_main_while0b_v19, res_main_while0b_v21, res_main_while0b_v22, res_main_while0b_v28, res_main_while0b_v50, h]
  rfl

theorem step_8 (h : V (Proc.devRef .tc main_v16_6) = constantI S_ 32 (BitVec.ofNat 32 j)) : step_main_v16_8 V = (step j (read V)).main_v16_8 := by
  simp only [step_main_v16_8, res_main_while0b_v19, res_main_while0b_v21, res_main_while0b_v22, res_main_while0b_v23, res_main_while0b_v28, res_main_while0b_v29, h]
  rfl

theorem step_9 (h : V (Proc.devRef .tc main_v16_6) = constantI S_ 32 (BitVec.ofNat 32 j)) : step_main_v16_9 V = (step j (read V)).main_v16_9 := by
  simp only [step_main_v16_9, h]
  rfl

theorem step_6 (h : V (Proc.devRef .tc main_v16_6) = constantI S_ 32 (BitVec.ofNat 32 j)) : step_main_v16_6 V = constantI S_ 32 (BitVec.ofNat 32 (j + 1)) := by
  unfold step_main_v16_6
  rw [h]
  funext i
  show BitVec.ofNat 32 j + 1#32 = BitVec.ofNat 32 (j + 1)
  simp only [BitVec.ofNat_add]

/-- One trip is one step of the state, and counts one on. -/
theorem holds_step (h : Holds V s j) : Holds (STEP V) (step j s) (j + 1) := by
  obtain ⟨rfl, hn⟩ := h
  refine ⟨?_, (STEP_main_v16_6 V).trans (step_6 hn)⟩
  unfold read
  rw [STEP_main_v16_7 V, STEP_main_v16_8 V, STEP_main_v16_9 V, STEP_main_v16_0 V, STEP_main_v16_1 V, STEP_main_v16_2 V, STEP_main_v16_3 V,
    STEP_main_v16_4 V, STEP_main_v16_5 V, step_7 hn, step_8 hn, step_9 hn]
  rfl

/-- The state the first trip starts from. -/
abbrev start (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 400000 in
theorem entry : Holds (entryContents preI m c) (start m c) 0 := by
  constructor
  · unfold read
    simp only [entryContents, afterL_cons, afterL_nil]
    after_reads_simp
    rfl
  · simp only [entryContents, afterL_cons, afterL_nil]
    after_reads_simp
    rfl

/-- The states before each trip. -/
def states (s : State F) : ℕ → State F
  | 0 => s
  | k + 1 => step k (states s k)

theorem holds : ∀ k, Holds (STEP^[k] (entryContents preI m c)) (states (start m c) k) k
  | 0 => entry m c
  | k + 1 => by
    rw [Function.iterate_succ_apply']
    exact holds_step (holds k)

theorem result_y (V : Valuation τ sig (Elt F)) : out_main_v17 V = Step.R_main_v17 (read V) := rfl

theorem result_states (V : Valuation τ sig (Elt F)) : out_main_v18 V = Step.R_main_v18 (read V) := rfl

/-- Every execution ends with the two results at the last state's accumulated arrays, and every argument unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v17) = Step.R_main_v17 (states (start m c) 64)
      ∧ r.2.mem ((c.tc : Thread nD τ).loc main_v18) = Step.R_main_v18 (states (start m c) 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h17, h18, hk⟩ := h c
  refine ⟨h17.trans ((result_y _).trans (congrArg Step.R_main_v17 (holds m c 64).state)),
    h18.trans ((result_states _).trans (congrArg Step.R_main_v18 (holds m c 64).state)), hk⟩

end Cert.Reference29Ideal.Loop
-- ==== Proof.SsdRef.lean ====
module

public import proofs.«01_k».proof.Proof.SsdVoc
public import proofs.«01_k».proof.Proof.SsdRun
public import proofs.«01_k».proof.Proof.Arr
public import Idealize.ShloMosaic.Lib.DynamicIndex
public import Idealize.ShloMosaic.Lib.Pipeline.Value
public import Idealize.ShloMosaic.Lib.Pipeline.ValueKit
public import Idealize.ShloMosaic.Lib.StableHlo.ReadAt

/-! # The reference's scan, read -/

@[expose] public section
set_option maxRecDepth 16384
noncomputable section
open Idealize.ShloMosaic Idealize.ShloMosaic.TcCoe Idealize.ShloMosaic.StableHlo Idealize.SL.Sem
namespace Cert.Reference29Ideal.Loop
open Cert.Reference29Ideal Cert.Reference29Ideal.Gen Cert.Reference29Ideal.Step Cert.Ssd Cert.Sgu

section
variable (n : Fin 64) (s : State Ideal) (i : Fin 128) (g : Fin 8) (r : Fin 4) (p : Fin 64) (e : Fin 128)

theorem word_n : (BitVec.ofNat 32 (n : ℕ)).toInt = ((n : ℕ) : ℤ) := toInt_ofNat_of_lt (by omega)

/-! One chunk lies inside each array. -/

theorem in_x : S64x128x8x4x64.Slices (![n, 0, 0, 0, 0] : Fin 5 → ℕ) S1x128x8x4x64 := by
  refine ⟨rfl, fun a => ?_⟩
  fin_cases a
  · show (n : ℕ) + 1 ≤ 64; omega
  · exact le_of_eq (Nat.zero_add _)
  · exact le_of_eq (Nat.zero_add _)
  · exact le_of_eq (Nat.zero_add _)
  · exact le_of_eq (Nat.zero_add _)

theorem in_d : S64x128x8x4.Slices (![n, 0, 0, 0] : Fin 4 → ℕ) S1x128x8x4 := by
  refine ⟨rfl, fun a => ?_⟩
  fin_cases a
  · show (n : ℕ) + 1 ≤ 64; omega
  · exact le_of_eq (Nat.zero_add _)
  · exact le_of_eq (Nat.zero_add _)
  · exact le_of_eq (Nat.zero_add _)

theorem in_b : S64x128x8x128.Slices (![n, 0, 0, 0] : Fin 4 → ℕ) S1x128x8x128 := by
  refine ⟨rfl, fun a => ?_⟩
  fin_cases a
  · show (n : ℕ) + 1 ≤ 64; omega
  · exact le_of_eq (Nat.zero_add _)
  · exact le_of_eq (Nat.zero_add _)
  · exact le_of_eq (Nat.zero_add _)

theorem in_s : S64x8x4x64x128.Slices (![n, 0, 0, 0, 0] : Fin 5 → ℕ) S1x8x4x64x128 := by
  refine ⟨rfl, fun a => ?_⟩
  fin_cases a
  · show (n : ℕ) + 1 ≤ 64; omega
  · exact le_of_eq (Nat.zero_add _)
  · exact le_of_eq (Nat.zero_add _)
  · exact le_of_eq (Nat.zero_add _)
  · exact le_of_eq (Nat.zero_add _)

theorem b4_eq : b4 n s = extractStridedSlice (s := S64x128x8x4x64) S1x128x8x4x64 (![n, 0, 0, 0, 0] : Fin 5 → ℕ) s.main_v16_0 (in_x n) :=
  Host.dynamicSlice_eq_extractStridedSlice _ _ _ _ _ _ (fun a => by
    fin_cases a
    · exact word_n n
    · rfl
    · rfl
    · rfl
    · rfl)

theorem b9_eq : b9 n s = extractStridedSlice (s := S64x128x8x4) S1x128x8x4 (![n, 0, 0, 0] : Fin 4 → ℕ) s.main_v16_1 (in_d n) :=
  Host.dynamicSlice_eq_extractStridedSlice _ _ _ _ _ _ (fun a => by
    fin_cases a
    · exact word_n n
    · rfl
    · rfl
    · rfl)

theorem b14_eq : b14 n s = extractStridedSlice (s := S64x128x8x4) S1x128x8x4 (![n, 0, 0, 0] : Fin 4 → ℕ) s.main_v16_2 (in_d n) :=
  Host.dynamicSlice_eq_extractStridedSlice _ _ _ _ _ _ (fun a => by
    fin_cases a
    · exact word_n n
    · rfl
    · rfl
    · rfl)

theorem b19_eq : b19 n s = extractStridedSlice (s := S64x128x8x128) S1x128x8x128 (![n, 0, 0, 0] : Fin 4 → ℕ) s.main_v16_3 (in_b n) :=
  Host.dynamicSlice_eq_extractStridedSlice _ _ _ _ _ _ (fun a => by
    fin_cases a
    · exact word_n n
    · rfl
    · rfl
    · rfl)

theorem b24_eq : b24 n s = extractStridedSlice (s := S64x128x8x128) S1x128x8x128 (![n, 0, 0, 0] : Fin 4 → ℕ) s.main_v16_4 (in_b n) :=
  Host.dynamicSlice_eq_extractStridedSlice _ _ _ _ _ _ (fun a => by
    fin_cases a
    · exact word_n n
    · rfl
    · rfl
    · rfl)

theorem b5_at : (b5 n s (ix4 i g r p) : EReal) = s.main_v16_0 (ix5 n i g r p) := by
  pointwise [b5, b4_eq]

theorem b10_at : (b10 n s (ix3 i g r) : EReal) = s.main_v16_1 (ix4 n i g r) := by
  pointwise [b10, b9_eq]

theorem b15_at : (b15 n s (ix3 i g r) : EReal) = s.main_v16_2 (ix4 n i g r) := by
  pointwise [b15, b14_eq]

theorem b20_at : (b20 n s (ix3 i g e) : EReal) = s.main_v16_3 (ix4 n i g e) := by
  pointwise [b20, b19_eq]

theorem b25_at : (b25 n s (ix3 i g e) : EReal) = s.main_v16_4 (ix4 n i g e) := by
  pointwise [b25, b24_eq]

theorem b39_at : (b39 n s (ix4 i g r p) : EReal) = s.main_v16_0 (ix5 n i g r p) * s.main_v16_1 (ix4 n i g r) := by
  pointwise [b39, b38, b37, b5_at, b10_at]

/-- The sums of a head over a chunk. -/
def cu (j : Fin 128) : EReal := s.main_v16_2 (ix4 n j g r)

theorem b51_at (j : Fin 128) : (b51 n s (ix4 g r i j) : EReal) = dec (cu n s g r) i j := by
  unfold dec cu
  rw [← tri_select i j i.isLt j.isLt, show (⊥ : EReal) = Ideal.ofBits FTy.f32 4286578688#32 from by simp [Ideal.ofBits, Ideal.ieee]]
  pointwise [b51, b50, b49, b48, b47, b46, b45, b44, b43, b42, b41, b40, b36, b35, b34, b33, b32, b31, b30, b29, b28, b27, b26, b15_at]

theorem b57_at : (b57 n s (ix4 i g r p) : EReal) = ∑ j : Fin 128, (∑ e : Fin 128, s.main_v16_4 (ix4 n i g e) * s.main_v16_3 (ix4 n j g e))
    * dec (cu n s g r) i j * (s.main_v16_0 (ix5 n j g r p) * s.main_v16_1 (ix4 n j g r)) := by
  pointwise [b57, b56, b55, b54, b53, b52, b51_at, b39_at, b20_at, b25_at]
  exact Finset.sum_congr rfl fun j _ => mul_comm _ _

theorem b63_at : (b63 n s (ix4 i g r p) : EReal)
    = (∑ e : Fin 128, s.main_v16_4 (ix4 n i g e) * s.main_v16_7 (ix4 g r p e)) * Ideal.exp (cu n s g r i) := by
  unfold cu
  pointwise [b63, b62, b61, b60, b59, b58, b15_at, b25_at]
  exact congrArg (· * _) (Finset.sum_congr rfl fun e _ => mul_comm _ _)

theorem b84_at : (b84 n s (ix4 i g r p) : EReal)
    = outv (fun j => s.main_v16_0 (ix5 n j g r p)) (fun j => s.main_v16_1 (ix4 n j g r)) (cu n s g r) (fun j e => s.main_v16_3 (ix4 n j g e))
        (fun j e => s.main_v16_4 (ix4 n j g e)) (fun e => s.main_v16_7 (ix4 g r p e)) (s.main_v16_5 (ix2 g r)) i := by
  unfold outv
  pointwise [b84, b83, b82, b81, b80, b79, b57_at, b63_at, b5_at]

theorem b78_at : (b78 n s (ix4 g r p e) : EReal)
    = nxtv (fun j => s.main_v16_0 (ix5 n j g r p)) (fun j => s.main_v16_1 (ix4 n j g r)) (cu n s g r) (fun j e => s.main_v16_3 (ix4 n j g e))
        (fun e => s.main_v16_7 (ix4 g r p e)) e := by
  unfold nxtv cu
  pointwise [b78, b77, b76, b75, b74, b73, b72, b71, b70, b69, b68, b67, b66, b65, b64, b39_at, b20_at, b15_at]

theorem b90_eq : b90 n s = updateSlice s.main_v16_8 (b85 n s) ![n, 0, 0, 0, 0] (in_x n) :=
  Host.dynamicUpdateSlice_eq_updateSlice _ _ _ _ _ (fun a => by
    fin_cases a
    · show (min (max (BitVec.ofNat 32 (n : ℕ)).toInt 0) _).toNat = (n : ℕ)
      rw [word_n]
      show (min (max ((n : ℕ) : ℤ) 0) ((64 - 1 : ℕ) : ℤ)).toNat = (n : ℕ)
      omega
    · rfl
    · rfl
    · rfl
    · rfl) _

theorem b96_eq : b96 n s = updateSlice s.main_v16_9 (b91 n s) ![n, 0, 0, 0, 0] (in_s n) :=
  Host.dynamicUpdateSlice_eq_updateSlice _ _ _ _ _ (fun a => by
    fin_cases a
    · show (min (max (BitVec.ofNat 32 (n : ℕ)).toInt 0) _).toNat = (n : ℕ)
      rw [word_n]
      show (min (max ((n : ℕ) : ℤ) 0) ((64 - 1 : ℕ) : ℤ)).toNat = (n : ℕ)
      omega
    · rfl
    · rfl
    · rfl
    · rfl) _

theorem b90_at (k : Fin 64) : (b90 n s (ix5 k i g r p) : EReal) = if k = n then b84 n s (ix4 i g r p) else s.main_v16_8 (ix5 k i g r p) := by
  rw [b90_eq]
  pointwise [b85]
  by_cases h : k = n
  · subst h
    rw [dif_pos ⟨le_refl _, Nat.lt_succ_self _⟩, if_pos rfl]
  · rw [dif_neg (fun q => h (Fin.ext (by omega))), if_neg h]

theorem b96_at (k : Fin 64) : (b96 n s (ix5 k g r p e) : EReal) = if k = n then s.main_v16_7 (ix4 g r p e) else s.main_v16_9 (ix5 k g r p e) := by
  rw [b96_eq]
  pointwise [b91]
  by_cases h : k = n
  · subst h
    rw [dif_pos ⟨le_refl _, Nat.lt_succ_self _⟩, if_pos rfl]
  · rw [dif_neg (fun q => h (Fin.ext (by omega))), if_neg h]
end

/-! ## The states, one after another -/

/-- The column of lane `p` of head `r` of group `g`. -/
def col (g : Fin 8) (r : Fin 4) (p : Fin 64) : Fin 2048 := ⟨g * 256 + r * 64 + p, by omega⟩

section
variable (x0 : (⟨S8192x4096, .f32⟩ : BufTy).Contents (Elt Ideal)) (x1 x2 : (⟨S8192x128, .f32⟩ : BufTy).Contents (Elt Ideal))
  (x3 : (⟨S1x128, .f32⟩ : BufTy).Contents (Elt Ideal)) (n : Fin 64) (i : Fin 128) (g : Fin 8) (r : Fin 4) (p : Fin 64) (e : Fin 128)

theorem head_col : ((hd (col g r p) : Fin 128) : ℕ) = g * 4 + r := by
  show ((g : ℕ) * 256 + r * 64 + p) / 64 = _
  omega

theorem group_col : ((gl (col g r p) e : Fin 1024) : ℕ) = g * 128 + e := by
  show 128 * (((g : ℕ) * 256 + r * 64 + p) / 256) + (e : ℕ) = _
  omega

theorem row_eq {h : (n : ℕ) * 128 + i < 8192} : (⟨(n : ℕ) * 128 + i, h⟩ : Fin 8192) = arw n i :=
  Fin.ext (Nat.mod_eq_of_lt h).symm

theorem i0_at : ((init x0 x1 x2 x3).main_v16_0 (ix5 n i g r p) : EReal) = rX x0 (arw n i) ⟨col g r p, by omega⟩ := by
  unfold rX
  pointwise [init, A_main_v1, A_main_v0]
  exact congrArg x0 (congrArg₂ ix2 (row_eq n i) rfl)

theorem i1_at : ((init x0 x1 x2 x3).main_v16_1 (ix4 n i g r) : EReal) = rD x1 (arw n i) (hd (col g r p)) := by
  unfold rD
  pointwise [init, A_main_v7, A_main_v6]
  exact congrArg x1 (congrArg₂ ix2 (row_eq n i) (Fin.ext (head_col g r p).symm))

theorem i2_at : ((init x0 x1 x2 x3).main_v16_2 (ix4 n i g r) : EReal) = rD x2 (arw n i) (hd (col g r p)) := by
  unfold rD
  pointwise [init, A_main_v9, A_main_v8]
  exact congrArg x2 (congrArg₂ ix2 (row_eq n i) (Fin.ext (head_col g r p).symm))

theorem i3_at : ((init x0 x1 x2 x3).main_v16_3 (ix4 n i g e) : EReal) = rX x0 (arw n i) ⟨2048 + gl (col g r p) e, by omega⟩ := by
  unfold rX
  pointwise [init, A_main_v3, A_main_v2]
  exact congrArg x0 (congrArg₂ ix2 (row_eq n i) (Fin.ext (congrArg (2048 + ·) (group_col g r p e).symm)))

theorem i4_at : ((init x0 x1 x2 x3).main_v16_4 (ix4 n i g e) : EReal) = rX x0 (arw n i) ⟨3072 + gl (col g r p) e, by omega⟩ := by
  unfold rX
  pointwise [init, A_main_v5, A_main_v4]
  exact congrArg x0 (congrArg₂ ix2 (row_eq n i) (Fin.ext (congrArg (3072 + ·) (group_col g r p e).symm)))

theorem i5_at : ((init x0 x1 x2 x3).main_v16_5 (ix2 g r) : EReal) = rK x3 (hd (col g r p)) := by
  unfold rK
  pointwise [init, A_main_v12, A_main_v11, A_main_v10]
  exact congrArg x3 (congrArg₂ ix2 rfl (Fin.ext (head_col g r p).symm))

theorem i7_at : ((init x0 x1 x2 x3).main_v16_7 (ix4 g r p e) : EReal) = 0 := by
  pointwise [init, K_main_v13, K_main_cst]

theorem kept : ∀ (s : State Ideal) (k : ℕ), (states s k).main_v16_0 = s.main_v16_0 ∧ (states s k).main_v16_1 = s.main_v16_1 ∧ (states s k).main_v16_2 = s.main_v16_2
    ∧ (states s k).main_v16_3 = s.main_v16_3 ∧ (states s k).main_v16_4 = s.main_v16_4 ∧ (states s k).main_v16_5 = s.main_v16_5
  | _, 0 => ⟨rfl, rfl, rfl, rfl, rfl, rfl⟩
  | s, k + 1 => kept s k

/-- The carried state before trip `k`. -/
theorem carried : ∀ (k : ℕ), k ≤ 64 → ∀ (g : Fin 8) (r : Fin 4) (p : Fin 64) (e : Fin 128),
    ((states (init x0 x1 x2 x3) k).main_v16_7 (ix4 g r p e) : EReal) = stt (rX x0) (rD x1) (rD x2) k (col g r p) e
  | 0, _, g, r, p, e => i7_at x0 x1 x2 x3 g r p e
  | k + 1, hk, g, r, p, e => by
    obtain ⟨h0, h1, h2, h3, h4, h5⟩ := kept (init x0 x1 x2 x3) k
    show _ = nxtC (rX x0) (rD x1) (rD x2) k (stt (rX x0) (rD x1) (rD x2) k (col g r p)) (col g r p) e
    refine (b78_at ⟨k, hk⟩ (states (init x0 x1 x2 x3) k) g r p e).trans (nxtv_congr e (fun j => ?_) (fun j => ?_) (fun j => ?_) (fun j a => ?_)
      (fun a => carried k (Nat.le_of_succ_le hk) g r p a))
    · rw [h0]; exact i0_at x0 x1 x2 x3 ⟨k, hk⟩ j g r p
    · rw [h1]; exact i1_at x0 x1 x2 x3 ⟨k, hk⟩ j g r p
    · unfold cu; rw [h2]; exact i2_at x0 x1 x2 x3 ⟨k, hk⟩ j g r p
    · rw [h3]; exact i3_at x0 x1 x2 x3 ⟨k, hk⟩ j g r p a

/-- The rows of the result that trips before `k` have written. -/
theorem written_y : ∀ (k : ℕ), k ≤ 64 → ∀ (n : Fin 64), (n : ℕ) < k → ∀ (i : Fin 128) (g : Fin 8) (r : Fin 4) (p : Fin 64),
    ((states (init x0 x1 x2 x3) k).main_v16_8 (ix5 n i g r p) : EReal)
      = outC (rX x0) (rD x1) (rD x2) (rK x3) n (stt (rX x0) (rD x1) (rD x2) n (col g r p)) i (col g r p)
  | 0, _, n, hn, _, _, _, _ => absurd hn (Nat.not_lt_zero _)
  | k + 1, hk, n, hn, i, g, r, p => by
    obtain ⟨h0, h1, h2, h3, h4, h5⟩ := kept (init x0 x1 x2 x3) k
    refine (b90_at ⟨k, hk⟩ (states (init x0 x1 x2 x3) k) i g r p n).trans ?_
    by_cases e : n = ⟨k, hk⟩
    · rw [if_pos e, e]
      refine (b84_at ⟨k, hk⟩ (states (init x0 x1 x2 x3) k) i g r p).trans (outv_congr i (fun j => ?_) (fun j => ?_) (fun j => ?_) (fun j a => ?_) (fun j a => ?_)
        (fun a => carried x0 x1 x2 x3 k (Nat.le_of_succ_le hk) g r p a) ?_)
      · rw [h0]; exact i0_at x0 x1 x2 x3 ⟨k, hk⟩ j g r p
      · rw [h1]; exact i1_at x0 x1 x2 x3 ⟨k, hk⟩ j g r p
      · unfold cu; rw [h2]; exact i2_at x0 x1 x2 x3 ⟨k, hk⟩ j g r p
      · rw [h3]; exact i3_at x0 x1 x2 x3 ⟨k, hk⟩ j g r p a
      · rw [h4]; exact i4_at x0 x1 x2 x3 ⟨k, hk⟩ j g r p a
      · rw [h5]; exact i5_at x0 x1 x2 x3 g r p
    · rw [if_neg e]
      exact written_y k (Nat.le_of_succ_le hk) n (by have : (n : ℕ) ≠ k := fun h => e (Fin.ext h); omega) i g r p

/-- The states that trips before `k` have written. -/
theorem written_s : ∀ (k : ℕ), k ≤ 64 → ∀ (n : Fin 64), (n : ℕ) < k → ∀ (g : Fin 8) (r : Fin 4) (p : Fin 64) (e : Fin 128),
    ((states (init x0 x1 x2 x3) k).main_v16_9 (ix5 n g r p e) : EReal) = stt (rX x0) (rD x1) (rD x2) n (col g r p) e
  | 0, _, n, hn, _, _, _, _ => absurd hn (Nat.not_lt_zero _)
  | k + 1, hk, n, hn, g, r, p, e => by
    refine (b96_at ⟨k, hk⟩ (states (init x0 x1 x2 x3) k) g r p e n).trans ?_
    by_cases h : n = ⟨k, hk⟩
    · rw [if_pos h, h]
      exact carried x0 x1 x2 x3 k (Nat.le_of_succ_le hk) g r p e
    · rw [if_neg h]
      exact written_s k (Nat.le_of_succ_le hk) n (by have : (n : ℕ) ≠ k := fun q => h (Fin.ext q); omega) g r p e
end

section
variable (s : State Ideal) (r : Fin 8192) (n : Fin 64) (d : Fin 2048) (e : Fin 128)

/-- A column's group, head and lane. -/
def gOf (d : Fin 2048) : Fin 8 := ⟨d / 256, by omega⟩
def rOf (d : Fin 2048) : Fin 4 := ⟨d / 64 % 4, by omega⟩
def pOf (d : Fin 2048) : Fin 64 := ⟨d % 64, by omega⟩

theorem col_of (d : Fin 2048) : col (gOf d) (rOf d) (pOf d) = d := by
  apply Fin.ext
  show (d : ℕ) / 256 * 256 + (d : ℕ) / 64 % 4 * 64 + (d : ℕ) % 64 = d
  omega

theorem r17_at : (R_main_v17 s (ix2 r d) : EReal) = s.main_v16_8 (ix5 (nOf r) (iOf r) (gOf d) (rOf d) (pOf d)) := by
  pointwise [R_main_v17]
  rfl

theorem r18_at : (R_main_v18 s (ix3 n d e) : EReal) = s.main_v16_9 (ix5 n (gOf d) (rOf d) (pOf d) e) := by
  pointwise [R_main_v18]
  rfl
end

end Cert.Reference29Ideal.Loop
-- ==== Proof.SsdFwd.lean ====
module

public import proofs.«01_k».proof.Defs
public import proofs.«01_k».proof.Proof.SsdKer
public import proofs.«01_k».proof.Proof.SsdRef

/-! # The chunked scan, forward

The kernel's result and the states before its chunks, against the scan over the chunks. -/

@[expose] public section
set_option maxRecDepth 16384
noncomputable section
open Idealize.ShloMosaic Idealize.ShloMosaic.TcCoe Idealize.SL.Sem
namespace Cert.Kernel29Ideal.Val
open Cert.Kernel29Ideal Cert.Kernel29Ideal.Gen Cert.Kernel29Ideal.Value Cert.Ssd Cert.Sgu
open Cert.Reference29Ideal.Loop (states start written_y written_s r17_at r18_at col_of)
open Cert.Reference29Ideal.Step (init)

variable (m : (ℓ : Loc nD τ sig) → Buf (Elt Ideal) ℓ)

/-- The reference declares no semaphore, and writes none of its arguments. -/
theorem frameRef : Cert.quiescent_Reference29Ideal (hReference29Ideal := Cert.Reference29Ideal.Gen.facts) := fun m ρ _ =>
  (θ_run Cert.Reference29Ideal.defs _ _).mono (fun r h => ⟨fun c => (h c).2.2, sem_eq_zero_of_no_sems (by decide) r.2⟩)
    (Cert.Reference29Ideal.Loop.run (F := Ideal) m ρ)

section
variable (x0 : (⟨S8192x4096, .f32⟩ : BufTy).Contents (Elt Ideal)) (x1 x2 : (⟨S8192x128, .f32⟩ : BufTy).Contents (Elt Ideal))
  (x3 : (⟨S1x128, .f32⟩ : BufTy).Contents (Elt Ideal))

theorem y_at (r : Fin 8192) (d : Fin 2048) :
    (Cert.Reference29Ideal.Step.R_main_v17 (states (init (F := Ideal) x0 x1 x2 x3) 64) (ix2 r d) : EReal) = outA (rX x0) (rD x1) (rD x2) (rK x3) r d := by
  refine ((r17_at _ r d).trans (written_y x0 x1 x2 x3 64 (le_refl _) (nOf r) (nOf r).isLt (iOf r) _ _ _)).trans ?_
  rw [col_of]
  rfl

theorem s_at (n : Fin 64) (d : Fin 2048) (e : Fin 128) :
    (Cert.Reference29Ideal.Step.R_main_v18 (states (init (F := Ideal) x0 x1 x2 x3) 64) (ix3 n d e) : EReal) = stt (rX x0) (rD x1) (rD x2) n d e := by
  refine ((r18_at _ n d e).trans (written_s x0 x1 x2 x3 64 (le_refl _) n n.isLt _ _ _ e)).trans ?_
  rw [col_of]

theorem res_y : Cert.Reference29Ideal.Step.R_main_v17 (states (init (F := Ideal) x0 x1 x2 x3) 64)
    = fun j : S8192x2048.Idx => outA (rX x0) (rD x1) (rD x2) (rK x3) (j 0) (j 1) := by
  funext j
  exact (congrArg _ (eq_ix2 j)).trans (y_at x0 x1 x2 x3 (j 0) (j 1))

theorem res_s : Cert.Reference29Ideal.Step.R_main_v18 (states (init (F := Ideal) x0 x1 x2 x3) 64)
    = fun j : S64x2048x128.Idx => stt (rX x0) (rD x1) (rD x2) (j 0 : Fin 64) (j 1) (j 2) := by
  funext j
  exact (congrArg _ (eq_ix3 j)).trans (s_at x0 x1 x2 x3 (j 0) (j 1) (j 2))
end

theorem algebra : Cert.algebraic_Kernel29Ideal_Reference29Ideal (hKernel29Ideal := Cert.Kernel29Ideal.Gen.facts) (hReference29Ideal := Cert.Reference29Ideal.Gen.facts) := by
  intro m ρ m' ρ' _ hm
  refine ⟨fun c => fun j : S8192x2048.Idx => outA (aX m c) (aD m c) (aC m c) (aK m c) (j 0) (j 1),
    fun c => fun j : S64x2048x128.Idx => stt (aX m c) (aD m c) (aC m c) (j 0 : Fin 64) (j 1) (j 2), ?_, ?_⟩
  · exact (θ_run Cert.Kernel29Ideal.defs _ _).mono (fun r h c => ⟨(h c).1.trans (final_y m c), (h c).2.1.trans (final_s m c), (h c).2.2⟩)
      (Cert.Kernel29Ideal.Value.run_blocks (F := Ideal) m ρ)
  · refine (θ_run Cert.Reference29Ideal.defs _ _).mono (fun r h c => ⟨(h c).1.trans ?_, (h c).2.1.trans ?_, (h c).2.2⟩)
      (Cert.Reference29Ideal.Loop.run (F := Ideal) m' ρ')
    all_goals obtain ⟨h0, h1, h2, h3⟩ := hm c
    · refine (res_y _ _ _ _).trans ?_
      rw [h0, h1, h2, h3]; rfl
    · refine (res_s _ _ _ _).trans ?_
      rw [h0, h1, h2]; rfl

end Cert.Kernel29Ideal.Val
-- ==== Proof.LossHead.lean ====
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import proofs.«01_k».proof.Proof.Norm
public import Idealize.ShloMosaic.Lib.Pipeline.ValueKit
public import Idealize.ShloMosaic.Lib.Pipeline.ReadBack
public import Idealize.ShloMosaic.Lib.StableHlo.ReadAt

/-! # The loss and its gradients

Half the sum over the rows of the mean square of the distance between the normalised, scaled row and its target, and its gradients. The kernel
adds the loss and the gradients of the gate and of the scale over 16 blocks of 512 rows; a factor may be taken out of the sum of the losses
because squares are not negative. -/

@[expose] public section
set_option maxRecDepth 16384
noncomputable section
open Idealize.ShloMosaic Idealize.ShloMosaic.TcCoe Idealize.ShloMosaic.StableHlo Idealize.SL.Sem
namespace Cert.Kernel28Ideal.Val
open Cert.Kernel28Ideal Cert.Kernel28Ideal.Gen Cert.Norm Cert.Reference28Ideal

/-- The number of lanes of a row, a half, one and two. -/
abbrev lanes : EReal := Ideal.ofBits FTy.f32 1149239296#32
abbrev half : EReal := Ideal.ofBits FTy.f32 1056964608#32
abbrev one : EReal := Ideal.ofBits FTy.f32 1065353216#32
abbrev two : EReal := Ideal.ofBits FTy.f32 1073741824#32

/-! ## One row -/

section
variable (x w t : Fin 1024 → EReal)
/-- The distance to the target, -/
def dist (d : Fin 1024) : EReal := nrm lanes x d * w d - t d
/-- the row's mean square of it, -/
def loss : EReal := Ideal.div (∑ d : Fin 1024, dist x w t d * dist x w t d) lanes
/-- the gradient of the scaled row, -/
def gY (d : Fin 1024) : EReal := Ideal.div (half * one) lanes * (two * dist x w t d)
/-- of the row -/
def gR (d : Fin 1024) : EReal := grad lanes x (fun d => gY x w t d * w d) d
/-- and what the row adds to the gradient of the scale. -/
def gW (d : Fin 1024) : EReal := nrm lanes x d * gY x w t d
end

/-! ## One block -/

section
variable (x : Vec Ideal S512x1024 .f32) (o : Vec Ideal S512x1024 .bf16) (g w : Vec Ideal S1x1024 .f32) (T : Vec Ideal S512x1024 .f32)
  (r : Fin 512) (d : Fin 1024)

/-- A row of the block, the scale and its target. -/
def bx (d : Fin 1024) : EReal := x (ix2 r d) + g (ix2 0 d) * o (ix2 r d)
def bw (d : Fin 1024) : EReal := w (ix2 0 d)
def bt (d : Fin 1024) : EReal := T (ix2 r d)

theorem pay3_at (y : S512x1024.Idx) : (k0_pay3 (F := Ideal) o y : EReal) = o y := by
  pointwise [k0_pay3]

theorem pay4_at : (k0_pay4 (F := Ideal) x o g (ix2 r d) : EReal) = bx x o g r d := by
  unfold bx
  pointwise [k0_pay4, pay3_at]

theorem pay5_at : (k0_pay5 (F := Ideal) x o g (ix2 r 0) : EReal) = msq lanes (bx x o g r) := by
  unfold msq
  pointwise [k0_pay5, pay4_at]

theorem pay6_at : (k0_pay6 (F := Ideal) x o g (ix2 r 0) : EReal) = Ideal.rsqrt (msq lanes (bx x o g r)) := by
  pointwise [k0_pay6, pay5_at]

theorem pay8_at : (k0_pay8 (F := Ideal) x o g (ix2 r d) : EReal) = nrm lanes (bx x o g r) d := by
  unfold nrm
  pointwise [k0_pay8, pay6_at, pay4_at]

theorem pay9_at : (k0_pay9 (F := Ideal) x o g w T (ix2 r d) : EReal) = dist (bx x o g r) (bw w) (bt T r) d := by
  unfold dist bw bt
  pointwise [k0_pay9, pay8_at]

theorem pay11_at : (k0_pay11 (F := Ideal) x o g w T : EReal) = half * ∑ r : Fin 512, loss (bx x o g r) (bw w) (bt T r) := by
  unfold loss
  pointwise [k0_pay11, pay9_at]

/-- The gradient of the scaled row in the kernel's operators. -/
abbrev kY : FVec Ideal S512x1024 .f32 := k0_pay13 (F := Ideal) (k0_pay10 (F := Ideal) x o g w T) (k0_pay12 (F := Ideal))
/-- The gradient of the row in the kernel's operators. -/
abbrev kR : FVec Ideal S512x1024 .f32 :=
  k0_pay15 (F := Ideal) w (k0_pay4 (F := Ideal) x o g) (k0_pay6 (F := Ideal) x o g) (k0_pay7 (F := Ideal) x o g) (k0_pay10 (F := Ideal) x o g w T) (k0_pay12 (F := Ideal))
/-- What the block adds to the gradients of the gate and of the scale. -/
abbrev kG : FVec Ideal S1x1024 .f32 := k0_pay16 (F := Ideal) (k0_pay3 (F := Ideal) o) w (k0_pay4 (F := Ideal) x o g) (k0_pay6 (F := Ideal) x o g) (k0_pay7 (F := Ideal) x o g)
  (k0_pay10 (F := Ideal) x o g w T) (k0_pay12 (F := Ideal))
abbrev kW : FVec Ideal S1x1024 .f32 := k0_pay14 (F := Ideal) (k0_pay8 (F := Ideal) x o g) (k0_pay10 (F := Ideal) x o g w T) (k0_pay12 (F := Ideal))
/-- The gradient of the feed-forward's output in the kernel's operators. -/
abbrev kF : FVec Ideal S512x1024 .bf16 := k0_pay17 (F := Ideal) g w (k0_pay4 (F := Ideal) x o g) (k0_pay6 (F := Ideal) x o g) (k0_pay7 (F := Ideal) x o g)
  (k0_pay10 (F := Ideal) x o g w T) (k0_pay12 (F := Ideal))

theorem kY_at : (kY x o g w T (ix2 r d) : EReal) = gY (bx x o g r) (bw w) (bt T r) d := by
  unfold gY
  pointwise [k0_pay13, k0_pay12, k0_pay10, pay9_at]

theorem kW_at : (kW x o g w T (ix2 0 d) : EReal) = ∑ r : Fin 512, gW (bx x o g r) (bw w) (bt T r) d := by
  unfold gW
  pointwise [k0_pay14, pay8_at, kY_at]

theorem kR_at : (kR x o g w T (ix2 r d) : EReal) = gR (bx x o g r) (bw w) (bt T r) d := by
  unfold gR grad corr
  pointwise [k0_pay15, k0_pay7, pay6_at, pay5_at, pay4_at, kY_at, Fin.sum_univ_one, bw]

theorem kG_at : (kG x o g w T (ix2 0 d) : EReal) = ∑ r : Fin 512, gR (bx x o g r) (bw w) (bt T r) d * o (ix2 r d) := by
  pointwise [k0_pay16, pay3_at, kR_at]

theorem kF_at : (kF x o g w T (ix2 r d) : EReal) = g (ix2 0 d) * gR (bx x o g r) (bw w) (bt T r) d := by
  pointwise [k0_pay17, kR_at]
end

variable (m : (ℓ : Loc nD τ sig) → Buf (Elt Ideal) ℓ)

/-- A row of a single line. -/
theorem row0 (y : S1x1024.Idx) : y = ix2 0 (y 1) :=
  (eq_ix2 y).trans (congrArg (fun a => ix2 a (y 1)) (Subsingleton.elim (α := Fin 1) _ _))

/-! ## One grid point -/

section
variable (c : Dev nD) (t : Fin cfg0.N)
/-- Point `t`'s part of the loss and of the two summed gradients. -/
abbrev p5 : EReal := k0_pay11 (F := Ideal) (iblk m c 0 t) (iblk m c 1 t) (iblk m c 2 t) (iblk m c 3 t) (iblk m c 4 t)
abbrev p8 : FVec Ideal S1x1024 .f32 := kG (iblk m c 0 t) (iblk m c 1 t) (iblk m c 2 t) (iblk m c 3 t) (iblk m c 4 t)
abbrev p9 : FVec Ideal S1x1024 .f32 := kW (iblk m c 0 t) (iblk m c 1 t) (iblk m c 2 t) (iblk m c 3 t) (iblk m c 4 t)

theorem step6 (y : S512x1024.Idx) : ((outsAt0 m c t.val t.isLt).2.1 y : EReal)
    = kR (iblk m c 0 t) (iblk m c 1 t) (iblk m c 2 t) (iblk m c 3 t) (iblk m c 4 t) y := by
  by_cases h : t.val % 16 = 0
  · rw [outsAt0_A m c t h]
    frame_open
    frame_out
  · rw [outsAt0_B m c t h]
    frame_open
    frame_out

theorem step7 (y : S512x1024.Idx) : ((outsAt0 m c t.val t.isLt).2.2.1 y : EReal)
    = kF (iblk m c 0 t) (iblk m c 1 t) (iblk m c 2 t) (iblk m c 3 t) (iblk m c 4 t) y := by
  by_cases h : t.val % 16 = 0
  · rw [outsAt0_A m c t h]
    frame_open
    frame_out
  · rw [outsAt0_B m c t h]
    frame_open
    frame_out

theorem step5_A (h : t.val % 16 = 0) (y : S8x128.Idx) : ((outsAt0 m c t.val t.isLt).1 y : EReal) = 0 + p5 m c t := by
  rw [outsAt0_A m c t h]
  frame_open
  simp (disch := decide) only [↓ View.readCov_skip, ↓ View.readCov_cons_toLoadRect, ↓ View.readCov_fill]
  frame_out
  pointwise [k0_pay21, k0_pay18]

theorem step5_B (h : ¬ t.val % 16 = 0) (y : S8x128.Idx) : ((outsAt0 m c t.val t.isLt).1 y : EReal)
    = (outsAt0 m c (t.val - 1) (Nat.lt_of_le_of_lt (Nat.sub_le _ _) t.isLt)).1 y + p5 m c t := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).1 = acc
  pointwise [k0_pay21]

theorem step8_A (h : t.val % 16 = 0) (y : S1x1024.Idx) : ((outsAt0 m c t.val t.isLt).2.2.2.1 y : EReal) = 0 + p8 m c t y := by
  rw [outsAt0_A m c t h]
  frame_open
  simp (disch := decide) only [↓ View.readCov_skip, ↓ View.readCov_cons_toLoadRect, ↓ View.readCov_fill]
  frame_out
  pointwise [k0_pay1, k0_pay19]

theorem step8_B (h : ¬ t.val % 16 = 0) (y : S1x1024.Idx) : ((outsAt0 m c t.val t.isLt).2.2.2.1 y : EReal)
    = (outsAt0 m c (t.val - 1) (Nat.lt_of_le_of_lt (Nat.sub_le _ _) t.isLt)).2.2.2.1 y + p8 m c t y := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.2.1 = acc
  pointwise [k0_pay1]

theorem step9_A (h : t.val % 16 = 0) (y : S1x1024.Idx) : ((outsAt0 m c t.val t.isLt).2.2.2.2 y : EReal) = 0 + p9 m c t y := by
  rw [outsAt0_A m c t h]
  frame_open
  simp (disch := decide) only [↓ View.readCov_skip, ↓ View.readCov_cons_toLoadRect, ↓ View.readCov_fill]
  frame_out
  pointwise [k0_pay2, k0_pay20]

theorem step9_B (h : ¬ t.val % 16 = 0) (y : S1x1024.Idx) : ((outsAt0 m c t.val t.isLt).2.2.2.2 y : EReal)
    = (outsAt0 m c (t.val - 1) (Nat.lt_of_le_of_lt (Nat.sub_le _ _) t.isLt)).2.2.2.2 y + p9 m c t y := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.2.2 = acc
  pointwise [k0_pay2]
end

/-! ## The arrays -/

section
variable (c : Dev nD)
/-- The arguments' elements. -/
def aO (r : Fin 8192) (d : Fin 1024) : EReal := m ((c : Thread nD τ).loc main_arg1) (ix2 r d)
def aG (d : Fin 1024) : EReal := m ((c : Thread nD τ).loc main_arg2) (ix2 0 d)
def aX0 (r : Fin 8192) (d : Fin 1024) : EReal := m ((c : Thread nD τ).loc main_arg0) (ix2 r d)
def aX (r : Fin 8192) (d : Fin 1024) : EReal := aX0 m c r d + aG m c d * aO m c r d
def aW (d : Fin 1024) : EReal := m ((c : Thread nD τ).loc main_arg3) (ix2 0 d)
def aT (r : Fin 8192) (d : Fin 1024) : EReal := m ((c : Thread nD τ).loc main_arg4) (ix2 r d)

/-- The loss, -/
def oL : EReal := half * ∑ r : Fin 8192, loss (aX m c r) (aW m c) (aT m c r)
/-- the gradient of the rows, -/
def oX (r : Fin 8192) (d : Fin 1024) : EReal := gR (aX m c r) (aW m c) (aT m c r) d
/-- of the feed-forward's output, -/
def oF (r : Fin 8192) (d : Fin 1024) : EReal := aG m c d * oX m c r d
/-- of the gate -/
def oG (d : Fin 1024) : EReal := ∑ r : Fin 8192, oX m c r d * aO m c r d
/-- and of the scale. -/
def oW (d : Fin 1024) : EReal := ∑ r : Fin 8192, gW (aX m c r) (aW m c) (aT m c r) d
end

theorem pt_lt (t : Fin cfg0.N) : t.val < 16 := lt_of_lt_of_eq t.isLt N_0

/-- Row `r` of point `t`'s block. -/
def rk (t : Fin cfg0.N) (r : Fin 512) : Fin 8192 := ⟨t.val * 512 + r, by have := pt_lt t; omega⟩

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_6.index t = ![t.val, 0] ∧ win0_7.index t = ![t.val, 0] ∧ win0_8.index t = ![0, 0] ∧ win0_9.index t = ![0, 0] :=
  (by decide +kernel : ∀ t : Fin grid0.N, _)

section
variable (c : Dev nD) (t : Fin cfg0.N) (r : Fin 512) (d : Fin 1024)
theorem o_at : (iblk m c 1 t (ix2 r d) : EReal) = aO m c (rk t r) d := by
  unfold aO rk
  blk_point [iblk, V, idx t]

theorem g_at : (iblk m c 2 t (ix2 0 d) : EReal) = aG m c d := by
  unfold aG
  blk_point [iblk, V, idx t]

theorem x_at : bx (iblk m c 0 t) (iblk m c 1 t) (iblk m c 2 t) r = aX m c (rk t r) := by
  funext d
  unfold bx aX
  rw [o_at, g_at]
  refine congrArg (· + aG m c d * aO m c (rk t r) d) ?_
  unfold aX0 rk
  blk_point [iblk, V, idx t]

theorem w_at : bw (iblk m c 3 t) = aW m c := by
  funext d
  unfold bw aW
  blk_point [iblk, V, idx t]

theorem t_at : bt (iblk m c 4 t) r = aT m c (rk t r) := by
  funext d
  unfold bt aT rk
  blk_point [iblk, V, idx t]

theorem out6 : ((outsAt0 m c t.val t.isLt).2.1 (ix2 r d) : EReal) = oX m c (rk t r) d := by
  refine (step6 m c t (ix2 r d)).trans ((kR_at _ _ _ _ _ r d).trans ?_)
  rw [x_at, w_at, t_at]
  rfl

theorem out7 : ((outsAt0 m c t.val t.isLt).2.2.1 (ix2 r d) : EReal) = oF m c (rk t r) d := by
  refine (step7 m c t (ix2 r d)).trans ((kF_at _ _ _ _ _ r d).trans ?_)
  rw [x_at, w_at, t_at, g_at]
  rfl

theorem p5_at : p5 m c t = half * ∑ r : Fin 512, loss (aX m c (rk t r)) (aW m c) (aT m c (rk t r)) := by
  refine (pay11_at _ _ _ _ _).trans ?_
  simp only [x_at, w_at, t_at]

theorem p8_at : (p8 m c t (ix2 0 d) : EReal) = ∑ r : Fin 512, oX m c (rk t r) d * aO m c (rk t r) d := by
  refine (kG_at _ _ _ _ _ d).trans ?_
  simp only [x_at, w_at, t_at, o_at]
  rfl

theorem p9_at : (p9 m c t (ix2 0 d) : EReal) = ∑ r : Fin 512, gW (aX m c (rk t r)) (aW m c) (aT m c (rk t r)) d := by
  refine (kW_at _ _ _ _ _ d).trans ?_
  simp only [x_at, w_at, t_at]
end

/-- A square is not negative, -/
theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

theorem lanes_eq : lanes = ((1024 : ℝ) : EReal) := by
  simp [Ideal.ofBits, Ideal.ieee, -EReal.coe_mul]; norm_num

/-- and so a row's loss is not. -/
theorem loss_nonneg (x w t : Fin 1024 → EReal) : 0 ≤ loss x w t := by
  unfold loss
  have h : 0 ≤ ∑ d : Fin 1024, dist x w t d * dist x w t d := Finset.sum_nonneg fun d _ => sq_nonneg' _
  rw [lanes_eq, Ideal.div_coe (by norm_num)]
  exact mul_nonneg h (EReal.coe_nonneg.mpr (by norm_num))

/-- A factor taken out of a sum of numbers that are not negative. -/
theorem mul_sum_nonneg {ι : Type} (a : EReal) (s : Finset ι) (f : ι → EReal) (h : ∀ i, 0 ≤ f i) : a * ∑ i ∈ s, f i = ∑ i ∈ s, a * f i := by
  classical
  induction s using Finset.induction_on with
  | empty => simp
  | insert i s hi ih =>
    rw [Finset.sum_insert hi, Finset.sum_insert hi, EReal.left_distrib_of_nonneg (h i) (Finset.sum_nonneg fun j _ => h j), ih]

section
variable (c : Dev nD)
theorem sum5 : (∑ p : Fin cfg0.N, p5 m c p) = oL m c := by
  simp only [p5_at]
  unfold oL
  rw [← mul_sum_nonneg half Finset.univ _ (fun p => Finset.sum_nonneg fun r _ => loss_nonneg _ _ _)]
  exact congrArg (half * ·) (Fin.sum_mul_add_congr (fun s r hl => rfl) (by rw [show cfg0.N = 16 from N_0]))

theorem sum8 (d : Fin 1024) : (∑ p : Fin cfg0.N, (p8 m c p (ix2 0 d) : EReal)) = oG m c d := by
  simp only [p8_at]
  exact Fin.sum_mul_add_congr (fun s r hl => rfl) (by rw [show cfg0.N = 16 from N_0])

theorem sum9 (d : Fin 1024) : (∑ p : Fin cfg0.N, (p9 m c p (ix2 0 d) : EReal)) = oW m c d := by
  simp only [p9_at]
  exact Fin.sum_mul_add_congr (fun s r hl => rfl) (by rw [show cfg0.N = 16 from N_0])

theorem final6 : (dats m 0 c).arrAt 6 cfg0.N = fun j : S8192x1024.Idx => oX m c (j 0) (j 1) := by
  refine (dats m 0 c).arrAt_eq_of_covers 6 _ (by decide +kernel) fun t hf y => ?_
  blk_simp
  rw [after0_6]
  refine (congrArg _ (eq_ix2 y)).trans ((out6 m c t (y 0) (y 1)).trans ?_)
  refine congrArg₂ (oX m c) (Fin.ext ?_) (Fin.ext ?_)
  · unfold rk; blk_simp [idx t]
  · blk_simp [idx t]

theorem final7 : (dats m 0 c).arrAt 7 cfg0.N = fun j : S8192x1024.Idx => oF m c (j 0) (j 1) := by
  refine (dats m 0 c).arrAt_eq_of_covers 7 _ (by decide +kernel) fun t hf y => ?_
  blk_simp
  rw [after0_7]
  refine (congrArg _ (eq_ix2 y)).trans ((out7 m c t (y 0) (y 1)).trans ?_)
  refine congrArg₂ (oF m c) (Fin.ext ?_) (Fin.ext ?_)
  · unfold rk; blk_simp [idx t]
  · blk_simp [idx t]

theorem final5 : (dats m 0 c).arrAt 5 cfg0.N = fun _ : S8x128.Idx => oL m c := by
  refine (dats m 0 c).arrAt_eq_of_covers 5 _ (by decide +kernel) fun t hf y => ?_
  have ht := (flush0_5 t).mp hf
  have hl := pt_lt t
  have hN : cfg0.N = 16 := N_0
  blk_simp
  rw [after0_5, Pipeline.eq_sum_fin_of_reset_step_apply_last (fun n h => (outsAt0 m c n h).1) 16 (fun _ => (0 : EReal)) (fun p _ => p5 m c p)
    (fun p h j => step5_A m c p h j) (fun p h j => step5_B m c p h j) (le_of_eq N_0) t (by omega) y]
  exact (zero_add (_ : EReal)).trans (sum5 m c)

theorem final8 : (dats m 0 c).arrAt 8 cfg0.N = fun j : S1x1024.Idx => oG m c (j 1) := by
  refine (dats m 0 c).arrAt_eq_of_covers 8 _ (by decide +kernel) fun t hf y => ?_
  have ht := (flush0_8 t).mp hf
  have hl := pt_lt t
  have hN : cfg0.N = 16 := N_0
  blk_simp
  rw [after0_8, Pipeline.eq_sum_fin_of_reset_step_apply_last (fun n h => (outsAt0 m c n h).2.2.2.1) 16 (fun _ => (0 : EReal)) (fun p j => (p8 m c p j : EReal))
    (fun p h j => step8_A m c p h j) (fun p h j => step8_B m c p h j) (le_of_eq N_0) t (by omega) y]
  refine (zero_add (_ : EReal)).trans ?_
  refine (Eq.trans ?_ (sum8 m c (y 1))).trans ?_
  · exact Finset.sum_congr rfl fun p _ => congrArg _ (row0 y)
  · congr 1; exact Fin.ext (by blk_simp [idx t])

theorem final9 : (dats m 0 c).arrAt 9 cfg0.N = fun j : S1x1024.Idx => oW m c (j 1) := by
  refine (dats m 0 c).arrAt_eq_of_covers 9 _ (by decide +kernel) fun t hf y => ?_
  have ht := (flush0_9 t).mp hf
  have hl := pt_lt t
  have hN : cfg0.N = 16 := N_0
  blk_simp
  rw [after0_9, Pipeline.eq_sum_fin_of_reset_step_apply_last (fun n h => (outsAt0 m c n h).2.2.2.2) 16 (fun _ => (0 : EReal)) (fun p j => (p9 m c p j : EReal))
    (fun p h j => step9_A m c p h j) (fun p h j => step9_B m c p h j) (le_of_eq N_0) t (by omega) y]
  refine (zero_add (_ : EReal)).trans ?_
  refine (Eq.trans ?_ (sum9 m c (y 1))).trans ?_
  · exact Finset.sum_congr rfl fun p _ => congrArg _ (row0 y)
  · congr 1; exact Fin.ext (by blk_simp [idx t])
end

/-! ## The reference -/

/-- The reference declares no semaphore, and writes none of its arguments. -/
theorem frameRef : Cert.quiescent_Reference28Ideal (hReference28Ideal := Cert.Reference28Ideal.Gen.facts) := fun m ρ _ =>
  (θ_run Cert.Reference28Ideal.defs _ _).mono (fun r h => ⟨fun c => (h c).2.2.2.2.2, sem_eq_zero_of_no_sems (by decide) r.2⟩)
    (Cert.Reference28Ideal.Value.run (F := Ideal) m ρ)

section
open Read
variable (x0 : FVec Ideal S8192x1024 .f32) (x1 : FVec Ideal S8192x1024 .bf16) (x2 x3 : FVec Ideal S1x1024 .f32) (x4 : FVec Ideal S8192x1024 .f32)
  (r : Fin 8192) (d : Fin 1024)

/-- A row of the reference, the scale and the target. -/
def rX (d : Fin 1024) : EReal := x0 (ix2 r d) + x2 (ix2 0 d) * x1 (ix2 r d)
def rW (d : Fin 1024) : EReal := x3 (ix2 0 d)
def rT (d : Fin 1024) : EReal := x4 (ix2 r d)

theorem s3 : (val_main_v3 (F := Ideal) x0 x1 x2 (ix2 r d) : EReal) = rX x0 x1 x2 r d := by
  unfold rX
  pointwise [val_main_v3, val_main_v2, val_main_v1, val_main_v0]

theorem s12 : (val_main_v12 (F := Ideal) x0 x1 x2 (ix2 r 0) : EReal) = msq lanes (rX x0 x1 x2 r) := by
  unfold msq
  pointwise [val_main_v12, val_main_v11, val_main_v10, val_main_v9, val_main_v8, val_main_v7, val_main_v4, val_main_cst_2, val_main_cst_1, val_main_cst_0, s3]

theorem s18 : (val_main_v18 (F := Ideal) x0 x1 x2 (ix2 r d) : EReal) = nrm lanes (rX x0 x1 x2 r) d := by
  unfold nrm
  pointwise [val_main_v18, val_main_v17, val_main_v13, s12, s3]

theorem s21 : (val_main_v21 (F := Ideal) x0 x1 x2 x3 x4 (ix2 r d) : EReal) = dist (rX x0 x1 x2 r) (rW x3) (rT x4 r) d := by
  unfold dist rW rT
  pointwise [val_main_v21, val_main_v20, val_main_v19, s18]

theorem s27 : (val_main_v27 (F := Ideal) x0 x1 x2 x3 x4 (ix1 r) : EReal) = loss (rX x0 x1 x2 r) (rW x3) (rT x4 r) := by
  unfold loss
  pointwise [val_main_v27, val_main_v26, val_main_v25, val_main_v22, val_main_cst_5, val_main_cst_6, s21]

theorem s58 (y : S8x128.Idx) : (val_main_v58 (F := Ideal) x0 x1 x2 x3 x4 y : EReal) = half * ∑ r : Fin 8192, loss (rX x0 x1 x2 r) (rW x3) (rT x4 r) := by
  pointwise [val_main_v58, val_main_v29, val_main_v28, val_main_cst_7, val_main_cst_8, s27]

theorem s35 : (val_main_v35 (F := Ideal) x0 x1 x2 x3 x4 (ix2 r d) : EReal) = gY (rX x0 x1 x2 r) (rW x3) (rT x4 r) d := by
  unfold gY
  pointwise [val_main_v35, val_main_v34, val_main_v33, val_main_v32, val_main_v31, val_main_v30, val_main_v24, val_main_v23, val_main_cst_4, val_main_cst_9,
    val_main_cst_10, val_main_cst_11, s21]

theorem s38 : (val_main_v38 (F := Ideal) x0 x1 x2 x3 x4 (ix2 0 d) : EReal) = ∑ r : Fin 8192, gW (rX x0 x1 x2 r) (rW x3) (rT x4 r) d := by
  unfold gW
  pointwise [val_main_v38, val_main_v37, val_main_v36, val_main_cst_12, s35, s18]

theorem s40 : (val_main_v40 (F := Ideal) x0 x1 x2 x3 x4 (ix2 r d) : EReal) = gY (rX x0 x1 x2 r) (rW x3) (rT x4 r) d * rW x3 d := by
  unfold rW
  pointwise [val_main_v40, val_main_v39, s35]
  rfl

theorem s48 : (val_main_v48 (F := Ideal) x0 x1 x2 x3 x4 (ix2 r 0) : EReal)
    = corr lanes (rX x0 x1 x2 r) (fun d => gY (rX x0 x1 x2 r) (rW x3) (rT x4 r) d * rW x3 d) := by
  unfold corr
  pointwise [val_main_v48, val_main_v47, val_main_v46, val_main_v43, val_main_v42, val_main_v41, val_main_v16, val_main_v15, val_main_v14, val_main_v13,
    val_main_cst_14, val_main_cst_13, val_main_cst_3, s40, s12, s3]

theorem s50 : (val_main_v50 (F := Ideal) x0 x1 x2 x3 x4 (ix2 r d) : EReal)
    = corr lanes (rX x0 x1 x2 r) (fun d => gY (rX x0 x1 x2 r) (rW x3) (rT x4 r) d * rW x3 d) := by
  rw [← s48]
  pointwise [val_main_v50, val_main_v49, val_main_cst_15]
  exact Fin.sum_univ_one _

theorem s52 : (val_main_v52 (F := Ideal) x0 x1 x2 x3 x4 (ix2 r d) : EReal) = gR (rX x0 x1 x2 r) (rW x3) (rT x4 r) d := by
  unfold gR
  rw [← grad_two, ← two_bits]
  pointwise [val_main_v52, val_main_v51, val_main_v45, val_main_v44, val_main_v13, val_main_v6, val_main_v5, val_main_cst, s50, s40, s12, s3]

theorem s59 : (val_main_v59 (F := Ideal) x0 x1 x2 x3 x4 (ix2 r d) : EReal) = x2 (ix2 0 d) * gR (rX x0 x1 x2 r) (rW x3) (rT x4 r) d := by
  pointwise [val_main_v59, val_main_v54, val_main_v53, s52]

theorem s57 : (val_main_v57 (F := Ideal) x0 x1 x2 x3 x4 (ix2 0 d) : EReal) = ∑ r : Fin 8192, gR (rX x0 x1 x2 r) (rW x3) (rT x4 r) d * x1 (ix2 r d) := by
  pointwise [val_main_v57, val_main_v56, val_main_v55, val_main_v0, val_main_cst_16, s52]
end

section
variable (c : Dev nD)
/-- The kernel's arguments. -/
abbrev k0 := m ((c.tc : Thread nD τ).loc main_arg0)
abbrev k1 := m ((c.tc : Thread nD τ).loc main_arg1)
abbrev k2 := m ((c.tc : Thread nD τ).loc main_arg2)
abbrev k3 := m ((c.tc : Thread nD τ).loc main_arg3)
abbrev k4 := m ((c.tc : Thread nD τ).loc main_arg4)

theorem res0 : Read.val_main_v58 (F := Ideal) (k0 m c) (k1 m c) (k2 m c) (k3 m c) (k4 m c) = fun _ : S8x128.Idx => oL m c := by
  funext j
  exact s58 _ _ _ _ _ j

theorem res1 : Read.val_main_v52 (F := Ideal) (k0 m c) (k1 m c) (k2 m c) (k3 m c) (k4 m c) = fun j : S8192x1024.Idx => oX m c (j 0) (j 1) := by
  funext j
  exact (congrArg _ (eq_ix2 j)).trans (s52 _ _ _ _ _ (j 0) (j 1))

theorem res2 : Read.val_main_v59 (F := Ideal) (k0 m c) (k1 m c) (k2 m c) (k3 m c) (k4 m c) = fun j : S8192x1024.Idx => oF m c (j 0) (j 1) := by
  funext j
  exact (congrArg _ (eq_ix2 j)).trans (s59 _ _ _ _ _ (j 0) (j 1))

theorem res3 : Read.val_main_v57 (F := Ideal) (k0 m c) (k1 m c) (k2 m c) (k3 m c) (k4 m c) = fun j : S1x1024.Idx => oG m c (j 1) := by
  funext j
  exact (congrArg _ (row0 j)).trans (s57 _ _ _ _ _ (j 1))

theorem res4 : Read.val_main_v38 (F := Ideal) (k0 m c) (k1 m c) (k2 m c) (k3 m c) (k4 m c) = fun j : S1x1024.Idx => oW m c (j 1) := by
  funext j
  exact (congrArg _ (row0 j)).trans (s38 _ _ _ _ _ (j 1))
end

theorem algebra : Cert.algebraic_Kernel28Ideal_Reference28Ideal (hKernel28Ideal := Cert.Kernel28Ideal.Gen.facts) (hReference28Ideal := Cert.Reference28Ideal.Gen.facts) := by
  intro m ρ m' ρ' _ hm
  refine ⟨fun c => fun _ : S8x128.Idx => oL m c, fun c => fun j : S8192x1024.Idx => oX m c (j 0) (j 1), fun c => fun j : S8192x1024.Idx => oF m c (j 0) (j 1),
    fun c => fun j : S1x1024.Idx => oG m c (j 1), fun c => fun j : S1x1024.Idx => oW m c (j 1), ?_, ?_⟩
  · exact (θ_run Cert.Kernel28Ideal.defs _ _).mono (fun r h c =>
      ⟨(h c).1.trans (final5 m c), (h c).2.1.trans (final6 m c), (h c).2.2.1.trans (final7 m c), (h c).2.2.2.1.trans (final8 m c),
        (h c).2.2.2.2.1.trans (final9 m c), (h c).2.2.2.2.2⟩)
      (Cert.Kernel28Ideal.Value.run_blocks (F := Ideal) m ρ)
  · refine (θ_run Cert.Reference28Ideal.defs _ _).mono (fun r h c =>
      ⟨(h c).1.trans (Eq.trans (Read.val_main_v58_eq (F := Ideal) _ _ _ _ _) ?_),
        (h c).2.1.trans (Eq.trans (Read.val_main_v52_eq (F := Ideal) m' c) ?_),
        (h c).2.2.1.trans (Eq.trans (Read.val_main_v59_eq (F := Ideal) m' c) ?_),
        (h c).2.2.2.1.trans (Eq.trans (Read.val_main_v57_eq (F := Ideal) m' c) ?_),
        (h c).2.2.2.2.1.trans (Eq.trans (Read.val_main_v38_eq (F := Ideal) _ _ _ _ _) ?_), (h c).2.2.2.2.2⟩)
      (Cert.Reference28Ideal.Value.run (F := Ideal) m' ρ')
    all_goals obtain ⟨h0, h1, h2, h3, h4⟩ := hm c
    · rw [h0, h1, h2, h3, h4]; exact res0 m c
    · rw [h0, h1, h2, h3, h4]; exact res1 m c
    · rw [h0, h1, h2, h3, h4]; exact res2 m c
    · rw [h0, h1, h2, h3, h4]; exact res3 m c
    · rw [h0, h1, h2, h3, h4]; exact res4 m c

end Cert.Kernel28Ideal.Val
-- ==== Proof.DtFwd.lean ====
module

public import proofs.«01_k».proof.Defs
public import proofs.«01_k».proof.Proof.Gen.Kernel31Ideal.Value
public import proofs.«01_k».proof.Proof.Gen.Reference31Ideal.Run
public import proofs.«01_k».proof.Proof.Gen.Reference31Ideal.Read
public import proofs.«01_k».proof.Proof.Arr
public import Idealize.ShloMosaic.Lib.Pipeline.ValueKit
public import Idealize.ShloMosaic.Lib.Pipeline.ReadBack
public import Idealize.ShloMosaic.Lib.StableHlo.ReadAt

/-! # The step sizes and the running sums of the decays

The kernel sums a chunk's rows up to each row by a product with the lower triangle of ones, the reference by a sum over the rows not after it. -/

@[expose] public section
set_option maxRecDepth 16384
noncomputable section
open Idealize.ShloMosaic Idealize.ShloMosaic.TcCoe Idealize.ShloMosaic.StableHlo Idealize.SL.Sem
namespace Cert.Kernel31Ideal.Val
open Cert.Kernel31Ideal Cert.Kernel31Ideal.Gen Cert.Reference31Ideal Cert.Sgu

variable (m : (ℓ : Loc nD τ sig) → Buf (Elt Ideal) ℓ)

/-- The softplus of a number. -/
def sp (z : EReal) : EReal := max z 0 + Ideal.log1p (Ideal.exp (-(max z (-z))))

/-- A row's decay: its step size times the negated exponential. -/
def da (z a : EReal) : EReal := sp z * -(Ideal.exp a)

/-- The decays of a chunk summed up to row `i`. -/
def run (a : Fin 128 → EReal) (i : Fin 128) : EReal := ∑ j : Fin 128, if (j : ℕ) ≤ i then a j else 0

/-- The arguments' elements. -/
def aR (c : Dev nD) (r : Fin 8192) (h : Fin 128) : EReal := m ((c : Thread nD τ).loc main_arg0) (ix2 r h)
def aB (c : Dev nD) (h : Fin 128) : EReal := m ((c : Thread nD τ).loc main_arg1) (ix2 0 h)
def aL (c : Dev nD) (h : Fin 128) : EReal := m ((c : Thread nD τ).loc main_arg2) (ix2 0 h)

/-- The three results: the step sizes, -/
def outD (R : Fin 8192 → Fin 128 → EReal) (B : Fin 128 → EReal) (r : Fin 8192) (h : Fin 128) : EReal := sp (R r h + B h)
/-- the running sums of chunk `n`, -/
def outN (R : Fin 8192 → Fin 128 → EReal) (B L : Fin 128 → EReal) (n : Fin 64) (i : Fin 128) (h : Fin 128) : EReal :=
  run (fun j => da (R (arow n j) h + B h) (L h)) i
/-- and the same by rows. -/
def outC (R : Fin 8192 → Fin 128 → EReal) (B L : Fin 128 → EReal) (r : Fin 8192) (h : Fin 128) : EReal := outN R B L (nOf r) (iOf r) h

section
variable (x : Vec Ideal S128x128 .f32) (b a : Vec Ideal S1x128 .f32) (i h : Fin 128)

theorem pay1_at : (k0_pay1 x b (ix2 i h) : EReal) = sp (x (ix2 i h) + b (ix2 0 h)) := by
  unfold sp
  pointwise [k0_pay1]
  rw [if_neg (fun h => h rfl), zero_sub]
  rfl

theorem pay2_at : (k0_pay2 x b a (ix2 i h) : EReal) = da (x (ix2 i h) + b (ix2 0 h)) (a (ix2 0 h)) := by
  unfold da
  pointwise [k0_pay2, pay1_at]
  rw [zero_sub]

theorem pay3_at (j : Fin 128) : (k0_pay3 (F := Ideal) (ix2 i j) : EReal) = if (j : ℕ) ≤ i then 1 else 0 := by
  pointwise [k0_pay3]
  rw [sge_bit i j i.isLt j.isLt]
  split <;> simp [FloatOps.sitofp]

/-- The running sum of a chunk's block. -/
def runB : EReal := run (fun j => da (x (ix2 j h) + b (ix2 0 h)) (a (ix2 0 h))) i

theorem pay4_at : (k0_pay4 x b a (ix2 i h) : EReal) = runB x b a i h := by
  unfold runB run
  pointwise [k0_pay4, pay3_at, pay2_at]
  exact Finset.sum_congr rfl fun j _ => by rw [ite_mul, one_mul, zero_mul]

theorem pay5_at : (k0_pay5 x b a (ix3 0 h i) : EReal) = runB x b a i h := by
  unfold runB run
  pointwise [k0_pay5, pay3_at, pay2_at]
  exact Finset.sum_congr rfl fun j _ => by rw [mul_ite, mul_one, mul_zero]
end

section
open Read
variable (x0 : (⟨S8192x128, .f32⟩ : BufTy).Contents (Elt Ideal)) (x1 x2 : (⟨S1x128, .f32⟩ : BufTy).Contents (Elt Ideal))
  (r : Fin 8192) (n : Fin 64) (i h : Fin 128)

theorem s2 : (val_main_v2 (F := Ideal) x0 x1 (ix2 r h) : EReal) = sp (x0 (ix2 r h) + x1 (ix2 0 h)) := by
  unfold sp
  pointwise [val_main_v2, val_main_call0_v11, val_main_call0_v10, val_main_call0_v9, val_main_call0_v8, val_main_call0_v7, val_main_call0_v6, val_main_call0_v5,
    val_main_call0_v4, val_main_call0_v3, val_main_call0_v2, val_main_call0_v1, val_main_call0_v0, val_main_call0_cst, val_main_v1, val_main_v0]
  rw [if_neg (fun h => h rfl)]
  rfl

theorem s6 : (val_main_v6 (F := Ideal) x0 x1 x2 (ix2 r h) : EReal) = da (x0 (ix2 r h) + x1 (ix2 0 h)) (x2 (ix2 0 h)) := by
  unfold da
  pointwise [val_main_v6, val_main_v5, val_main_v4, val_main_v3, s2]

theorem s7 : (val_main_v7 (F := Ideal) x0 x1 x2 (ix3 n i h) : EReal) = da (x0 (ix2 (arow n i) h) + x1 (ix2 0 h)) (x2 (ix2 0 h)) := by
  pointwise [val_main_v7, s6]
  rfl

theorem s13 : (val_main_v13 (F := Ideal) x0 x1 x2 (ix3 n i h) : EReal) = run (fun j => da (x0 (ix2 (arow n j) h) + x1 (ix2 0 h)) (x2 (ix2 0 h))) i := by
  unfold run
  pointwise [val_main_v13, val_main_v12, val_main_call2_v3, val_main_call2_v2, val_main_call2_v1, val_main_call2_v0, val_main_cst, val_main_cst_0, val_main_v11, val_main_v10,
    val_main_v9, val_main_call1_v5, val_main_call1_v4, val_main_call1_v3, val_main_call1_v2, val_main_call1_v1, val_main_call1_v0, val_main_call1_c, val_main_call1_c_0, val_main_v8, val_main_c, s7]
  refine Finset.sum_congr rfl fun j _ => (tri_select i j i.isLt j.isLt _ _).trans ?_
  congr 1
  exact Ideal.ofBits_zero FTy.f32

theorem s14 : (val_main_v14 (F := Ideal) x0 x1 x2 (ix2 r h) : EReal) = run (fun j => da (x0 (ix2 (arow (nOf r) j) h) + x1 (ix2 0 h)) (x2 (ix2 0 h))) (iOf r) := by
  pointwise [val_main_v14, s13]
  rfl

theorem s15 : (val_main_v15 (F := Ideal) x0 x1 x2 (ix3 n h i) : EReal) = run (fun j => da (x0 (ix2 (arow n j) h) + x1 (ix2 0 h)) (x2 (ix2 0 h))) i := by
  pointwise [val_main_v15, s13]
end

section
variable (c : Dev nD) (t : Fin cfg0.N) (j h : Fin 128)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0, 0] :=
  (by decide +kernel : ∀ t : Fin grid0.N, _)

theorem pt_lt (t : Fin cfg0.N) : t.val < 64 := lt_of_lt_of_eq t.isLt N_0

/-- Point `t`'s chunk. -/
def ch (t : Fin cfg0.N) : Fin 64 := ⟨t.val, pt_lt t⟩

theorem r_at : (iblk m c 0 t (ix2 j h) : EReal) = aR m c (arow (ch t) j) h := by
  unfold aR ch arow
  blk_point [iblk, V, idx t]

theorem b_at : (iblk m c 1 t (ix2 0 h) : EReal) = aB m c h := by
  unfold aB
  blk_point [iblk, V, idx t]

theorem l_at : (iblk m c 2 t (ix2 0 h) : EReal) = aL m c h := by
  unfold aL
  blk_point [iblk, V, idx t]

theorem blkD (i : Fin 128) : (out0_3 (F := Ideal) (iblk m c 0 t) (iblk m c 1 t) (iblk m c 2 t) (ix2 i h) : EReal) = outD (aR m c) (aB m c) (arow (ch t) i) h := by
  have e : ∀ x b a, out0_3 (F := Ideal) x b a (ix2 i h) = k0_pay1 x b (ix2 i h) := fun x b a => by
    unfold out0_3
    frame_out
  refine ((e _ _ _).trans (pay1_at _ _ i h)).trans ?_
  rw [r_at, b_at]
  rfl

theorem blkN (i : Fin 128) : runB (iblk m c 0 t) (iblk m c 1 t) (iblk m c 2 t) i h = outN (aR m c) (aB m c) (aL m c) (ch t) i h := by
  unfold runB outN
  rw [b_at, l_at]
  exact congrArg (run · i) (funext fun j => by rw [r_at])

theorem blkC (i : Fin 128) : (out0_4 (F := Ideal) (iblk m c 0 t) (iblk m c 1 t) (iblk m c 2 t) (ix2 i h) : EReal)
    = outC (aR m c) (aB m c) (aL m c) (arow (ch t) i) h := by
  have e : ∀ x b a, out0_4 (F := Ideal) x b a (ix2 i h) = k0_pay4 x b a (ix2 i h) := fun x b a => by
    unfold out0_4
    frame_out
  refine ((e _ _ _).trans (pay4_at _ _ _ i h)).trans ((blkN m c t h i).trans ?_)
  unfold outC
  have hn : nOf (arow (ch t) i) = ch t := Fin.ext (by show ((ch t).val * 128 + i.val) / 128 = (ch t).val; omega)
  have hi : iOf (arow (ch t) i) = i := Fin.ext (by show ((ch t).val * 128 + i.val) % 128 = i.val; omega)
  rw [hn, hi]

theorem blkT (i : Fin 128) : (out0_5 (F := Ideal) (iblk m c 0 t) (iblk m c 1 t) (iblk m c 2 t) (ix3 0 h i) : EReal)
    = outN (aR m c) (aB m c) (aL m c) (ch t) i h := by
  have e : ∀ x b a, out0_5 (F := Ideal) x b a (ix3 0 h i) = k0_pay5 x b a (ix3 0 h i) := fun x b a => by
    unfold out0_5
    frame_out
  exact ((e _ _ _).trans (pay5_at _ _ _ i h)).trans (blkN m c t h i)
end

theorem finalD (c : Dev nD) : (dats m 0 c).arrAt 3 cfg0.N = fun j : S8192x128.Idx => outD (aR m c) (aB m c) (j 0) (j 1) := by
  refine (dats m 0 c).arrAt_eq_of_covers 3 _ (by decide +kernel) fun t hf y => ?_
  blk_simp
  rw [after0_3]
  refine ((congrArg _ (eq_ix2 y)).trans (blkD m c t (y 1) (y 0))).trans (congrArg₂ (outD (aR m c) (aB m c)) (Fin.ext ?_) (Fin.ext ?_))
  · unfold arow ch; blk_simp [idx t]
  · blk_simp [idx t]

theorem finalC (c : Dev nD) : (dats m 0 c).arrAt 4 cfg0.N = fun j : S8192x128.Idx => outC (aR m c) (aB m c) (aL m c) (j 0) (j 1) := by
  refine (dats m 0 c).arrAt_eq_of_covers 4 _ (by decide +kernel) fun t hf y => ?_
  blk_simp
  rw [after0_4]
  refine ((congrArg _ (eq_ix2 y)).trans (blkC m c t (y 1) (y 0))).trans (congrArg₂ (outC (aR m c) (aB m c) (aL m c)) (Fin.ext ?_) (Fin.ext ?_))
  · unfold arow ch; blk_simp [idx t]
  · blk_simp [idx t]

theorem one_row (y : S1x128x128.Idx) : y = ix3 0 (y 1) (y 2) := by
  funext a
  match a with
  | ⟨0, _⟩ => exact Subsingleton.elim (α := Fin 1) _ _
  | ⟨1, _⟩ => rfl
  | ⟨2, _⟩ => rfl

theorem finalT (c : Dev nD) : (dats m 0 c).arrAt 5 cfg0.N = fun j : S64x128x128.Idx => outN (aR m c) (aB m c) (aL m c) (j 0) (j 2) (j 1) := by
  refine (dats m 0 c).arrAt_eq_of_covers 5 _ (by decide +kernel) fun t hf y => ?_
  blk_simp
  rw [after0_5]
  refine ((congrArg _ (one_row y)).trans (blkT m c t (y 1) (y 2))).trans
    (congr (congrArg₂ (outN (aR m c) (aB m c) (aL m c)) (Fin.ext ?_) (Fin.ext ?_)) (Fin.ext ?_))
  · unfold ch; blk_simp [idx t]
  · blk_simp [idx t]
  · blk_simp [idx t]

/-! ## The claims -/

/-- The reference declares no semaphore, and writes none of its arguments. -/
theorem frameRef : Cert.quiescent_Reference31Ideal (hReference31Ideal := Cert.Reference31Ideal.Gen.facts) := fun m ρ _ =>
  (θ_run Cert.Reference31Ideal.defs _ _).mono (fun r h => ⟨fun c => (h c).2.2.2, sem_eq_zero_of_no_sems (by decide) r.2⟩)
    (Cert.Reference31Ideal.Value.run (F := Ideal) m ρ)

theorem algebra : Cert.algebraic_Kernel31Ideal_Reference31Ideal (hKernel31Ideal := Cert.Kernel31Ideal.Gen.facts) (hReference31Ideal := Cert.Reference31Ideal.Gen.facts) := by
  intro m ρ m' ρ' _ hm
  refine ⟨fun c => fun j : S8192x128.Idx => outD (aR m c) (aB m c) (j 0) (j 1), fun c => fun j : S8192x128.Idx => outC (aR m c) (aB m c) (aL m c) (j 0) (j 1),
    fun c => fun j : S64x128x128.Idx => outN (aR m c) (aB m c) (aL m c) (j 0) (j 2) (j 1), ?_, ?_⟩
  · exact (θ_run Cert.Kernel31Ideal.defs _ _).mono (fun r h c => ⟨(h c).1.trans (finalD m c), (h c).2.1.trans (finalC m c), (h c).2.2.1.trans (finalT m c), (h c).2.2.2⟩)
      (Cert.Kernel31Ideal.Value.run_blocks (F := Ideal) m ρ)
  · refine (θ_run Cert.Reference31Ideal.defs _ _).mono (fun r h c =>
      ⟨(h c).1.trans (Eq.trans (Read.val_main_v2_eq (F := Ideal) _ _) ?_), (h c).2.1.trans (Eq.trans (Read.val_main_v14_eq (F := Ideal) _ _ _) ?_),
        (h c).2.2.1.trans (Eq.trans (Read.val_main_v15_eq (F := Ideal) _ _ _) ?_), (h c).2.2.2⟩)
      (Cert.Reference31Ideal.Value.run (F := Ideal) m' ρ')
    all_goals obtain ⟨h0, h1, h2⟩ := hm c
    · rw [h0, h1]; funext j; exact (congrArg _ (eq_ix2 j)).trans (s2 _ _ (j 0) (j 1))
    · rw [h0, h1, h2]; funext j; exact (congrArg _ (eq_ix2 j)).trans (s14 _ _ _ (j 0) (j 1))
    · rw [h0, h1, h2]; funext j; exact (congrArg _ (eq_ix3 j)).trans (s15 _ _ _ (j 0) (j 2) (j 1))

end Cert.Kernel31Ideal.Val
-- ==== Proof.ConvFwd.lean ====
module

public import proofs.«01_k».proof.Defs
public import proofs.«01_k».proof.Proof.Gen.Kernel32Ideal.Value
public import proofs.«01_k».proof.Proof.Gen.Reference32Ideal.Run
public import proofs.«01_k».proof.Proof.Gen.Reference32Ideal.Read
public import Idealize.ShloMosaic.Lib.Pipeline.ValueKit
public import Idealize.ShloMosaic.Lib.Pipeline.ReadBack
public import Idealize.ShloMosaic.Lib.KernelVsHost
public import Idealize.ShloMosaic.Lib.StableHlo.ReadAt

/-! # The short convolution

Each channel's value at a row is a weighted sum of its last four rows and a bias, times its own logistic. The kernel takes 512 rows at a time,
with the eight rows before them, and turns them round by three, two and one rows; the reference puts three zero rows before the first one. -/

@[expose] public section
set_option maxRecDepth 16384
noncomputable section
open Idealize.ShloMosaic Idealize.ShloMosaic.TcCoe Idealize.ShloMosaic.StableHlo Idealize.SL.Sem
namespace Cert.Kernel32Ideal.Val
open Cert.Kernel32Ideal Cert.Kernel32Ideal.Gen Cert.Reference32Ideal

/-- The value from the four rows, their weights and the bias. -/
def pre (s w : Fin 4 → EReal) (b : EReal) : EReal := w 0 * s 0 + w 1 * s 1 + w 2 * s 2 + w 3 * s 3 + b
def act (s w : Fin 4 → EReal) (b : EReal) : EReal := pre s w b * Ideal.logistic (pre s w b)

/-! ## One block -/

section
variable (i : grid0.Coords) (v1 : Vec Ideal S16x1024 .bf16) (v6 : Vec Ideal S512x1024 .bf16) (r : Fin 512) (d : Fin 1024)

/-- The rows before the block: zero before the first block. -/
abbrev halo : FVec Ideal S8x1024 .f32 :=
  Scalar.select (Scalar.cmpi .sgt (BitVec.ofNat 32 (i 0).val) 0#32)
    (extractStridedSlice S8x1024 ![8, 0] (extf (F := Ideal) .f32 v1 bitsLt_bf16_f32) slices_S16x1024_o8_0_S8x1024)
    (broadcast S8x1024 (Scalar.ofBits (F := Ideal) .f32 0x00000000#32))

/-- The rows before the block and the block. -/
abbrev ext : FVec Ideal S520x1024 .f32 :=
  concatenate S520x1024 0 [⟨S8x1024, halo i v1⟩, ⟨S512x1024, extf (F := Ideal) .f32 v6 bitsLt_bf16_f32⟩] concatenates_S8x1024_S512x1024_S520x1024_d0

theorem sgt_bit : ∀ n : Fin 16, Scalar.cmpi .sgt (BitVec.ofNat 32 n.val) 0#32 = (if 0 < n.val then 1#1 else 0#1) := by decide

theorem halo_at (k : Fin 8) : (halo i v1 (ix2 k d) : EReal) = if 0 < (i 0).val then v1 (ix2 ⟨8 + k, by omega⟩ d) else 0 := by
  unfold halo
  rw [sgt_bit (i 0)]
  by_cases h : 0 < (i 0).val
  · rw [if_pos h, if_pos h]
    simp only [Scalar.select]
    rw [if_pos (by decide : (1#1 : BitVec 1) = 1)]
    pointwise []
  · rw [if_neg h, if_neg h]
    simp only [Scalar.select]
    rw [if_neg (by decide : ¬ (0#1 : BitVec 1) = 1)]
    pointwise []

theorem ext_lo (k : Fin 8) : ext i v1 v6 (ix2 ⟨k, by omega⟩ d) = halo i v1 (ix2 k d) :=
  concatenate_pair_apply_left (t := S520x1024) (s₁ := S8x1024) (s₂ := S512x1024) _ _ _ _ _ rfl (ix2 k d : S8x1024.Idx) (Fin.forall_fin_two.mpr ⟨rfl, rfl⟩)

theorem ext_hi : (ext i v1 v6 (ix2 ⟨r + 8, by omega⟩ d) : EReal) = v6 (ix2 r d) :=
  concatenate_pair_apply_right (t := S520x1024) (s₁ := S8x1024) (s₂ := S512x1024) _ _ _ _ _ rfl rfl (ix2 r d : S512x1024.Idx)
    (Fin.forall_fin_two.mpr ⟨fun h => absurd rfl h, fun _ => rfl⟩) rfl

/-- The row `k` before a row of the block. -/
def src (k : ℕ) : EReal :=
  if h : k ≤ r.val then v6 (ix2 ⟨r - k, by omega⟩ d) else if 0 < (i 0).val then v1 (ix2 ⟨(16 + r - k) % 16, Nat.mod_lt _ (by omega)⟩ d) else 0

theorem ext_at (k : ℕ) (hk : k ≤ 3) : (ext i v1 v6 (ix2 ⟨r + 8 - k, by omega⟩ d) : EReal) = src i v1 v6 r d k := by
  unfold src
  by_cases h : k ≤ r.val
  · rw [dif_pos h, ← ext_hi i v1 v6 ⟨r - k, by omega⟩ d]
    exact congrArg (fun a => ext i v1 v6 (ix2 a d)) (Fin.ext (by show r.val + 8 - k = r.val - k + 8; omega))
  · rw [dif_neg h]
    refine (congrArg (fun a => ext i v1 v6 (ix2 a d)) (Fin.ext ?_)).trans ((ext_lo i v1 v6 d ⟨r + 8 - k, by omega⟩).trans ((halo_at i v1 d _).trans ?_))
    · rfl
    · refine if_congr Iff.rfl (congrArg (fun a => v1 (ix2 a d)) (Fin.ext ?_)) rfl
      show 8 + (r.val + 8 - k) = (16 + r.val - k) % 16
      omega

theorem rot_at (s : BitVec 32) (k : ℕ) (x : FVec Ideal S520x1024 .f32) (hs : s.toNat = k) (hk : k ≤ 3) :
    (extractStridedSlice S512x1024 ![8, 0] (dynamicRotate 0 s none x rotates_S520x1024_d0) slices_S520x1024_o8_0_S512x1024 (ix2 r d) : EReal)
      = x (ix2 ⟨r + 8 - k, by omega⟩ d) := by
  pointwise []
  refine congrArg (fun a => x (ix2 a d)) (Fin.ext ?_)
  show (8 + r.val + 520 - s.toNat % 520) % 520 = r.val + 8 - k
  omega

theorem rot0_at (x : FVec Ideal S520x1024 .f32) :
    (extractStridedSlice S512x1024 ![8, 0] x slices_S520x1024_o8_0_S512x1024 (ix2 r d) : EReal) = x (ix2 ⟨r + 8 - 0, by omega⟩ d) := by
  pointwise []
  exact congrArg (fun a => x (ix2 a d)) (Fin.ext (Nat.add_comm 8 r.val))

theorem row_at (w : FVec Ideal S1x1024 .f32) : (broadcastTo S512x1024 w broadcasts_S1x1024_S512x1024 (ix2 r d) : EReal) = w (ix2 0 d) := by
  pointwise []

theorem pay1_at (b w0 w1 w2 w3 : Vec Ideal S1x1024 .f32) : (k0_pay1 (F := Ideal) i v1 v6 b w0 w1 w2 w3 (ix2 r d) : EReal)
    = act ![src i v1 v6 r d 3, src i v1 v6 r d 2, src i v1 v6 r d 1, src i v1 v6 r d 0] ![w0 (ix2 0 d), w1 (ix2 0 d), w2 (ix2 0 d), w3 (ix2 0 d)] (b (ix2 0 d)) := by
  have e : (b (ix2 0 d) + w0 (ix2 0 d) * src i v1 v6 r d 3 + w1 (ix2 0 d) * src i v1 v6 r d 2 + w2 (ix2 0 d) * src i v1 v6 r d 1
      + w3 (ix2 0 d) * src i v1 v6 r d 0 : EReal)
      = pre ![src i v1 v6 r d 3, src i v1 v6 r d 2, src i v1 v6 r d 1, src i v1 v6 r d 0] ![w0 (ix2 0 d), w1 (ix2 0 d), w2 (ix2 0 d), w3 (ix2 0 d)] (b (ix2 0 d)) := by
    show _ = w0 (ix2 0 d) * src i v1 v6 r d 3 + w1 (ix2 0 d) * src i v1 v6 r d 2 + w2 (ix2 0 d) * src i v1 v6 r d 1 + w3 (ix2 0 d) * src i v1 v6 r d 0 + b (ix2 0 d)
    ac_rfl
  have e3 := (rot_at r d 3#32 3 (ext i v1 v6) rfl (by omega)).trans (ext_at i v1 v6 r d 3 (by omega))
  have e2 := (rot_at r d 2#32 2 (ext i v1 v6) rfl (by omega)).trans (ext_at i v1 v6 r d 2 (by omega))
  have e1 := (rot_at r d 1#32 1 (ext i v1 v6) rfl (by omega)).trans (ext_at i v1 v6 r d 1 (by omega))
  have e0 := (rot0_at r d (ext i v1 v6)).trans (ext_at i v1 v6 r d 0 (by omega))
  have f : ∀ z b' : FVec Ideal S512x1024 .f32, (b' (ix2 r d) : EReal) = b (ix2 0 d) → (z (ix2 r d) : EReal)
      = b' (ix2 r d) + broadcastTo S512x1024 w0 broadcasts_S1x1024_S512x1024 (ix2 r d)
            * extractStridedSlice S512x1024 ![8, 0] (dynamicRotate 0 3#32 none (ext i v1 v6) rotates_S520x1024_d0) slices_S520x1024_o8_0_S512x1024 (ix2 r d)
          + broadcastTo S512x1024 w1 broadcasts_S1x1024_S512x1024 (ix2 r d)
            * extractStridedSlice S512x1024 ![8, 0] (dynamicRotate 0 2#32 none (ext i v1 v6) rotates_S520x1024_d0) slices_S520x1024_o8_0_S512x1024 (ix2 r d)
          + broadcastTo S512x1024 w2 broadcasts_S1x1024_S512x1024 (ix2 r d)
            * extractStridedSlice S512x1024 ![8, 0] (dynamicRotate 0 1#32 none (ext i v1 v6) rotates_S520x1024_d0) slices_S520x1024_o8_0_S512x1024 (ix2 r d)
          + broadcastTo S512x1024 w3 broadcasts_S1x1024_S512x1024 (ix2 r d)
            * extractStridedSlice S512x1024 ![8, 0] (ext i v1 v6) slices_S520x1024_o8_0_S512x1024 (ix2 r d) →
      (mulf z (logistic z) (ix2 r d) : EReal) = act ![src i v1 v6 r d 3, src i v1 v6 r d 2, src i v1 v6 r d 1, src i v1 v6 r d 0]
        ![w0 (ix2 0 d), w1 (ix2 0 d), w2 (ix2 0 d), w3 (ix2 0 d)] (b (ix2 0 d)) := by
    intro z b' hb hz
    rw [hb, e3, e2, e1, e0, row_at, row_at, row_at, row_at, e] at hz
    show (z (ix2 r d) : EReal) * Ideal.logistic (z (ix2 r d)) = _
    rw [hz]
    rfl
  refine f _ (broadcastTo S512x1024 (shapeCast S1x1024 b shapeCasts_S1x1024_S1x1024) broadcasts_S1x1024_S512x1024) ?_ rfl
  pointwise []
end

variable (m : (ℓ : Loc nD τ sig) → Buf (Elt Ideal) ℓ)

/-- Row `k` of the weights. -/
abbrev wrow (x2 : Vec Ideal S4x1024 .f32) (k : Fin 4) : Vec Ideal S1x1024 .f32 := fun y => x2 (ix2 k (y 1))

theorem ld_row (x : Vec Ideal S4x1024 .f32) (n : ℕ) (k : Fin 4) (hn : n = k.val) (h : _) :
    View.ld x (Rect.unit (s := S4x1024) ![n, 0] ![1, 1024] h) = wrow x k := by
  funext y
  have h0 : (y 0).val = 0 := by have : (y 0).val < 1 := (y 0).isLt; omega
  refine congrArg x (funext (Fin.forall_fin_two.mpr ⟨Fin.ext ?_, Fin.ext ?_⟩))
  · show n + 1 * (y 0).val = k.val
    omega
  · show 0 + 1 * (y 1).val = (y 1).val
    omega

theorem step (c : Dev nD) (t : Fin cfg0.N) (y : S512x1024.Idx) : ((outsAt0 m c t) y : EReal)
    = k0_pay1 (F := Ideal) (grid0.coords t) (X0_1 m c t) (X0_0 m c t) (iblk m c 3 t) (wrow (iblk m c 2 t) 0) (wrow (iblk m c 2 t) 1) (wrow (iblk m c 2 t) 2)
      (wrow (iblk m c 2 t) 3) y := by
  unfold outsAt0
  frame_open
  frame_out
  rw [ld_row _ 0 0 rfl, ld_row _ 1 1 rfl, ld_row _ 2 2 rfl, ld_row _ 3 3 rfl]

/-! ## The arrays -/

section
variable (c : Dev nD)
/-- The rows, three zero rows before them; the weights and the bias. -/
def pad (P : FVec Ideal S8192x10368 .bf16) (n : ℕ) (e : Fin 4096) : EReal :=
  if h : 3 ≤ n ∧ n < 8195 then P (ix2 ⟨n - 3, by omega⟩ ⟨4096 + e, by omega⟩) else 0
def aP (n : ℕ) (e : Fin 4096) : EReal := pad (m ((c : Thread nD τ).loc main_arg0)) n e
def aW (k : Fin 4) (e : Fin 4096) : EReal := m ((c : Thread nD τ).loc main_arg1) (ix2 k e)
def aB (e : Fin 4096) : EReal := m ((c : Thread nD τ).loc main_arg2) (ix2 0 e)
/-- The result. -/
def out (r : Fin 8192) (e : Fin 4096) : EReal := act (fun k => aP m c (r + k) e) (fun k => aW m c k e) (aB m c e)
end

theorem pt_lt (t : Fin cfg0.N) : t.val < 64 := lt_of_lt_of_eq t.isLt N_0

/-- The row and the channel of point `t`'s block. -/
def rk (t : Fin cfg0.N) (r : Fin 512) : Fin 8192 := ⟨t.val / 4 * 512 + r, by have := pt_lt t; omega⟩
def ck (t : Fin cfg0.N) (d : Fin 1024) : Fin 4096 := ⟨t.val % 4 * 1024 + d, by omega⟩

theorem idx : ∀ t : Fin cfg0.N, win0_0.index t = ![t.val / 4, 4 + t.val % 4] ∧ win0_1.index t = ![t.val / 4 * 32 - 1, 4 + t.val % 4] ∧ win0_2.index t = ![0, t.val % 4]
    ∧ win0_3.index t = ![0, t.val % 4] ∧ win0_4.index t = ![t.val / 4, t.val % 4] ∧ (grid0.coords t 0).val = t.val / 4 :=
  (by decide +kernel : ∀ t : Fin grid0.N, _)

section
variable (c : Dev nD) (t : Fin cfg0.N) (r : Fin 512) (d : Fin 1024)

theorem x_at : (X0_0 m c t (ix2 r d) : EReal) = m ((c : Thread nD τ).loc main_arg0) (ix2 (rk t r) ⟨4096 + ck t d, by omega⟩) := by
  unfold X0_0 Pipeline.Window.fill
  rw [dif_pos (moved0_0 t _)]
  unfold rk ck
  blk_point [iblk, V, idx t]

theorem h_at (k : Fin 16) : (X0_1 m c t (ix2 k d) : EReal)
    = m ((c : Thread nD τ).loc main_arg0) (ix2 ⟨(t.val / 4 * 32 - 1) * 16 + k, by have := pt_lt t; omega⟩ ⟨4096 + ck t d, by omega⟩) := by
  unfold X0_1 Pipeline.Window.fill
  rw [dif_pos (moved0_1 t _)]
  unfold ck
  blk_point [iblk, V, idx t]

theorem w_at (k : Fin 4) : (iblk m c 2 t (ix2 k d) : EReal) = aW m c k (ck t d) := by
  unfold aW ck
  blk_point [iblk, V, idx t]

theorem b_at : (iblk m c 3 t (ix2 0 d) : EReal) = aB m c (ck t d) := by
  unfold aB ck
  blk_point [iblk, V, idx t]

theorem src_at (k : ℕ) (hk : k ≤ 3) : src (grid0.coords t) (X0_1 m c t) (X0_0 m c t) r d k = aP m c (rk t r + (3 - k)) (ck t d) := by
  have hl := pt_lt t
  have hi := (idx t).2.2.2.2.2
  unfold src aP pad
  by_cases h : k ≤ r.val
  · rw [dif_pos h, dif_pos (by unfold rk; constructor <;> simp only [] <;> omega), x_at]
    refine congrArg (fun a => m ((c : Thread nD τ).loc main_arg0) (ix2 a _)) (Fin.ext ?_)
    show t.val / 4 * 512 + (r.val - k) = t.val / 4 * 512 + r.val + (3 - k) - 3
    omega
  · rw [dif_neg h, hi]
    by_cases h0 : 0 < t.val / 4
    · rw [if_pos h0, dif_pos (by unfold rk; constructor <;> simp only [] <;> omega), h_at]
      refine congrArg (fun a => m ((c : Thread nD τ).loc main_arg0) (ix2 a _)) (Fin.ext ?_)
      show (t.val / 4 * 32 - 1) * 16 + (16 + r.val - k) % 16 = t.val / 4 * 512 + r.val + (3 - k) - 3
      omega
    · rw [if_neg h0, dif_neg (by unfold rk; simp only []; omega)]

theorem out_at : ((outsAt0 m c t) (ix2 r d) : EReal) = out m c (rk t r) (ck t d) := by
  refine (step m c t (ix2 r d)).trans ((pay1_at _ _ _ r d _ _ _ _ _).trans ?_)
  rw [src_at m c t r d 3 (by omega), src_at m c t r d 2 (by omega), src_at m c t r d 1 (by omega), src_at m c t r d 0 (by omega), b_at]
  unfold out
  refine congrArg₂ (fun s w => act s w _) (funext fun k => ?_) (funext fun k => ?_)
  · fin_cases k <;> rfl
  · rw [← w_at]
    fin_cases k <;> rfl
end

theorem final (c : Dev nD) : (dats m 0 c).arrAt 4 cfg0.N = fun j : S8192x4096.Idx => out m c (j 0) (j 1) := by
  refine (dats m 0 c).arrAt_eq_of_covers 4 _ (by decide +kernel) fun t hf y => ?_
  blk_simp
  rw [after0_4]
  refine ((congrArg _ (eq_ix2 y)).trans (out_at m c t (y 0) (y 1))).trans (congrArg₂ (out m c) (Fin.ext ?_) (Fin.ext ?_))
  · unfold rk; blk_simp [idx t]
  · unfold ck; blk_simp [idx t]

/-! ## The reference -/

/-- The reference declares no semaphore, and writes none of its arguments. -/
theorem frameRef : Cert.quiescent_Reference32Ideal (hReference32Ideal := Cert.Reference32Ideal.Gen.facts) := fun m ρ _ =>
  (θ_run Cert.Reference32Ideal.defs _ _).mono (fun r h => ⟨fun c => (h c).2, sem_eq_zero_of_no_sems (by decide) r.2⟩)
    (Cert.Reference32Ideal.Value.run (F := Ideal) m ρ)

section
open Read
variable (x0 : FVec Ideal S8192x10368 .bf16) (x1 : FVec Ideal S4x4096 .f32) (x2 : FVec Ideal S1x4096 .f32) (r : Fin 8192) (e : Fin 4096)

theorem s3 (n : Fin 8195) : (val_main_v3 (F := Ideal) x0 (ix2 n e) : EReal) = pad x0 n e := by
  unfold pad val_main_v3
  by_cases h : 3 ≤ n.val
  · rw [dif_pos ⟨h, n.isLt⟩]
    refine (concatenate_pair_apply_right (s₁ := S3x4096) (s₂ := S8192x4096) _ _ _ _ (ix2 n e) rfl rfl (ix2 ⟨n - 3, by omega⟩ e : S8192x4096.Idx)
      (Fin.forall_fin_two.mpr ⟨fun h => absurd rfl h, fun _ => rfl⟩) (Nat.sub_add_cancel h)).trans ?_
    pointwise [val_main_v1, val_main_v0]
  · rw [dif_neg (by omega)]
    refine (concatenate_pair_apply_left (s₁ := S3x4096) (s₂ := S8192x4096) _ _ _ _ (ix2 n e) rfl (ix2 ⟨n, by omega⟩ e : S3x4096.Idx)
      (Fin.forall_fin_two.mpr ⟨rfl, rfl⟩)).trans ?_
    pointwise [val_main_v2, val_main_cst]

theorem s32 : (val_main_v32 (F := Ideal) x0 x1 x2 (ix2 r e) : EReal) = pre (fun k => pad x0 (r + k) e) (fun k => x1 (ix2 k e)) (x2 (ix2 0 e)) := by
  unfold pre
  pointwise [val_main_v32, val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12, val_main_v11,
    val_main_v10, val_main_v9, val_main_v8, val_main_v7, val_main_v6, val_main_v5, val_main_v4, s3]
  simp only [Nat.add_comm _ r.val]

theorem s33 : (val_main_v33 (F := Ideal) x0 x1 x2 (ix2 r e) : EReal) = act (fun k => pad x0 (r + k) e) (fun k => x1 (ix2 k e)) (x2 (ix2 0 e)) := by
  unfold act
  pointwise [val_main_v33, val_main_call0_v5, val_main_call0_v4, val_main_call0_v3, val_main_call0_v2, val_main_call0_v1, val_main_call0_v0, val_main_call0_cst,
    val_main_call0_cst_0, s32]
  rfl
end

theorem res (c : Dev nD) : Read.val_main_v33 (F := Ideal) (m ((c.tc : Thread nD τ).loc main_arg0)) (m ((c.tc : Thread nD τ).loc main_arg1)) (m ((c.tc : Thread nD τ).loc main_arg2))
    = fun j : S8192x4096.Idx => out m c (j 0) (j 1) := by
  funext j
  exact (congrArg _ (eq_ix2 j)).trans (s33 _ _ _ (j 0) (j 1))

theorem algebra : Cert.algebraic_Kernel32Ideal_Reference32Ideal (hKernel32Ideal := Cert.Kernel32Ideal.Gen.facts) (hReference32Ideal := Cert.Reference32Ideal.Gen.facts) := by
  intro m ρ m' ρ' _ hm
  refine ⟨fun c => fun j : S8192x4096.Idx => out m c (j 0) (j 1), ?_, ?_⟩
  · exact (θ_run Cert.Kernel32Ideal.defs _ _).mono (fun r h c => ⟨(h c).1.trans (final m c), (h c).2⟩)
      (Cert.Kernel32Ideal.Value.run_blocks (F := Ideal) m ρ)
  · refine (θ_run Cert.Reference32Ideal.defs _ _).mono (fun r h c =>
      ⟨(h c).1.trans (Eq.trans (Read.val_main_v33_eq (F := Ideal) m' c) ?_), (h c).2⟩)
      (Cert.Reference32Ideal.Value.run (F := Ideal) m' ρ')
    all_goals obtain ⟨h0, h1, h2⟩ := hm c
    · rw [h0, h1, h2]; exact res m c

end Cert.Kernel32Ideal.Val
-- ==== Proof.KFinal.lean ====
module

public import proofs.«01_k».proof.Proof.KArr

/-! # What the kernel's run leaves in its four result arrays -/

@[expose] public section
set_option maxRecDepth 16384
noncomputable section
open Idealize.ShloMosaic Idealize.ShloMosaic.TcCoe Idealize.SL.Sem
namespace Cert.KernelIdeal.Val
open Cert.KernelIdeal Cert.KernelIdeal.Gen Cert.Sgu

variable (m : (ℓ : Loc nD τ sig) → Buf (Elt Ideal) ℓ)

theorem bk_x0 (c : Dev nD) (t : Fin cfg0.N) (k : Fin 2) : bk (X0_0 m c t) k = cU (aP m c) (nk t k) := by
  funext i d
  unfold bk cU
  rw [x0_at]
  congr 1
  apply Fin.ext; simp only [arow, nk, rk, row]; omega

theorem bk_x1 (c : Dev nD) (t : Fin cfg0.N) (k : Fin 2) : bk (X0_1 m c t) k = cV (aP m c) (nk t k) := by
  funext i d
  unfold bk cV
  rw [x1_at]
  congr 1
  apply Fin.ext; simp only [arow, nk, rk, row]; omega

theorem bk_x5 (c : Dev nD) (t : Fin cfg0.N) (k : Fin 2) : bk (iblk m c 5 t) k = cY (aY m c) (nk t k) := by
  funext i d
  unfold bk cY
  rw [x5_at]
  congr 1
  apply Fin.ext; simp only [arow, nk, rk, row]; omega

theorem wf_x2 (c : Dev nD) (t : Fin cfg0.N) : wf (iblk m c 2 t) = aW m c := funext fun d => x2_at m c t d
theorem af_x3 (c : Dev nD) (t : Fin cfg0.N) : af (iblk m c 3 t) = low (aM m c) := by funext g i j; exact x3_at m c t g i j
theorem bf_x4 (c : Dev nD) (t : Fin cfg0.N) : bf (iblk m c 4 t) = aB m c := by funext g i; exact x4_at m c t i g

/-! ## The matrices -/

section
variable (c : Dev nD) (t : Fin cfg0.N)

/-- The block's gated factor, incoming gradient and normalised rows. -/
abbrev ugK : FVec Ideal S256x1024 .f32 := k0_pay12 (X0_0 m c t)
abbrev dyK : FVec Ideal S256x1024 .f32 := k0_pay23 (iblk m c 5 t)
abbrev vnK : FVec Ideal S256x1024 .bf16 := k0_pay22 (k0_pay7 (X0_1 m c t)) (iblk m c 2 t) (k0_pay14 (X0_1 m c t))
end

theorem dwsB_val (c : Dev nD) (t : Fin cfg0.N) (k : Fin 2) (g : Fin 8) (i j : Fin 128) :
    dwsB causal (ugK m c t) (dyK m c t) (vnK m c t) k (ix3 g i j)
      = if (j : ℕ) ≤ i then dws (cU (aP m c) (nk t k)) (cV (aP m c) (nk t k)) (cY (aY m c) (nk t k)) (aW m c) g i j else 0 := by
  have e : (∑ e : Fin 128, ((dyK m c t (ix2 (row k i) (lane g e)) : EReal) * ugK m c t (ix2 (row k i) (lane g e)))
        * vnK m c t (ix2 (row k j) (lane g e)))
      = dws (cU (aP m c) (nk t k)) (cV (aP m c) (nk t k)) (cY (aY m c) (nk t k)) (aW m c) g i j := by
    unfold dws
    refine Finset.sum_congr rfl fun e _ => ?_
    unfold vnK
    rw [dsvB_at, pay22_at, bk_x0, bk_x1, bk_x5, wf_x2, chk_row, pos_row]
  unfold dwsB
  refine (congrArg (_ * ·) e).trans ?_
  show (if (j : ℕ) ≤ i then (1 : EReal) else 0) * _ = _
  by_cases h : (j : ℕ) ≤ i
  · rw [if_pos h, if_pos h, one_mul]
  · rw [if_neg h, if_neg h, zero_mul]

theorem sum8 (c : Dev nD) (g : Fin 8) (i j : Fin 128) :
    (∑ p : Fin cfg0.N, (dwsB causal (ugK m c p) (dyK m c p) (vnK m c p) 0 (ix3 g i j)
        + dwsB causal (ugK m c p) (dyK m c p) (vnK m c p) 1 (ix3 g i j)))
      = gM (aP m c) (aY m c) (aW m c) g i j := by
  refine (Finset.sum_congr rfl fun p _ => (Fin.sum_univ_two (fun k => dwsB causal (ugK m c p) (dyK m c p) (vnK m c p) k (ix3 g i j))).symm).trans ?_
  simp only [dwsB_val]
  unfold gM
  by_cases h : (j : ℕ) ≤ i
  · simp only [if_pos h]
    exact Fin.sum_mul_add_congr (fun s k hl => rfl) (by rw [show cfg0.N = 32 from N_0])
  · simp only [if_neg h, Finset.sum_const_zero]

theorem final8 (c : Dev nD) : (dats m 0 c).arrAt 8 cfg0.N
    = fun j : S8x128x128.Idx => gM (aP m c) (aY m c) (aW m c) (j 0) (j 1) (j 2) := by
  refine (dats m 0 c).arrAt_eq_of_covers 8 _ (by decide +kernel) fun t hf y => ?_
  have ht := (flush0_8 t).mp hf
  have hl := pt_lt t
  have hN : cfg0.N = 32 := N_0
  blk_simp
  rw [after0_8, Pipeline.eq_sum_fin_of_reset_step_apply_last (fun n h => (outsAt0 m c n h).2.2.1) 32 (fun _ => (0 : EReal))
    (fun p j => (dwsB causal (ugK m c p) (dyK m c p) (vnK m c p) 0 j + dwsB causal (ugK m c p) (dyK m c p) (vnK m c p) 1 j : EReal))
    (fun p h j => (step8_A m c p h j).trans (add_assoc (_ : EReal) _ _))
    (fun p h j => (step8_B m c p h j).trans (add_assoc (_ : EReal) _ _))
    (le_of_eq N_0) t (by omega) y]
  refine (zero_add (_ : EReal)).trans ?_
  refine (Eq.trans ?_ (sum8 m c (y 0) (y 1) (y 2))).trans ?_
  · congr! 4 <;> blk_ext
  · congr 1 <;> exact Fin.ext (by blk_simp [idx' t])

/-! ## The biases -/

theorem dbsB_val (c : Dev nD) (t : Fin cfg0.N) (k : Fin 2) (i : Fin 128) (g : Fin 8) :
    dbsB (ugK m c t) (dyK m c t) k (ix2 i g) = dbs (cU (aP m c) (nk t k)) (cY (aY m c) (nk t k)) i g := by
  unfold dbs
  refine Finset.sum_congr rfl fun e _ => ?_
  exact (dsvB_at _ _ _ _ _).trans (by rw [bk_x0, bk_x5]; rfl)

theorem sum9 (c : Dev nD) (i : Fin 128) (g : Fin 8) :
    (∑ p : Fin cfg0.N, (dbsB (ugK m c p) (dyK m c p) 0 (ix2 i g) + dbsB (ugK m c p) (dyK m c p) 1 (ix2 i g)))
      = gB (aP m c) (aY m c) i g := by
  refine (Finset.sum_congr rfl fun p _ => (Fin.sum_univ_two (fun k => dbsB (ugK m c p) (dyK m c p) k (ix2 i g))).symm).trans ?_
  simp only [dbsB_val]
  exact Fin.sum_mul_add_congr (fun s k hl => rfl) (by rw [show cfg0.N = 32 from N_0])

theorem final9 (c : Dev nD) : (dats m 0 c).arrAt 9 cfg0.N
    = fun j : S128x8.Idx => gB (aP m c) (aY m c) (j 0) (j 1) := by
  refine (dats m 0 c).arrAt_eq_of_covers 9 _ (by decide +kernel) fun t hf y => ?_
  have ht := (flush0_9 t).mp hf
  have hl := pt_lt t
  have hN : cfg0.N = 32 := N_0
  blk_simp
  rw [after0_9, Pipeline.eq_sum_fin_of_reset_step_apply_last (fun n h => (outsAt0 m c n h).2.2.2) 32 (fun _ => (0 : EReal))
    (fun p j => (dbsB (ugK m c p) (dyK m c p) 0 j + dbsB (ugK m c p) (dyK m c p) 1 j : EReal))
    (fun p h j => (step9_A m c p h j).trans (add_assoc (_ : EReal) _ _))
    (fun p h j => (step9_B m c p h j).trans (add_assoc (_ : EReal) _ _))
    (le_of_eq N_0) t (by omega) y]
  refine (zero_add (_ : EReal)).trans ?_
  refine (Eq.trans ?_ (sum9 m c (y 0) (y 1))).trans ?_
  · congr! 4 <;> blk_ext
  · congr 1 <;> exact Fin.ext (by blk_simp [idx' t])

/-! ## The norm's scale -/

theorem sum7 (c : Dev nD) (d : Fin 1024) :
    (∑ p : Fin cfg0.N, ∑ r : Fin 256, (k0_pay21 (F := Ideal) (k0_pay7 (X0_1 m c p)) (k0_pay14 (X0_1 m c p)) (ix2 r d) : EReal)
        * dvnB (ugK m c p) (dyK m c p) (iblk m c 3 p) (ix2 r d))
      = gW (aP m c) (aY m c) (aM m c) d := by
  unfold gW
  refine Fin.sum_mul_add_congr (fun s r hl => ?_) (by rw [show cfg0.N = 32 from N_0])
  rw [pay21_at, dvnB_at, bk_x0, bk_x1, bk_x5, af_x3, ← nOf_rk, ← iOf_rk s r]
  rfl

theorem final7 (c : Dev nD) : (dats m 0 c).arrAt 7 cfg0.N
    = fun j : S1x1024.Idx => gW (aP m c) (aY m c) (aM m c) (j 1) := by
  refine (dats m 0 c).arrAt_eq_of_covers 7 _ (by decide +kernel) fun t hf y => ?_
  have ht := (flush0_7 t).mp hf
  have hl := pt_lt t
  have hN : cfg0.N = 32 := N_0
  blk_simp
  rw [after0_7, Pipeline.eq_sum_fin_of_reset_step_apply_last (fun n h => (outsAt0 m c n h).2.1) 32 (fun _ => (0 : EReal))
    (fun p j => (∑ r : Fin 256, (k0_pay21 (F := Ideal) (k0_pay7 (X0_1 m c p)) (k0_pay14 (X0_1 m c p)) (ix2 r (j 1)) : EReal)
        * dvnB (ugK m c p) (dyK m c p) (iblk m c 3 p) (ix2 r (j 1)) : EReal))
    (fun p h j => step7_A m c p h j)
    (fun p h j => step7_B m c p h j)
    (le_of_eq N_0) t (by omega) y]
  refine (zero_add (_ : EReal)).trans ?_
  refine (sum7 m c (y 1)).trans ?_
  congr 1; exact Fin.ext (by blk_simp [idx' t])

/-! ## The two halves of the rows -/

/-- What a point writes back to the result's first 2048 columns. -/
def gUV (c : Dev nD) (r : Fin 8192) (d : Fin 2048) : EReal :=
  if h : (d : ℕ) < 1024 then gU (aP m c) (aY m c) (aW m c) (aM m c) (aB m c) r ⟨d, h⟩
  else gV (aP m c) (aY m c) (aW m c) (aM m c) r ⟨d - 1024, by omega⟩

theorem out6_val (c : Dev nD) (t : Fin cfg0.N) (r : Fin 256) (d : Fin 2048) :
    out6 (duB (X0_0 m c t) (dugB (dyK m c t) (vnK m c t) (iblk m c 3 t) (iblk m c 4 t)))
      (dvB (X0_1 m c t) (iblk m c 2 t) (dvnB (ugK m c t) (dyK m c t) (iblk m c 3 t))) (ix2 r d) = gUV m c (rk t r) d := by
  unfold out6 gUV
  by_cases h : (d : ℕ) < 1024
  · rw [dif_pos h]
    refine (dif_pos h).trans ?_
    refine (duB_at _ _ _).trans ?_
    unfold gU du
    rw [nOf_rk, iOf_rk, ← bk_x0 m c t, bk_pos]
    refine congrArg _ ?_
    refine (dugB_at _ _ _ _ _ _ _).trans ?_
    rw [← bk_x1 m c t, ← bk_x5 m c t, wf_x2, af_x3, bf_x4]
    rfl
  · rw [dif_neg h]
    refine (dif_neg h).trans ?_
    refine (dvB_at (X0_0 m c t) (X0_1 m c t) (iblk m c 5 t) (iblk m c 2 t) (iblk m c 3 t) _ _ _ (fun r d => dvnB_at _ _ _ r d)).trans ?_
    unfold gV
    rw [nOf_rk, iOf_rk, bk_x0, bk_x1, bk_x5, wf_x2, af_x3]
    rfl

theorem step6 (c : Dev nD) (t : Fin cfg0.N) (y : S256x2048.Idx) : (outsAt0 m c t.val t.isLt).1 y
    = out6 (duB (X0_0 m c t) (dugB (dyK m c t) (vnK m c t) (iblk m c 3 t) (iblk m c 4 t)))
      (dvB (X0_1 m c t) (iblk m c 2 t) (dvnB (ugK m c t) (dyK m c t) (iblk m c 3 t))) y := by
  by_cases h : t.val % 32 = 0
  · exact step6_A m c t h y
  · exact step6_B m c t h y

/-- The kernel's first result: the two gradients, and the last argument's other columns. -/
def kO6 (c : Dev nD) (j : S8192x10368.Idx) : EReal :=
  if h : ((j 1 : Fin 10368) : ℕ) < 2048 then gUV m c (j 0) ⟨(j 1 : Fin 10368), h⟩ else m ((c : Thread nD τ).loc main_arg5) j

theorem entry (c : Dev nD) : V m c main_v6_0 = m ((c : Thread nD τ).loc main_arg5) := by
  funext j
  unfold V
  after_reads_at
  rfl

theorem final6 (c : Dev nD) : (dats m 0 c).arrAt 6 cfg0.N = kO6 m c := by
  refine ((dats m 0 c).arrAt_eq_of_coversWhere (P := fun j : S8192x10368.Idx => ((j 1 : Fin 10368) : ℕ) < 2048) 6 (kO6 m c) (fun β => β 1 = 0) (by decide +kernel) (fun t hf y => ?_)
    (fun j => by blk_simp [Pipeline.Window.cell_apply]; omega)).trans ?_
  · blk_simp
    rw [after0_6]
    generalize hx : (cfg0.win 6).xinj (cfg0.grid.coords t) y = x
    have h0 : ((x (0 : Fin 2) : Fin 256) : ℕ) = ((y (0 : Fin 2)) : ℕ) := by rw [← hx]
    have h1 : ((x (1 : Fin 2) : Fin 2048) : ℕ) = ((y (1 : Fin 2)) : ℕ) := by rw [← hx]
    refine (step6 m c t x).trans ?_
    refine (Eq.trans ?_ (out6_val m c t (x 0) (x 1))).trans ?_
    · congr 1; blk_ext
    · unfold kO6
      have e0 : ((win0_6.blk t).view.emb y (0 : Fin 2) : Fin 8192) = rk t (x 0) := by
        apply Fin.ext
        show _ = t.val * 256 + ((x 0 : Fin 256) : ℕ)
        rw [h0]
        blk_simp [idx t]
      have e1 : (((win0_6.blk t).view.emb y (1 : Fin 2) : Fin 10368) : ℕ) = ((x 1 : Fin 2048) : ℕ) := by
        rw [h1]
        blk_simp [idx t]
      have e2 : (((win0_6.blk t).view.emb y (1 : Fin 2) : Fin 10368) : ℕ) < 2048 := e1.trans_lt (x 1).isLt
      exact (congrArg₂ (gUV m c) e0.symm (Fin.ext e1.symm : (x 1 : Fin 2048) = ⟨_, e2⟩)).trans (by rw [dif_pos e2]; rfl)
  · funext j
    show (if ((j 1 : Fin 10368) : ℕ) < 2048 then kO6 m c j else V m c main_v6_0 j) = kO6 m c j
    by_cases h : ((j 1 : Fin 10368) : ℕ) < 2048
    · exact if_pos h
    · refine (if_neg h).trans ?_
      rw [entry]
      unfold kO6
      rw [dif_neg h]
end Cert.KernelIdeal.Val
-- ==== Proof.Join.lean ====
module

public import proofs.«01_k».proof.Defs
public import proofs.«01_k».proof.Proof.KFinal
public import proofs.«01_k».proof.Proof.RefVal
public import proofs.«01_k».proof.Proof.Gen.Kernel.Frame
public import proofs.«01_k».proof.Proof.Gen.KernelIdeal.Frame

/-! # The two programs end with equal results -/

@[expose] public section
set_option maxRecDepth 16384
noncomputable section
open Idealize.ShloMosaic Idealize.ShloMosaic.TcCoe Idealize.ShloMosaic.StableHlo Idealize.SL.Sem
namespace Cert.Sgu
open Cert.KernelIdeal.Val Cert.ReferenceIdeal.Val

/-- The reference declares no semaphore, and writes none of its arguments. -/
theorem frameRef : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

section
variable (m : (ℓ : Loc Cert.KernelIdeal.nD Cert.KernelIdeal.τ Cert.KernelIdeal.sig) → Buf (Elt Ideal) ℓ) (c : Dev Cert.KernelIdeal.nD)

/-- The kernel's six arguments. -/
abbrev k0 := m ((c.tc : Thread Cert.KernelIdeal.nD Cert.KernelIdeal.τ).loc Cert.KernelIdeal.main_arg0)
abbrev k1 := m ((c.tc : Thread Cert.KernelIdeal.nD Cert.KernelIdeal.τ).loc Cert.KernelIdeal.main_arg1)
abbrev k2 := m ((c.tc : Thread Cert.KernelIdeal.nD Cert.KernelIdeal.τ).loc Cert.KernelIdeal.main_arg2)
abbrev k3 := m ((c.tc : Thread Cert.KernelIdeal.nD Cert.KernelIdeal.τ).loc Cert.KernelIdeal.main_arg3)
abbrev k4 := m ((c.tc : Thread Cert.KernelIdeal.nD Cert.KernelIdeal.τ).loc Cert.KernelIdeal.main_arg4)
abbrev k5 := m ((c.tc : Thread Cert.KernelIdeal.nD Cert.KernelIdeal.τ).loc Cert.KernelIdeal.main_arg5)

theorem res0 : Cert.ReferenceIdeal.Read.val_main_v135 (F := Ideal) (k0 m c) (k1 m c) (k2 m c) (k3 m c) (k4 m c) (k5 m c) = kO6 m c := by
  funext j
  refine (congrArg _ (eq_ix2 j)).trans ((s135 (k0 m c) (k1 m c) (k2 m c) (k3 m c) (k4 m c) (k5 m c) (j 0) (j 1)).trans ?_)
  unfold kO6 gUV
  refine dite_congr rfl (fun _ => rfl) (fun _ => ?_)
  exact congrArg _ (eq_ix2 j).symm

theorem res1 : Cert.ReferenceIdeal.Read.val_main_v93 (F := Ideal) (k0 m c) (k2 m c) (k4 m c)
    = fun j : Cert.KernelIdeal.S1x1024.Idx => gW (aP m c) (aY m c) (aM m c) (j 1) := by
  funext j
  have h0 : j 0 = (0 : Fin 1) := Subsingleton.elim (α := Fin 1) _ _
  refine (congrArg _ ((eq_ix2 j).trans (congrArg (fun a => ix2 a (j 1)) h0))).trans (s93 (k0 m c) (k2 m c) (k4 m c) (j 1))

theorem res2 : Cert.ReferenceIdeal.Read.val_main_v89 (F := Ideal) (k0 m c) (k1 m c) (k4 m c)
    = fun j : Cert.KernelIdeal.S8x128x128.Idx => gM (aP m c) (aY m c) (aW m c) (j 0) (j 1) (j 2) := by
  funext j
  exact (congrArg _ (eq_ix3 j)).trans (s89 (k0 m c) (k1 m c) (k4 m c) (j 0) (j 1) (j 2))

theorem res3 : Cert.ReferenceIdeal.Read.val_main_v136 (F := Ideal) (k0 m c) (k4 m c)
    = fun j : Cert.KernelIdeal.S128x8.Idx => gB (aP m c) (aY m c) (j 0) (j 1) := by
  funext j
  exact (congrArg _ (eq_ix2 j)).trans (s136 (k0 m c) (k4 m c) (j 0) (j 1))
end

theorem algebra : Cert.algebraic_KernelIdeal_ReferenceIdeal (hKernelIdeal := Cert.KernelIdeal.Gen.facts) (hReferenceIdeal := Cert.ReferenceIdeal.Gen.facts) := by
  intro m ρ m' ρ' _ hm
  refine ⟨fun c => kO6 m c, fun c => fun j : Cert.KernelIdeal.S1x1024.Idx => gW (aP m c) (aY m c) (aM m c) (j 1),
    fun c => fun j : Cert.KernelIdeal.S8x128x128.Idx => gM (aP m c) (aY m c) (aW m c) (j 0) (j 1) (j 2),
    fun c => fun j : Cert.KernelIdeal.S128x8.Idx => gB (aP m c) (aY m c) (j 0) (j 1), ?_, ?_⟩
  · exact (θ_run Cert.KernelIdeal.defs _ _).mono (fun r h c =>
      ⟨(h c).1.trans (final6 m c), (h c).2.1.trans (final7 m c), (h c).2.2.1.trans (final8 m c), (h c).2.2.2.1.trans (final9 m c), (h c).2.2.2.2⟩)
      (Cert.KernelIdeal.Value.run_blocks (F := Ideal) m ρ)
  · refine (θ_run Cert.ReferenceIdeal.defs _ _).mono (fun r h c =>
      ⟨(h c).1.trans (Eq.trans (Cert.ReferenceIdeal.Read.val_main_v135_eq (F := Ideal) (launchContents m' c)) ?_),
        (h c).2.1.trans (Eq.trans (Cert.ReferenceIdeal.Read.val_main_v93_eq (F := Ideal) (launchContents m' c)) ?_),
        (h c).2.2.1.trans (Eq.trans (Cert.ReferenceIdeal.Read.val_main_v89_eq (F := Ideal) (launchContents m' c)) ?_),
        (h c).2.2.2.1.trans (Eq.trans (Cert.ReferenceIdeal.Read.val_main_v136_eq (F := Ideal) (launchContents m' c)) ?_), (h c).2.2.2.2⟩)
      (Cert.ReferenceIdeal.Value.run (F := Ideal) m' ρ')
    all_goals obtain ⟨h0, h1, h2, h3, h4, h5⟩ := hm c
    · refine Eq.trans ?_ (res0 m c)
      unfold k0 k1 k2 k3 k4 k5
      rw [← h0, ← h1, ← h2, ← h3, ← h4, ← h5]
    · refine Eq.trans ?_ (res1 m c)
      unfold k0 k2 k4
      rw [← h0, ← h2, ← h4]
    · refine Eq.trans ?_ (res2 m c)
      unfold k0 k1 k4
      rw [← h0, ← h1, ← h4]
    · refine Eq.trans ?_ (res3 m c)
      unfold k0 k4
      rw [← h0, ← h4]

end Cert.Sgu
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel6Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Step
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.ProjDw
public import proofs.«01_k».proof.Proof.Ff2Dx
public import proofs.«01_k».proof.Proof.Ff2Dw
public import proofs.«01_k».proof.Proof.Ff1Dx
public import proofs.«01_k».proof.Proof.Ff1Dw
public import proofs.«01_k».proof.Proof.GateNormRef
public import proofs.«01_k».proof.Proof.ResidNorm
public import proofs.«01_k».proof.Proof.PreNorm
public import proofs.«01_k».proof.Proof.OutDx
public import proofs.«01_k».proof.Proof.OutDw
public import proofs.«01_k».proof.Proof.SsmDx
public import proofs.«01_k».proof.Proof.SsmDw
public import proofs.«01_k».proof.Proof.ProjDx
public import proofs.«01_k».proof.Proof.Proj
public import proofs.«01_k».proof.Proof.Ff1
public import proofs.«01_k».proof.Proof.Ff2
public import proofs.«01_k».proof.Proof.Out
public import proofs.«01_k».proof.Proof.SsmOut
public import proofs.«01_k».proof.Proof.ProjDt
public import proofs.«01_k».proof.Proof.PreNormFwd
public import proofs.«01_k».proof.Proof.ResidNormFwd
public import proofs.«01_k».proof.Proof.GateNormFwd
public import proofs.«01_k».proof.Proof.SguFwd
public import proofs.«01_k».proof.Proof.MixFwd
public import proofs.«01_k».proof.Proof.MixBwd
public import proofs.«01_k».proof.Proof.SsdFwd
public import proofs.«01_k».proof.Proof.LossHead
public import proofs.«01_k».proof.Proof.DtFwd
public import proofs.«01_k».proof.Proof.ConvFwd
public import proofs.«01_k».proof.Proof.Join
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel29.Gen.facts, Cert.Kernel29Ideal.Gen.facts, Cert.Reference29Ideal.Gen.facts,
    Cert.Kernel28.Gen.facts, Cert.Kernel28Ideal.Gen.facts, Cert.Reference28Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    fun m ρ _ => Cert.Kernel.Gen.frame m ρ, fun m ρ _ => Cert.KernelIdeal.Gen.frame m ρ, Cert.Sgu.frameRef,
    fun m ρ _ => Cert.Kernel2.Gen.frame m ρ, fun m ρ _ => Cert.Kernel2Ideal.Gen.frame m ρ, Cert.Kernel2Ideal.Val.frameRef,
    fun m ρ _ => Cert.Kernel3.Gen.frame m ρ, fun m ρ _ => Cert.Kernel3Ideal.Gen.frame m ρ, Cert.Kernel3Ideal.Val.frameRef,
    fun m ρ _ => Cert.Kernel4.Gen.frame m ρ, fun m ρ _ => Cert.Kernel4Ideal.Gen.frame m ρ, Cert.Kernel4Ideal.Val.frameRef,
    fun m ρ _ => Cert.Kernel5.Gen.frame m ρ, fun m ρ _ => Cert.Kernel5Ideal.Gen.frame m ρ, Cert.Kernel5Ideal.Val.frameRef,
    fun m ρ _ => Cert.Kernel6.Gen.frame m ρ, fun m ρ _ => Cert.Kernel6Ideal.Gen.frame m ρ, Cert.Kernel6Ideal.Val.frameRef,
    fun m ρ _ => Cert.Kernel7.Gen.frame m ρ, fun m ρ _ => Cert.Kernel7Ideal.Gen.frame m ρ, Cert.Kernel7Ideal.Val.frameRef,
    fun m ρ _ => Cert.Kernel8.Gen.frame m ρ, fun m ρ _ => Cert.Kernel8Ideal.Gen.frame m ρ, Cert.Kernel8Ideal.Val.frameRef,
    fun m ρ _ => Cert.Kernel9.Gen.frame m ρ, fun m ρ _ => Cert.Kernel9Ideal.Gen.frame m ρ, Cert.Kernel9Ideal.Val.frameRef,
    fun m ρ _ => Cert.Kernel11.Gen.frame m ρ, fun m ρ _ => Cert.Kernel11Ideal.Gen.frame m ρ, Cert.Kernel11Ideal.Val.frameRef,
    fun m ρ _ => Cert.Kernel12.Gen.frame m ρ, fun m ρ _ => Cert.Kernel12Ideal.Gen.frame m ρ, Cert.Kernel12Ideal.Val.frameRef,
    fun m ρ _ => Cert.Kernel13.Gen.frame m ρ, fun m ρ _ => Cert.Kernel13Ideal.Gen.frame m ρ, Cert.Kernel13Ideal.Val.frameRef,
    fun m ρ _ => Cert.Kernel14.Gen.frame m ρ, fun m ρ _ => Cert.Kernel14Ideal.Gen.frame m ρ, Cert.Kernel14Ideal.Val.frameRef,
    fun m ρ _ => Cert.Kernel15.Gen.frame m ρ, fun m ρ _ => Cert.Kernel15Ideal.Gen.frame m ρ, Cert.Kernel15Ideal.Val.frameRef,
    fun m ρ _ => Cert.Kernel16.Gen.frame m ρ, fun m ρ _ => Cert.Kernel16Ideal.Gen.frame m ρ, Cert.Kernel16Ideal.Val.frameRef,
    fun m ρ _ => Cert.Kernel17.Gen.frame m ρ, fun m ρ _ => Cert.Kernel17Ideal.Gen.frame m ρ, Cert.Kernel17Ideal.Val.frameRef,
    fun m ρ _ => Cert.Kernel18.Gen.frame m ρ, fun m ρ _ => Cert.Kernel18Ideal.Gen.frame m ρ, Cert.Kernel18Ideal.Val.frameRef,
    fun m ρ _ => Cert.Kernel19.Gen.frame m ρ, fun m ρ _ => Cert.Kernel19Ideal.Gen.frame m ρ, Cert.Kernel19Ideal.Val.frameRef,
    fun m ρ _ => Cert.Kernel20.Gen.frame m ρ, fun m ρ _ => Cert.Kernel20Ideal.Gen.frame m ρ, Cert.Kernel20Ideal.Val.frameRef,
    fun m ρ _ => Cert.Kernel21.Gen.frame m ρ, fun m ρ _ => Cert.Kernel21Ideal.Gen.frame m ρ, Cert.Kernel21Ideal.Val.frameRef,
    fun m ρ _ => Cert.Kernel22.Gen.frame m ρ, fun m ρ _ => Cert.Kernel22Ideal.Gen.frame m ρ, Cert.Kernel22Ideal.Val.frameRef,
    fun m ρ _ => Cert.Kernel23.Gen.frame m ρ, fun m ρ _ => Cert.Kernel23Ideal.Gen.frame m ρ, Cert.Kernel23Ideal.Val.frameRef,
    fun m ρ _ => Cert.Kernel24.Gen.frame m ρ, fun m ρ _ => Cert.Kernel24Ideal.Gen.frame m ρ, Cert.Kernel24Ideal.Val.frameRef,
    fun m ρ _ => Cert.Kernel25.Gen.frame m ρ, fun m ρ _ => Cert.Kernel25Ideal.Gen.frame m ρ, Cert.Kernel25Ideal.Val.frameRef,
    fun m ρ _ => Cert.Kernel26.Gen.frame m ρ, fun m ρ _ => Cert.Kernel26Ideal.Gen.frame m ρ, Cert.Kernel26Ideal.Val.frameRef,
    fun m ρ _ => Cert.Kernel27.Gen.frame m ρ, fun m ρ _ => Cert.Kernel27Ideal.Gen.frame m ρ, Cert.Kernel27Ideal.Val.frameRef,
    fun m ρ _ => Cert.Kernel29.Gen.frame m ρ, fun m ρ _ => Cert.Kernel29Ideal.Gen.frame m ρ, Cert.Kernel29Ideal.Val.frameRef,
    fun m ρ _ => Cert.Kernel28.Gen.frame m ρ, fun m ρ _ => Cert.Kernel28Ideal.Gen.frame m ρ, Cert.Kernel28Ideal.Val.frameRef,
    fun m ρ _ => Cert.Kernel31.Gen.frame m ρ, fun m ρ _ => Cert.Kernel31Ideal.Gen.frame m ρ, Cert.Kernel31Ideal.Val.frameRef,
    fun m ρ _ => Cert.Kernel32.Gen.frame m ρ, fun m ρ _ => Cert.Kernel32Ideal.Gen.frame m ρ, Cert.Kernel32Ideal.Val.frameRef,
    trivial, Cert.Sgu.algebra,
    trivial, Cert.Kernel2Ideal.Val.algebra,
    trivial, Cert.Kernel3Ideal.Val.algebra,
    trivial, Cert.Kernel4Ideal.Val.algebra,
    trivial, Cert.Kernel5Ideal.Val.algebra,
    trivial, Cert.Kernel6Ideal.Val.algebra,
    trivial, Cert.Kernel7Ideal.Val.algebra,
    trivial, Cert.Kernel8Ideal.Val.algebra,
    trivial, Cert.Kernel9Ideal.Val.algebra,
    trivial, Cert.Kernel11Ideal.Val.algebra,
    trivial, Cert.Kernel12Ideal.Val.algebra,
    trivial, Cert.Kernel13Ideal.Val.algebra,
    trivial, Cert.Kernel14Ideal.Val.algebra,
    trivial, Cert.Kernel15Ideal.Val.algebra,
    trivial, Cert.Kernel16Ideal.Val.algebra,
    trivial, Cert.Kernel17Ideal.Val.algebra,
    trivial, Cert.Kernel18Ideal.Val.algebra,
    trivial, Cert.Kernel19Ideal.Val.algebra,
    trivial, Cert.Kernel20Ideal.Val.algebra,
    trivial, Cert.Kernel21Ideal.Val.algebra,
    trivial, Cert.Kernel22Ideal.Val.algebra,
    trivial, Cert.Kernel23Ideal.Val.algebra,
    trivial, Cert.Kernel24Ideal.Val.algebra,
    trivial, Cert.Kernel25Ideal.Val.algebra,
    trivial, Cert.Kernel26Ideal.Val.algebra,
    trivial, Cert.Kernel27Ideal.Val.algebra,
    trivial, Cert.Kernel29Ideal.Val.algebra,
    trivial, Cert.Kernel28Ideal.Val.algebra,
    trivial, Cert.Kernel31Ideal.Val.algebra,
    trivial, Cert.Kernel32Ideal.Val.algebra⟩

end Cert.Proof

end
